-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Grad (m : (ℓ : Loc Cert.Grad.nD Cert.Grad.τ Cert.Grad.sig) → Buf (Elt Bits) ℓ) : Prop :=
  True

def Pre_GradIdeal (m : (ℓ : Loc Cert.GradIdeal.nD Cert.GradIdeal.τ Cert.GradIdeal.sig) → Buf (Elt Ideal) ℓ) : Prop :=
  True

def Pre_GradIdeal_finite_gradient [hPre_finite_gradient : Cert.Pre_finite_gradient.Facts] (m : (ℓ : Loc Cert.GradIdeal.nD Cert.GradIdeal.τ Cert.GradIdeal.sig) → Buf (Elt Ideal) ℓ) : Prop :=
  ∀ c : Dev Cert.GradIdeal.nD,
    (Cert.Pre_finite_gradient.fn (F := Ideal) (m ((c.tc : Thread Cert.GradIdeal.nD Cert.GradIdeal.τ).loc Cert.GradIdeal.main_arg0)) (m ((c.tc : Thread Cert.GradIdeal.nD Cert.GradIdeal.τ).loc Cert.GradIdeal.main_arg1)) (m ((c.tc : Thread Cert.GradIdeal.nD Cert.GradIdeal.τ).loc Cert.GradIdeal.main_arg2)) (m ((c.tc : Thread Cert.GradIdeal.nD Cert.GradIdeal.τ).loc Cert.GradIdeal.main_arg3)) (m ((c.tc : Thread Cert.GradIdeal.nD Cert.GradIdeal.τ).loc Cert.GradIdeal.main_arg4)) (m ((c.tc : Thread Cert.GradIdeal.nD Cert.GradIdeal.τ).loc Cert.GradIdeal.main_arg5)) (m ((c.tc : Thread Cert.GradIdeal.nD Cert.GradIdeal.τ).loc Cert.GradIdeal.main_arg6)) (m ((c.tc : Thread Cert.GradIdeal.nD Cert.GradIdeal.τ).loc Cert.GradIdeal.main_arg7)) (m ((c.tc : Thread Cert.GradIdeal.nD Cert.GradIdeal.τ).loc Cert.GradIdeal.main_arg8))) = (fun _ => 1#1)

def Pre_GradReferenceIdeal (m : (ℓ : Loc Cert.GradReferenceIdeal.nD Cert.GradReferenceIdeal.τ Cert.GradReferenceIdeal.sig) → Buf (Elt Ideal) ℓ) : Prop :=
  True

def Pre_GradReferenceIdeal_finite_gradient [hPre_finite_gradient : Cert.Pre_finite_gradient.Facts] (m : (ℓ : Loc Cert.GradReferenceIdeal.nD Cert.GradReferenceIdeal.τ Cert.GradReferenceIdeal.sig) → Buf (Elt Ideal) ℓ) : Prop :=
  ∀ c : Dev Cert.GradReferenceIdeal.nD,
    (Cert.Pre_finite_gradient.fn (F := Ideal) (m ((c.tc : Thread Cert.GradReferenceIdeal.nD Cert.GradReferenceIdeal.τ).loc Cert.GradReferenceIdeal.main_arg0)) (m ((c.tc : Thread Cert.GradReferenceIdeal.nD Cert.GradReferenceIdeal.τ).loc Cert.GradReferenceIdeal.main_arg1)) (m ((c.tc : Thread Cert.GradReferenceIdeal.nD Cert.GradReferenceIdeal.τ).loc Cert.GradReferenceIdeal.main_arg2)) (m ((c.tc : Thread Cert.GradReferenceIdeal.nD Cert.GradReferenceIdeal.τ).loc Cert.GradReferenceIdeal.main_arg3)) (m ((c.tc : Thread Cert.GradReferenceIdeal.nD Cert.GradReferenceIdeal.τ).loc Cert.GradReferenceIdeal.main_arg4)) (m ((c.tc : Thread Cert.GradReferenceIdeal.nD Cert.GradReferenceIdeal.τ).loc Cert.GradReferenceIdeal.main_arg5)) (m ((c.tc : Thread Cert.GradReferenceIdeal.nD Cert.GradReferenceIdeal.τ).loc Cert.GradReferenceIdeal.main_arg6)) (m ((c.tc : Thread Cert.GradReferenceIdeal.nD Cert.GradReferenceIdeal.τ).loc Cert.GradReferenceIdeal.main_arg7)) (m ((c.tc : Thread Cert.GradReferenceIdeal.nD Cert.GradReferenceIdeal.τ).loc Cert.GradReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Grad [hGrad : Cert.Grad.Facts] : Prop :=
  ∀ (m : (ℓ : Loc Cert.Grad.nD Cert.Grad.τ Cert.Grad.sig) → Buf (Elt Bits) ℓ) (g : Dev Cert.Grad.nD → PrngReg), Pre_Grad m →
    θ_run (Cert.Grad.defs (F := Bits)) (onTc (τ := Cert.Grad.τ) (Cert.Grad.main (F := Bits))) ⟨m, fun _ => 0, g⟩ (fun r => (∀ c : Dev Cert.Grad.nD,
      r.2.mem ((c.tc : Thread Cert.Grad.nD Cert.Grad.τ).loc Cert.Grad.main_arg0) = m ((c.tc : Thread Cert.Grad.nD Cert.Grad.τ).loc Cert.Grad.main_arg0)
      ∧ r.2.mem ((c.tc : Thread Cert.Grad.nD Cert.Grad.τ).loc Cert.Grad.main_arg1) = m ((c.tc : Thread Cert.Grad.nD Cert.Grad.τ).loc Cert.Grad.main_arg1)
      ∧ r.2.mem ((c.tc : Thread Cert.Grad.nD Cert.Grad.τ).loc Cert.Grad.main_arg2) = m ((c.tc : Thread Cert.Grad.nD Cert.Grad.τ).loc Cert.Grad.main_arg2)
      ∧ r.2.mem ((c.tc : Thread Cert.Grad.nD Cert.Grad.τ).loc Cert.Grad.main_arg3) = m ((c.tc : Thread Cert.Grad.nD Cert.Grad.τ).loc Cert.Grad.main_arg3)
      ∧ r.2.mem ((c.tc : Thread Cert.Grad.nD Cert.Grad.τ).loc Cert.Grad.main_arg4) = m ((c.tc : Thread Cert.Grad.nD Cert.Grad.τ).loc Cert.Grad.main_arg4)
      ∧ r.2.mem ((c.tc : Thread Cert.Grad.nD Cert.Grad.τ).loc Cert.Grad.main_arg5) = m ((c.tc : Thread Cert.Grad.nD Cert.Grad.τ).loc Cert.Grad.main_arg5)
      ∧ r.2.mem ((c.tc : Thread Cert.Grad.nD Cert.Grad.τ).loc Cert.Grad.main_arg6) = m ((c.tc : Thread Cert.Grad.nD Cert.Grad.τ).loc Cert.Grad.main_arg6)
      ∧ r.2.mem ((c.tc : Thread Cert.Grad.nD Cert.Grad.τ).loc Cert.Grad.main_arg7) = m ((c.tc : Thread Cert.Grad.nD Cert.Grad.τ).loc Cert.Grad.main_arg7)
      ∧ r.2.mem ((c.tc : Thread Cert.Grad.nD Cert.Grad.τ).loc Cert.Grad.main_arg8) = m ((c.tc : Thread Cert.Grad.nD Cert.Grad.τ).loc Cert.Grad.main_arg8))
      ∧ r.2.sem = fun _ => 0)

def quiescent_GradIdeal [hGradIdeal : Cert.GradIdeal.Facts] : Prop :=
  ∀ (m : (ℓ : Loc Cert.GradIdeal.nD Cert.GradIdeal.τ Cert.GradIdeal.sig) → Buf (Elt Ideal) ℓ) (g : Dev Cert.GradIdeal.nD → PrngReg), Pre_GradIdeal m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8))
      ∧ r.2.sem = fun _ => 0)

def quiescent_GradIdeal_pre_finite_gradient [hGradIdeal : Cert.GradIdeal.Facts] [hPre_finite_gradient : Cert.Pre_finite_gradient.Facts] : Prop :=
  ∀ (m : (ℓ : Loc Cert.GradIdeal.nD Cert.GradIdeal.τ Cert.GradIdeal.sig) → Buf (Elt Ideal) ℓ) (g : Dev Cert.GradIdeal.nD → PrngReg), Pre_GradIdeal_finite_gradient m →
    θ_run (Cert.GradIdeal.defs (F := Ideal)) (onTc (τ := Cert.GradIdeal.τ) (Cert.GradIdeal.main (F := Ideal))) ⟨m, fun _ => 0, g⟩ (fun r => (∀ c : Dev Cert.GradIdeal.nD,
      r.2.mem ((c.tc : Thread Cert.GradIdeal.nD Cert.GradIdeal.τ).loc Cert.GradIdeal.main_arg0) = m ((c.tc : Thread Cert.GradIdeal.nD Cert.GradIdeal.τ).loc Cert.GradIdeal.main_arg0)
      ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
      ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
      ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
      ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
      ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
      ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
      ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
      ∧ r.2.mem ((c.tc : Thread Cert.GradIdeal.nD Cert.GradIdeal.τ).loc Cert.GradIdeal.main_arg8) = m ((c.tc : Thread Cert.GradIdeal.nD Cert.GradIdeal.τ).loc Cert.GradIdeal.main_arg8))
      ∧ r.2.sem = fun _ => 0)

def quiescent_GradReferenceIdeal [hGradReferenceIdeal : Cert.GradReferenceIdeal.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2)
      ∧ r.2.mem ((c.tc : Thread Cert.GradReferenceIdeal.nD Cert.GradReferenceIdeal.τ).loc Cert.GradReferenceIdeal.main_arg3) = m ((c.tc : Thread Cert.GradReferenceIdeal.nD Cert.GradReferenceIdeal.τ).loc Cert.GradReferenceIdeal.main_arg3)
      ∧ r.2.mem ((c.tc : Thread Cert.GradReferenceIdeal.nD Cert.GradReferenceIdeal.τ).loc Cert.GradReferenceIdeal.main_arg4) = m ((c.tc : Thread Cert.GradReferenceIdeal.nD Cert.GradReferenceIdeal.τ).loc Cert.GradReferenceIdeal.main_arg4)
      ∧ r.2.mem ((c.tc : Thread Cert.GradReferenceIdeal.nD Cert.GradReferenceIdeal.τ).loc Cert.GradReferenceIdeal.main_arg5) = m ((c.tc : Thread Cert.GradReferenceIdeal.nD Cert.GradReferenceIdeal.τ).loc Cert.GradReferenceIdeal.main_arg5)
      ∧ r.2.mem ((c.tc : Thread Cert.GradReferenceIdeal.nD Cert.GradReferenceIdeal.τ).loc Cert.GradReferenceIdeal.main_arg6) = m ((c.tc : Thread Cert.GradReferenceIdeal.nD Cert.GradReferenceIdeal.τ).loc Cert.GradReferenceIdeal.main_arg6)
      ∧ r.2.mem ((c.tc : Thread Cert.GradReferenceIdeal.nD Cert.GradReferenceIdeal.τ).loc Cert.GradReferenceIdeal.main_arg7) = m ((c.tc : Thread Cert.GradReferenceIdeal.nD Cert.GradReferenceIdeal.τ).loc Cert.GradReferenceIdeal.main_arg7)
      ∧ r.2.mem ((c.tc : Thread Cert.GradReferenceIdeal.nD Cert.GradReferenceIdeal.τ).loc Cert.GradReferenceIdeal.main_arg8) = m ((c.tc : Thread Cert.GradReferenceIdeal.nD Cert.GradReferenceIdeal.τ).loc Cert.GradReferenceIdeal.main_arg8))
      ∧ r.2.sem = fun _ => 0)

def quiescent_GradReferenceIdeal_pre_finite_gradient [hGradReferenceIdeal : Cert.GradReferenceIdeal.Facts] [hPre_finite_gradient : Cert.Pre_finite_gradient.Facts] : Prop :=
  ∀ (m : (ℓ : Loc Cert.GradReferenceIdeal.nD Cert.GradReferenceIdeal.τ Cert.GradReferenceIdeal.sig) → Buf (Elt Ideal) ℓ) (g : Dev Cert.GradReferenceIdeal.nD → PrngReg), Pre_GradReferenceIdeal_finite_gradient m →
    θ_run (Cert.GradReferenceIdeal.defs (F := Ideal)) (onTc (τ := Cert.GradReferenceIdeal.τ) (Cert.GradReferenceIdeal.main (F := Ideal))) ⟨m, fun _ => 0, g⟩ (fun r => (∀ c : Dev Cert.GradReferenceIdeal.nD,
      r.2.mem ((c.tc : Thread Cert.GradReferenceIdeal.nD Cert.GradReferenceIdeal.τ).loc Cert.GradReferenceIdeal.main_arg0) = m ((c.tc : Thread Cert.GradReferenceIdeal.nD Cert.GradReferenceIdeal.τ).loc Cert.GradReferenceIdeal.main_arg0)
      ∧ r.2.mem ((c.tc : Thread Cert.GradReferenceIdeal.nD Cert.GradReferenceIdeal.τ).loc Cert.GradReferenceIdeal.main_arg1) = m ((c.tc : Thread Cert.GradReferenceIdeal.nD Cert.GradReferenceIdeal.τ).loc Cert.GradReferenceIdeal.main_arg1)
      ∧ r.2.mem ((c.tc : Thread Cert.GradReferenceIdeal.nD Cert.GradReferenceIdeal.τ).loc Cert.GradReferenceIdeal.main_arg2) = m ((c.tc : Thread Cert.GradReferenceIdeal.nD Cert.GradReferenceIdeal.τ).loc Cert.GradReferenceIdeal.main_arg2)
      ∧ r.2.mem ((c.tc : Thread Cert.GradReferenceIdeal.nD Cert.GradReferenceIdeal.τ).loc Cert.GradReferenceIdeal.main_arg3) = m ((c.tc : Thread Cert.GradReferenceIdeal.nD Cert.GradReferenceIdeal.τ).loc Cert.GradReferenceIdeal.main_arg3)
      ∧ r.2.mem ((c.tc : Thread Cert.GradReferenceIdeal.nD Cert.GradReferenceIdeal.τ).loc Cert.GradReferenceIdeal.main_arg4) = m ((c.tc : Thread Cert.GradReferenceIdeal.nD Cert.GradReferenceIdeal.τ).loc Cert.GradReferenceIdeal.main_arg4)
      ∧ r.2.mem ((c.tc : Thread Cert.GradReferenceIdeal.nD Cert.GradReferenceIdeal.τ).loc Cert.GradReferenceIdeal.main_arg5) = m ((c.tc : Thread Cert.GradReferenceIdeal.nD Cert.GradReferenceIdeal.τ).loc Cert.GradReferenceIdeal.main_arg5)
      ∧ r.2.mem ((c.tc : Thread Cert.GradReferenceIdeal.nD Cert.GradReferenceIdeal.τ).loc Cert.GradReferenceIdeal.main_arg6) = m ((c.tc : Thread Cert.GradReferenceIdeal.nD Cert.GradReferenceIdeal.τ).loc Cert.GradReferenceIdeal.main_arg6)
      ∧ r.2.mem ((c.tc : Thread Cert.GradReferenceIdeal.nD Cert.GradReferenceIdeal.τ).loc Cert.GradReferenceIdeal.main_arg7) = m ((c.tc : Thread Cert.GradReferenceIdeal.nD Cert.GradReferenceIdeal.τ).loc Cert.GradReferenceIdeal.main_arg7)
      ∧ r.2.mem ((c.tc : Thread Cert.GradReferenceIdeal.nD Cert.GradReferenceIdeal.τ).loc Cert.GradReferenceIdeal.main_arg8) = m ((c.tc : Thread Cert.GradReferenceIdeal.nD Cert.GradReferenceIdeal.τ).loc Cert.GradReferenceIdeal.main_arg8))
      ∧ r.2.sem = fun _ => 0)

def preserves_Kernel_KernelIdeal : Prop :=
  IdealRules.named_const.Statement Cert.KernelIdeal.κ "log2e_over_tau" .f32 0x41E6D4CA#32 ((20 * (Real.log 2)⁻¹ : ℝ) : EReal)
  ∧ IdealRules.named_const.Statement Cert.KernelIdeal.κ "masked" .f32 0xD3800000#32 ⊥
  ∧ IdealRules.named_const.Statement Cert.KernelIdeal.κ "log2e" .f32 0x3FB8AA3B#32 (((Real.log 2)⁻¹ : ℝ) : EReal)
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Grad_GradIdeal : Prop :=
  IdealRules.named_const.Statement Cert.GradIdeal.κ "log2e_over_tau" .f32 0x41E6D4CA#32 ((20 * (Real.log 2)⁻¹ : ℝ) : EReal)
  ∧ IdealRules.named_const.Statement Cert.GradIdeal.κ "masked" .f32 0xD3800000#32 ⊥

def algebraic_GradIdeal_GradReferenceIdeal_pre_finite_gradient [hGradIdeal : Cert.GradIdeal.Facts] [hGradReferenceIdeal : Cert.GradReferenceIdeal.Facts] [hPre_finite_gradient : Cert.Pre_finite_gradient.Facts] : Prop :=
  ∀ (m : (ℓ : Loc Cert.GradIdeal.nD Cert.GradIdeal.τ Cert.GradIdeal.sig) → Buf (Elt Ideal) ℓ) (g : Dev Cert.GradIdeal.nD → PrngReg)
    (m' : (ℓ : Loc Cert.GradReferenceIdeal.nD Cert.GradReferenceIdeal.τ Cert.GradReferenceIdeal.sig) → Buf (Elt Ideal) ℓ) (g' : Dev Cert.GradReferenceIdeal.nD → PrngReg), Pre_GradIdeal_finite_gradient m →
    (∀ c : Dev Cert.GradIdeal.nD,
      m' ((c.tc : Thread Cert.GradReferenceIdeal.nD Cert.GradReferenceIdeal.τ).loc Cert.GradReferenceIdeal.main_arg0) = m ((c.tc : Thread Cert.GradIdeal.nD Cert.GradIdeal.τ).loc Cert.GradIdeal.main_arg0)
      ∧ m' ((c.tc : Thread Cert.GradReferenceIdeal.nD Cert.GradReferenceIdeal.τ).loc Cert.GradReferenceIdeal.main_arg1) = m ((c.tc : Thread Cert.GradIdeal.nD Cert.GradIdeal.τ).loc Cert.GradIdeal.main_arg1)
      ∧ m' ((c.tc : Thread Cert.GradReferenceIdeal.nD Cert.GradReferenceIdeal.τ).loc Cert.GradReferenceIdeal.main_arg2) = m ((c.tc : Thread Cert.GradIdeal.nD Cert.GradIdeal.τ).loc Cert.GradIdeal.main_arg2)
      ∧ m' ((c.tc : Thread Cert.GradReferenceIdeal.nD Cert.GradReferenceIdeal.τ).loc Cert.GradReferenceIdeal.main_arg3) = m ((c.tc : Thread Cert.GradIdeal.nD Cert.GradIdeal.τ).loc Cert.GradIdeal.main_arg3)
      ∧ m' ((c.tc : Thread Cert.GradReferenceIdeal.nD Cert.GradReferenceIdeal.τ).loc Cert.GradReferenceIdeal.main_arg4) = m ((c.tc : Thread Cert.GradIdeal.nD Cert.GradIdeal.τ).loc Cert.GradIdeal.main_arg4)
      ∧ m' ((c.tc : Thread Cert.GradReferenceIdeal.nD Cert.GradReferenceIdeal.τ).loc Cert.GradReferenceIdeal.main_arg5) = m ((c.tc : Thread Cert.GradIdeal.nD Cert.GradIdeal.τ).loc Cert.GradIdeal.main_arg5)
      ∧ m' ((c.tc : Thread Cert.GradReferenceIdeal.nD Cert.GradReferenceIdeal.τ).loc Cert.GradReferenceIdeal.main_arg6) = m ((c.tc : Thread Cert.GradIdeal.nD Cert.GradIdeal.τ).loc Cert.GradIdeal.main_arg6)
      ∧ m' ((c.tc : Thread Cert.GradReferenceIdeal.nD Cert.GradReferenceIdeal.τ).loc Cert.GradReferenceIdeal.main_arg7) = m ((c.tc : Thread Cert.GradIdeal.nD Cert.GradIdeal.τ).loc Cert.GradIdeal.main_arg7)
      ∧ m' ((c.tc : Thread Cert.GradReferenceIdeal.nD Cert.GradReferenceIdeal.τ).loc Cert.GradReferenceIdeal.main_arg8) = m ((c.tc : Thread Cert.GradIdeal.nD Cert.GradIdeal.τ).loc Cert.GradIdeal.main_arg8)) →
    ∃ (v0 : (c : Dev Cert.GradIdeal.nD) → Buf (Elt Ideal) ((c.tc : Thread Cert.GradIdeal.nD Cert.GradIdeal.τ).loc Cert.GradIdeal.main_v6_0)),
      θ_run (Cert.GradIdeal.defs (F := Ideal)) (onTc (τ := Cert.GradIdeal.τ) (Cert.GradIdeal.main (F := Ideal))) ⟨m, fun _ => 0, g⟩ (fun r => ∀ c : Dev Cert.GradIdeal.nD,
          r.2.mem ((c.tc : Thread Cert.GradIdeal.nD Cert.GradIdeal.τ).loc Cert.GradIdeal.main_v6_0) = v0 c
          ∧ r.2.mem ((c.tc : Thread Cert.GradIdeal.nD Cert.GradIdeal.τ).loc Cert.GradIdeal.main_arg0) = m ((c.tc : Thread Cert.GradIdeal.nD Cert.GradIdeal.τ).loc Cert.GradIdeal.main_arg0)
          ∧ r.2.mem ((c.tc : Thread Cert.GradIdeal.nD Cert.GradIdeal.τ).loc Cert.GradIdeal.main_arg1) = m ((c.tc : Thread Cert.GradIdeal.nD Cert.GradIdeal.τ).loc Cert.GradIdeal.main_arg1)
          ∧ r.2.mem ((c.tc : Thread Cert.GradIdeal.nD Cert.GradIdeal.τ).loc Cert.GradIdeal.main_arg2) = m ((c.tc : Thread Cert.GradIdeal.nD Cert.GradIdeal.τ).loc Cert.GradIdeal.main_arg2)
          ∧ r.2.mem ((c.tc : Thread Cert.GradIdeal.nD Cert.GradIdeal.τ).loc Cert.GradIdeal.main_arg3) = m ((c.tc : Thread Cert.GradIdeal.nD Cert.GradIdeal.τ).loc Cert.GradIdeal.main_arg3)
          ∧ r.2.mem ((c.tc : Thread Cert.GradIdeal.nD Cert.GradIdeal.τ).loc Cert.GradIdeal.main_arg4) = m ((c.tc : Thread Cert.GradIdeal.nD Cert.GradIdeal.τ).loc Cert.GradIdeal.main_arg4)
          ∧ r.2.mem ((c.tc : Thread Cert.GradIdeal.nD Cert.GradIdeal.τ).loc Cert.GradIdeal.main_arg5) = m ((c.tc : Thread Cert.GradIdeal.nD Cert.GradIdeal.τ).loc Cert.GradIdeal.main_arg5)
          ∧ r.2.mem ((c.tc : Thread Cert.GradIdeal.nD Cert.GradIdeal.τ).loc Cert.GradIdeal.main_arg6) = m ((c.tc : Thread Cert.GradIdeal.nD Cert.GradIdeal.τ).loc Cert.GradIdeal.main_arg6)
          ∧ r.2.mem ((c.tc : Thread Cert.GradIdeal.nD Cert.GradIdeal.τ).loc Cert.GradIdeal.main_arg7) = m ((c.tc : Thread Cert.GradIdeal.nD Cert.GradIdeal.τ).loc Cert.GradIdeal.main_arg7)
          ∧ r.2.mem ((c.tc : Thread Cert.GradIdeal.nD Cert.GradIdeal.τ).loc Cert.GradIdeal.main_arg8) = m ((c.tc : Thread Cert.GradIdeal.nD Cert.GradIdeal.τ).loc Cert.GradIdeal.main_arg8))
      ∧ θ_run (Cert.GradReferenceIdeal.defs (F := Ideal)) (onTc (τ := Cert.GradReferenceIdeal.τ) (Cert.GradReferenceIdeal.main (F := Ideal))) ⟨m', fun _ => 0, g'⟩ (fun r => ∀ c : Dev Cert.GradReferenceIdeal.nD,
          r.2.mem ((c.tc : Thread Cert.GradReferenceIdeal.nD Cert.GradReferenceIdeal.τ).loc Cert.GradReferenceIdeal.main_v3) = v0 c
          ∧ r.2.mem ((c.tc : Thread Cert.GradReferenceIdeal.nD Cert.GradReferenceIdeal.τ).loc Cert.GradReferenceIdeal.main_arg0) = m' ((c.tc : Thread Cert.GradReferenceIdeal.nD Cert.GradReferenceIdeal.τ).loc Cert.GradReferenceIdeal.main_arg0)
          ∧ r.2.mem ((c.tc : Thread Cert.GradReferenceIdeal.nD Cert.GradReferenceIdeal.τ).loc Cert.GradReferenceIdeal.main_arg1) = m' ((c.tc : Thread Cert.GradReferenceIdeal.nD Cert.GradReferenceIdeal.τ).loc Cert.GradReferenceIdeal.main_arg1)
          ∧ r.2.mem ((c.tc : Thread Cert.GradReferenceIdeal.nD Cert.GradReferenceIdeal.τ).loc Cert.GradReferenceIdeal.main_arg2) = m' ((c.tc : Thread Cert.GradReferenceIdeal.nD Cert.GradReferenceIdeal.τ).loc Cert.GradReferenceIdeal.main_arg2)
          ∧ r.2.mem ((c.tc : Thread Cert.GradReferenceIdeal.nD Cert.GradReferenceIdeal.τ).loc Cert.GradReferenceIdeal.main_arg3) = m' ((c.tc : Thread Cert.GradReferenceIdeal.nD Cert.GradReferenceIdeal.τ).loc Cert.GradReferenceIdeal.main_arg3)
          ∧ r.2.mem ((c.tc : Thread Cert.GradReferenceIdeal.nD Cert.GradReferenceIdeal.τ).loc Cert.GradReferenceIdeal.main_arg4) = m' ((c.tc : Thread Cert.GradReferenceIdeal.nD Cert.GradReferenceIdeal.τ).loc Cert.GradReferenceIdeal.main_arg4)
          ∧ r.2.mem ((c.tc : Thread Cert.GradReferenceIdeal.nD Cert.GradReferenceIdeal.τ).loc Cert.GradReferenceIdeal.main_arg5) = m' ((c.tc : Thread Cert.GradReferenceIdeal.nD Cert.GradReferenceIdeal.τ).loc Cert.GradReferenceIdeal.main_arg5)
          ∧ r.2.mem ((c.tc : Thread Cert.GradReferenceIdeal.nD Cert.GradReferenceIdeal.τ).loc Cert.GradReferenceIdeal.main_arg6) = m' ((c.tc : Thread Cert.GradReferenceIdeal.nD Cert.GradReferenceIdeal.τ).loc Cert.GradReferenceIdeal.main_arg6)
          ∧ r.2.mem ((c.tc : Thread Cert.GradReferenceIdeal.nD Cert.GradReferenceIdeal.τ).loc Cert.GradReferenceIdeal.main_arg7) = m' ((c.tc : Thread Cert.GradReferenceIdeal.nD Cert.GradReferenceIdeal.τ).loc Cert.GradReferenceIdeal.main_arg7)
          ∧ r.2.mem ((c.tc : Thread Cert.GradReferenceIdeal.nD Cert.GradReferenceIdeal.τ).loc Cert.GradReferenceIdeal.main_arg8) = m' ((c.tc : Thread Cert.GradReferenceIdeal.nD Cert.GradReferenceIdeal.τ).loc Cert.GradReferenceIdeal.main_arg8))

def Claim : Prop :=
  ∃ (hKernel : Cert.Kernel.Facts) (hKernelIdeal : Cert.KernelIdeal.Facts) (hReferenceIdeal : Cert.ReferenceIdeal.Facts) (hGrad : Cert.Grad.Facts) (hGradIdeal : Cert.GradIdeal.Facts) (hGradReferenceIdeal : Cert.GradReferenceIdeal.Facts) (hPre_finite : Cert.Pre_finite.Facts) (hPre_finite_gradient : Cert.Pre_finite_gradient.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Grad (hGrad := hGrad)
    ∧ quiescent_GradIdeal (hGradIdeal := hGradIdeal)
    ∧ quiescent_GradIdeal_pre_finite_gradient (hGradIdeal := hGradIdeal) (hPre_finite_gradient := hPre_finite_gradient)
    ∧ quiescent_GradReferenceIdeal (hGradReferenceIdeal := hGradReferenceIdeal)
    ∧ quiescent_GradReferenceIdeal_pre_finite_gradient (hGradReferenceIdeal := hGradReferenceIdeal) (hPre_finite_gradient := hPre_finite_gradient)
    ∧ preserves_Kernel_KernelIdeal
    ∧ algebraic_KernelIdeal_ReferenceIdeal_pre_finite (hKernelIdeal := hKernelIdeal) (hReferenceIdeal := hReferenceIdeal) (hPre_finite := hPre_finite)
    ∧ preserves_Grad_GradIdeal
    ∧ algebraic_GradIdeal_GradReferenceIdeal_pre_finite_gradient (hGradIdeal := hGradIdeal) (hGradReferenceIdeal := hGradReferenceIdeal) (hPre_finite_gradient := hPre_finite_gradient)
-- ==== Pre_finite.lean ====
abbrev S16384x768 : Shape := ⟨2, ![16384, 768]⟩
abbrev S16x16384 : Shape := ⟨2, ![16, 16384]⟩
abbrev S16384 : Shape := ⟨1, ![16384]⟩
abbrev S2048x768 : Shape := ⟨2, ![2048, 768]⟩
abbrev S2048x128 : Shape := ⟨2, ![2048, 128]⟩
abbrev S2048 : Shape := ⟨1, ![2048]⟩
abbrev S5x16384 : Shape := ⟨2, ![5, 16384]⟩
abbrev S2048x5 : Shape := ⟨2, ![2048, 5]⟩
abbrev S_ : Shape := ⟨0, ![]⟩

class Facts : Prop where
  slices_S16x16384_S5x16384_1_0 : S16x16384.Slices ![1, 0] S5x16384
  slices_S2048x128_S2048x5_0_1 : S2048x128.Slices ![0, 1] S2048x5
  bcast_S_S2048x768 : S_.BroadcastsInDim S2048x768 (![] : Fin 0 → Fin S2048x768.rank)
  reducesTo_S2048x768_S_d0_1 : S2048x768.ReducesTo [0, 1] S_
  h_S_ : 0 < S_.numel
  bcast_S_S5x16384 : S_.BroadcastsInDim S5x16384 (![] : Fin 0 → Fin S5x16384.rank)
  reducesTo_S5x16384_S_d0_1 : S5x16384.ReducesTo [0, 1] S_
  bcast_S_S2048x5 : S_.BroadcastsInDim S2048x5 (![] : Fin 0 → Fin S2048x5.rank)
  reducesTo_S2048x5_S_d0_1 : S2048x5.ReducesTo [0, 1] S_

variable [Facts]

def fn_part1 {F : FTy → Type} [FloatOps F] (main_v12 : IVec S_ 1) (main_v14 : IVec S2048x5 1) (main_v16 : IVec S2048x5 1) : IVec S_ 1 :=
  let main_v17 : IVec S2048x5 1 := andi main_v14 main_v16
  let main_c_5 : IVec S_ 1 := constantI S_ 1 1#1
  let main_v18 : IVec S_ 1 := (fun x v => Host.reduce IntOp.andi x v reducesTo_S2048x5_S_d0_1 h_S_) main_v17 main_c_5
  let main_v19 : IVec S_ 1 := andi main_v12 main_v18
  main_v19

def fn {F : FTy → Type} [FloatOps F] (main_arg0 : IVec S16384x768 8) (main_arg1 : FVec F S16x16384 .f32) (main_arg2 : IVec S16384 32) (main_arg3 : FVec F S2048x768 .bf16) (main_arg4 : FVec F S2048x128 .f32) (main_arg5 : IVec S2048 32) (main_arg6 : IVec S2048 32) : IVec S_ 1 :=
  let main_v0 : FVec F S5x16384 .f32 := (extractStridedSlice S5x16384 ![1, 0] · slices_S16x16384_S5x16384_1_0) main_arg1
  let main_v1 : FVec F S2048x5 .f32 := (extractStridedSlice S2048x5 ![0, 1] · slices_S2048x128_S2048x5_0_1) main_arg4
  let main_v2 : FVec F S2048x768 .bf16 := Host.absf main_arg3
  let main_cst : FVec F S_ .bf16 := constant S_ .bf16 0x7F80#16
  let main_v3 : FVec F S2048x768 .bf16 := broadcastInDim S2048x768 ![] bcast_S_S2048x768 main_cst
  let main_v4 : IVec S2048x768 1 := cmpf .olt main_v2 main_v3
  let main_c : IVec S_ 1 := constantI S_ 1 1#1
  let main_v5 : IVec S_ 1 := (fun x v => Host.reduce IntOp.andi x v reducesTo_S2048x768_S_d0_1 h_S_) main_v4 main_c
  let main_cst_0 : FVec F S_ .f32 := constant S_ .f32 0x00000000#32
  let main_v6 : FVec F S5x16384 .f32 := broadcastInDim S5x16384 ![] bcast_S_S5x16384 main_cst_0
  let main_v7 : IVec S5x16384 1 := cmpf .ogt main_v0 main_v6
  let main_cst_1 : FVec F S_ .f32 := constant S_ .f32 0x7F800000#32
  let main_v8 : FVec F S5x16384 .f32 := broadcastInDim S5x16384 ![] bcast_S_S5x16384 main_cst_1
  let main_v9 : IVec S5x16384 1 := cmpf .olt main_v0 main_v8
  let main_v10 : IVec S5x16384 1 := andi main_v7 main_v9
  let main_c_2 : IVec S_ 1 := constantI S_ 1 1#1
  let main_v11 : IVec S_ 1 := (fun x v => Host.reduce IntOp.andi x v reducesTo_S5x16384_S_d0_1 h_S_) main_v10 main_c_2
  let main_v12 : IVec S_ 1 := andi main_v5 main_v11
  let main_cst_3 : FVec F S_ .f32 := constant S_ .f32 0x00000000#32
  let main_v13 : FVec F S2048x5 .f32 := broadcastInDim S2048x5 ![] bcast_S_S2048x5 main_cst_3
  let main_v14 : IVec S2048x5 1 := cmpf .ogt main_v1 main_v13
  let main_cst_4 : FVec F S_ .f32 := constant S_ .f32 0x7F800000#32
  let main_v15 : FVec F S2048x5 .f32 := broadcastInDim S2048x5 ![] bcast_S_S2048x5 main_cst_4
  let main_v16 : IVec S2048x5 1 := cmpf .olt main_v1 main_v15
  fn_part1 (F := F) main_v12 main_v14 main_v16
-- ==== Pre_finite_gradient.lean ====
abbrev S5 : Shape := ⟨1, ![5]⟩
abbrev S16384x768 : Shape := ⟨2, ![16384, 768]⟩
abbrev S16x16384 : Shape := ⟨2, ![16, 16384]⟩
abbrev S16384 : Shape := ⟨1, ![16384]⟩
abbrev S2048x768 : Shape := ⟨2, ![2048, 768]⟩
abbrev S2048x128 : Shape := ⟨2, ![2048, 128]⟩
abbrev S2048 : Shape := ⟨1, ![2048]⟩
abbrev S5x16384 : Shape := ⟨2, ![5, 16384]⟩
abbrev S2048x5 : Shape := ⟨2, ![2048, 5]⟩
abbrev S_ : Shape := ⟨0, ![]⟩
abbrev S1x16384 : Shape := ⟨2, ![1, 16384]⟩

class Facts : Prop where
  slices_S16x16384_S5x16384_1_0 : S16x16384.Slices ![1, 0] S5x16384
  slices_S2048x128_S2048x5_0_1 : S2048x128.Slices ![0, 1] S2048x5
  bcast_S_S5 : S_.BroadcastsInDim S5 (![] : Fin 0 → Fin S5.rank)
  reducesTo_S5_S_d0 : S5.ReducesTo [0] S_
  h_S_ : 0 < S_.numel
  bcast_S_S2048x768 : S_.BroadcastsInDim S2048x768 (![] : Fin 0 → Fin S2048x768.rank)
  reducesTo_S2048x768_S_d0_1 : S2048x768.ReducesTo [0, 1] S_
  slices_S2048x128_S2048x5_0_0 : S2048x128.Slices ![0, 0] S2048x5
  bcast_S_S2048x5 : S_.BroadcastsInDim S2048x5 (![] : Fin 0 → Fin S2048x5.rank)
  reducesTo_S2048x5_S_d0_1 : S2048x5.ReducesTo [0, 1] S_
  bcast_S_S5x16384 : S_.BroadcastsInDim S5x16384 (![] : Fin 0 → Fin S5x16384.rank)
  reducesTo_S5x16384_S_d0_1 : S5x16384.ReducesTo [0, 1] S_
  slices_S16x16384_S1x16384_0_0 : S16x16384.Slices ![0, 0] S1x16384
  bcast_S_S1x16384 : S_.BroadcastsInDim S1x16384 (![] : Fin 0 → Fin S1x16384.rank)
  reducesTo_S1x16384_S_d0_1 : S1x16384.ReducesTo [0, 1] S_

variable [Facts]

def fn_part2 {F : FTy → Type} [FloatOps F] (main_v30 : IVec S_ 1) (main_v33 : IVec S1x16384 1) (main_c_11 : IVec S_ 1) : IVec S_ 1 :=
  let main_v34 : IVec S_ 1 := (fun x v => Host.reduce IntOp.andi x v reducesTo_S1x16384_S_d0_1 h_S_) main_v33 main_c_11
  let main_v35 : IVec S_ 1 := andi main_v30 main_v34
  main_v35

def fn_part1 {F : FTy → Type} [FloatOps F] (main_arg2 : FVec F S16x16384 .f32) (main_v0 : FVec F S5x16384 .f32) (main_v1 : FVec F S2048x5 .f32) (main_v16 : IVec S_ 1) (main_cst_4 : FVec F S_ .f32) : IVec S_ 1 :=
  let main_v17 : FVec F S5x16384 .f32 := broadcastInDim S5x16384 ![] bcast_S_S5x16384 main_cst_4
  let main_v18 : IVec S5x16384 1 := cmpf .ogt main_v0 main_v17
  let main_cst_5 : FVec F S_ .f32 := constant S_ .f32 0x7F800000#32
  let main_v19 : FVec F S5x16384 .f32 := broadcastInDim S5x16384 ![] bcast_S_S5x16384 main_cst_5
  let main_v20 : IVec S5x16384 1 := cmpf .olt main_v0 main_v19
  let main_v21 : IVec S5x16384 1 := andi main_v18 main_v20
  let main_c_6 : IVec S_ 1 := constantI S_ 1 1#1
  let main_v22 : IVec S_ 1 := (fun x v => Host.reduce IntOp.andi x v reducesTo_S5x16384_S_d0_1 h_S_) main_v21 main_c_6
  let main_v23 : IVec S_ 1 := andi main_v16 main_v22
  let main_cst_7 : FVec F S_ .f32 := constant S_ .f32 0x00000000#32
  let main_v24 : FVec F S2048x5 .f32 := broadcastInDim S2048x5 ![] bcast_S_S2048x5 main_cst_7
  let main_v25 : IVec S2048x5 1 := cmpf .ogt main_v1 main_v24
  let main_cst_8 : FVec F S_ .f32 := constant S_ .f32 0x7F800000#32
  let main_v26 : FVec F S2048x5 .f32 := broadcastInDim S2048x5 ![] bcast_S_S2048x5 main_cst_8
  let main_v27 : IVec S2048x5 1 := cmpf .olt main_v1 main_v26
  let main_v28 : IVec S2048x5 1 := andi main_v25 main_v27
  let main_c_9 : IVec S_ 1 := constantI S_ 1 1#1
  let main_v29 : IVec S_ 1 := (fun x v => Host.reduce IntOp.andi x v reducesTo_S2048x5_S_d0_1 h_S_) main_v28 main_c_9
  let main_v30 : IVec S_ 1 := andi main_v23 main_v29
  let main_v31 : FVec F S1x16384 .f32 := (extractStridedSlice S1x16384 ![0, 0] · slices_S16x16384_S1x16384_0_0) main_arg2
  let main_cst_10 : FVec F S_ .f32 := constant S_ .f32 0x00000000#32
  let main_v32 : FVec F S1x16384 .f32 := broadcastInDim S1x16384 ![] bcast_S_S1x16384 main_cst_10
  let main_v33 : IVec S1x16384 1 := cmpf .une main_v31 main_v32
  let main_c_11 : IVec S_ 1 := constantI S_ 1 1#1
  fn_part2 (F := F) main_v30 main_v33 main_c_11

def fn {F : FTy → Type} [FloatOps F] (main_arg0 : FVec F S5 .f32) (main_arg1 : IVec S16384x768 8) (main_arg2 : FVec F S16x16384 .f32) (main_arg3 : IVec S16384 32) (main_arg4 : FVec F S2048x768 .bf16) (main_arg5 : FVec F S2048x128 .f32) (main_arg6 : FVec F S2048x128 .f32) (main_arg7 : IVec S2048 32) (main_arg8 : IVec S2048 32) : IVec S_ 1 :=
  let main_v0 : FVec F S5x16384 .f32 := (extractStridedSlice S5x16384 ![1, 0] · slices_S16x16384_S5x16384_1_0) main_arg2
  let main_v1 : FVec F S2048x5 .f32 := (extractStridedSlice S2048x5 ![0, 1] · slices_S2048x128_S2048x5_0_1) main_arg5
  let main_v2 : FVec F S5 .f32 := Host.absf main_arg0
  let main_cst : FVec F S_ .f32 := constant S_ .f32 0x7F800000#32
  let main_v3 : FVec F S5 .f32 := broadcastInDim S5 ![] bcast_S_S5 main_cst
  let main_v4 : IVec S5 1 := cmpf .olt main_v2 main_v3
  let main_c : IVec S_ 1 := constantI S_ 1 1#1
  let main_v5 : IVec S_ 1 := (fun x v => Host.reduce IntOp.andi x v reducesTo_S5_S_d0 h_S_) main_v4 main_c
  let main_v6 : FVec F S2048x768 .bf16 := Host.absf main_arg4
  let main_cst_0 : FVec F S_ .bf16 := constant S_ .bf16 0x7F80#16
  let main_v7 : FVec F S2048x768 .bf16 := broadcastInDim S2048x768 ![] bcast_S_S2048x768 main_cst_0
  let main_v8 : IVec S2048x768 1 := cmpf .olt main_v6 main_v7
  let main_c_1 : IVec S_ 1 := constantI S_ 1 1#1
  let main_v9 : IVec S_ 1 := (fun x v => Host.reduce IntOp.andi x v reducesTo_S2048x768_S_d0_1 h_S_) main_v8 main_c_1
  let main_v10 : IVec S_ 1 := andi main_v5 main_v9
  let main_v11 : FVec F S2048x5 .f32 := (extractStridedSlice S2048x5 ![0, 0] · slices_S2048x128_S2048x5_0_0) main_arg6
  let main_v12 : FVec F S2048x5 .f32 := Host.absf main_v11
  let main_cst_2 : FVec F S_ .f32 := constant S_ .f32 0x7F800000#32
  let main_v13 : FVec F S2048x5 .f32 := broadcastInDim S2048x5 ![] bcast_S_S2048x5 main_cst_2
  let main_v14 : IVec S2048x5 1 := cmpf .olt main_v12 main_v13
  let main_c_3 : IVec S_ 1 := constantI S_ 1 1#1
  let main_v15 : IVec S_ 1 := (fun x v => Host.reduce IntOp.andi x v reducesTo_S2048x5_S_d0_1 h_S_) main_v14 main_c_3
  let main_v16 : IVec S_ 1 := andi main_v10 main_v15
  let main_cst_4 : FVec F S_ .f32 := constant S_ .f32 0x00000000#32
  fn_part1 (F := F) main_arg2 main_v0 main_v1 main_v16 main_cst_4
-- ==== Kernel.lean ====
abbrev S16384x768 : Shape := ⟨2, ![16384, 768]⟩
abbrev S16x16384 : Shape := ⟨2, ![16, 16384]⟩
abbrev S16384 : Shape := ⟨1, ![16384]⟩
abbrev S2048x768 : Shape := ⟨2, ![2048, 768]⟩
abbrev S2048x128 : Shape := ⟨2, ![2048, 128]⟩
abbrev S2048 : Shape := ⟨1, ![2048]⟩
abbrev S2048x1 : Shape := ⟨2, ![2048, 1]⟩
abbrev S1x16384 : Shape := ⟨2, ![1, 16384]⟩
abbrev S8x2048 : Shape := ⟨2, ![8, 2048]⟩
abbrev S256x768 : Shape := ⟨2, ![256, 768]⟩
abbrev S16x256 : Shape := ⟨2, ![16, 256]⟩
abbrev S1x256 : Shape := ⟨2, ![1, 256]⟩
abbrev S5x256x256 : Shape := ⟨3, ![5, 256, 256]⟩
abbrev S5x2048x128 : Shape := ⟨3, ![5, 2048, 128]⟩
abbrev S1x2048x128 : Shape := ⟨3, ![1, 2048, 128]⟩
abbrev S256x64 : Shape := ⟨2, ![256, 64]⟩
abbrev S256x256 : Shape := ⟨2, ![256, 256]⟩
abbrev S1x256x256 : Shape := ⟨3, ![1, 256, 256]⟩
abbrev S256x128 : Shape := ⟨2, ![256, 128]⟩
abbrev S16x128 : Shape := ⟨2, ![16, 128]⟩
abbrev S1x128 : Shape := ⟨2, ![1, 128]⟩
abbrev S1x16x128 : Shape := ⟨3, ![1, 16, 128]⟩
abbrev S128x2048 : Shape := ⟨2, ![128, 2048]⟩
abbrev S5x2048 : Shape := ⟨2, ![5, 2048]⟩
abbrev S_ : Shape := ⟨0, ![]⟩
abbrev S5 : Shape := ⟨1, ![5]⟩

abbrev nBuf : Space → Nat
  | .hbm => 20
  | .vmem => 16
  | .smem => 0
  | _ => 0

abbrev bufTy : (tb : Table) → Fin (tcTables nBuf tb) → BufTy
  | .hbm, ⟨0, _⟩ => ⟨S16384x768, .i8⟩
  | .hbm, ⟨1, _⟩ => ⟨S16x16384, .f32⟩
  | .hbm, ⟨2, _⟩ => ⟨S16384, .i32⟩
  | .hbm, ⟨3, _⟩ => ⟨S2048x768, .bf16⟩
  | .hbm, ⟨4, _⟩ => ⟨S2048x128, .f32⟩
  | .hbm, ⟨5, _⟩ => ⟨S2048, .i32⟩
  | .hbm, ⟨6, _⟩ => ⟨S2048, .i32⟩
  | .hbm, ⟨7, _⟩ => ⟨S2048x1, .i32⟩
  | .hbm, ⟨8, _⟩ => ⟨S2048x128, .i32⟩
  | .hbm, ⟨9, _⟩ => ⟨S1x16384, .i32⟩
  | .hbm, ⟨10, _⟩ => ⟨S2048x1, .i32⟩
  | .hbm, ⟨11, _⟩ => ⟨S2048x128, .i32⟩
  | .hbm, ⟨12, _⟩ => ⟨S2048x128, .f32⟩
  | .hbm, ⟨13, _⟩ => ⟨S8x2048, .f32⟩
  | .hbm, ⟨14, _⟩ => ⟨S5x2048, .f32⟩
  | .hbm, ⟨15, _⟩ => ⟨S_, .f32⟩
  | .hbm, ⟨16, _⟩ => ⟨S5, .f32⟩
  | .hbm, ⟨17, _⟩ => ⟨S_, .f32⟩
  | .hbm, ⟨18, _⟩ => ⟨S5, .f32⟩
  | .hbm, ⟨19, _⟩ => ⟨S5, .f32⟩
  | .local _ .vmem, ⟨0, _⟩ => ⟨S256x768, .i8⟩
  | .local _ .vmem, ⟨1, _⟩ => ⟨S256x768, .i8⟩
  | .local _ .vmem, ⟨2, _⟩ => ⟨S16x256, .f32⟩
  | .local _ .vmem, ⟨3, _⟩ => ⟨S16x256, .f32⟩
  | .local _ .vmem, ⟨4, _⟩ => ⟨S1x256, .i32⟩
  | .local _ .vmem, ⟨5, _⟩ => ⟨S1x256, .i32⟩
  | .local _ .vmem, ⟨6, _⟩ => ⟨S2048x768, .bf16⟩
  | .local _ .vmem, ⟨7, _⟩ => ⟨S2048x128, .f32⟩
  | .local _ .vmem, ⟨8, _⟩ => ⟨S2048x128, .i32⟩
  | .local _ .vmem, ⟨9, _⟩ => ⟨S2048x128, .i32⟩
  | .local _ .vmem, ⟨10, _⟩ => ⟨S2048x128, .f32⟩
  | .local _ .vmem, ⟨11, _⟩ => ⟨S8x2048, .f32⟩
  | .local _ .vmem, ⟨12, _⟩ => ⟨S5x256x256, .f32⟩
  | .local _ .vmem, ⟨13, _⟩ => ⟨S5x2048x128, .f32⟩
  | .local _ .vmem, ⟨14, _⟩ => ⟨S5x2048x128, .f32⟩
  | .local _ .vmem, ⟨15, _⟩ => ⟨S5x2048x128, .f32⟩
  | _, _ => ⟨S16384x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_9 : BitVec 32 := 0#32
  let c8_i32 : BitVec 32 := 8#32
  let v16 : BitVec 32 := Scalar.addi c0_i32_9 c8_i32
  let c1_i32 : BitVec 32 := 1#32
  ⟨c0_i32_9, v16, c1_i32⟩
def k0_mult1 (k0_t1 : Fin k0_t1_loop.trips) : BitVec 32 :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  v22
def k0_off1 (k0_t1 : Fin k0_t1_loop.trips) : Fin 2 → Nat :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let v24 : Index := Scalar.indexCast v23
  let c0_15 : Index := 0#32
  ![v24.toNat, 0]
def k0_off2 (k0_t1 : Fin k0_t1_loop.trips) : Fin 2 → Nat :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let v31 : Index := Scalar.indexCast v23
  let c64 : Index := 64#32
  ![v31.toNat, 64]
def k0_off3 (k0_t1 : Fin k0_t1_loop.trips) : Fin 2 → Nat :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let v38 : Index := Scalar.indexCast v23
  let c128 : Index := 128#32
  ![v38.toNat, 128]
def k0_off4 (k0_t1 : Fin k0_t1_loop.trips) : Fin 2 → Nat :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let v45 : Index := Scalar.indexCast v23
  let c256 : Index := 256#32
  ![v45.toNat, 256]
def k0_off5 (k0_t1 : Fin k0_t1_loop.trips) : Fin 2 → Nat :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let v52 : Index := Scalar.indexCast v23
  let c512 : Index := 512#32
  ![v52.toNat, 512]
@[reducible] def k0_t2_loop : Scf.Loop 32 :=
  let c0_i32_35 : BitVec 32 := 0#32
  let c16_i32 : BitVec 32 := 16#32
  let v59 : BitVec 32 := Scalar.addi c0_i32_35 c16_i32
  let c1_i32_36 : BitVec 32 := 1#32
  ⟨c0_i32_35, v59, c1_i32_36⟩
def k0_mult2 (k0_t2 : Fin k0_t2_loop.trips) : BitVec 32 :=
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  v62
def k0_mult3 (k0_t1 : Fin k0_t1_loop.trips) (k0_t2 : Fin k0_t2_loop.trips) : BitVec 32 :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  v64
def k0_off6 (k0_t1 : Fin k0_t1_loop.trips) (k0_t2 : Fin k0_t2_loop.trips) : Fin 2 → Nat :=
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  let v65 : BitVec 32 := v64
  let v66 : Index := Scalar.indexCast v65
  let c0_41 : Index := 0#32
  ![v66.toNat, 0]
def k0_off7 (k0_t1 : Fin k0_t1_loop.trips) (k0_t2 : Fin k0_t2_loop.trips) : Fin 3 → Nat :=
  let c0_45 : Index := 0#32
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  let v65 : BitVec 32 := v64
  let v88 : Index := Scalar.indexCast v65
  let c0_46 : Index := 0#32
  ![0, v88.toNat, 0]
def k0_off8 (k0_t2 : Fin k0_t2_loop.trips) : Fin 3 → Nat :=
  let c0_51 : Index := 0#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v97 : Index := Scalar.indexCast v63
  let c0_52 : Index := 0#32
  ![0, v97.toNat, 0]
def k0_off9 (k0_t2 : Fin k0_t2_loop.trips) : Fin 3 → Nat :=
  let c0_55 : Index := 0#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v111 : Index := Scalar.indexCast v63
  let c128_56 : Index := 128#32
  ![0, v111.toNat, 128]
def k0_off10 (k0_t1 : Fin k0_t1_loop.trips) (k0_t2 : Fin k0_t2_loop.trips) : Fin 3 → Nat :=
  let c1_63 : Index := 1#32
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  let v65 : BitVec 32 := v64
  let v133 : Index := Scalar.indexCast v65
  let c0_64 : Index := 0#32
  ![1, v133.toNat, 0]
def k0_off11 (k0_t2 : Fin k0_t2_loop.trips) : Fin 3 → Nat :=
  let c1_69 : Index := 1#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v142 : Index := Scalar.indexCast v63
  let c0_70 : Index := 0#32
  ![1, v142.toNat, 0]
def k0_off12 (k0_t2 : Fin k0_t2_loop.trips) : Fin 3 → Nat :=
  let c1_72 : Index := 1#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v155 : Index := Scalar.indexCast v63
  let c128_73 : Index := 128#32
  ![1, v155.toNat, 128]
def k0_off13 (k0_t1 : Fin k0_t1_loop.trips) (k0_t2 : Fin k0_t2_loop.trips) : Fin 3 → Nat :=
  let c2_79 : Index := 2#32
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  let v65 : BitVec 32 := v64
  let v176 : Index := Scalar.indexCast v65
  let c0_80 : Index := 0#32
  ![2, v176.toNat, 0]
def k0_off14 (k0_t2 : Fin k0_t2_loop.trips) : Fin 3 → Nat :=
  let c2_85 : Index := 2#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v185 : Index := Scalar.indexCast v63
  let c0_86 : Index := 0#32
  ![2, v185.toNat, 0]
def k0_off15 (k0_t2 : Fin k0_t2_loop.trips) : Fin 3 → Nat :=
  let c2_88 : Index := 2#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v198 : Index := Scalar.indexCast v63
  let c128_89 : Index := 128#32
  ![2, v198.toNat, 128]
def k0_off16 (k0_t1 : Fin k0_t1_loop.trips) (k0_t2 : Fin k0_t2_loop.trips) : Fin 3 → Nat :=
  let c3_95 : Index := 3#32
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  let v65 : BitVec 32 := v64
  let v219 : Index := Scalar.indexCast v65
  let c0_96 : Index := 0#32
  ![3, v219.toNat, 0]
def k0_off17 (k0_t2 : Fin k0_t2_loop.trips) : Fin 3 → Nat :=
  let c3_101 : Index := 3#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v228 : Index := Scalar.indexCast v63
  let c0_102 : Index := 0#32
  ![3, v228.toNat, 0]
def k0_off18 (k0_t2 : Fin k0_t2_loop.trips) : Fin 3 → Nat :=
  let c3_104 : Index := 3#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v241 : Index := Scalar.indexCast v63
  let c128_105 : Index := 128#32
  ![3, v241.toNat, 128]
def k0_off19 (k0_t1 : Fin k0_t1_loop.trips) (k0_t2 : Fin k0_t2_loop.trips) : Fin 3 → Nat :=
  let c4_111 : Index := 4#32
  let c0_i32_13 : BitVec 32 := 0#32
  let c0_i32_9 : BitVec 32 := 0#32
  let c1_i32 : BitVec 32 := 1#32
  let arg14 : BitVec 32 := Scf.iv c0_i32_9 c1_i32 k0_t1
  let c1_i32_12 : BitVec 32 := 1#32
  let v20 : BitVec 32 := Scalar.muli arg14 c1_i32_12
  let v21 : BitVec 32 := Scalar.addi c0_i32_13 v20
  let c256_i32_14 : BitVec 32 := 256#32
  let v22 : BitVec 32 := Scalar.muli v21 c256_i32_14
  let v23 : BitVec 32 := v22
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v64 : BitVec 32 := Scalar.addi v23 v63
  let v65 : BitVec 32 := v64
  let v262 : Index := Scalar.indexCast v65
  let c0_112 : Index := 0#32
  ![4, v262.toNat, 0]
def k0_off20 (k0_t2 : Fin k0_t2_loop.trips) : Fin 3 → Nat :=
  let c4_117 : Index := 4#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v271 : Index := Scalar.indexCast v63
  let c0_118 : Index := 0#32
  ![4, v271.toNat, 0]
def k0_off21 (k0_t2 : Fin k0_t2_loop.trips) : Fin 3 → Nat :=
  let c4_120 : Index := 4#32
  let c0_i32_39 : BitVec 32 := 0#32
  let c0_i32_35 : BitVec 32 := 0#32
  let c1_i32_36 : BitVec 32 := 1#32
  let arg15 : BitVec 32 := Scf.iv c0_i32_35 c1_i32_36 k0_t2
  let c1_i32_38 : BitVec 32 := 1#32
  let v60 : BitVec 32 := Scalar.muli arg15 c1_i32_38
  let v61 : BitVec 32 := Scalar.addi c0_i32_39 v60
  let c16_i32_40 : BitVec 32 := 16#32
  let v62 : BitVec 32 := Scalar.muli v61 c16_i32_40
  let v63 : BitVec 32 := v62
  let v284 : Index := Scalar.indexCast v63
  let c128_121 : Index := 128#32
  ![4, v284.toNat, 128]
def k0_cond2 (i : grid0.Coords) : BitVec 1 :=
  let arg0 : BitVec 32 := BitVec.ofNat 32 (i 0).val
  let c63_i32 : BitVec 32 := 63#32
  let v17 : BitVec 1 := Scalar.cmpi .eq arg0 c63_i32
  let v18 : BitVec 32 := Scalar.extui v17
  let c0_i32_11 : BitVec 32 := 0#32
  let v19 : BitVec 1 := Scalar.cmpi .ne v18 c0_i32_11
  v19

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x768 .i8 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]
-- ==== KernelIdeal.lean ====
variable {F : FTy → Type} [FloatOps F] [Named F]
def κ : String → Option EReal := fun
  | "ln2" => some ((Real.log 2 : ℝ) : EReal)
  | "log2e" => some (((Real.log 2)⁻¹ : ℝ) : EReal)
  | "log2e_over_tau" => some ((20 * (Real.log 2)⁻¹ : ℝ) : EReal)
  | "masked" => some ⊥
  | _ => none
-- ==== ReferenceIdeal.lean ====
abbrev S16384x768 : Shape := ⟨2, ![16384, 768]⟩
abbrev S16x16384 : Shape := ⟨2, ![16, 16384]⟩
abbrev S16384 : Shape := ⟨1, ![16384]⟩
abbrev S2048x768 : Shape := ⟨2, ![2048, 768]⟩
abbrev S2048x128 : Shape := ⟨2, ![2048, 128]⟩
abbrev S2048 : Shape := ⟨1, ![2048]⟩
abbrev S1x16384 : Shape := ⟨2, ![1, 16384]⟩
abbrev S2048x1 : Shape := ⟨2, ![2048, 1]⟩
abbrev S2048x5 : Shape := ⟨2, ![2048, 5]⟩
abbrev S2048x16384 : Shape := ⟨2, ![2048, 16384]⟩
abbrev S2048x64 : Shape := ⟨2, ![2048, 64]⟩
abbrev S16384x64 : Shape := ⟨2, ![16384, 64]⟩
abbrev S16384x128 : Shape := ⟨2, ![16384, 128]⟩
abbrev S2048x256 : Shape := ⟨2, ![2048, 256]⟩
abbrev S16384x256 : Shape := ⟨2, ![16384, 256]⟩
abbrev S5x2048 : Shape := ⟨2, ![5, 2048]⟩
abbrev S_ : Shape := ⟨0, ![]⟩
abbrev S5 : Shape := ⟨1, ![5]⟩

abbrev nBuf : Space → Nat
  | .hbm => 17
  | .vmem => 8
  | .smem => 0
  | _ => 0

abbrev bufTy : (tb : Table) → Fin (tcTables nBuf tb) → BufTy
  | .hbm, ⟨0, _⟩ => ⟨S16384x768, .i8⟩
  | .hbm, ⟨1, _⟩ => ⟨S16x16384, .f32⟩
  | .hbm, ⟨2, _⟩ => ⟨S16384, .i32⟩
  | .hbm, ⟨3, _⟩ => ⟨S2048x768, .bf16⟩
  | .hbm, ⟨4, _⟩ => ⟨S2048x128, .f32⟩
  | .hbm, ⟨5, _⟩ => ⟨S2048, .i32⟩
  | .hbm, ⟨6, _⟩ => ⟨S2048, .i32⟩
  | .hbm, ⟨7, _⟩ => ⟨S1x16384, .i32⟩
  | .hbm, ⟨8, _⟩ => ⟨S2048x1, .i32⟩
  | .hbm, ⟨9, _⟩ => ⟨S2048x1, .i32⟩
  | .hbm, ⟨10, _⟩ => ⟨S2048x5, .f32⟩
  | .hbm, ⟨11, _⟩ => ⟨S5x2048, .f32⟩
  | .hbm, ⟨12, _⟩ => ⟨S_, .f32⟩
  | .hbm, ⟨13, _⟩ => ⟨S5, .f32⟩
  | .hbm, ⟨14, _⟩ => ⟨S_, .f32⟩
  | .hbm, ⟨15, _⟩ => ⟨S5, .f32⟩
  | .hbm, ⟨16, _⟩ => ⟨S5, .f32⟩
  | .local _ .vmem, ⟨0, _⟩ => ⟨S16384x768, .i8⟩
  | .local _ .vmem, ⟨1, _⟩ => ⟨S16x16384, .f32⟩
  | .local _ .vmem, ⟨2, _⟩ => ⟨S1x16384, .i32⟩
  | .local _ .vmem, ⟨3, _⟩ => ⟨S2048x768, .bf16⟩
  | .local _ .vmem, ⟨4, _⟩ => ⟨S2048x128, .f32⟩
  | .local _ .vmem, ⟨5, _⟩ => ⟨S2048x1, .i32⟩
  | .local _ .vmem, ⟨6, _⟩ => ⟨S2048x1, .i32⟩
  | .local _ .vmem, ⟨7, _⟩ => ⟨S2048x5, .f32⟩
  | _, _ => ⟨S16384x768, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_cst_0 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F] [Named F]

def κ : String → Option EReal := fun
  | "log2e" => some (((Real.log 2)⁻¹ : ℝ) : EReal)
  | "tau" => some ((1 / 20 : ℝ) : EReal)
  | _ => none

abbrev grid0 : Pipeline.Grid := .none

abbrev stage0_0 : Fin 1 → Memref sig .tc .vmem S16384x768 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x16384 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16384 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x5 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Grad.lean ====
abbrev S5 : Shape := ⟨1, ![5]⟩
abbrev S16384x768 : Shape := ⟨2, ![16384, 768]⟩
abbrev S16x16384 : Shape := ⟨2, ![16, 16384]⟩
abbrev S16384 : Shape := ⟨1, ![16384]⟩
abbrev S2048x768 : Shape := ⟨2, ![2048, 768]⟩
abbrev S2048x128 : Shape := ⟨2, ![2048, 128]⟩
abbrev S2048 : Shape := ⟨1, ![2048]⟩
abbrev S2048x1 : Shape := ⟨2, ![2048, 1]⟩
abbrev S1x16384 : Shape := ⟨2, ![1, 16384]⟩
abbrev S768x2048 : Shape := ⟨2, ![768, 2048]⟩
abbrev S256x768 : Shape := ⟨2, ![256, 768]⟩
abbrev S16x256 : Shape := ⟨2, ![16, 256]⟩
abbrev S1x256 : Shape := ⟨2, ![1, 256]⟩
abbrev S5x256x256 : Shape := ⟨3, ![5, 256, 256]⟩
abbrev S5x2048x128 : Shape := ⟨3, ![5, 2048, 128]⟩
abbrev S5x8x256 : Shape := ⟨3, ![5, 8, 256]⟩
abbrev S768x256 : Shape := ⟨2, ![768, 256]⟩
abbrev S1x2048x128 : Shape := ⟨3, ![1, 2048, 128]⟩
abbrev S1 : Shape := ⟨1, ![1]⟩
abbrev S256x64 : Shape := ⟨2, ![256, 64]⟩
abbrev S256x256 : Shape := ⟨2, ![256, 256]⟩
abbrev S1x256x256 : Shape := ⟨3, ![1, 256, 256]⟩
abbrev S256x128 : Shape := ⟨2, ![256, 128]⟩
abbrev S16x128 : Shape := ⟨2, ![16, 128]⟩
abbrev S1x128 : Shape := ⟨2, ![1, 128]⟩
abbrev S1x16x128 : Shape := ⟨3, ![1, 16, 128]⟩
abbrev S1x8x128 : Shape := ⟨3, ![1, 8, 128]⟩
abbrev S8x128 : Shape := ⟨2, ![8, 128]⟩
abbrev S64x256 : Shape := ⟨2, ![64, 256]⟩
abbrev S128x256 : Shape := ⟨2, ![128, 256]⟩
abbrev S1x8x256 : Shape := ⟨3, ![1, 8, 256]⟩
abbrev S8x256 : Shape := ⟨2, ![8, 256]⟩
abbrev S256 : Shape := ⟨1, ![256]⟩
abbrev S2048x256 : Shape := ⟨2, ![2048, 256]⟩
abbrev S2048x64 : Shape := ⟨2, ![2048, 64]⟩

abbrev nBuf : Space → Nat
  | .hbm => 17
  | .vmem => 24
  | .smem => 1
  | _ => 0

abbrev bufTy : (tb : Table) → Fin (tcTables nBuf tb) → BufTy
  | .hbm, ⟨0, _⟩ => ⟨S5, .f32⟩
  | .hbm, ⟨1, _⟩ => ⟨S16384x768, .i8⟩
  | .hbm, ⟨2, _⟩ => ⟨S16x16384, .f32⟩
  | .hbm, ⟨3, _⟩ => ⟨S16384, .i32⟩
  | .hbm, ⟨4, _⟩ => ⟨S2048x768, .bf16⟩
  | .hbm, ⟨5, _⟩ => ⟨S2048x128, .f32⟩
  | .hbm, ⟨6, _⟩ => ⟨S2048x128, .f32⟩
  | .hbm, ⟨7, _⟩ => ⟨S2048, .i32⟩
  | .hbm, ⟨8, _⟩ => ⟨S2048, .i32⟩
  | .hbm, ⟨9, _⟩ => ⟨S2048x1, .i32⟩
  | .hbm, ⟨10, _⟩ => ⟨S2048x128, .i32⟩
  | .hbm, ⟨11, _⟩ => ⟨S1x16384, .i32⟩
  | .hbm, ⟨12, _⟩ => ⟨S2048x1, .i32⟩
  | .hbm, ⟨13, _⟩ => ⟨S2048x128, .i32⟩
  | .hbm, ⟨14, _⟩ => ⟨S768x2048, .bf16⟩
  | .hbm, ⟨15, _⟩ => ⟨S16384x768, .bf16⟩
  | .hbm, ⟨16, _⟩ => ⟨S2048x768, .bf16⟩
  | .local _ .vmem, ⟨0, _⟩ => ⟨S256x768, .i8⟩
  | .local _ .vmem, ⟨1, _⟩ => ⟨S256x768, .i8⟩
  | .local _ .vmem, ⟨2, _⟩ => ⟨S16x256, .f32⟩
  | .local _ .vmem, ⟨3, _⟩ => ⟨S16x256, .f32⟩
  | .local _ .vmem, ⟨4, _⟩ => ⟨S1x256, .i32⟩
  | .local _ .vmem, ⟨5, _⟩ => ⟨S1x256, .i32⟩
  | .local _ .vmem, ⟨6, _⟩ => ⟨S2048x768, .bf16⟩
  | .local _ .vmem, ⟨7, _⟩ => ⟨S768x2048, .bf16⟩
  | .local _ .vmem, ⟨8, _⟩ => ⟨S2048x128, .f32⟩
  | .local _ .vmem, ⟨9, _⟩ => ⟨S2048x128, .f32⟩
  | .local _ .vmem, ⟨10, _⟩ => ⟨S2048x128, .i32⟩
  | .local _ .vmem, ⟨11, _⟩ => ⟨S2048x128, .i32⟩
  | .local _ .vmem, ⟨12, _⟩ => ⟨S256x768, .bf16⟩
  | .local _ .vmem, ⟨13, _⟩ => ⟨S256x768, .bf16⟩
  | .local _ .vmem, ⟨14, _⟩ => ⟨S2048x768, .bf16⟩
  | .local _ .vmem, ⟨15, _⟩ => ⟨S5x256x256, .f32⟩
  | .local _ .vmem, ⟨16, _⟩ => ⟨S5x256x256, .bf16⟩
  | .local _ .vmem, ⟨17, _⟩ => ⟨S5x2048x128, .f32⟩
  | .local _ .vmem, ⟨18, _⟩ => ⟨S5x2048x128, .f32⟩
  | .local _ .vmem, ⟨19, _⟩ => ⟨S5x2048x128, .f32⟩
  | .local _ .vmem, ⟨20, _⟩ => ⟨S5x2048x128, .f32⟩
  | .local _ .vmem, ⟨21, _⟩ => ⟨S5x8x256, .f32⟩
  | .local _ .vmem, ⟨22, _⟩ => ⟨S2048x768, .f32⟩
  | .local _ .vmem, ⟨23, _⟩ => ⟨S768x256, .f32⟩
  | .local _ .smem, ⟨0, _⟩ => ⟨S5, .f32⟩
  | _, _ => ⟨S5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_scratch5 : Ref sig .tc := ⟨.vmem, 20, rfl⟩
abbrev cc0_scratch6 : Ref sig .tc := ⟨.vmem, 21, rfl⟩
abbrev cc0_scratch7 : Ref sig .tc := ⟨.vmem, 22, rfl⟩
abbrev cc0_scratch8 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14
abbrev cc0_sem11_0 : DmaSem sig := 15

abbrev nD : Nat := 1
abbrev τ : Topo := Topo.v7x

variable {F : FTy → Type} [FloatOps F]

abbrev grid0 : Pipeline.Grid := ⟨1, ![64], ![false]⟩

@[reducible] def k0_t1_loop : Scf.Loop 32 :=
  let c0_i32_25 : BitVec 32 := 0#32
  let c8_i32 : BitVec 32 := 8#32
  let v44 : BitVec 32 := Scalar.addi c0_i32_25 c8_i32
  let c1_i32 : BitVec 32 := 1#32
  ⟨c0_i32_25, v44, c1_i32⟩
def k0_mult1 (k0_t1 : Fin k0_t1_loop.trips) : BitVec 32 :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  v164
def k0_off1 (k0_t1 : Fin k0_t1_loop.trips) : Fin 2 → Nat :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v166 : Index := Scalar.indexCast v165
  let c0_91 : Index := 0#32
  ![v166.toNat, 0]
def k0_off2 (k0_t1 : Fin k0_t1_loop.trips) : Fin 2 → Nat :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v173 : Index := Scalar.indexCast v165
  let c64_96 : Index := 64#32
  ![v173.toNat, 64]
def k0_off3 (k0_t1 : Fin k0_t1_loop.trips) : Fin 2 → Nat :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v180 : Index := Scalar.indexCast v165
  let c128_101 : Index := 128#32
  ![v180.toNat, 128]
def k0_off4 (k0_t1 : Fin k0_t1_loop.trips) : Fin 2 → Nat :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v187 : Index := Scalar.indexCast v165
  let c256_106 : Index := 256#32
  ![v187.toNat, 256]
def k0_off5 (k0_t1 : Fin k0_t1_loop.trips) : Fin 2 → Nat :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v194 : Index := Scalar.indexCast v165
  let c512_111 : Index := 512#32
  ![v194.toNat, 512]
@[reducible] def k0_t2_loop : Scf.Loop 32 :=
  let c0_i32_116 : BitVec 32 := 0#32
  let c16_i32 : BitVec 32 := 16#32
  let v201 : BitVec 32 := Scalar.addi c0_i32_116 c16_i32
  let c1_i32_117 : BitVec 32 := 1#32
  ⟨c0_i32_116, v201, c1_i32_117⟩
def k0_mult2 (k0_t2 : Fin k0_t2_loop.trips) : BitVec 32 :=
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  v304
def k0_mult3 (k0_t1 : Fin k0_t1_loop.trips) (k0_t2 : Fin k0_t2_loop.trips) : BitVec 32 :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  v306
def k0_off6 (k0_t1 : Fin k0_t1_loop.trips) (k0_t2 : Fin k0_t2_loop.trips) : Fin 2 → Nat :=
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  let v307 : BitVec 32 := v306
  let v308 : Index := Scalar.indexCast v307
  let c0_182 : Index := 0#32
  ![v308.toNat, 0]
def k0_off7 (k0_t2 : Fin k0_t2_loop.trips) : Fin 3 → Nat :=
  let c0_186 : Index := 0#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v330 : Index := Scalar.indexCast v305
  let c0_187 : Index := 0#32
  ![0, v330.toNat, 0]
def k0_off8 (k0_t2 : Fin k0_t2_loop.trips) : Fin 3 → Nat :=
  let c1_189 : Index := 1#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v335 : Index := Scalar.indexCast v305
  let c0_190 : Index := 0#32
  ![1, v335.toNat, 0]
def k0_off9 (k0_t2 : Fin k0_t2_loop.trips) : Fin 3 → Nat :=
  let c2_191 : Index := 2#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v339 : Index := Scalar.indexCast v305
  let c0_192 : Index := 0#32
  ![2, v339.toNat, 0]
def k0_off10 (k0_t2 : Fin k0_t2_loop.trips) : Fin 3 → Nat :=
  let c3_193 : Index := 3#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v343 : Index := Scalar.indexCast v305
  let c0_194 : Index := 0#32
  ![3, v343.toNat, 0]
def k0_off11 (k0_t2 : Fin k0_t2_loop.trips) : Fin 3 → Nat :=
  let c4_195 : Index := 4#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v347 : Index := Scalar.indexCast v305
  let c0_196 : Index := 0#32
  ![4, v347.toNat, 0]
def k0_off12 (k0_t2 : Fin k0_t2_loop.trips) : Fin 3 → Nat :=
  let c0_197 : Index := 0#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v351 : Index := Scalar.indexCast v305
  let c128_198 : Index := 128#32
  ![0, v351.toNat, 128]
def k0_off13 (k0_t2 : Fin k0_t2_loop.trips) : Fin 3 → Nat :=
  let c1_200 : Index := 1#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v356 : Index := Scalar.indexCast v305
  let c128_201 : Index := 128#32
  ![1, v356.toNat, 128]
def k0_off14 (k0_t2 : Fin k0_t2_loop.trips) : Fin 3 → Nat :=
  let c2_202 : Index := 2#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v360 : Index := Scalar.indexCast v305
  let c128_203 : Index := 128#32
  ![2, v360.toNat, 128]
def k0_off15 (k0_t2 : Fin k0_t2_loop.trips) : Fin 3 → Nat :=
  let c3_204 : Index := 3#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v364 : Index := Scalar.indexCast v305
  let c128_205 : Index := 128#32
  ![3, v364.toNat, 128]
def k0_off16 (k0_t2 : Fin k0_t2_loop.trips) : Fin 3 → Nat :=
  let c4_206 : Index := 4#32
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v368 : Index := Scalar.indexCast v305
  let c128_207 : Index := 128#32
  ![4, v368.toNat, 128]
def k0_off17 (k0_t1 : Fin k0_t1_loop.trips) (k0_t2 : Fin k0_t2_loop.trips) : Fin 3 → Nat :=
  let c4_208 : Index := 4#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  let v307 : BitVec 32 := v306
  let v372 : Index := Scalar.indexCast v307
  let c0_209 : Index := 0#32
  ![4, v372.toNat, 0]
def k0_off18 (k0_t1 : Fin k0_t1_loop.trips) (k0_t2 : Fin k0_t2_loop.trips) : Fin 3 → Nat :=
  let c3_234 : Index := 3#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  let v307 : BitVec 32 := v306
  let v442 : Index := Scalar.indexCast v307
  let c0_235 : Index := 0#32
  ![3, v442.toNat, 0]
def k0_off19 (k0_t1 : Fin k0_t1_loop.trips) (k0_t2 : Fin k0_t2_loop.trips) : Fin 3 → Nat :=
  let c2_260 : Index := 2#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  let v307 : BitVec 32 := v306
  let v514 : Index := Scalar.indexCast v307
  let c0_261 : Index := 0#32
  ![2, v514.toNat, 0]
def k0_off20 (k0_t1 : Fin k0_t1_loop.trips) (k0_t2 : Fin k0_t2_loop.trips) : Fin 3 → Nat :=
  let c1_286 : Index := 1#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  let v307 : BitVec 32 := v306
  let v586 : Index := Scalar.indexCast v307
  let c0_287 : Index := 0#32
  ![1, v586.toNat, 0]
def k0_off21 (k0_t1 : Fin k0_t1_loop.trips) (k0_t2 : Fin k0_t2_loop.trips) : Fin 3 → Nat :=
  let c0_312 : Index := 0#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let c0_i32_180 : BitVec 32 := 0#32
  let c0_i32_116 : BitVec 32 := 0#32
  let c1_i32_117 : BitVec 32 := 1#32
  let arg23 : BitVec 32 := Scf.iv c0_i32_116 c1_i32_117 k0_t2
  let c1_i32_179 : BitVec 32 := 1#32
  let v302 : BitVec 32 := Scalar.muli arg23 c1_i32_179
  let v303 : BitVec 32 := Scalar.addi c0_i32_180 v302
  let c16_i32_181 : BitVec 32 := 16#32
  let v304 : BitVec 32 := Scalar.muli v303 c16_i32_181
  let v305 : BitVec 32 := v304
  let v306 : BitVec 32 := Scalar.addi v165 v305
  let v307 : BitVec 32 := v306
  let v658 : Index := Scalar.indexCast v307
  let c0_313 : Index := 0#32
  ![0, v658.toNat, 0]
def k0_off22 (k0_t1 : Fin k0_t1_loop.trips) : Fin 2 → Nat :=
  let c0_127 : Index := 0#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v214 : Index := Scalar.indexCast v165
  ![0, v214.toNat]
def k0_off23 (k0_t1 : Fin k0_t1_loop.trips) : Fin 2 → Nat :=
  let c64_139 : Index := 64#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v234 : Index := Scalar.indexCast v165
  ![64, v234.toNat]
def k0_off24 (k0_t1 : Fin k0_t1_loop.trips) : Fin 2 → Nat :=
  let c128_151 : Index := 128#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v254 : Index := Scalar.indexCast v165
  ![128, v254.toNat]
def k0_off25 (k0_t1 : Fin k0_t1_loop.trips) : Fin 2 → Nat :=
  let c256_163 : Index := 256#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v274 : Index := Scalar.indexCast v165
  ![256, v274.toNat]
def k0_off26 (k0_t1 : Fin k0_t1_loop.trips) : Fin 2 → Nat :=
  let c512_175 : Index := 512#32
  let c0_i32_89 : BitVec 32 := 0#32
  let c0_i32_25 : BitVec 32 := 0#32
  let c1_i32 : BitVec 32 := 1#32
  let arg22 : BitVec 32 := Scf.iv c0_i32_25 c1_i32 k0_t1
  let c1_i32_88 : BitVec 32 := 1#32
  let v162 : BitVec 32 := Scalar.muli arg22 c1_i32_88
  let v163 : BitVec 32 := Scalar.addi c0_i32_89 v162
  let c256_i32_90 : BitVec 32 := 256#32
  let v164 : BitVec 32 := Scalar.muli v163 c256_i32_90
  let v165 : BitVec 32 := v164
  let v294 : Index := Scalar.indexCast v165
  ![512, v294.toNat]
def k0_cond2 (i : grid0.Coords) : BitVec 1 :=
  let arg0 : BitVec 32 := BitVec.ofNat 32 (i 0).val
  let c63_i32 : BitVec 32 := 63#32
  let v159 : BitVec 1 := Scalar.cmpi .eq arg0 c63_i32
  let v160 : BitVec 32 := Scalar.extui v159
  let c0_i32_87 : BitVec 32 := 0#32
  let v161 : BitVec 1 := Scalar.cmpi .ne v160 c0_i32_87
  v161

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x768 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x256 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2048x128 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S2048x128 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x768 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S2048x768 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== GradIdeal.lean ====
variable {F : FTy → Type} [FloatOps F] [Named F]
def κ : String → Option EReal := fun
  | "log2e_over_tau" => some ((20 * (Real.log 2)⁻¹ : ℝ) : EReal)
  | "masked" => some ⊥
  | _ => none
-- ==== GradReferenceIdeal.lean ====
abbrev S5 : Shape := ⟨1, ![5]⟩
abbrev S16384x768 : Shape := ⟨2, ![16384, 768]⟩
abbrev S16x16384 : Shape := ⟨2, ![16, 16384]⟩
abbrev S16384 : Shape := ⟨1, ![16384]⟩
abbrev S2048x768 : Shape := ⟨2, ![2048, 768]⟩
abbrev S2048x128 : Shape := ⟨2, ![2048, 128]⟩
abbrev S2048 : Shape := ⟨1, ![2048]⟩
abbrev S1x16384 : Shape := ⟨2, ![1, 16384]⟩
abbrev S2048x1 : Shape := ⟨2, ![2048, 1]⟩
abbrev S2048x16384 : Shape := ⟨2, ![2048, 16384]⟩
abbrev S2048x64 : Shape := ⟨2, ![2048, 64]⟩
abbrev S16384x64 : Shape := ⟨2, ![16384, 64]⟩
abbrev S1 : Shape := ⟨1, ![1]⟩
abbrev S16384x128 : Shape := ⟨2, ![16384, 128]⟩
abbrev S2048x256 : Shape := ⟨2, ![2048, 256]⟩
abbrev S16384x256 : Shape := ⟨2, ![16384, 256]⟩
abbrev S16384x1 : Shape := ⟨2, ![16384, 1]⟩

abbrev nBuf : Space → Nat
  | .hbm => 13
  | .vmem => 9
  | .smem => 1
  | _ => 0

abbrev bufTy : (tb : Table) → Fin (tcTables nBuf tb) → BufTy
  | .hbm, ⟨0, _⟩ => ⟨S5, .f32⟩
  | .hbm, ⟨1, _⟩ => ⟨S16384x768, .i8⟩
  | .hbm, ⟨2, _⟩ => ⟨S16x16384, .f32⟩
  | .hbm, ⟨3, _⟩ => ⟨S16384, .i32⟩
  | .hbm, ⟨4, _⟩ => ⟨S2048x768, .bf16⟩
  | .hbm, ⟨5, _⟩ => ⟨S2048x128, .f32⟩
  | .hbm, ⟨6, _⟩ => ⟨S2048x128, .f32⟩
  | .hbm, ⟨7, _⟩ => ⟨S2048, .i32⟩
  | .hbm, ⟨8, _⟩ => ⟨S2048, .i32⟩
  | .hbm, ⟨9, _⟩ => ⟨S1x16384, .i32⟩
  | .hbm, ⟨10, _⟩ => ⟨S2048x1, .i32⟩
  | .hbm, ⟨11, _⟩ => ⟨S2048x1, .i32⟩
  | .hbm, ⟨12, _⟩ => ⟨S16384x768, .bf16⟩
  | .local _ .vmem, ⟨0, _⟩ => ⟨S16384x768, .i8⟩
  | .local _ .vmem, ⟨1, _⟩ => ⟨S16x16384, .f32⟩
  | .local _ .vmem, ⟨2, _⟩ => ⟨S1x16384, .i32⟩
  | .local _ .vmem, ⟨3, _⟩ => ⟨S2048x768, .bf16⟩
  | .local _ .vmem, ⟨4, _⟩ => ⟨S2048x128, .f32⟩
  | .local _ .vmem, ⟨5, _⟩ => ⟨S2048x128, .f32⟩
  | .local _ .vmem, ⟨6, _⟩ => ⟨S2048x1, .i32⟩
  | .local _ .vmem, ⟨7, _⟩ => ⟨S2048x1, .i32⟩
  | .local _ .vmem, ⟨8, _⟩ => ⟨S16384x768, .bf16⟩
  | .local _ .smem, ⟨0, _⟩ => ⟨S5, .f32⟩
  | _, _ => ⟨S5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .smem, ⟨0, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg5_0 : Ref sig .tc := ⟨.vmem, 4, rfl⟩
abbrev cc0_stg6_0 : Ref sig .tc := ⟨.vmem, 5, rfl⟩
abbrev cc0_stg7_0 : Ref sig .tc := ⟨.vmem, 6, rfl⟩
abbrev cc0_stg8_0 : Ref sig .tc := ⟨.vmem, 7, rfl⟩
abbrev cc0_stg9_0 : Ref sig .tc := ⟨.vmem, 8, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F] [Named F]

def κ : String → Option EReal := fun
  | "log2e" => some (((Real.log 2)⁻¹ : ℝ) : EReal)
  | "tau" => some ((1 / 20 : ℝ) : EReal)
  | _ => none

abbrev grid0 : Pipeline.Grid := .none

abbrev stage0_0 : Fin 1 → Memref sig .tc .smem S5 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16384x768 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x16384 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x16384 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2048x1 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2048x1 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S16384x768 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
-- ==== Proof.KernelFrame.lean ====
/-
  `Kernel`'s frame, proved at every value instance: the statistics pass runs to its end, its arguments unchanged and every
  semaphore counter back at zero. The two outputs are forgotten (nothing here reads them) and the four scratch buffers
  are held at whatever contents the points leave, so the two loop invariants say only which buffers a trip owns.
-/
module

public import proofs.«01_k».proof.Proof.Gen.Kernel.Frame
public import proofs.«01_k».proof.Proof.Gen.Kernel.Points
public import proofs.«01_k».proof.Proof.Gen.Kernel.Loops
public import Idealize.ShloMosaic.Lib.Pipeline.Frame
public import Idealize.ShloMosaic.Lib.Pipeline.FrameSuffix
public import Idealize.ShloMosaic.Lib.Tactic

@[expose] public section

set_option maxRecDepth 8192

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A whole buffer behind a memref, at contents `f`. -/
abbrev pt (c : Dev nD) {S : Shape} {e : EltTy} (M : Memref sig .tc .vmem S e) (f : M.view.ty.Contents (Elt F)) : sProp 𝕄 :=
  M.view.loc (c : Thread nD τ) ↦[M.view.set]{fullShare} f

set_option warn.classDefReducibility false in
/-- The outer loop: a trip reads the queries, the two index columns and the scaled query norms, and leaves the product
    scratch and the two accumulators at some contents. -/
@[sl_loop] def loopInv_k0_t1 (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole) (v3 : Vec F S256x768 .i8) (v5 : Vec F S1x256 .i32) (v11 : Vec F S1x256 .f32) (v12 : Vec F S1x256 .f32) (v13 : Vec F S1x256 .f32) (v14 : Vec F S1x256 .f32) (v15 : Vec F S1x256 .f32)
    (X4 : arg4.view.ty.Contents (Elt F)) (X6 : arg6.view.ty.Contents (Elt F)) (X7 : arg7.view.ty.Contents (Elt F)) (X11 : arg11.view.ty.Contents (Elt F)) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 v3 v5 v11 v12 v13 v14 v15 where
  inv := fun k _ => iprop(pt c arg4 X4 ∗ pt c arg6 X6 ∗ pt c arg7 X7 ∗ pt c arg11 X11
    ∗ (∃ f, pt c arg10 f) ∗ (∃ f, pt c arg12 f) ∗ (∃ f, pt c arg13 f))
  step k acc := by
    have hk : k.val < 8 := Nat.lt_of_lt_of_le k.isLt k0_t1_abs.2.1
    unfold k0_t1_body
    iintro ⟨H4, H6, H7, H11, ⟨%f10, H10⟩, ⟨%f12, H12⟩, ⟨%f13, H13⟩⟩
    sl_exec
    sl_step
    sl_close

set_option maxHeartbeats 4000000 in
/-- The body's triple: from the inputs at what they hold and everything else at anything, the kernel runs to its return,
    the inputs unchanged. -/
theorem kernelRun (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole)
    (X1 : S256x768.Idx → Elt F .i8) (X2 : S16x256.Idx → Elt F .f32) (X3 : S1x256.Idx → Elt F .i32)
    (X4 : S2048x768.Idx → Elt F .bf16) (X5 : S2048x128.Idx → Elt F .f32) (X6 X7 : S2048x128.Idx → Elt F .i32)
    (K : PUnit → sProp 𝕄) :
    iprop(owns (c : Thread nD τ) arg1 fullShare X1 ∗ owns (c : Thread nD τ) arg2 fullShare X2 ∗ owns (c : Thread nD τ) arg3 fullShare X3
        ∗ owns (c : Thread nD τ) arg4 fullShare X4 ∗ owns (c : Thread nD τ) arg5 fullShare X5 ∗ owns (c : Thread nD τ) arg6 fullShare X6
        ∗ owns (c : Thread nD τ) arg7 fullShare X7 ∗ (∃ d, owns (c : Thread nD τ) arg8 fullShare d) ∗ (∃ d, owns (c : Thread nD τ) arg9 fullShare d)
        ∗ (∃ f, pt c arg10 f) ∗ (∃ f, pt c arg11 f) ∗ (∃ f, pt c arg12 f) ∗ (∃ f, pt c arg13 f)
        ∗ (iprop(owns (c : Thread nD τ) arg1 fullShare X1 ∗ owns (c : Thread nD τ) arg2 fullShare X2 ∗ owns (c : Thread nD τ) arg3 fullShare X3
              ∗ owns (c : Thread nD τ) arg4 fullShare X4 ∗ owns (c : Thread nD τ) arg5 fullShare X5 ∗ owns (c : Thread nD τ) arg6 fullShare X6
              ∗ owns (c : Thread nD τ) arg7 fullShare X7 ∗ (∃ d, owns (c : Thread nD τ) arg8 fullShare d) ∗ (∃ d, owns (c : Thread nD τ) arg9 fullShare d)
              ∗ (∃ f, pt c arg10 f) ∗ (∃ f, pt c arg11 f) ∗ (∃ f, pt c arg12 f) ∗ (∃ f, pt c arg13 f)) -∗ K ⟨⟩))
      ⊢ wp frame (wpE (defs₀ (F := F)) Variants.none c none) Set.univ (cc0_stats_pass i arg1 harg1 arg2 harg2 arg3 harg3 arg4 harg4 arg5 harg5 arg6 harg6 arg7 harg7 arg8 harg8 arg9 harg9 arg10 harg10 arg11 harg11 arg12 harg12 arg13 harg13) K := by
  simp only [cc0_stats_pass_eq_skeleton]; unfold cc0_stats_pass_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩,
    ⟨%d8, %f8, -, H8⟩, ⟨%d9, %f9, -, H9⟩, ⟨%f10, H10⟩, ⟨%f11, H11⟩, ⟨%f12, H12⟩, ⟨%f13, H13⟩, Hk⟩
  by_cases h1 : Scalar.cmpi .ne (Scalar.extui (Scalar.cmpi .eq (BitVec.ofNat 32 (i 0).val) 0#32)) 0#32 = 1#1 <;>
  by_cases h2 : k0_cond2 i = 1#1
  all_goals
    sl_exec
    sl_step
    iapply Hk
    isplitl [H1]
    · iexists f1; isplitr
      · ipureintro; exact e1
      iexact H1
    isplitl [H2]
    · iexists f2; isplitr
      · ipureintro; exact e2
      iexact H2
    isplitl [H3]
    · iexists f3; isplitr
      · ipureintro; exact e3
      iexact H3
    isplitl [H4]
    · iexists f4; isplitr
      · ipureintro; exact e4
      iexact H4
    isplitl [H5]
    · iexists f5; isplitr
      · ipureintro; exact e5
      iexact H5
    isplitl [H6]
    · iexists f6; isplitr
      · ipureintro; exact e6
      iexact H6
    isplitl [H7]
    · iexists f7; isplitr
      · ipureintro; exact e7
      iexact H7
    isplitl [H8]
    · iexists _, _; isplitr; swap; · iexact H8
      ipureintro; rfl
    isplitl [H9]
    · iexists _, _; isplitr; swap; · iexact H9
      ipureintro; rfl
    isplitl [H10]; · iexists _; iexact H10
    isplitl [H11]; · iexists _; iexact H11
    isplitl [H12]; · iexists _; iexact H12
    iexists _; iexact H13

/-! ## The proof data and the body obligation -/

variable (m : (ℓ : Loc nD τ sig) → Buf (Elt F) ℓ) (ρ : Dev nD → PrngReg)

/-- The two outputs, forgotten: nothing here reads what the kernel leaves in them. -/
def forgets0 : Fin 9 → Bool := fun | 7 => true | 8 => true | _ => false

/-- The proof data on core `c`: the arrays as the region finds them; an input's staging buffer left at its block; the
    outputs unnamed; the class invariant (the scratch at some contents). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => Pipeline.Dat.unnamed (cfg := cfg0) 7 t
    | 8 => Pipeline.Dat.unnamed (cfg := cfg0) 8 t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points: the four scratch buffers at some contents and the generator register. -/
theorem PhiA0_eq (c : Dev nD) :
    (Pipeline.ΦA spec0 c : sProp 𝕄)
      = iprop(iprop((∃ f, pt c (Memref.whole cc0_scratch0) f) ∗ (∃ f, pt c (Memref.whole cc0_scratch1) f)
          ∗ (∃ f, pt c (Memref.whole cc0_scratch2) f) ∗ (∃ f, pt c (Memref.whole cc0_scratch3) f)) ∗ (∃ r, prngReg c r)) := by
  unfold Pipeline.ΦA; rw [scopedRest0_eq]; simp only [pt, View.set_whole, Memref.view_whole]; try rfl

/-- The body at a point: every input's buffer holds its block (`before0_W_of`), the rest is `kernelRun`. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare d) ∗ (∃ d, owns (c : Thread nD τ) (st0_8 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare (iblk m c 0 t) ∗ owns (c : Thread nD τ) (st0_1 t) fullShare (iblk m c 1 t)
        ∗ owns (c : Thread nD τ) (st0_2 t) fullShare (iblk m c 2 t) ∗ owns (c : Thread nD τ) (st0_3 t) fullShare (iblk m c 3 t)
        ∗ owns (c : Thread nD τ) (st0_4 t) fullShare (iblk m c 4 t) ∗ owns (c : Thread nD τ) (st0_5 t) fullShare (iblk m c 5 t)
        ∗ owns (c : Thread nD τ) (st0_6 t) fullShare (iblk m c 6 t)
        ∗ (∃ d, owns (c : Thread nD τ) (st0_7 t) fullShare d) ∗ (∃ d, owns (c : Thread nD τ) (st0_8 t) fullShare d))) := by
  unfold bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (fun _ => rfl) t, before0_1_of m (dats m 0 c) (A_eq m c 1) (fun _ => rfl) t,
    before0_2_of m (dats m 0 c) (A_eq m c 2) (fun _ => rfl) t, before0_3_of m (dats m 0 c) (A_eq m c 3) (fun _ => rfl) t,
    before0_4_of m (dats m 0 c) (A_eq m c 4) (fun _ => rfl) t, before0_5_of m (dats m 0 c) (A_eq m c 5) (fun _ => rfl) t,
    before0_6_of m (dats m 0 c) (A_eq m c 6) (fun _ => rfl) t]
  iintro ⟨⟨⟨S0, S1, S2, S3⟩, Hg⟩, HO, ⟨%d0, H0⟩, ⟨%d1, H1⟩, ⟨%d2, H2⟩, ⟨%d3, H3⟩, ⟨%d4, H4⟩, ⟨%d5, H5⟩, ⟨%d6, H6⟩, H7, H8⟩
  iapply (kernelRun c (grid0.coords t) _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, H6, H7, H8, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

/-- The buffers the host lines after the region write: the results and what leads to them. -/
def T0 : Finset (Ref sig .tc) := {main_v6, main_cst, main_v7, main_cst_0, main_v8, main_v9}

theorem sfx_T : ∀ ops ∈ ([hostOps1] : List (List (HloOp τ sig (Elt F)))), ∀ op ∈ ops, ∀ b : Ref sig .tc, Proc.devRef .tc b ∈ op.writes → b ∈ T0 := by
  intro ops hops op hop b hb
  simp only [List.mem_cons, List.mem_nil_iff, or_false] at hops
  rcases hops with rfl
  simp only [hostOps1, List.mem_cons, List.mem_nil_iff, or_false] at hop
  rcases hop with rfl | rfl | rfl | rfl | rfl | rfl
  all_goals
    simp only [StableHlo.nullary_writes, StableHlo.unary_writes, StableHlo.binary_writes, StableHlo.ternary_writes, StableHlo.reshape_writes, Finset.mem_singleton] at hb
    rw [Proc.devRef_injective _ hb]
    decide

set_option backward.isDefEq.respectTransparency.types false in
/-- At any value instance, from any memory with zero counters: @main runs to its end, every array the kernel only reads and
    every other buffer the host lines do not write at its contents on entry to the region, every counter at zero. -/
theorem run_main :
    θ_run defs (onTc (τ := τ) (main (F := F))) (s₀ m ρ)
      (fun r => Pipeline.RDat.FramePostR (cfgs 0) (fun c => (dats m 0 c).toRForget forgets0) T0 (V m) r ∧ r.2.sem = fun _ => 0) :=
  Pipeline.θ_run_frame_around_T_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) sfx_sub sfx_fresh sfx_keeps sfx_T
    (hmain := hmain m Variants.none) (hA := A_eq m) (hΦ := fun _ _ => rfl)

/-- The frame claim's post: the seven arguments at their launch contents, every counter at zero. -/
theorem frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r (h : _ ∧ _) => ⟨fun c =>
    ⟨(h.1.arr_in (w := 0) (c := c) rfl).trans (V_main_arg0 m c), (h.1.arr_in (w := 1) (c := c) rfl).trans (V_main_arg1 m c),
      ((h.1 c).2 main_arg2 (by decide)).trans (V_main_arg2 m c),
      (h.1.arr_in (w := 3) (c := c) rfl).trans (V_main_arg3 m c), (h.1.arr_in (w := 4) (c := c) rfl).trans (V_main_arg4 m c),
      ((h.1 c).2 main_arg5 (by decide)).trans (V_main_arg5 m c), ((h.1 c).2 main_arg6 (by decide)).trans (V_main_arg6 m c)⟩, h.2⟩)
    (run_main m ρ)

end Cert.Kernel.Hand

end
-- ==== Proof.StatsBlock.lean ====
/-
  WHAT ONE GRID POINT ADDS TO THE ACCUMULATORS. A point of the kernel's grid holds 256 documents; for each of the five
  prefixes, each of the 2048 queries and each of the 128 lanes it adds the two documents of that lane (lane `l` and lane
  `128 + l`) to two running sums: the denominator (`2 ^ s2`) and the positive's logit (`s2` where the document is the
  query's own). This file states those terms and proves that the stores of one inner trip (16 queries, five planes) are
  exactly one step of the sums.
-/
module

public import proofs.«01_k».proof.Proof.Gen.KernelIdeal.Frame
public import proofs.«01_k».proof.Proof.Gen.KernelIdeal.Skeleton
public import Idealize.ShloMosaic.Lib.Pointwise
public import Idealize.ShloMosaic.Lib.WritesUnit

@[expose] public section

set_option maxRecDepth 16384

noncomputable section

namespace Cert.KernelIdeal.Hand

open Cert.KernelIdeal Cert.KernelIdeal.Gen
open Idealize.ShloMosaic

/-- The number of document `m` of the block of grid point `t`, as the 32-bit word the kernel computes. -/
def midW (t m : ℕ) : BitVec 32 := IntOp.addi (Scalar.muli (BitVec.ofNat 32 t) 256#32) (BitVec.ofNat 32 m)

/-- Whether the document is the query's own, as the kernel's comparison bit. -/
def hotB (t m : ℕ) (p : BitVec 32) : BitVec 1 := IntOp.cmpi CmpIPredicate.eq (midW t m) p

/-- Whether the document is excluded for the query (same group and not the query's own), as the kernel's bit. -/
def exB (t m : ℕ) (g gq p : BitVec 32) : BitVec 1 := IntOp.andi (IntOp.cmpi CmpIPredicate.eq g gq) (IntOp.xori (hotB t m p) 1#1)

/-- The dot product of the first `k + 1` segments out of the five segments' dot products; an excluded pair starts from the
mask instead of its first segment. -/
def accS (e : BitVec 1) (s : Fin 5 → EReal) : Fin 5 → EReal :=
  let a : EReal := Scalar.select e (Named.named (F := Ideal) (φ := .f32) κ "masked" 0xD3800000#32) (s 0)
  ![a, a + s 1, a + s 1 + s 2, a + s 1 + s 2 + s 3, a + s 1 + s 2 + s 3 + s 4]

/-- The operands of a grid point apart from the dot products: its number, the documents' groups, their inverse norms for
the five prefixes, and the queries' groups and own documents. -/
structure Blk where
  t : ℕ
  grp : S1x256.Idx → BitVec 32
  ird : Fin 5 → S1x256.Idx → EReal
  gq : S2048x128.Idx → BitVec 32
  pos : S2048x128.Idx → BitVec 32

/-- The logit, in base two, of query `n` (its operands read at lane `l`) and document `m` of the block for prefix `k`. -/
def Blk.s2 (b : Blk) (sv : Fin 5 → Fin 2048 → Fin 256 → EReal) (cn : S5x2048x128.Idx → EReal) (k : Fin 5) (n : Fin 2048) (l : Fin 128)
    (m : Fin 256) : EReal :=
  accS (exB b.t m.val (b.grp (ix2 0 m)) (b.gq (ix2 n l)) (b.pos (ix2 n l))) (fun j => sv j n m) k * b.ird k (ix2 0 m) * cn (ix3 k n l)

/-- The first and the second document of a lane. -/
def lo (l : Fin 128) : Fin 256 := ⟨l.val, by omega⟩
def hi (l : Fin 128) : Fin 256 := ⟨128 + l.val, by omega⟩

/-- What a grid point adds to the denominator at a plane, row and lane. -/
def Blk.den (b : Blk) (sv : Fin 5 → Fin 2048 → Fin 256 → EReal) (cn : S5x2048x128.Idx → EReal) (k : Fin 5) (n : Fin 2048) (l : Fin 128) : EReal :=
  Ideal.exp2 (b.s2 sv cn k n l (lo l)) + Ideal.exp2 (b.s2 sv cn k n l (hi l))

/-- What it adds to the positive's logit. -/
def Blk.pls (b : Blk) (sv : Fin 5 → Fin 2048 → Fin 256 → EReal) (cn : S5x2048x128.Idx → EReal) (k : Fin 5) (n : Fin 2048) (l : Fin 128) : EReal :=
  Scalar.select (hotB b.t (lo l).val (b.pos (ix2 n l))) (b.s2 sv cn k n l (lo l)) 0
    + Scalar.select (hotB b.t (hi l).val (b.pos (ix2 n l))) (b.s2 sv cn k n l (hi l)) 0

/-- The sums `f` with `g` added in the rows from `a` to `b`. -/
def advance (a b : ℕ) (f : S5x2048x128.Idx → EReal) (g : Fin 5 → Fin 2048 → Fin 128 → EReal) : S5x2048x128.Idx → EReal :=
  fun y => if a ≤ (y 1).val ∧ (y 1).val < b then f y + g (y 0) (y 1) (y 2) else f y

/-- Nothing is added in no rows. -/
theorem advance_self (a : ℕ) (f : S5x2048x128.Idx → EReal) (g : Fin 5 → Fin 2048 → Fin 128 → EReal) : advance a a f g = f := by
  funext y
  exact if_neg (by omega)

/-- Rows `a` to `b`, then `b` to `c`, are rows `a` to `c`. -/
theorem advance_trans {a b c : ℕ} (hab : a ≤ b) (hbc : b ≤ c) (f : S5x2048x128.Idx → EReal) (g : Fin 5 → Fin 2048 → Fin 128 → EReal) :
    advance b c (advance a b f g) g = advance a c f g := by
  funext y
  unfold advance
  split_ifs <;> first | rfl | (exfalso; omega)

/-- Only the values of `g` in the rows matter. -/
theorem advance_congr {a b : ℕ} (f : S5x2048x128.Idx → EReal) {g g' : Fin 5 → Fin 2048 → Fin 128 → EReal}
    (h : ∀ k n l, a ≤ n.val → n.val < b → g k n l = g' k n l) : advance a b f g = advance a b f g' := by
  funext y
  unfold advance
  split_ifs with hy
  · exact congrArg (f y + ·) (h (y 0) (y 1) (y 2) hy.1 hy.2)
  · rfl

/-- Five stored planes of 16 rows, each the old value plus `g`, are one step of the sums. -/
theorem writes_planes {sig : RefSig} {κ : Kind} {sp : Space} (v : View sig κ sp S5x2048x128 .f32) (f : v.ty.Contents (Elt Ideal))
    (g : Fin 5 → Fin 2048 → Fin 128 → EReal) (o : ℕ) (ho : o + 16 ≤ 2048)
    {off0 off1 off2 off3 off4 : Fin 3 → ℕ} (h0 : off0 = ![0, o, 0]) (h1 : off1 = ![1, o, 0]) (h2 : off2 = ![2, o, 0]) (h3 : off3 = ![3, o, 0])
    (h4 : off4 = ![4, o, 0])
    (i0 : ∀ a, off0 a + S1x16x128.size a ≤ S5x2048x128.size a) (i1 : ∀ a, off1 a + S1x16x128.size a ≤ S5x2048x128.size a)
    (i2 : ∀ a, off2 a + S1x16x128.size a ≤ S5x2048x128.size a) (i3 : ∀ a, off3 a + S1x16x128.size a ≤ S5x2048x128.size a)
    (i4 : ∀ a, off4 a + S1x16x128.size a ≤ S5x2048x128.size a)
    (w0 w1 w2 w3 w4 : S1x16x128.Idx → EReal)
    (hw : ∀ (k : Fin 5) (r : Fin 16) (l : Fin 128), (![w0, w1, w2, w3, w4] k) (ix3 0 r l)
      = v.read (Elt Ideal) f (ix3 k (⟨o + r.val, by omega⟩ : Fin 2048) l) + g k ⟨o + r.val, by omega⟩ l) :
    v.read (Elt Ideal) (v.writes (Elt Ideal) f
      [⟨Rect.unit off4 S1x16x128.size i4, w4⟩, ⟨Rect.unit off3 S1x16x128.size i3, w3⟩, ⟨Rect.unit off2 S1x16x128.size i2, w2⟩,
        ⟨Rect.unit off1 S1x16x128.size i1, w1⟩, ⟨Rect.unit off0 S1x16x128.size i0, w0⟩])
      = advance o (o + 16) (v.read (Elt Ideal) f) g := by
  funext y
  obtain ⟨k, n, l, rfl⟩ : ∃ (k : Fin 5) (n : Fin 2048) (l : Fin 128), y = ix3 k n l := ⟨y 0, y 1, y 2, eq_ix3 y⟩
  subst h0 h1 h2 h3 h4
  by_cases hn : o ≤ n.val ∧ n.val < o + 16
  · obtain ⟨r, hb, rfl⟩ : ∃ (r : Fin 16) (hb : o + r.val < 2048), n = ⟨o + r.val, hb⟩ :=
      ⟨⟨n.val - o, by omega⟩, by have := n.isLt; simp only []; omega, Fin.ext (by simp only []; omega)⟩
    have hR : advance o (o + 16) (v.read (Elt Ideal) f) g (ix3 k (⟨o + r.val, by omega⟩ : Fin 2048) l)
        = (![w0, w1, w2, w3, w4] k) (ix3 0 r l) := (if_pos hn).trans (hw k r l).symm
    rw [hR]
    have hit : ∀ (kk : ℕ) (hk : k.val = kk) (a : Fin 3), ((ix3 k (⟨o + r.val, by omega⟩ : Fin 2048) l : S5x2048x128.Idx) a).val = (![kk, o, 0] : Fin 3 → ℕ) a + ((ix3 0 r l : S1x16x128.Idx) a).val := by
      intro kk hk a
      match a with
      | 0 => exact hk
      | 1 => rfl
      | 2 => exact (Nat.zero_add _).symm
    have miss : ∀ (kk : ℕ) (hk : k.val ≠ kk), ((ix3 k (⟨o + r.val, by omega⟩ : Fin 2048) l : S5x2048x128.Idx) 0).val < (![kk, o, 0] : Fin 3 → ℕ) 0
        ∨ (![kk, o, 0] : Fin 3 → ℕ) 0 + S1x16x128.size 0 ≤ ((ix3 k (⟨o + r.val, by omega⟩ : Fin 2048) l : S5x2048x128.Idx) 0).val := by
      intro kk hk
      show k.val < kk ∨ kk + 1 ≤ k.val
      omega
    fin_vals k with hk
    · rw [View.read_writes_cons_unit_of_not_mem v f i4 _ _ _ rfl 0 (miss 4 (by omega)), View.read_writes_cons_unit_of_not_mem v f i3 _ _ _ rfl 0 (miss 3 (by omega)),
        View.read_writes_cons_unit_of_not_mem v f i2 _ _ _ rfl 0 (miss 2 (by omega)), View.read_writes_cons_unit_of_not_mem v f i1 _ _ _ rfl 0 (miss 1 (by omega))]
      obtain rfl : k = 0 := Fin.ext hk
      exact View.read_writes_cons_unit_of_mem v f i0 w0 _ _ (ix3 0 r l : S1x16x128.Idx) rfl (hit 0 hk)
    · rw [View.read_writes_cons_unit_of_not_mem v f i4 _ _ _ rfl 0 (miss 4 (by omega)), View.read_writes_cons_unit_of_not_mem v f i3 _ _ _ rfl 0 (miss 3 (by omega)),
        View.read_writes_cons_unit_of_not_mem v f i2 _ _ _ rfl 0 (miss 2 (by omega))]
      obtain rfl : k = 1 := Fin.ext hk
      exact View.read_writes_cons_unit_of_mem v f i1 w1 _ _ (ix3 0 r l : S1x16x128.Idx) rfl (hit 1 hk)
    · rw [View.read_writes_cons_unit_of_not_mem v f i4 _ _ _ rfl 0 (miss 4 (by omega)), View.read_writes_cons_unit_of_not_mem v f i3 _ _ _ rfl 0 (miss 3 (by omega))]
      obtain rfl : k = 2 := Fin.ext hk
      exact View.read_writes_cons_unit_of_mem v f i2 w2 _ _ (ix3 0 r l : S1x16x128.Idx) rfl (hit 2 hk)
    · rw [View.read_writes_cons_unit_of_not_mem v f i4 _ _ _ rfl 0 (miss 4 (by omega))]
      obtain rfl : k = 3 := Fin.ext hk
      exact View.read_writes_cons_unit_of_mem v f i3 w3 _ _ (ix3 0 r l : S1x16x128.Idx) rfl (hit 3 hk)
    · obtain rfl : k = 4 := Fin.ext hk
      exact View.read_writes_cons_unit_of_mem v f i4 w4 _ _ (ix3 0 r l : S1x16x128.Idx) rfl (hit 4 hk)
  · have hR : advance o (o + 16) (v.read (Elt Ideal) f) g (ix3 k n l) = v.read (Elt Ideal) f (ix3 k n l) := if_neg hn
    rw [hR]
    have miss : ∀ kk : ℕ, ((ix3 k n l : S5x2048x128.Idx) 1).val < (![kk, o, 0] : Fin 3 → ℕ) 1
        ∨ (![kk, o, 0] : Fin 3 → ℕ) 1 + S1x16x128.size 1 ≤ ((ix3 k n l : S5x2048x128.Idx) 1).val := by
      intro kk
      show n.val < o ∨ o + 16 ≤ n.val
      omega
    rw [View.read_writes_cons_unit_of_not_mem v f i4 _ _ _ rfl 1 (miss 4), View.read_writes_cons_unit_of_not_mem v f i3 _ _ _ rfl 1 (miss 3),
      View.read_writes_cons_unit_of_not_mem v f i2 _ _ _ rfl 1 (miss 2), View.read_writes_cons_unit_of_not_mem v f i1 _ _ _ rfl 1 (miss 1),
      View.read_writes_cons_unit_of_not_mem v f i0 _ _ _ rfl 1 (miss 0), View.writes_nil]

/-- A load of a box of a rank-3 buffer, at an index. -/
theorem readAt_box3 {sig : RefSig} {κ : Kind} {sp : Space} {e : EltTy} {Val : EltTy → Type} {d0 d1 d2 s0 s1 s2 : ℕ}
    (v : View sig κ sp ⟨3, ![d0, d1, d2]⟩ e) (f : v.ty.Contents Val) {off : Fin 3 → ℕ} (o0 o1 o2 : ℕ) (h : off = ![o0, o1, o2])
    (inb : ∀ a, off a + (![s0, s1, s2] : Fin 3 → ℕ) a ≤ (⟨3, ![d0, d1, d2]⟩ : Shape).size a) (a : Fin s0) (b : Fin s1) (c : Fin s2) :
    v.readAt Val (Rect.unit (s := ⟨3, ![d0, d1, d2]⟩) off (![s0, s1, s2] : Fin 3 → ℕ) inb).toLoadRect f (ix3 a b c : (⟨3, ![s0, s1, s2]⟩ : Shape).Idx)
      = v.read Val f (ix3 (⟨o0 + a.val, Nat.lt_of_lt_of_le (Nat.add_lt_add_left a.isLt o0) (by subst h; exact inb 0)⟩ : Fin d0)
          (⟨o1 + b.val, Nat.lt_of_lt_of_le (Nat.add_lt_add_left b.isLt o1) (by subst h; exact inb 1)⟩ : Fin d1)
          (⟨o2 + c.val, Nat.lt_of_lt_of_le (Nat.add_lt_add_left c.isLt o2) (by subst h; exact inb 2)⟩ : Fin d2)) := by
  subst h
  rw [View.readAt_apply]
  refine congrArg _ (funext fun x => Fin.ext ?_)
  match x with
  | 0 => show o0 + 1 * a.val = o0 + a.val; omega
  | 1 => show o1 + 1 * b.val = o1 + b.val; omega
  | 2 => show o2 + 1 * c.val = o2 + c.val; omega

/-- The same for a rank-2 buffer. -/
theorem readAt_box2 {sig : RefSig} {κ : Kind} {sp : Space} {e : EltTy} {Val : EltTy → Type} {d0 d1 s0 s1 : ℕ}
    (v : View sig κ sp ⟨2, ![d0, d1]⟩ e) (f : v.ty.Contents Val) {off : Fin 2 → ℕ} (o0 o1 : ℕ) (h : off = ![o0, o1])
    (inb : ∀ a, off a + (![s0, s1] : Fin 2 → ℕ) a ≤ (⟨2, ![d0, d1]⟩ : Shape).size a) (a : Fin s0) (b : Fin s1) :
    v.readAt Val (Rect.unit (s := ⟨2, ![d0, d1]⟩) off (![s0, s1] : Fin 2 → ℕ) inb).toLoadRect f (ix2 a b : (⟨2, ![s0, s1]⟩ : Shape).Idx)
      = v.read Val f (ix2 (⟨o0 + a.val, Nat.lt_of_lt_of_le (Nat.add_lt_add_left a.isLt o0) (by subst h; exact inb 0)⟩ : Fin d0)
          (⟨o1 + b.val, Nat.lt_of_lt_of_le (Nat.add_lt_add_left b.isLt o1) (by subst h; exact inb 1)⟩ : Fin d1)) := by
  subst h
  rw [View.readAt_apply]
  refine congrArg _ (funext fun x => Fin.ext ?_)
  match x with
  | 0 => show o0 + 1 * a.val = o0 + a.val; omega
  | 1 => show o1 + 1 * b.val = o1 + b.val; omega

end Cert.KernelIdeal.Hand

end
-- ==== Proof.StatsTrip.lean ====
/-
  THE INNER LOOP: sixteen trips of 16 queries each add the terms of StatsBlock.lean to 256 rows of the two accumulators.
-/
module

public import proofs.«01_k».proof.Proof.StatsBlock
public import Idealize.ShloMosaic.Lib.Exec
public import Idealize.ShloMosaic.Lib.Pipeline.Frame
public import Idealize.ShloMosaic.Lib.Tactic

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A whole buffer behind a memref, at contents `f`. -/
abbrev pt (c : Dev nD) {S : Shape} {e : EltTy} (M : Memref sig .tc .vmem S e) (f : M.view.ty.Contents (Elt Ideal)) : sProp 𝕄 :=
  M.view.loc (c : Thread nD τ) ↦[M.view.set]{fullShare} f

/-- The operands of grid point `i`, as the loops receive them. -/
abbrev blkOf (i : grid0.Coords) (v5 : Vec Ideal S1x256 .i32) (v11 v12 v13 v14 v15 : Vec Ideal S1x256 .f32)
    (gq pos : S2048x128.Idx → BitVec 32) : Blk :=
  ⟨(i 0).val, v5, ![v11, v12, v13, v14, v15], gq, pos⟩

/-- The product scratch, read for a query of the current 256. -/
abbrev svOf (s : S5x256x256.Idx → EReal) : Fin 5 → Fin 2048 → Fin 256 → EReal :=
  fun j n m => s (ix3 j (⟨n.val % 256, Nat.mod_lt _ (by decide)⟩ : Fin 256) m)

/-- The sums of `advance` before trip `k`: before the first trip, the contents at the loop's entry. -/
@[reducible] def upTo (k a b : ℕ) (f : S5x2048x128.Idx → EReal) (g : Fin 5 → Fin 2048 → Fin 128 → EReal) : S5x2048x128.Idx → EReal :=
  match k with
  | 0 => f
  | _ + 1 => advance a b f g

/-- `upTo` is `advance`, when no row is done before the first trip. -/
theorem upTo_eq {k a b : ℕ} (h : k = 0 → a = b) (f : S5x2048x128.Idx → EReal) (g : Fin 5 → Fin 2048 → Fin 128 → EReal) :
    upTo k a b f g = advance a b f g := by
  match k with
  | 0 => rw [h rfl, advance_self]
  | _ + 1 => rfl

set_option warn.classDefReducibility false in
set_option maxHeartbeats 4000000 in
/-- THE INNER LOOP BY ITS INVARIANT: before trip `k` of outer trip `c` the block's terms have been added in the rows from
`256 c` to `256 c + 16 k` of both accumulators. -/
@[sl_loop] def loopInv_k0_t2 (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole) (v5 : Vec Ideal S1x256 .i32) (v11 v12 v13 v14 v15 : Vec Ideal S1x256 .f32) (k0_t1 : Fin k0_t1_loop.trips) (v23 : BitVec 32)
    (X6 : arg6.view.ty.Contents (Elt Ideal)) (X7 : arg7.view.ty.Contents (Elt Ideal)) (X10 : arg10.view.ty.Contents (Elt Ideal)) (X11 : arg11.view.ty.Contents (Elt Ideal))
    (G12 : arg12.view.ty.Contents (Elt Ideal)) (G13 : arg13.view.ty.Contents (Elt Ideal)) :
    LoopInv (M := 𝕄) frame (wpE (defs₀ (F := Ideal)) Variants.none (c : Thread nD τ) none) Set.univ k0_t2_loop.lb k0_t2_loop.ub k0_t2_loop.st k0_t2_ok ()
      (k0_t2_body (F := Ideal) i arg1 harg1 arg2 harg2 arg3 harg3 arg4 harg4 arg5 harg5 arg6 harg6 arg7 harg7 arg8 harg8 arg9 harg9 arg10 harg10 arg11 harg11 arg12 harg12 arg13 harg13 v5 v11 v12 v13 v14 v15 k0_t1 v23) where
  inv := fun k _ => iprop(pt c arg6 X6 ∗ pt c arg7 X7 ∗ pt c arg10 X10 ∗ pt c arg11 X11
    ∗ (∃ f, pt c arg12 f ∗ ⌜arg12.view.read (Elt Ideal) f = upTo k (256 * k0_t1.val) (256 * k0_t1.val + 16 * k) (arg12.view.read (Elt Ideal) G12)
        ((blkOf i v5 v11 v12 v13 v14 v15 (arg6.view.read (Elt Ideal) X6) (arg7.view.read (Elt Ideal) X7)).den (svOf (arg10.view.read (Elt Ideal) X10)) (arg11.view.read (Elt Ideal) X11))⌝)
    ∗ (∃ f, pt c arg13 f ∗ ⌜arg13.view.read (Elt Ideal) f = upTo k (256 * k0_t1.val) (256 * k0_t1.val + 16 * k) (arg13.view.read (Elt Ideal) G13)
        ((blkOf i v5 v11 v12 v13 v14 v15 (arg6.view.read (Elt Ideal) X6) (arg7.view.read (Elt Ideal) X7)).pls (svOf (arg10.view.read (Elt Ideal) X10)) (arg11.view.read (Elt Ideal) X11))⌝))
  step k acc := by
    have hk : k.val < 16 := Nat.lt_of_lt_of_le k.isLt k0_t2_abs.2.1
    have hk1 : k0_t1.val < 8 := Nat.lt_of_lt_of_le k0_t1.isLt k0_t1_abs.2.1
    unfold k0_t2_body
    iintro ⟨H6, H7, H10, H11, ⟨%f12, H12, %h12⟩, ⟨%f13, H13, %h13⟩⟩
    have e12 := h12.trans (upTo_eq (by omega) _ _)
    have e13 := h13.trans (upTo_eq (by omega) _ _)
    sl_exec
    sl_step
    isplitl [H6]
    · iexact H6
    isplitl [H7]
    · iexact H7
    isplitl [H10]
    · iexact H10
    isplitl [H11]
    · iexact H11
    isplitl [H12]
    · iexists _
      isplitl [H12]
      · iexact H12
      ipureintro
      show arg12.view.read (Elt Ideal) _ = advance (256 * k0_t1.val) (256 * k0_t1.val + 16 * (k.val + 1)) _ _
      rw [← advance_trans (b := 256 * k0_t1.val + 16 * k.val) (by omega) (by omega), ← e12]
      refine writes_planes _ _ _ (256 * k0_t1.val + 16 * k.val) (by omega) (k0_off7_eq _ _) (k0_off10_eq _ _) (k0_off13_eq _ _) (k0_off16_eq _ _) (k0_off19_eq _ _) _ _ _ _ _ _ _ _ _ _ ?_
      intro kk r l
      clear h12 h13 e12 e13
      have hmod : (256 * k0_t1.val + 16 * k.val + r.val) % 256 = 16 * k.val + r.val := by omega
      obtain rfl | rfl | rfl | rfl | rfl : kk = 0 ∨ kk = 1 ∨ kk = 2 ∨ kk = 3 ∨ kk = 4 := by omega
      all_goals
        simp only [Matrix.cons_val]
        delta loopInv_k0_t2.sl.cst_71 loopInv_k0_t2.sl.r loopInv_k0_t2.sl.r_1 loopInv_k0_t2.sl.r_10 loopInv_k0_t2.sl.r_11 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.v137 loopInv_k0_t2.sl.v140 loopInv_k0_t2.sl.v144 loopInv_k0_t2.sl.v145 loopInv_k0_t2.sl.v146 loopInv_k0_t2.sl.v147 loopInv_k0_t2.sl.v148 loopInv_k0_t2.sl.v149 loopInv_k0_t2.sl.v150 loopInv_k0_t2.sl.v151 loopInv_k0_t2.sl.v153 loopInv_k0_t2.sl.v154 loopInv_k0_t2.sl.v155 loopInv_k0_t2.sl.v157 loopInv_k0_t2.sl.v158 loopInv_k0_t2.sl.v159 loopInv_k0_t2.sl.v160 loopInv_k0_t2.sl.v161 loopInv_k0_t2.sl.v162 loopInv_k0_t2.sl.v163 loopInv_k0_t2.sl.v164 loopInv_k0_t2.sl.v166 loopInv_k0_t2.sl.v167 loopInv_k0_t2.sl.v168 loopInv_k0_t2.sl.v169 loopInv_k0_t2.sl.v170 loopInv_k0_t2.sl.v171 loopInv_k0_t2.sl.v173 loopInv_k0_t2.sl.v174 loopInv_k0_t2.sl.v175 loopInv_k0_t2.sl.v178 loopInv_k0_t2.sl.v180 loopInv_k0_t2.sl.v181 loopInv_k0_t2.sl.v183 loopInv_k0_t2.sl.v184 loopInv_k0_t2.sl.v187 loopInv_k0_t2.sl.v188 loopInv_k0_t2.sl.v189 loopInv_k0_t2.sl.v190 loopInv_k0_t2.sl.v191 loopInv_k0_t2.sl.v192 loopInv_k0_t2.sl.v193 loopInv_k0_t2.sl.v194 loopInv_k0_t2.sl.v196 loopInv_k0_t2.sl.v197 loopInv_k0_t2.sl.v200 loopInv_k0_t2.sl.v201 loopInv_k0_t2.sl.v202 loopInv_k0_t2.sl.v203 loopInv_k0_t2.sl.v204 loopInv_k0_t2.sl.v205 loopInv_k0_t2.sl.v206 loopInv_k0_t2.sl.v207 loopInv_k0_t2.sl.v209 loopInv_k0_t2.sl.v210 loopInv_k0_t2.sl.v214 loopInv_k0_t2.sl.v218 loopInv_k0_t2.sl.v221 loopInv_k0_t2.sl.v223 loopInv_k0_t2.sl.v224 loopInv_k0_t2.sl.v226 loopInv_k0_t2.sl.v227 loopInv_k0_t2.sl.v230 loopInv_k0_t2.sl.v231 loopInv_k0_t2.sl.v232 loopInv_k0_t2.sl.v233 loopInv_k0_t2.sl.v234 loopInv_k0_t2.sl.v235 loopInv_k0_t2.sl.v236 loopInv_k0_t2.sl.v237 loopInv_k0_t2.sl.v239 loopInv_k0_t2.sl.v240 loopInv_k0_t2.sl.v243 loopInv_k0_t2.sl.v244 loopInv_k0_t2.sl.v245 loopInv_k0_t2.sl.v246 loopInv_k0_t2.sl.v247 loopInv_k0_t2.sl.v248 loopInv_k0_t2.sl.v249 loopInv_k0_t2.sl.v250 loopInv_k0_t2.sl.v252 loopInv_k0_t2.sl.v253 loopInv_k0_t2.sl.v257 loopInv_k0_t2.sl.v261 loopInv_k0_t2.sl.v264 loopInv_k0_t2.sl.v266 loopInv_k0_t2.sl.v267 loopInv_k0_t2.sl.v269 loopInv_k0_t2.sl.v270
        unfold_payloads
        pointwise
        simp only [readAt_box2 _ _ _ _ (k0_off6_eq k0_t1 k), readAt_box3 _ _ _ _ _ (k0_off7_eq k0_t1 k), readAt_box3 _ _ _ _ _ (k0_off10_eq k0_t1 k), readAt_box3 _ _ _ _ _ (k0_off13_eq k0_t1 k),
          readAt_box3 _ _ _ _ _ (k0_off16_eq k0_t1 k), readAt_box3 _ _ _ _ _ (k0_off19_eq k0_t1 k), readAt_box3 _ _ _ _ _ (k0_off8_eq k), readAt_box3 _ _ _ _ _ (k0_off9_eq k), readAt_box3 _ _ _ _ _ (k0_off11_eq k),
          readAt_box3 _ _ _ _ _ (k0_off12_eq k), readAt_box3 _ _ _ _ _ (k0_off14_eq k), readAt_box3 _ _ _ _ _ (k0_off15_eq k), readAt_box3 _ _ _ _ _ (k0_off17_eq k),
          readAt_box3 _ _ _ _ _ (k0_off18_eq k), readAt_box3 _ _ _ _ _ (k0_off20_eq k), readAt_box3 _ _ _ _ _ (k0_off21_eq k)]
        simp only [Blk.den, Blk.pls, Blk.s2, accS, hotB, exB, midW, lo, hi, blkOf, svOf, Matrix.cons_val, Nat.zero_add, hmod, ← add_assoc]
        rfl
    · iexists _
      isplitl [H13]
      · iexact H13
      ipureintro
      show arg13.view.read (Elt Ideal) _ = advance (256 * k0_t1.val) (256 * k0_t1.val + 16 * (k.val + 1)) _ _
      rw [← advance_trans (b := 256 * k0_t1.val + 16 * k.val) (by omega) (by omega), ← e13]
      refine writes_planes _ _ _ (256 * k0_t1.val + 16 * k.val) (by omega) (k0_off7_eq _ _) (k0_off10_eq _ _) (k0_off13_eq _ _) (k0_off16_eq _ _) (k0_off19_eq _ _) _ _ _ _ _ _ _ _ _ _ ?_
      intro kk r l
      clear h12 h13 e12 e13
      have hmod : (256 * k0_t1.val + 16 * k.val + r.val) % 256 = 16 * k.val + r.val := by omega
      obtain rfl | rfl | rfl | rfl | rfl : kk = 0 ∨ kk = 1 ∨ kk = 2 ∨ kk = 3 ∨ kk = 4 := by omega
      all_goals
        simp only [Matrix.cons_val]
        delta loopInv_k0_t2.sl.cst_71 loopInv_k0_t2.sl.r loopInv_k0_t2.sl.r_1 loopInv_k0_t2.sl.r_10 loopInv_k0_t2.sl.r_11 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.v137 loopInv_k0_t2.sl.v140 loopInv_k0_t2.sl.v144 loopInv_k0_t2.sl.v145 loopInv_k0_t2.sl.v146 loopInv_k0_t2.sl.v147 loopInv_k0_t2.sl.v148 loopInv_k0_t2.sl.v149 loopInv_k0_t2.sl.v150 loopInv_k0_t2.sl.v151 loopInv_k0_t2.sl.v153 loopInv_k0_t2.sl.v154 loopInv_k0_t2.sl.v155 loopInv_k0_t2.sl.v157 loopInv_k0_t2.sl.v158 loopInv_k0_t2.sl.v159 loopInv_k0_t2.sl.v160 loopInv_k0_t2.sl.v161 loopInv_k0_t2.sl.v162 loopInv_k0_t2.sl.v163 loopInv_k0_t2.sl.v164 loopInv_k0_t2.sl.v166 loopInv_k0_t2.sl.v167 loopInv_k0_t2.sl.v168 loopInv_k0_t2.sl.v169 loopInv_k0_t2.sl.v170 loopInv_k0_t2.sl.v171 loopInv_k0_t2.sl.v173 loopInv_k0_t2.sl.v174 loopInv_k0_t2.sl.v175 loopInv_k0_t2.sl.v178 loopInv_k0_t2.sl.v180 loopInv_k0_t2.sl.v181 loopInv_k0_t2.sl.v183 loopInv_k0_t2.sl.v184 loopInv_k0_t2.sl.v187 loopInv_k0_t2.sl.v188 loopInv_k0_t2.sl.v189 loopInv_k0_t2.sl.v190 loopInv_k0_t2.sl.v191 loopInv_k0_t2.sl.v192 loopInv_k0_t2.sl.v193 loopInv_k0_t2.sl.v194 loopInv_k0_t2.sl.v196 loopInv_k0_t2.sl.v197 loopInv_k0_t2.sl.v200 loopInv_k0_t2.sl.v201 loopInv_k0_t2.sl.v202 loopInv_k0_t2.sl.v203 loopInv_k0_t2.sl.v204 loopInv_k0_t2.sl.v205 loopInv_k0_t2.sl.v206 loopInv_k0_t2.sl.v207 loopInv_k0_t2.sl.v209 loopInv_k0_t2.sl.v210 loopInv_k0_t2.sl.v214 loopInv_k0_t2.sl.v218 loopInv_k0_t2.sl.v221 loopInv_k0_t2.sl.v223 loopInv_k0_t2.sl.v224 loopInv_k0_t2.sl.v226 loopInv_k0_t2.sl.v227 loopInv_k0_t2.sl.v230 loopInv_k0_t2.sl.v231 loopInv_k0_t2.sl.v232 loopInv_k0_t2.sl.v233 loopInv_k0_t2.sl.v234 loopInv_k0_t2.sl.v235 loopInv_k0_t2.sl.v236 loopInv_k0_t2.sl.v237 loopInv_k0_t2.sl.v239 loopInv_k0_t2.sl.v240 loopInv_k0_t2.sl.v243 loopInv_k0_t2.sl.v244 loopInv_k0_t2.sl.v245 loopInv_k0_t2.sl.v246 loopInv_k0_t2.sl.v247 loopInv_k0_t2.sl.v248 loopInv_k0_t2.sl.v249 loopInv_k0_t2.sl.v250 loopInv_k0_t2.sl.v252 loopInv_k0_t2.sl.v253 loopInv_k0_t2.sl.v257 loopInv_k0_t2.sl.v261 loopInv_k0_t2.sl.v264 loopInv_k0_t2.sl.v266 loopInv_k0_t2.sl.v267 loopInv_k0_t2.sl.v269 loopInv_k0_t2.sl.v270
        unfold_payloads
        pointwise
        simp only [readAt_box2 _ _ _ _ (k0_off6_eq k0_t1 k), readAt_box3 _ _ _ _ _ (k0_off7_eq k0_t1 k), readAt_box3 _ _ _ _ _ (k0_off10_eq k0_t1 k), readAt_box3 _ _ _ _ _ (k0_off13_eq k0_t1 k),
          readAt_box3 _ _ _ _ _ (k0_off16_eq k0_t1 k), readAt_box3 _ _ _ _ _ (k0_off19_eq k0_t1 k), readAt_box3 _ _ _ _ _ (k0_off8_eq k), readAt_box3 _ _ _ _ _ (k0_off9_eq k), readAt_box3 _ _ _ _ _ (k0_off11_eq k),
          readAt_box3 _ _ _ _ _ (k0_off12_eq k), readAt_box3 _ _ _ _ _ (k0_off14_eq k), readAt_box3 _ _ _ _ _ (k0_off15_eq k), readAt_box3 _ _ _ _ _ (k0_off17_eq k),
          readAt_box3 _ _ _ _ _ (k0_off18_eq k), readAt_box3 _ _ _ _ _ (k0_off20_eq k), readAt_box3 _ _ _ _ _ (k0_off21_eq k)]
        simp only [Blk.den, Blk.pls, Blk.s2, accS, hotB, exB, midW, lo, hi, blkOf, svOf, Matrix.cons_val, Nat.zero_add, hmod, ← add_assoc]
        rfl

end Cert.KernelIdeal.Hand

end
-- ==== Proof.StatsOuter.lean ====
/-
  THE OUTER LOOP: eight trips of 256 queries each. A trip stores the five segments' dot products of its queries with the
  block's documents and runs the inner loop over them; after all trips every row of the two accumulators has had the
  block's terms added.
-/
module

public import proofs.«01_k».proof.Proof.StatsTrip

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The five segments' dot products of query `n` and document `m` of a block: columns 0–63, 64–127, 128–255, 256–511 and
512–767. -/
def dotS (q : S2048x768.Idx → EReal) (d : S256x768.Idx → BitVec 8) : Fin 5 → Fin 2048 → Fin 256 → EReal := fun j n m =>
  ![∑ x : Fin 64, q (ix2 n (⟨x.val, by omega⟩ : Fin 768)) * FloatOps.sitofp (F := Ideal) .bf16 (d (ix2 m (⟨x.val, by omega⟩ : Fin 768))),
    ∑ x : Fin 64, q (ix2 n (⟨64 + x.val, by omega⟩ : Fin 768)) * FloatOps.sitofp (F := Ideal) .bf16 (d (ix2 m (⟨64 + x.val, by omega⟩ : Fin 768))),
    ∑ x : Fin 128, q (ix2 n (⟨128 + x.val, by omega⟩ : Fin 768)) * FloatOps.sitofp (F := Ideal) .bf16 (d (ix2 m (⟨128 + x.val, by omega⟩ : Fin 768))),
    ∑ x : Fin 256, q (ix2 n (⟨256 + x.val, by omega⟩ : Fin 768)) * FloatOps.sitofp (F := Ideal) .bf16 (d (ix2 m (⟨256 + x.val, by omega⟩ : Fin 768))),
    ∑ x : Fin 256, q (ix2 n (⟨512 + x.val, by omega⟩ : Fin 768)) * FloatOps.sitofp (F := Ideal) .bf16 (d (ix2 m (⟨512 + x.val, by omega⟩ : Fin 768)))] j

/-- Five whole planes stored one after another: plane `j` holds the `j`-th payload. -/
theorem read_planes {sig : RefSig} {κ : Kind} {sp : Space} {d1 d2 : ℕ} (v : View sig κ sp ⟨3, ![5, d1, d2]⟩ .f32) (f : v.ty.Contents (Elt Ideal))
    {off0 off1 off2 off3 off4 : Fin 3 → ℕ} (h0 : off0 = ![0, 0, 0]) (h1 : off1 = ![1, 0, 0]) (h2 : off2 = ![2, 0, 0]) (h3 : off3 = ![3, 0, 0])
    (h4 : off4 = ![4, 0, 0])
    (i0 : ∀ a, off0 a + (![1, d1, d2] : Fin 3 → ℕ) a ≤ (⟨3, ![5, d1, d2]⟩ : Shape).size a) (i1 : ∀ a, off1 a + (![1, d1, d2] : Fin 3 → ℕ) a ≤ (⟨3, ![5, d1, d2]⟩ : Shape).size a)
    (i2 : ∀ a, off2 a + (![1, d1, d2] : Fin 3 → ℕ) a ≤ (⟨3, ![5, d1, d2]⟩ : Shape).size a) (i3 : ∀ a, off3 a + (![1, d1, d2] : Fin 3 → ℕ) a ≤ (⟨3, ![5, d1, d2]⟩ : Shape).size a)
    (i4 : ∀ a, off4 a + (![1, d1, d2] : Fin 3 → ℕ) a ≤ (⟨3, ![5, d1, d2]⟩ : Shape).size a)
    (w0 w1 w2 w3 w4 : (⟨3, ![1, d1, d2]⟩ : Shape).Idx → EReal) (k : Fin 5) (r : Fin d1) (m : Fin d2) :
    v.read (Elt Ideal) (v.writes (Elt Ideal) f
      [⟨Rect.unit (s := ⟨3, ![5, d1, d2]⟩) off4 (![1, d1, d2] : Fin 3 → ℕ) i4, w4⟩, ⟨Rect.unit (s := ⟨3, ![5, d1, d2]⟩) off3 (![1, d1, d2] : Fin 3 → ℕ) i3, w3⟩, ⟨Rect.unit (s := ⟨3, ![5, d1, d2]⟩) off2 (![1, d1, d2] : Fin 3 → ℕ) i2, w2⟩,
        ⟨Rect.unit (s := ⟨3, ![5, d1, d2]⟩) off1 (![1, d1, d2] : Fin 3 → ℕ) i1, w1⟩, ⟨Rect.unit (s := ⟨3, ![5, d1, d2]⟩) off0 (![1, d1, d2] : Fin 3 → ℕ) i0, w0⟩]) (ix3 k r m)
      = (![w0, w1, w2, w3, w4] k) (ix3 0 r m) := by
  subst h0 h1 h2 h3 h4
  have hit : ∀ (kk : ℕ) (hk : k.val = kk) (a : Fin 3), ((ix3 k r m : (⟨3, ![5, d1, d2]⟩ : Shape).Idx) a).val = (![kk, 0, 0] : Fin 3 → ℕ) a + ((ix3 0 r m : (⟨3, ![1, d1, d2]⟩ : Shape).Idx) a).val := by
    intro kk hk a
    match a with
    | 0 => exact hk
    | 1 => exact (Nat.zero_add _).symm
    | 2 => exact (Nat.zero_add _).symm
  have miss : ∀ (kk : ℕ) (hk : k.val ≠ kk), ((ix3 k r m : (⟨3, ![5, d1, d2]⟩ : Shape).Idx) 0).val < (![kk, 0, 0] : Fin 3 → ℕ) 0
      ∨ (![kk, 0, 0] : Fin 3 → ℕ) 0 + (![1, d1, d2] : Fin 3 → ℕ) 0 ≤ ((ix3 k r m : (⟨3, ![5, d1, d2]⟩ : Shape).Idx) 0).val := by
    intro kk hk
    show k.val < kk ∨ kk + 1 ≤ k.val
    omega
  fin_vals k with hk
  · rw [View.read_writes_cons_unit_of_not_mem v f i4 _ _ _ rfl 0 (miss 4 (by omega)), View.read_writes_cons_unit_of_not_mem v f i3 _ _ _ rfl 0 (miss 3 (by omega)),
      View.read_writes_cons_unit_of_not_mem v f i2 _ _ _ rfl 0 (miss 2 (by omega)), View.read_writes_cons_unit_of_not_mem v f i1 _ _ _ rfl 0 (miss 1 (by omega))]
    obtain rfl : k = 0 := Fin.ext hk
    exact View.read_writes_cons_unit_of_mem v f i0 w0 _ _ (ix3 0 r m : (⟨3, ![1, d1, d2]⟩ : Shape).Idx) rfl (hit 0 hk)
  · rw [View.read_writes_cons_unit_of_not_mem v f i4 _ _ _ rfl 0 (miss 4 (by omega)), View.read_writes_cons_unit_of_not_mem v f i3 _ _ _ rfl 0 (miss 3 (by omega)),
      View.read_writes_cons_unit_of_not_mem v f i2 _ _ _ rfl 0 (miss 2 (by omega))]
    obtain rfl : k = 1 := Fin.ext hk
    exact View.read_writes_cons_unit_of_mem v f i1 w1 _ _ (ix3 0 r m : (⟨3, ![1, d1, d2]⟩ : Shape).Idx) rfl (hit 1 hk)
  · rw [View.read_writes_cons_unit_of_not_mem v f i4 _ _ _ rfl 0 (miss 4 (by omega)), View.read_writes_cons_unit_of_not_mem v f i3 _ _ _ rfl 0 (miss 3 (by omega))]
    obtain rfl : k = 2 := Fin.ext hk
    exact View.read_writes_cons_unit_of_mem v f i2 w2 _ _ (ix3 0 r m : (⟨3, ![1, d1, d2]⟩ : Shape).Idx) rfl (hit 2 hk)
  · rw [View.read_writes_cons_unit_of_not_mem v f i4 _ _ _ rfl 0 (miss 4 (by omega))]
    obtain rfl : k = 3 := Fin.ext hk
    exact View.read_writes_cons_unit_of_mem v f i3 w3 _ _ (ix3 0 r m : (⟨3, ![1, d1, d2]⟩ : Shape).Idx) rfl (hit 3 hk)
  · obtain rfl : k = 4 := Fin.ext hk
    exact View.read_writes_cons_unit_of_mem v f i4 w4 _ _ (ix3 0 r m : (⟨3, ![1, d1, d2]⟩ : Shape).Idx) rfl (hit 4 hk)

/-- A query's terms read the dot products in the query's own row only. -/
theorem Blk.s2_congr (b : Blk) {sv sv' : Fin 5 → Fin 2048 → Fin 256 → EReal} {n : Fin 2048} (h : ∀ j m, sv j n m = sv' j n m)
    (cn : S5x2048x128.Idx → EReal) (k : Fin 5) (l : Fin 128) (m : Fin 256) : b.s2 sv cn k n l m = b.s2 sv' cn k n l m := by
  unfold Blk.s2
  rw [show (fun j => sv j n m) = fun j => sv' j n m from funext fun j => h j m]

theorem Blk.den_congr (b : Blk) {sv sv' : Fin 5 → Fin 2048 → Fin 256 → EReal} {n : Fin 2048} (h : ∀ j m, sv j n m = sv' j n m)
    (cn : S5x2048x128.Idx → EReal) (k : Fin 5) (l : Fin 128) : b.den sv cn k n l = b.den sv' cn k n l := by
  unfold Blk.den
  rw [b.s2_congr h, b.s2_congr h]

theorem Blk.pls_congr (b : Blk) {sv sv' : Fin 5 → Fin 2048 → Fin 256 → EReal} {n : Fin 2048} (h : ∀ j m, sv j n m = sv' j n m)
    (cn : S5x2048x128.Idx → EReal) (k : Fin 5) (l : Fin 128) : b.pls sv cn k n l = b.pls sv' cn k n l := by
  unfold Blk.pls
  rw [b.s2_congr h, b.s2_congr h]

set_option warn.classDefReducibility false in
set_option maxHeartbeats 4000000 in
/-- THE OUTER LOOP BY ITS INVARIANT: before trip `k` the block's terms have been added in the first `256 k` rows of both
accumulators. -/
@[sl_loop] def loopInv_k0_t1 (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole) (v3 : Vec Ideal S256x768 .i8) (v5 : Vec Ideal S1x256 .i32) (v11 : Vec Ideal S1x256 .f32) (v12 : Vec Ideal S1x256 .f32) (v13 : Vec Ideal S1x256 .f32) (v14 : Vec Ideal S1x256 .f32) (v15 : Vec Ideal S1x256 .f32)
    (X4 : arg4.view.ty.Contents (Elt Ideal)) (X6 : arg6.view.ty.Contents (Elt Ideal)) (X7 : arg7.view.ty.Contents (Elt Ideal)) (X11 : arg11.view.ty.Contents (Elt Ideal))
    (G12 : arg12.view.ty.Contents (Elt Ideal)) (G13 : arg13.view.ty.Contents (Elt Ideal)) :
    LoopInv (M := 𝕄) frame (wpE (defs₀ (F := Ideal)) Variants.none (c : Thread nD τ) none) Set.univ k0_t1_loop.lb k0_t1_loop.ub k0_t1_loop.st k0_t1_ok ()
      (k0_t1_body (F := Ideal) i arg1 harg1 arg2 harg2 arg3 harg3 arg4 harg4 arg5 harg5 arg6 harg6 arg7 harg7 arg8 harg8 arg9 harg9 arg10 harg10 arg11 harg11 arg12 harg12 arg13 harg13 v3 v5 v11 v12 v13 v14 v15) where
  inv := fun k _ => iprop(pt c arg4 X4 ∗ pt c arg6 X6 ∗ pt c arg7 X7 ∗ pt c arg11 X11 ∗ (∃ f, pt c arg10 f)
    ∗ (∃ f, pt c arg12 f ∗ ⌜arg12.view.read (Elt Ideal) f = upTo k 0 (256 * k) (arg12.view.read (Elt Ideal) G12)
        ((blkOf i v5 v11 v12 v13 v14 v15 (arg6.view.read (Elt Ideal) X6) (arg7.view.read (Elt Ideal) X7)).den (dotS (arg4.view.read (Elt Ideal) X4) v3) (arg11.view.read (Elt Ideal) X11))⌝)
    ∗ (∃ f, pt c arg13 f ∗ ⌜arg13.view.read (Elt Ideal) f = upTo k 0 (256 * k) (arg13.view.read (Elt Ideal) G13)
        ((blkOf i v5 v11 v12 v13 v14 v15 (arg6.view.read (Elt Ideal) X6) (arg7.view.read (Elt Ideal) X7)).pls (dotS (arg4.view.read (Elt Ideal) X4) v3) (arg11.view.read (Elt Ideal) X11))⌝))
  step k acc := by
    have hk : k.val < 8 := Nat.lt_of_lt_of_le k.isLt k0_t1_abs.2.1
    unfold k0_t1_body
    iintro ⟨H4, H6, H7, H11, ⟨%f10, H10⟩, ⟨%f12, H12, %h12⟩, ⟨%f13, H13, %h13⟩⟩
    have e12 := h12.trans (upTo_eq (by omega) _ _)
    have e13 := h13.trans (upTo_eq (by omega) _ _)
    sl_exec
    sl_step
    have hs : ∀ n : Fin 2048, 256 * k.val ≤ n.val → n.val < 256 * k.val + 16 * 16 → ∀ (j : Fin 5) (m : Fin 256),
        svOf (arg10.view.read (Elt Ideal) (arg10.view.writes (Elt Ideal) arg10.view.junk (loopInv_k0_t1.sl.H10_5 arg4 v3 X4 k))) j n m
          = dotS (arg4.view.read (Elt Ideal) X4) v3 j n m := by
      intro n h0 h1 j m
      clear hL5 hL7 h12 h13 e12 e13
      obtain ⟨r, hb, rfl⟩ : ∃ (r : Fin 256) (hb : 256 * k.val + r.val < 2048), n = ⟨256 * k.val + r.val, hb⟩ :=
        ⟨⟨n.val - 256 * k.val, by omega⟩, by have := n.isLt; simp only []; omega, Fin.ext (by simp only []; omega)⟩
      have hr : (⟨(256 * k.val + r.val) % 256, Nat.mod_lt _ (by decide)⟩ : Fin 256) = r := Fin.ext (by simp only []; omega)
      show arg10.view.read (Elt Ideal) _ (ix3 j (⟨(256 * k.val + r.val) % 256, _⟩ : Fin 256) m) = _
      rw [hr]
      delta loopInv_k0_t1.sl.H10_5
      refine (read_planes arg10.view _ rfl rfl rfl rfl rfl _ _ _ _ _ _ _ _ _ _ j r m).trans ?_
      obtain rfl | rfl | rfl | rfl | rfl : j = 0 ∨ j = 1 ∨ j = 2 ∨ j = 3 ∨ j = 4 := by omega
      all_goals
        simp only [Matrix.cons_val]
        try delta loopInv_k0_t1.sl.cst loopInv_k0_t1.sl.v20 loopInv_k0_t1.sl.v21 loopInv_k0_t1.sl.v22 loopInv_k0_t1.sl.v24 loopInv_k0_t1.sl.v26 loopInv_k0_t1.sl.v27 loopInv_k0_t1.sl.v29 loopInv_k0_t1.sl.v30 loopInv_k0_t1.sl.v33 loopInv_k0_t1.sl.v34 loopInv_k0_t1.sl.v35 loopInv_k0_t1.sl.v36 loopInv_k0_t1.sl.v37 loopInv_k0_t1.sl.v40 loopInv_k0_t1.sl.v41 loopInv_k0_t1.sl.v42 loopInv_k0_t1.sl.v43 loopInv_k0_t1.sl.v44 loopInv_k0_t1.sl.v47 loopInv_k0_t1.sl.v48 loopInv_k0_t1.sl.v49 loopInv_k0_t1.sl.v50 loopInv_k0_t1.sl.v51
        unfold_payloads
        pointwise
        simp only [readAt_box2 _ _ _ _ (k0_off1_eq k), readAt_box2 _ _ _ _ (k0_off2_eq k), readAt_box2 _ _ _ _ (k0_off3_eq k), readAt_box2 _ _ _ _ (k0_off4_eq k),
          readAt_box2 _ _ _ _ (k0_off5_eq k)]
        simp only [dotS, Matrix.cons_val, Nat.zero_add]
    have htr : Scf.trips k0_t2_loop.lb k0_t2_loop.ub k0_t2_loop.st = 16 := by decide
    rw [upTo_eq (by omega), htr, advance_congr _ fun kk n l h0 h1 => Blk.den_congr _ (hs n h0 h1) _ kk l, e12,
      advance_trans (by omega) (by omega)] at hL5
    rw [upTo_eq (by omega), htr, advance_congr _ fun kk n l h0 h1 => Blk.pls_congr _ (hs n h0 h1) _ kk l, e13,
      advance_trans (by omega) (by omega)] at hL7
    isplitl [H4]
    · iexact H4
    isplitl [H6]
    · iexact H6
    isplitl [H7]
    · iexact H7
    isplitl [H11]
    · iexact H11
    isplitl [H10]
    · iexists _
      iexact H10
    isplitl [H12]
    · iexists _
      isplitl [H12]
      · iexact H12
      ipureintro
      exact hL5
    · iexists _
      isplitl [H13]
      · iexact H13
      ipureintro
      exact hL7

end Cert.KernelIdeal.Hand

end
-- ==== Proof.StatsBody.lean ====
/-
  THE BODY AT A GRID POINT: from the operands' blocks and the two accumulators, the accumulators with the block's terms
  added; at the first point from zeros, at the last point the two outputs too.
-/
module

public import proofs.«01_k».proof.Proof.StatsOuter

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The scaled inverse query norms, spread over the lanes: plane `k` is column `1 + k` times log2(e)/τ. -/
def cnOf (X5 : S2048x128.Idx → EReal) : S5x2048x128.Idx → EReal := fun y =>
  X5 (ix2 (y 1) (⟨1 + (y 0).val, by have := (y 0).isLt; simp only [Matrix.cons_val_zero] at this; omega⟩ : Fin 128)) * Named.named (F := Ideal) (φ := .f32) κ "log2e_over_tau" 0x41E6D4CA#32

/-- The operands of grid point `t` from the blocks of its inputs. -/
def blkAt (t : ℕ) (X2 : S16x256.Idx → EReal) (X3 : S1x256.Idx → BitVec 32) (X6 X7 : S2048x128.Idx → BitVec 32) : Blk :=
  ⟨t, X3, fun k y => X2 (ix2 (⟨1 + k.val, by omega⟩ : Fin 16) (y 1)), X6, X7⟩

/-- The denominators after a point, from those before it. -/
def denStep (t : ℕ) (X1 : S256x768.Idx → BitVec 8) (X2 : S16x256.Idx → EReal) (X3 : S1x256.Idx → BitVec 32) (X4 : S2048x768.Idx → EReal)
    (X6 X7 : S2048x128.Idx → BitVec 32) (cn D : S5x2048x128.Idx → EReal) : S5x2048x128.Idx → EReal :=
  fun y => D y + (blkAt t X2 X3 X6 X7).den (dotS X4 X1) cn (y 0) (y 1) (y 2)

/-- The positives' logits after a point, from those before it. -/
def plsStep (t : ℕ) (X1 : S256x768.Idx → BitVec 8) (X2 : S16x256.Idx → EReal) (X3 : S1x256.Idx → BitVec 32) (X4 : S2048x768.Idx → EReal)
    (X6 X7 : S2048x128.Idx → BitVec 32) (cn D : S5x2048x128.Idx → EReal) : S5x2048x128.Idx → EReal :=
  fun y => D y + (blkAt t X2 X3 X6 X7).pls (dotS X4 X1) cn (y 0) (y 1) (y 2)

/-- A load of a whole rank-2 buffer reads it. -/
theorem readAt_full2 {sig : RefSig} {κ : Kind} {sp : Space} {e : EltTy} {Val : EltTy → Type} {d0 d1 : ℕ}
    (v : View sig κ sp ⟨2, ![d0, d1]⟩ e) (f : v.ty.Contents Val) (inb : ∀ a, (![0, 0] : Fin 2 → ℕ) a + (![d0, d1] : Fin 2 → ℕ) a ≤ (⟨2, ![d0, d1]⟩ : Shape).size a) :
    v.readAt Val (Rect.unit (s := ⟨2, ![d0, d1]⟩) ![0, 0] (![d0, d1] : Fin 2 → ℕ) inb).toLoadRect f = v.read Val f := by
  funext y
  obtain ⟨a, b, rfl⟩ : ∃ (a : Fin d0) (b : Fin d1), y = ix2 a b := ⟨y 0, y 1, eq_ix2 y⟩
  refine (readAt_box2 v f 0 0 rfl inb a b).trans (congrArg _ ?_)
  simp only [Nat.zero_add]

/-- The load of the block's codes. -/
theorem load1 (a1 : Memref sig .tc .vmem S256x768 .i8) (f1 : a1.view.ty.Contents (Elt Ideal)) :
    a1.view.readAt (Elt Ideal) (Rect.unit ![0, 0] S256x768.size inb_S256x768_S256x768_0_0).toLoadRect f1 = a1.view.read (Elt Ideal) f1 :=
  readAt_full2 a1.view f1 _

/-- The load of the block's groups. -/
theorem load3 (a3 : Memref sig .tc .vmem S1x256 .i32) (f3 : a3.view.ty.Contents (Elt Ideal)) :
    a3.view.readAt (Elt Ideal) (Rect.unit ![0, 0] S1x256.size inb_S1x256_S1x256_0_0).toLoadRect f3 = a3.view.read (Elt Ideal) f3 :=
  readAt_full2 a3.view f3 _

/-- The operands the loads give are those of the blocks. -/
theorem blkOf_loads (i : grid0.Coords) (a2 : Memref sig .tc .vmem S16x256 .f32) (a3 : Memref sig .tc .vmem S1x256 .i32)
    (f2 : a2.view.ty.Contents (Elt Ideal)) (f3 : a3.view.ty.Contents (Elt Ideal)) (gq pos : S2048x128.Idx → BitVec 32) :
    blkOf i (a3.view.readAt (Elt Ideal) (Rect.unit ![0, 0] S1x256.size inb_S1x256_S1x256_0_0).toLoadRect f3)
        (a2.view.readAt (Elt Ideal) (Rect.unit (s := S16x256) ![1, 0] S1x256.size inb_S16x256_S1x256_1_0).toLoadRect f2)
        (a2.view.readAt (Elt Ideal) (Rect.unit (s := S16x256) ![2, 0] S1x256.size inb_S16x256_S1x256_2_0).toLoadRect f2)
        (a2.view.readAt (Elt Ideal) (Rect.unit (s := S16x256) ![3, 0] S1x256.size inb_S16x256_S1x256_3_0).toLoadRect f2)
        (a2.view.readAt (Elt Ideal) (Rect.unit (s := S16x256) ![4, 0] S1x256.size inb_S16x256_S1x256_4_0).toLoadRect f2)
        (a2.view.readAt (Elt Ideal) (Rect.unit (s := S16x256) ![5, 0] S1x256.size inb_S16x256_S1x256_5_0).toLoadRect f2) gq pos
      = blkAt (i 0).val (a2.view.read (Elt Ideal) f2) (a3.view.read (Elt Ideal) f3) gq pos := by
  unfold blkOf blkAt
  rw [load3]
  congr 1
  refine funext fun (k : Fin 5) => funext fun y => ?_
  obtain ⟨a, b, rfl⟩ : ∃ (a : Fin 1) (b : Fin 256), y = ix2 a b := ⟨y 0, y 1, eq_ix2 y⟩
  obtain rfl : a = 0 := Subsingleton.elim _ _
  obtain rfl | rfl | rfl | rfl | rfl : k = 0 ∨ k = 1 ∨ k = 2 ∨ k = 3 ∨ k = 4 := by omega
  all_goals
    simp only [Matrix.cons_val]
    refine (readAt_box2 a2.view f2 _ 0 rfl _ 0 b).trans (congrArg _ ?_)
    simp only [Nat.zero_add]
    rfl

/-- All rows done: the denominators' step. -/
theorem den_done {t : ℕ} {X1 : S256x768.Idx → BitVec 8} {X2 : S16x256.Idx → EReal} {X3 : S1x256.Idx → BitVec 32} {X4 : S2048x768.Idx → EReal}
    {X6 X7 : S2048x128.Idx → BitVec 32} {cn D f : S5x2048x128.Idx → EReal} {n : ℕ} (hn : n = 8)
    (h : f = upTo n 0 (256 * n) D ((blkAt t X2 X3 X6 X7).den (dotS X4 X1) cn)) : f = denStep t X1 X2 X3 X4 X6 X7 cn D := by
  subst hn
  rw [h]
  funext y
  exact if_pos ⟨Nat.zero_le _, (y 1).isLt⟩

/-- All rows done: the positives' step. -/
theorem pls_done {t : ℕ} {X1 : S256x768.Idx → BitVec 8} {X2 : S16x256.Idx → EReal} {X3 : S1x256.Idx → BitVec 32} {X4 : S2048x768.Idx → EReal}
    {X6 X7 : S2048x128.Idx → BitVec 32} {cn D f : S5x2048x128.Idx → EReal} {n : ℕ} (hn : n = 8)
    (h : f = upTo n 0 (256 * n) D ((blkAt t X2 X3 X6 X7).pls (dotS X4 X1) cn)) : f = plsStep t X1 X2 X3 X4 X6 X7 cn D := by
  subst hn
  rw [h]
  funext y
  exact if_pos ⟨Nat.zero_le _, (y 1).isLt⟩

/-- The outer loop's trip count. -/
theorem trips_t1 : Scf.trips k0_t1_loop.lb k0_t1_loop.ub k0_t1_loop.st = 8 := by decide

set_option maxHeartbeats 4000000 in
/-- A point that is neither the first nor the last. -/
theorem run_mid (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole)
    (h1 : ¬ Scalar.cmpi .ne (Scalar.extui (Scalar.cmpi .eq (BitVec.ofNat 32 (i 0).val) 0#32)) 0#32 = 1#1) (h2 : ¬ k0_cond2 i = 1#1)
    (f1 : arg1.view.ty.Contents (Elt Ideal)) (f2 : arg2.view.ty.Contents (Elt Ideal)) (f3 : arg3.view.ty.Contents (Elt Ideal))
    (f4 : arg4.view.ty.Contents (Elt Ideal)) (f5 : arg5.view.ty.Contents (Elt Ideal)) (f6 : arg6.view.ty.Contents (Elt Ideal))
    (f7 : arg7.view.ty.Contents (Elt Ideal)) (f11 : arg11.view.ty.Contents (Elt Ideal)) (f12 : arg12.view.ty.Contents (Elt Ideal))
    (f13 : arg13.view.ty.Contents (Elt Ideal)) (f8 : arg8.view.ty.Contents (Elt Ideal)) (f9 : arg9.view.ty.Contents (Elt Ideal)) (K : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
        ∗ (∃ f, pt c arg10 f) ∗ pt c arg11 f11 ∗ pt c arg12 f12 ∗ pt c arg13 f13
        ∗ (iprop(pt c arg1 f1 ∗ pt c arg2 f2 ∗ pt c arg3 f3 ∗ pt c arg4 f4 ∗ pt c arg5 f5 ∗ pt c arg6 f6 ∗ pt c arg7 f7
            ∗ pt c arg8 f8 ∗ pt c arg9 f9 ∗ (∃ f, pt c arg10 f)
            ∗ (∃ f, pt c arg11 f ∗ ⌜arg11.view.read (Elt Ideal) f = arg11.view.read (Elt Ideal) f11⌝)
            ∗ (∃ f, pt c arg12 f ∗ ⌜arg12.view.read (Elt Ideal) f = denStep (i 0).val (arg1.view.read (Elt Ideal) f1) (arg2.view.read (Elt Ideal) f2)
                (arg3.view.read (Elt Ideal) f3) (arg4.view.read (Elt Ideal) f4) (arg6.view.read (Elt Ideal) f6) (arg7.view.read (Elt Ideal) f7)
                (arg11.view.read (Elt Ideal) f11) (arg12.view.read (Elt Ideal) f12)⌝)
            ∗ (∃ f, pt c arg13 f ∗ ⌜arg13.view.read (Elt Ideal) f = plsStep (i 0).val (arg1.view.read (Elt Ideal) f1) (arg2.view.read (Elt Ideal) f2)
                (arg3.view.read (Elt Ideal) f3) (arg4.view.read (Elt Ideal) f4) (arg6.view.read (Elt Ideal) f6) (arg7.view.read (Elt Ideal) f7)
                (arg11.view.read (Elt Ideal) f11) (arg13.view.read (Elt Ideal) f13)⌝)) -∗ K ⟨⟩))
      ⊢ wp frame (wpE (defs₀ (F := Ideal)) Variants.none (c : Thread nD τ) none) Set.univ (cc0_stats_pass (F := Ideal) i arg1 harg1 arg2 harg2 arg3 harg3 arg4 harg4 arg5 harg5 arg6 harg6 arg7 harg7 arg8 harg8 arg9 harg9 arg10 harg10 arg11 harg11 arg12 harg12 arg13 harg13) K := by
  simp only [cc0_stats_pass_eq_skeleton]; unfold cc0_stats_pass_skel
  iintro ⟨H1, H2, H3, H4, H5, H6, H7, H8, H9, ⟨%f10, H10⟩, H11, H12, H13, Hk⟩
  sl_exec
  sl_step
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _
    iexact H10
  isplitl [H11]
  · iexists _
    isplitl [H11]
    · iexact H11
    ipureintro
    rfl
  isplitl [H12]
  · iexists _
    isplitl [H12]
    · iexact H12
    ipureintro
    clear hL8
    rw [blkOf_loads, load1] at hL6
    exact den_done trips_t1 hL6
  iexists _
  isplitl [H13]
  · iexact H13
  ipureintro
  clear hL6
  rw [blkOf_loads, load1] at hL8
  exact pls_done trips_t1 hL8

end Cert.KernelIdeal.Hand

end
-- ==== Proof.StatsFirst.lean ====
/-
  THE BODY AT THE FIRST GRID POINT: the two accumulators start from zeros and the scaled query norms are stored.
-/
module

public import proofs.«01_k».proof.Proof.StatsBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A whole buffer stored at once with zeros. -/
theorem read_zeros {sig : RefSig} {κ : Kind} {sp : Space} (v : View sig κ sp S5x2048x128 .f32) (f : v.ty.Contents (Elt Ideal))
    (inb : ∀ a, (![0, 0, 0] : Fin 3 → ℕ) a + S5x2048x128.size a ≤ S5x2048x128.size a) (w : S5x2048x128.Idx → EReal) (hw : ∀ y, w y = 0) :
    v.read (Elt Ideal) (v.writes (Elt Ideal) f [⟨Rect.unit (s := S5x2048x128) ![0, 0, 0] S5x2048x128.size inb, w⟩]) = fun _ => 0 := by
  funext y
  refine (View.read_writes_cons_unit_of_mem v f inb w _ _ y rfl fun a => ?_).trans (hw y)
  match a with
  | 0 => exact (Nat.zero_add _).symm
  | 1 => exact (Nat.zero_add _).symm
  | 2 => exact (Nat.zero_add _).symm

set_option maxHeartbeats 4000000 in
/-- The first point: the sums start from zeros and the scaled query norms are stored. -/
theorem run_first (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole)
    (h1 : Scalar.cmpi .ne (Scalar.extui (Scalar.cmpi .eq (BitVec.ofNat 32 (i 0).val) 0#32)) 0#32 = 1#1) (h2 : ¬ k0_cond2 i = 1#1)
    (f1 : arg1.view.ty.Contents (Elt Ideal)) (f2 : arg2.view.ty.Contents (Elt Ideal)) (f3 : arg3.view.ty.Contents (Elt Ideal))
    (f4 : arg4.view.ty.Contents (Elt Ideal)) (f5 : arg5.view.ty.Contents (Elt Ideal)) (f6 : arg6.view.ty.Contents (Elt Ideal))
    (f7 : arg7.view.ty.Contents (Elt Ideal)) (f11 : arg11.view.ty.Contents (Elt Ideal)) (f12 : arg12.view.ty.Contents (Elt Ideal))
    (f13 : arg13.view.ty.Contents (Elt Ideal)) (f8 : arg8.view.ty.Contents (Elt Ideal)) (f9 : arg9.view.ty.Contents (Elt Ideal)) (K : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
        ∗ (∃ f, pt c arg10 f) ∗ pt c arg11 f11 ∗ pt c arg12 f12 ∗ pt c arg13 f13
        ∗ (iprop(pt c arg1 f1 ∗ pt c arg2 f2 ∗ pt c arg3 f3 ∗ pt c arg4 f4 ∗ pt c arg5 f5 ∗ pt c arg6 f6 ∗ pt c arg7 f7
            ∗ pt c arg8 f8 ∗ pt c arg9 f9 ∗ (∃ f, pt c arg10 f)
            ∗ (∃ f, pt c arg11 f ∗ ⌜arg11.view.read (Elt Ideal) f = cnOf (arg5.view.read (Elt Ideal) f5)⌝)
            ∗ (∃ f, pt c arg12 f ∗ ⌜arg12.view.read (Elt Ideal) f = denStep (i 0).val (arg1.view.read (Elt Ideal) f1) (arg2.view.read (Elt Ideal) f2)
                (arg3.view.read (Elt Ideal) f3) (arg4.view.read (Elt Ideal) f4) (arg6.view.read (Elt Ideal) f6) (arg7.view.read (Elt Ideal) f7)
                (cnOf (arg5.view.read (Elt Ideal) f5)) (fun _ => 0)⌝)
            ∗ (∃ f, pt c arg13 f ∗ ⌜arg13.view.read (Elt Ideal) f = plsStep (i 0).val (arg1.view.read (Elt Ideal) f1) (arg2.view.read (Elt Ideal) f2)
                (arg3.view.read (Elt Ideal) f3) (arg4.view.read (Elt Ideal) f4) (arg6.view.read (Elt Ideal) f6) (arg7.view.read (Elt Ideal) f7)
                (cnOf (arg5.view.read (Elt Ideal) f5)) (fun _ => 0)⌝)) -∗ K ⟨⟩))
      ⊢ wp frame (wpE (defs₀ (F := Ideal)) Variants.none (c : Thread nD τ) none) Set.univ (cc0_stats_pass (F := Ideal) i arg1 harg1 arg2 harg2 arg3 harg3 arg4 harg4 arg5 harg5 arg6 harg6 arg7 harg7 arg8 harg8 arg9 harg9 arg10 harg10 arg11 harg11 arg12 harg12 arg13 harg13) K := by
  simp only [cc0_stats_pass_eq_skeleton]; unfold cc0_stats_pass_skel
  iintro ⟨H1, H2, H3, H4, H5, H6, H7, H8, H9, ⟨%f10, H10⟩, H11, H12, H13, Hk⟩
  sl_exec
  sl_step
  iapply Hk
  have hcn : arg11.view.read (Elt Ideal) (arg11.view.writes (Elt Ideal) arg11.view.junk (run_first.sl.H11_5 arg5 f5)) = cnOf (arg5.view.read (Elt Ideal) f5) := by
    clear hL6 hL8
    funext y
    obtain ⟨k, n, l, rfl⟩ : ∃ (k : Fin 5) (n : Fin 2048) (l : Fin 128), y = ix3 k n l := ⟨y 0, y 1, y 2, eq_ix3 y⟩
    delta run_first.sl.H11_5
    refine (read_planes (d1 := 2048) (d2 := 128) arg11.view _ rfl rfl rfl rfl rfl _ _ _ _ _ _ _ _ _ _ k n l).trans ?_
    obtain rfl | rfl | rfl | rfl | rfl : k = 0 ∨ k = 1 ∨ k = 2 ∨ k = 3 ∨ k = 4 := by omega
    all_goals
      simp only [Matrix.cons_val]
      try delta run_first.sl.r
      unfold_payloads
      pointwise
      simp only [readAt_box2 _ _ 0 1 rfl, readAt_box2 _ _ 0 2 rfl, readAt_box2 _ _ 0 3 rfl, readAt_box2 _ _ 0 4 rfl, readAt_box2 _ _ 0 5 rfl]
      simp only [Nat.zero_add]
      rfl
  have h12 : arg12.view.read (Elt Ideal) (arg12.view.writes (Elt Ideal) arg12.view.junk run_first.sl.H12_1) = fun _ => 0 := by
    clear hL6 hL8
    delta run_first.sl.H12_1
    exact read_zeros arg12.view _ _ _ fun y => by unfold_payloads; pointwise
  have h13 : arg13.view.read (Elt Ideal) (arg13.view.writes (Elt Ideal) arg13.view.junk run_first.sl.H13_1) = fun _ => 0 := by
    clear hL6 hL8
    delta run_first.sl.H13_1
    exact read_zeros arg13.view _ _ _ fun y => by unfold_payloads; pointwise
  rw [hcn, h12, blkOf_loads, load1] at hL6
  rw [hcn, h13, blkOf_loads, load1] at hL8
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexists _
    iexact H10
  isplitl [H11]
  · iexists _
    isplitl [H11]
    · iexact H11
    ipureintro
    exact hcn
  isplitl [H12]
  · iexists _
    isplitl [H12]
    · iexact H12
    ipureintro
    exact den_done trips_t1 hL6
  iexists _
  isplitl [H13]
  · iexact H13
  ipureintro
  exact pls_done trips_t1 hL8

end Cert.KernelIdeal.Hand

end
-- ==== Proof.StatsLast.lean ====
/-
  THE BODY AT THE LAST GRID POINT: the block's terms are added and the two outputs computed from the sums.
-/
module

public import proofs.«01_k».proof.Proof.StatsBody

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A whole rank-2 buffer stored at once. -/
theorem read_whole2 {sig : RefSig} {κ : Kind} {sp : Space} {d0 d1 : ℕ} (v : View sig κ sp ⟨2, ![d0, d1]⟩ .f32) (f : v.ty.Contents (Elt Ideal))
    (inb : ∀ a, (![0, 0] : Fin 2 → ℕ) a + (![d0, d1] : Fin 2 → ℕ) a ≤ (⟨2, ![d0, d1]⟩ : Shape).size a) (w : (⟨2, ![d0, d1]⟩ : Shape).Idx → EReal) (a : Fin d0) (b : Fin d1) :
    v.read (Elt Ideal) (v.writes (Elt Ideal) f [⟨Rect.unit (s := ⟨2, ![d0, d1]⟩) ![0, 0] (![d0, d1] : Fin 2 → ℕ) inb, w⟩]) (ix2 a b) = w (ix2 a b) := by
  refine View.read_writes_cons_unit_of_mem v f inb w _ _ (ix2 a b) rfl fun x => ?_
  match x with
  | 0 => exact (Nat.zero_add _).symm
  | 1 => exact (Nat.zero_add _).symm

/-- The logarithm of a denominator, in base two. -/
def ldCol (D : S5x2048x128.Idx → EReal) (k : Fin 5) (n : Fin 2048) : EReal :=
  Ideal.log (∑ x : Fin 128, D (ix3 k n x)) * Named.named (F := Ideal) (φ := .f32) κ "log2e" 0x3FB8AA3B#32

/-- A query's loss for a prefix, from the denominators and the positives' logits. -/
def rlCol (D P : S5x2048x128.Idx → EReal) (k : Fin 5) (n : Fin 2048) : EReal :=
  (ldCol D k n - ∑ x : Fin 128, P (ix3 k n x)) * Named.named (F := Ideal) (φ := .f32) κ "ln2" 0x3F317218#32

/-- The value of column `j` for `j < 5`, and zero beyond, by the kernel's comparisons. -/
def pick5 (j : ℕ) (g : Fin 5 → EReal) : EReal :=
  Scalar.select (IntOp.cmpi CmpIPredicate.eq (BitVec.ofNat 32 j) 4#32) (g 4)
    (Scalar.select (IntOp.cmpi CmpIPredicate.eq (BitVec.ofNat 32 j) 3#32) (g 3)
      (Scalar.select (IntOp.cmpi CmpIPredicate.eq (BitVec.ofNat 32 j) 2#32) (g 2)
        (Scalar.select (IntOp.cmpi CmpIPredicate.eq (BitVec.ofNat 32 j) 1#32) (g 1)
          (Scalar.select (IntOp.cmpi CmpIPredicate.eq (BitVec.ofNat 32 j) 0#32) (g 0) 0))))

theorem pick5_val (k : Fin 5) (g : Fin 5 → EReal) : pick5 k.val g = g k := by
  obtain rfl | rfl | rfl | rfl | rfl : k = 0 ∨ k = 1 ∨ k = 2 ∨ k = 3 ∨ k = 4 := by omega
  all_goals rfl

/-- The first output: lane `j` of a query is the logarithm of its inverse norm over the denominator, for prefix `j`. -/
def laOf (X5 : S2048x128.Idx → EReal) (D : S5x2048x128.Idx → EReal) : S2048x128.Idx → EReal := fun y =>
  pick5 (y 1).val fun k => Ideal.log (X5 (ix2 (y 0) (⟨1 + k.val, by omega⟩ : Fin 128))) * Named.named (F := Ideal) (φ := .f32) κ "log2e" 0x3FB8AA3B#32 - ldCol D k (y 0)

/-- The second output: row `k` is the loss for prefix `k`. -/
def rlOf (D P : S5x2048x128.Idx → EReal) : S8x2048.Idx → EReal := fun y => pick5 (y 0).val fun k => rlCol D P k (y 1)

set_option maxHeartbeats 4000000 in
/-- The last point: the sums after it, and from them the two outputs. -/
theorem run_last (c : Dev nD) (i : grid0.Coords) (arg1 : Memref sig .tc .vmem S256x768 .i8) (harg1 : arg1.IsWhole) (arg2 : Memref sig .tc .vmem S16x256 .f32) (harg2 : arg2.IsWhole) (arg3 : Memref sig .tc .vmem S1x256 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .i32) (harg6 : arg6.IsWhole) (arg7 : Memref sig .tc .vmem S2048x128 .i32) (harg7 : arg7.IsWhole) (arg8 : Memref sig .tc .vmem S2048x128 .f32) (harg8 : arg8.IsWhole) (arg9 : Memref sig .tc .vmem S8x2048 .f32) (harg9 : arg9.IsWhole) (arg10 : Memref sig .tc .vmem S5x256x256 .f32) (harg10 : arg10.IsWhole) (arg11 : Memref sig .tc .vmem S5x2048x128 .f32) (harg11 : arg11.IsWhole) (arg12 : Memref sig .tc .vmem S5x2048x128 .f32) (harg12 : arg12.IsWhole) (arg13 : Memref sig .tc .vmem S5x2048x128 .f32) (harg13 : arg13.IsWhole)
    (h1 : ¬ Scalar.cmpi .ne (Scalar.extui (Scalar.cmpi .eq (BitVec.ofNat 32 (i 0).val) 0#32)) 0#32 = 1#1) (h2 : k0_cond2 i = 1#1)
    (f1 : arg1.view.ty.Contents (Elt Ideal)) (f2 : arg2.view.ty.Contents (Elt Ideal)) (f3 : arg3.view.ty.Contents (Elt Ideal))
    (f4 : arg4.view.ty.Contents (Elt Ideal)) (f5 : arg5.view.ty.Contents (Elt Ideal)) (f6 : arg6.view.ty.Contents (Elt Ideal))
    (f7 : arg7.view.ty.Contents (Elt Ideal)) (f11 : arg11.view.ty.Contents (Elt Ideal)) (f12 : arg12.view.ty.Contents (Elt Ideal))
    (f13 : arg13.view.ty.Contents (Elt Ideal)) (f8 : arg8.view.ty.Contents (Elt Ideal)) (f9 : arg9.view.ty.Contents (Elt Ideal)) (K : PUnit → sProp 𝕄) :
    iprop(pt c arg1 f1 ∗ pt c arg2 f2 ∗ pt c arg3 f3 ∗ pt c arg4 f4 ∗ pt c arg5 f5 ∗ pt c arg6 f6 ∗ pt c arg7 f7 ∗ pt c arg8 f8 ∗ pt c arg9 f9
        ∗ (∃ f, pt c arg10 f) ∗ pt c arg11 f11 ∗ pt c arg12 f12 ∗ pt c arg13 f13
        ∗ (iprop(pt c arg1 f1 ∗ pt c arg2 f2 ∗ pt c arg3 f3 ∗ pt c arg4 f4 ∗ pt c arg5 f5 ∗ pt c arg6 f6 ∗ pt c arg7 f7
            ∗ (∃ f, pt c arg8 f ∗ ⌜arg8.view.read (Elt Ideal) f = laOf (arg5.view.read (Elt Ideal) f5) (denStep (i 0).val (arg1.view.read (Elt Ideal) f1) (arg2.view.read (Elt Ideal) f2) (arg3.view.read (Elt Ideal) f3) (arg4.view.read (Elt Ideal) f4) (arg6.view.read (Elt Ideal) f6) (arg7.view.read (Elt Ideal) f7) (arg11.view.read (Elt Ideal) f11) (arg12.view.read (Elt Ideal) f12))⌝) ∗ (∃ f, pt c arg9 f ∗ ⌜arg9.view.read (Elt Ideal) f = rlOf (denStep (i 0).val (arg1.view.read (Elt Ideal) f1) (arg2.view.read (Elt Ideal) f2) (arg3.view.read (Elt Ideal) f3) (arg4.view.read (Elt Ideal) f4) (arg6.view.read (Elt Ideal) f6) (arg7.view.read (Elt Ideal) f7) (arg11.view.read (Elt Ideal) f11) (arg12.view.read (Elt Ideal) f12)) (plsStep (i 0).val (arg1.view.read (Elt Ideal) f1) (arg2.view.read (Elt Ideal) f2) (arg3.view.read (Elt Ideal) f3) (arg4.view.read (Elt Ideal) f4) (arg6.view.read (Elt Ideal) f6) (arg7.view.read (Elt Ideal) f7) (arg11.view.read (Elt Ideal) f11) (arg13.view.read (Elt Ideal) f13))⌝) ∗ (∃ f, pt c arg10 f)
            ∗ (∃ f, pt c arg11 f ∗ ⌜arg11.view.read (Elt Ideal) f = arg11.view.read (Elt Ideal) f11⌝)
            ∗ (∃ f, pt c arg12 f ∗ ⌜arg12.view.read (Elt Ideal) f = denStep (i 0).val (arg1.view.read (Elt Ideal) f1) (arg2.view.read (Elt Ideal) f2)
                (arg3.view.read (Elt Ideal) f3) (arg4.view.read (Elt Ideal) f4) (arg6.view.read (Elt Ideal) f6) (arg7.view.read (Elt Ideal) f7)
                (arg11.view.read (Elt Ideal) f11) (arg12.view.read (Elt Ideal) f12)⌝)
            ∗ (∃ f, pt c arg13 f ∗ ⌜arg13.view.read (Elt Ideal) f = plsStep (i 0).val (arg1.view.read (Elt Ideal) f1) (arg2.view.read (Elt Ideal) f2)
                (arg3.view.read (Elt Ideal) f3) (arg4.view.read (Elt Ideal) f4) (arg6.view.read (Elt Ideal) f6) (arg7.view.read (Elt Ideal) f7)
                (arg11.view.read (Elt Ideal) f11) (arg13.view.read (Elt Ideal) f13)⌝)) -∗ K ⟨⟩))
      ⊢ wp frame (wpE (defs₀ (F := Ideal)) Variants.none (c : Thread nD τ) none) Set.univ (cc0_stats_pass (F := Ideal) i arg1 harg1 arg2 harg2 arg3 harg3 arg4 harg4 arg5 harg5 arg6 harg6 arg7 harg7 arg8 harg8 arg9 harg9 arg10 harg10 arg11 harg11 arg12 harg12 arg13 harg13) K := by
  simp only [cc0_stats_pass_eq_skeleton]; unfold cc0_stats_pass_skel
  iintro ⟨H1, H2, H3, H4, H5, H6, H7, H8, H9, ⟨%f10, H10⟩, H11, H12, H13, Hk⟩
  sl_exec
  sl_step
  iapply Hk
  have hd : arg12.view.read (Elt Ideal) fL1 = (denStep (i 0).val (arg1.view.read (Elt Ideal) f1) (arg2.view.read (Elt Ideal) f2) (arg3.view.read (Elt Ideal) f3) (arg4.view.read (Elt Ideal) f4) (arg6.view.read (Elt Ideal) f6) (arg7.view.read (Elt Ideal) f7) (arg11.view.read (Elt Ideal) f11) (arg12.view.read (Elt Ideal) f12)) := by
    clear hL8
    rw [blkOf_loads, load1] at hL6
    exact den_done trips_t1 hL6
  have hp : arg13.view.read (Elt Ideal) fL2 = (plsStep (i 0).val (arg1.view.read (Elt Ideal) f1) (arg2.view.read (Elt Ideal) f2) (arg3.view.read (Elt Ideal) f3) (arg4.view.read (Elt Ideal) f4) (arg6.view.read (Elt Ideal) f6) (arg7.view.read (Elt Ideal) f7) (arg11.view.read (Elt Ideal) f11) (arg13.view.read (Elt Ideal) f13)) := by
    clear hL6
    rw [blkOf_loads, load1] at hL8
    exact pls_done trips_t1 hL8
  clear hL6 hL8
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexists _
    isplitl [H8]
    · iexact H8
    ipureintro
    rw [← hd]
    clear hd hp
    funext y
    obtain ⟨n, l, rfl⟩ : ∃ (n : Fin 2048) (l : Fin 128), y = ix2 n l := ⟨y 0, y 1, eq_ix2 y⟩
    refine (read_whole2 arg8.view _ _ _ n l).trans ?_
    delta run_last.sl.r run_last.sl.r_1 run_last.sl.r_10 run_last.sl.r_11 run_last.sl.r_12 run_last.sl.r_13 run_last.sl.r_14 run_last.sl.r_2 run_last.sl.r_3 run_last.sl.r_4 run_last.sl.r_5 run_last.sl.r_6 run_last.sl.r_7 run_last.sl.r_8 run_last.sl.r_9 run_last.sl.v115
    unfold_payloads
    pointwise
    simp only [readAt_box2 _ _ 0 1 rfl, readAt_box2 _ _ 0 2 rfl, readAt_box2 _ _ 0 3 rfl, readAt_box2 _ _ 0 4 rfl, readAt_box2 _ _ 0 5 rfl,
      readAt_box3 _ _ 0 0 0 rfl, readAt_box3 _ _ 1 0 0 rfl, readAt_box3 _ _ 2 0 0 rfl, readAt_box3 _ _ 3 0 0 rfl, readAt_box3 _ _ 4 0 0 rfl]
    simp only [Nat.zero_add, Nat.add_zero, show ((0 : Fin 1) : ℕ) = 0 from rfl]; rfl
  isplitl [H9]
  · iexists _
    isplitl [H9]
    · iexact H9
    ipureintro
    rw [← hd, ← hp]
    clear hd hp
    funext y
    obtain ⟨n, l, rfl⟩ : ∃ (n : Fin 8) (l : Fin 2048), y = ix2 n l := ⟨y 0, y 1, eq_ix2 y⟩
    refine (read_whole2 arg9.view _ _ _ n l).trans ?_
    delta run_last.sl.r run_last.sl.r_1 run_last.sl.r_10 run_last.sl.r_11 run_last.sl.r_12 run_last.sl.r_13 run_last.sl.r_14 run_last.sl.r_2 run_last.sl.r_3 run_last.sl.r_4 run_last.sl.r_5 run_last.sl.r_6 run_last.sl.r_7 run_last.sl.r_8 run_last.sl.r_9 run_last.sl.v115
    unfold_payloads
    pointwise
    simp only [readAt_box3 _ _ 0 0 0 rfl, readAt_box3 _ _ 1 0 0 rfl, readAt_box3 _ _ 2 0 0 rfl, readAt_box3 _ _ 3 0 0 rfl, readAt_box3 _ _ 4 0 0 rfl]
    simp only [Nat.zero_add, Nat.add_zero, show ((0 : Fin 1) : ℕ) = 0 from rfl]; rfl
  isplitl [H10]
  · iexists _
    iexact H10
  isplitl [H11]
  · iexists _
    isplitl [H11]
    · iexact H11
    ipureintro
    rfl
  isplitl [H12]
  · iexists _
    isplitl [H12]
    · iexact H12
    ipureintro
    exact hd
  iexists _
  isplitl [H13]
  · iexact H13
  ipureintro
  exact hp

end Cert.KernelIdeal.Hand

end
-- ==== Proof.StatsRun.lean ====
/-
  THE PASS OVER THE GRID: what the scratch buffers hold before each point, the body's obligation at every point, and the
  two outputs after the last.
-/
module

public import proofs.«01_k».proof.Proof.StatsFirst
public import proofs.«01_k».proof.Proof.StatsLast
public import proofs.«01_k».proof.Proof.Gen.KernelIdeal.Points
public import Idealize.ShloMosaic.Lib.Pipeline.FrameSuffix

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The blocks of the seven inputs at a point. -/
abbrev B1 (c : Dev nD) (t : Fin cfg0.N) : S256x768.Idx → BitVec 8 := iblk m c 0 t
abbrev B2 (c : Dev nD) (t : Fin cfg0.N) : S16x256.Idx → EReal := iblk m c 1 t
abbrev B3 (c : Dev nD) (t : Fin cfg0.N) : S1x256.Idx → BitVec 32 := iblk m c 2 t
abbrev B4 (c : Dev nD) (t : Fin cfg0.N) : S2048x768.Idx → EReal := iblk m c 3 t
abbrev B5 (c : Dev nD) (t : Fin cfg0.N) : S2048x128.Idx → EReal := iblk m c 4 t
abbrev B6 (c : Dev nD) (t : Fin cfg0.N) : S2048x128.Idx → BitVec 32 := iblk m c 5 t
abbrev B7 (c : Dev nD) (t : Fin cfg0.N) : S2048x128.Idx → BitVec 32 := iblk m c 6 t

/-- The first point. -/
abbrev t0 : Fin cfg0.N := ⟨0, by decide⟩

/-- The scaled query norms, stored at the first point. -/
def cnA (c : Dev nD) : S5x2048x128.Idx → EReal := cnOf (B5 m c t0)

/-- The denominators before point `t`. -/
def denA (c : Dev nD) : ℕ → S5x2048x128.Idx → EReal
  | 0 => fun _ => 0
  | t + 1 => if h : t < cfg0.N then denStep t (B1 m c ⟨t, h⟩) (B2 m c ⟨t, h⟩) (B3 m c ⟨t, h⟩) (B4 m c ⟨t, h⟩) (B6 m c ⟨t, h⟩) (B7 m c ⟨t, h⟩) (cnA m c) (denA c t)
      else denA c t

/-- The positives' logits before point `t`. -/
def plsA (c : Dev nD) : ℕ → S5x2048x128.Idx → EReal
  | 0 => fun _ => 0
  | t + 1 => if h : t < cfg0.N then plsStep t (B1 m c ⟨t, h⟩) (B2 m c ⟨t, h⟩) (B3 m c ⟨t, h⟩) (B4 m c ⟨t, h⟩) (B6 m c ⟨t, h⟩) (B7 m c ⟨t, h⟩) (cnA m c) (plsA c t)
      else plsA c t

theorem denA_succ (c : Dev nD) (t : Fin cfg0.N) : denA m c (t.val + 1)
    = denStep t.val (B1 m c t) (B2 m c t) (B3 m c t) (B4 m c t) (B6 m c t) (B7 m c t) (cnA m c) (denA m c t.val) := dif_pos t.isLt

theorem plsA_succ (c : Dev nD) (t : Fin cfg0.N) : plsA m c (t.val + 1)
    = plsStep t.val (B1 m c t) (B2 m c t) (B3 m c t) (B4 m c t) (B6 m c t) (B7 m c t) (cnA m c) (plsA m c t.val) := dif_pos t.isLt

/-- The invariant before point `t`: after the first point the scaled norms and the two sums are in the scratch buffers. -/
def Phi (c : Dev nD) (t : ℕ) : sProp 𝕄 :=
  iprop(iprop((∃ f, pt c (Memref.whole cc0_scratch0) f)
      ∗ (∃ f, pt c (Memref.whole cc0_scratch1) f ∗ ⌜t ≠ 0 → (Memref.whole cc0_scratch1).view.read (Elt Ideal) f = cnA m c⌝)
      ∗ (∃ f, pt c (Memref.whole cc0_scratch2) f ∗ ⌜t ≠ 0 → (Memref.whole cc0_scratch2).view.read (Elt Ideal) f = denA m c t⌝)
      ∗ (∃ f, pt c (Memref.whole cc0_scratch3) f ∗ ⌜t ≠ 0 → (Memref.whole cc0_scratch3).view.read (Elt Ideal) f = plsA m c t⌝)) ∗ (∃ r, prngReg c r))

/-- The proof data on core `c`: the arrays as the region finds them, an input's buffer left at its block, the two outputs
as computed from the sums after the point. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => laOf (B5 m c t) (denA m c (t.val + 1))
    | 8 => rlOf (denA m c (t.val + 1)) (plsA m c (t.val + 1))
  Φ t := Phi m c t.val
  q _ := fullShare
  owed _ := 0

theorem A_eq (c : Dev nD) (w : Fin cfg0.W) : (dats m 0 c).A w = V m c (Pipeline.arrRef spec0 w) := by dsimp only [dats]

theorem coords_val : ∀ t : Fin cfg0.N, (grid0.coords t 0).val = t.val := by decide +kernel

theorem isFirst : ∀ t : Fin cfg0.N, (Scalar.cmpi .ne (Scalar.extui (Scalar.cmpi .eq (BitVec.ofNat 32 (grid0.coords t 0).val) 0#32)) 0#32 = 1#1) ↔ t.val = 0 := by
  decide +kernel

theorem isLast : ∀ t : Fin cfg0.N, (k0_cond2 (grid0.coords t) = 1#1) ↔ t.val = 63 := by decide +kernel

set_option maxHeartbeats 2000000 in
/-- The first point. -/
theorem sound_first (c : Dev nD) (t : Fin cfg0.N) (h : t.val = 0) :
    iprop(Phi m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := Ideal)) Variants.none (c : Thread nD τ) none) Set.univ (bodyAt0 t) (fun _ =>
      iprop(Phi m c (t.val + 1) ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ d, owns (c : Thread nD τ) (st0_7 t) fullShare ((dats m 0 c).before 7 t d))
        ∗ (∃ d, owns (c : Thread nD τ) (st0_8 t) fullShare ((dats m 0 c).before 8 t d)))) := by
  unfold bodyAt0
  rw [show (dats m 0 c).owesAt () t.succ = (dats m 0 c).owesAt () t.castSucc from rfl]
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t]
  unfold Phi
  unfold owns
  iintro ⟨⟨⟨S0, ⟨%g1, S1, %k1⟩, ⟨%g2, S2, %k2⟩, ⟨%g3, S3, %k3⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply (run_first c (grid0.coords t) _ _ _ _ _ _ _ _ _ _ _ _ _ _ _ _ _ _ _ _ _ _ _ _ _ _ ((isFirst t).2 h) (fun hl => absurd ((isLast t).1 hl) (by omega))
    f0 f1 f2 f3 f4 f5 f6 g1 g2 g3 f7 f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, H6, H7, H8, S0, ⟨%u1, S1, %v1⟩, ⟨%u2, S2, %v2⟩, ⟨%u3, S3, %v3⟩⟩
  have ht : t = t0 := Fin.ext h
  have hc : cnOf (iblk m c 4 t) = cnA m c := by subst ht; rfl
  have hd : (fun _ => 0) = denA m c t.val := by rw [h]; rfl
  have hp : (fun _ => 0) = plsA m c t.val := by rw [h]; rfl
  rw [e4, hc] at v1
  rw [coords_val t, e0, e1, e2, e3, e5, e6, e4, hc, hd] at v2
  rw [coords_val t, e0, e1, e2, e3, e5, e6, e4, hc, hp] at v3
  isplitl [S0 S1 S2 S3 Hg]
  · isplitl [S0 S1 S2 S3]
    · isplitl [S0]; · iexact S0
      isplitl [S1]
      · iexists u1; isplitl [S1]; · iexact S1
        ipureintro; exact fun _ => v1
      isplitl [S2]
      · iexists u2; isplitl [S2]; · iexact S2
        ipureintro; exact fun _ => v2.trans (denA_succ m c t).symm
      iexists u3; isplitl [S3]; · iexact S3
      ipureintro; exact fun _ => v3.trans (plsA_succ m c t).symm
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists d7, f7; isplitr
    · ipureintro; exact e7
    iexact H7
  iexists d8, f8; isplitr
  · ipureintro; exact e8
  iexact H8

set_option maxHeartbeats 2000000 in
/-- A point between the first and the last. -/
theorem sound_mid (c : Dev nD) (t : Fin cfg0.N) (h : t.val ≠ 0) (h' : t.val ≠ 63) :
    iprop(Phi m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := Ideal)) Variants.none (c : Thread nD τ) none) Set.univ (bodyAt0 t) (fun _ =>
      iprop(Phi m c (t.val + 1) ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ (∃ d, owns (c : Thread nD τ) (st0_7 t) fullShare ((dats m 0 c).before 7 t d))
        ∗ (∃ d, owns (c : Thread nD τ) (st0_8 t) fullShare ((dats m 0 c).before 8 t d)))) := by
  unfold bodyAt0
  rw [show (dats m 0 c).owesAt () t.succ = (dats m 0 c).owesAt () t.castSucc from rfl]
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t]
  unfold Phi
  unfold owns
  iintro ⟨⟨⟨S0, ⟨%g1, S1, %k1⟩, ⟨%g2, S2, %k2⟩, ⟨%g3, S3, %k3⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply (run_mid c (grid0.coords t) _ _ _ _ _ _ _ _ _ _ _ _ _ _ _ _ _ _ _ _ _ _ _ _ _ _ (fun hl => h ((isFirst t).1 hl)) (fun hl => h' ((isLast t).1 hl))
    f0 f1 f2 f3 f4 f5 f6 g1 g2 g3 f7 f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, H6, H7, H8, S0, ⟨%u1, S1, %v1⟩, ⟨%u2, S2, %v2⟩, ⟨%u3, S3, %v3⟩⟩
  have hz : t.val ≠ 0 := by omega
  rw [k1 hz] at v1
  rw [coords_val t, e0, e1, e2, e3, e5, e6, k1 hz, k2 hz] at v2
  rw [coords_val t, e0, e1, e2, e3, e5, e6, k1 hz, k3 hz] at v3
  isplitl [S0 S1 S2 S3 Hg]
  · isplitl [S0 S1 S2 S3]
    · isplitl [S0]; · iexact S0
      isplitl [S1]
      · iexists u1; isplitl [S1]; · iexact S1
        ipureintro; exact fun _ => v1
      isplitl [S2]
      · iexists u2; isplitl [S2]; · iexact S2
        ipureintro; exact fun _ => v2.trans (denA_succ m c t).symm
      iexists u3; isplitl [S3]; · iexact S3
      ipureintro; exact fun _ => v3.trans (plsA_succ m c t).symm
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists d7, f7; isplitr
    · ipureintro; exact e7
    iexact H7
  iexists d8, f8; isplitr
  · ipureintro; exact e8
  iexact H8

set_option maxHeartbeats 2000000 in
/-- The last point. -/
theorem sound_last (c : Dev nD) (t : Fin cfg0.N) (h : t.val = 63) :
    iprop(Phi m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d)))
    ⊢ wp frame (wpE (defs₀ (F := Ideal)) Variants.none (c : Thread nD τ) none) Set.univ (bodyAt0 t) (fun _ =>
      iprop(Phi m c (t.val + 1) ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare ((dats m 0 c).after 7 t)
        ∗ owns (c : Thread nD τ) (st0_8 t) fullShare ((dats m 0 c).after 8 t))) := by
  unfold bodyAt0
  rw [show (dats m 0 c).owesAt () t.succ = (dats m 0 c).owesAt () t.castSucc from rfl]
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t]
  unfold Phi
  unfold owns
  iintro ⟨⟨⟨S0, ⟨%g1, S1, %k1⟩, ⟨%g2, S2, %k2⟩, ⟨%g3, S3, %k3⟩⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩⟩
  iapply (run_last c (grid0.coords t) _ _ _ _ _ _ _ _ _ _ _ _ _ _ _ _ _ _ _ _ _ _ _ _ _ _ (fun hl => absurd ((isFirst t).1 hl) (by omega)) ((isLast t).2 h)
    f0 f1 f2 f3 f4 f5 f6 g1 g2 g3 f7 f8 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [S0]; · iexact S0
  isplitl [S1]; · iexact S1
  isplitl [S2]; · iexact S2
  isplitl [S3]; · iexact S3
  iintro ⟨H0, H1, H2, H3, H4, H5, H6, ⟨%u7, H7, %v7⟩, ⟨%u8, H8, %v8⟩, S0, ⟨%u1, S1, %v1⟩, ⟨%u2, S2, %v2⟩, ⟨%u3, S3, %v3⟩⟩
  have hz : t.val ≠ 0 := by omega
  rw [k1 hz] at v1
  rw [coords_val t, e0, e1, e2, e3, e5, e6, k1 hz, k2 hz] at v2
  rw [coords_val t, e0, e1, e2, e3, e5, e6, k1 hz, k3 hz] at v3
  rw [coords_val t, e0, e1, e2, e3, e5, e6, e4, k1 hz, k2 hz, ← denA_succ m c t] at v7
  rw [coords_val t, e0, e1, e2, e3, e5, e6, k1 hz, k2 hz, k3 hz, ← denA_succ m c t, ← plsA_succ m c t] at v8
  isplitl [S0 S1 S2 S3 Hg]
  · isplitl [S0 S1 S2 S3]
    · isplitl [S0]; · iexact S0
      isplitl [S1]
      · iexists u1; isplitl [S1]; · iexact S1
        ipureintro; exact fun _ => v1
      isplitl [S2]
      · iexists u2; isplitl [S2]; · iexact S2
        ipureintro; exact fun _ => v2.trans (denA_succ m c t).symm
      iexists u3; isplitl [S3]; · iexact S3
      ipureintro; exact fun _ => v3.trans (plsA_succ m c t).symm
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists u7; isplitr
    · ipureintro; exact v7
    iexact H7
  iexists u8; isplitr
  · ipureintro; exact v8
  iexact H8

end Cert.KernelIdeal.Hand

end
-- ==== Proof.StatsObl.lean ====
/-
  THE OBLIGATION AND THE LAUNCH of the statistics pass.
-/
module

public import proofs.«01_k».proof.Proof.StatsRun

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

theorem idle7 : ∀ t : Fin cfg0.N, t.val ≠ 63 → cfg0.idle 7 (cfg0.grid.coords t) = true := by decide +kernel
theorem idle8 : ∀ t : Fin cfg0.N, t.val ≠ 63 → cfg0.idle 8 (cfg0.grid.coords t) = true := by decide +kernel
theorem busy7 : ∀ t : Fin cfg0.N, t.val = 63 → cfg0.idle 7 (cfg0.grid.coords t) = false := by decide +kernel
theorem busy8 : ∀ t : Fin cfg0.N, t.val = 63 → cfg0.idle 8 (cfg0.grid.coords t) = false := by decide +kernel

theorem keep7 (t : Fin cfg0.N) (h : t.val ≠ 63) : (cfg0.win 7).flush t = false := by
  cases hf : (cfg0.win 7).flush t
  · rfl
  · have h1 := (flush0_7 t).1 hf
    have h2 : t.val < 64 := t.isLt
    omega

theorem keep8 (t : Fin cfg0.N) (h : t.val ≠ 63) : (cfg0.win 8).flush t = false := by
  cases hf : (cfg0.win 8).flush t
  · rfl
  · have h1 := (flush0_8 t).1 hf
    have h2 : t.val < 64 := t.isLt
    omega

/-- An idle window that is not written back is handed back as it was found. -/
theorem handed {i f : Bool} {P Q R : sProp 𝕄} : i = true → f = false →
    P ⊢ (match i with | true => (match f with | false => P | true => Q) | false => R) := by
  intro hi hf
  subst hi hf; exact .rfl

/-- A window that is not idle is left at its value after the point. -/
theorem left {i f : Bool} {P Q R : sProp 𝕄} : i = false →
    R ⊢ (match i with | true => (match f with | false => P | true => Q) | false => R) := by
  intro hi
  subst hi; exact .rfl

set_option maxHeartbeats 4000000 in
/-- The library's body obligation. -/
theorem body_obligation (c : Dev nD) : BodyObligation (dats m 0 c) (defs₀ (F := Ideal)) Variants.none () Set.univ := fun t => by
  rw [bigSep_W0, bigSep_W0, defs₀_row]
  by_cases hl : t.val = 63
  · refine triple_restated (sound_last m c t hl) rfl .rfl fun _ => ?_
    refine sep_mono (Entails.refl _) (sep_mono (Entails.refl _) (sep_mono (Entails.refl _) (sep_mono (Entails.refl _) (sep_mono (Entails.refl _) (sep_mono (Entails.refl _) (sep_mono (Entails.refl _) (sep_mono (Entails.refl _) (sep_mono (Entails.refl _)
      (sep_mono ?_ ?_)))))))))
    · exact left (busy7 t hl)
    · exact left (busy8 t hl)
  · by_cases h0 : t.val = 0
    · refine triple_restated (sound_first m c t h0) rfl .rfl fun _ => ?_
      refine sep_mono (Entails.refl _) (sep_mono (Entails.refl _) (sep_mono (Entails.refl _) (sep_mono (Entails.refl _) (sep_mono (Entails.refl _) (sep_mono (Entails.refl _) (sep_mono (Entails.refl _) (sep_mono (Entails.refl _) (sep_mono (Entails.refl _)
        (sep_mono ?_ ?_)))))))))
      · exact handed (idle7 t hl) (keep7 t hl)
      · exact handed (idle8 t hl) (keep8 t hl)
    · refine triple_restated (sound_mid m c t h0 hl) rfl .rfl fun _ => ?_
      refine sep_mono (Entails.refl _) (sep_mono (Entails.refl _) (sep_mono (Entails.refl _) (sep_mono (Entails.refl _) (sep_mono (Entails.refl _) (sep_mono (Entails.refl _) (sep_mono (Entails.refl _) (sep_mono (Entails.refl _) (sep_mono (Entails.refl _)
        (sep_mono ?_ ?_)))))))))
      · exact handed (idle7 t hl) (keep7 t hl)
      · exact handed (idle8 t hl) (keep8 t hl)

end Cert.KernelIdeal.Hand

end
-- ==== Proof.StatsLaunch.lean ====
/-
  THE RUN of the whole program: the arrays after the last point, and the two results the host lines make of them.
-/
module

public import proofs.«01_k».proof.Proof.StatsObl
public import Idealize.ShloMosaic.Lib.Pipeline.ValueKit.Geometry
public import Idealize.ShloMosaic.Lib.StableHlo.ReadAt

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-- The class-wide invariant of the library, as its two parts. -/
theorem PhiA0_eq (c : Dev nD) : (Pipeline.ΦA spec0 c : sProp 𝕄)
    = iprop(iprop((∃ f, pt c (Memref.whole cc0_scratch0) f) ∗ (∃ f, pt c (Memref.whole cc0_scratch1) f)
        ∗ (∃ f, pt c (Memref.whole cc0_scratch2) f) ∗ (∃ f, pt c (Memref.whole cc0_scratch3) f)) ∗ (∃ r, prngReg c r)) := by
  unfold Pipeline.ΦA; rw [scopedRest0_eq]
  simp only [pt, View.set_whole, Memref.view_whole]
  try rfl

/-- At the region's entry the scratch buffers hold anything. -/
theorem Phi_in (c : Dev nD) : (Pipeline.ΦA spec0 c : sProp 𝕄) ⊢ Phi m c 0 := by
  rw [PhiA0_eq]; unfold Phi
  iintro ⟨⟨S0, ⟨%f1, S1⟩, ⟨%f2, S2⟩, ⟨%f3, S3⟩⟩, Hg⟩
  isplitl [S0 S1 S2 S3]
  · isplitl [S0]; · iexact S0
    isplitl [S1]
    · iexists f1; isplitl [S1]; · iexact S1
      ipureintro; exact fun h => absurd rfl h
    isplitl [S2]
    · iexists f2; isplitl [S2]; · iexact S2
      ipureintro; exact fun h => absurd rfl h
    iexists f3; isplitl [S3]; · iexact S3
    ipureintro; exact fun h => absurd rfl h
  iexact Hg

/-- At its end what they hold is forgotten. -/
theorem Phi_out (c : Dev nD) (t : ℕ) : Phi m c t ⊢ (Pipeline.ΦA spec0 c : sProp 𝕄) := by
  rw [PhiA0_eq]; unfold Phi
  iintro ⟨⟨S0, ⟨%f1, S1, -⟩, ⟨%f2, S2, -⟩, ⟨%f3, S3, -⟩⟩, Hg⟩
  isplitl [S0 S1 S2 S3]
  · isplitl [S0]; · iexact S0
    isplitl [S1]; · iexists f1; iexact S1
    isplitl [S2]; · iexists f2; iexact S2
    iexists f3; iexact S3
  iexact Hg

set_option backward.isDefEq.respectTransparency.types false in
/-- From any memory with zero counters @main runs to its end, the arrays and the host lines' buffers at the contents the
tracked proof data names, every counter at zero. -/
theorem run_main : θ_run defs (onTc (τ := τ) (main (F := Ideal))) (s₀ m ρ) (fun r =>
    Pipeline.FramePost cfgs (dats m) 0 (Pipeline.afterTail₀ cfgs (dats m) 0 (V0 m) [hostOps1]) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps
    (hmain := hmain m Variants.none) (hA := A_eq m) (hin := Phi_in m) (hout := fun c => Phi_out m c _) (hQ' := fun _ h => h)

/-- The row losses, with three rows of zeros below them, as the region leaves them. -/
def rlF (c : Dev nD) : S8x2048.Idx → EReal := rlOf (denA m c 64) (plsA m c 64)

theorem final8 (c : Dev nD) : (dats m 0 c).arrAt 8 cfg0.N = rlF m c := by
  refine (dats m 0 c).arrAt_eq_of_after_last 8 ⟨63, by decide⟩ (by decide +kernel) _ fun j => ?_
  blk_simp
  rfl

/-- The frame claim's post. -/
theorem frame : θ_run defs (onTc (τ := τ) (main (F := Ideal))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) ∧ r.2.sem = fun _ => 0) :=
  (θ_run defs _ _).mono (fun r (h : _ ∧ _) => ⟨fun c =>
    ⟨((h.1 c).1 0).trans (((dats m 0 c).arrAt_in 0 rfl _).trans ((A_eq m c 0).trans (V_main_arg0 m c))),
      ((h.1 c).1 1).trans (((dats m 0 c).arrAt_in 1 rfl _).trans ((A_eq m c 1).trans (V_main_arg1 m c))),
      (((h.1 c).2 main_arg2 (Pipeline.mem_restRefs_of main_arg2 (by decide) (by decide))).trans (W_main_arg2 m (dats m) c)),
      ((h.1 c).1 3).trans (((dats m 0 c).arrAt_in 3 rfl _).trans ((A_eq m c 3).trans (V_main_arg3 m c))),
      ((h.1 c).1 4).trans (((dats m 0 c).arrAt_in 4 rfl _).trans ((A_eq m c 4).trans (V_main_arg4 m c))),
      (((h.1 c).2 main_arg5 (Pipeline.mem_restRefs_of main_arg5 (by decide) (by decide))).trans (W_main_arg5 m (dats m) c)),
      (((h.1 c).2 main_arg6 (Pipeline.mem_restRefs_of main_arg6 (by decide) (by decide))).trans (W_main_arg6 m (dats m) c))⟩, h.2⟩)
    (run_main m ρ)

/-- The row losses after the host lines. -/
theorem W_rl (c : Dev nD) : Pipeline.afterTail₀ cfgs (dats m) 0 (V0 m) [hostOps1] c main_v6
    = (fun y : S5x2048.Idx => rlF m c (ix2 ⟨(y 0).val, by have := (y 0).isLt; show _ < 8; change _ < 5 at this; omega⟩ (y 1))) := by
  have hv : Pipeline.withArrays spec0 c (V0 m c) (fun w => (dats m 0 c).arrAt w cfg0.N) (Proc.devRef .tc main_v5_1) = rlF m c :=
    (Pipeline.withArrays_arr spec0 launch0.win.arr_inj c (V0 m c) _ 8).trans (final8 m c)
  unfold Pipeline.afterTail₀
  funext y
  after_reads_simp
  refine (congrArg (fun X => extractStridedSlice S5x2048 ![0, 0] X slices_S8x2048_S5x2048_0_0 y) hv).trans ?_
  pointwise

/-- The mean over the rows, as the host lines write it. -/
def lossOf (R : S5x2048.Idx → EReal) : S5.Idx → EReal :=
  Host.divf (F := Ideal) (φ := .f32) (Host.reduceAdd (F := Ideal) (φ := .f32) R (constant S_ .f32 0x00000000#32) reducesTo_S5x2048_S5_d1 h_S_)
    (broadcastInDim S5 ![] bcast_S_S5 (constant (F := Ideal) S_ .f32 0x45000000#32))

theorem W_loss (c : Dev nD) : Pipeline.afterTail₀ cfgs (dats m) 0 (V0 m) [hostOps1] c main_v9
    = lossOf (fun y : S5x2048.Idx => rlF m c (ix2 ⟨(y 0).val, by have := (y 0).isLt; show _ < 8; change _ < 5 at this; omega⟩ (y 1))) := by
  refine Eq.trans ?_ (congrArg lossOf (W_rl m c))
  unfold Pipeline.afterTail₀
  after_reads_simp
  rfl

end Cert.KernelIdeal.Hand

end
-- ==== Proof.RefRow.lean ====
/-
  The reference's row loss. The column the reference stores for one prefix is the same chain of operations five times,
  on the logits of that prefix: here it is written once, for a block of any extents, and read at a row.
-/
module

public import proofs.«01_k».proof.Proof.Gen.ReferenceIdeal.Frame
public import Idealize.ShloMosaic.Lib.Pointwise

@[expose] public section
noncomputable section
namespace Cert.ReferenceIdeal.Hand
open Cert.ReferenceIdeal Cert.ReferenceIdeal.Gen
open Idealize.ShloMosaic Idealize.ShloMosaic.TcCoe Idealize.ShloMosaic.Tactic

/-- The named constant `log2e`. -/
abbrev l2e : Ideal .f32 := Named.named (F := Ideal) κ "log2e" 0x3FB8AA3B#32

/-- The word of minus infinity. -/
theorem ofBits_bot : (Scalar.ofBits .f32 0xFF800000#32 : Ideal .f32) = (⊥ : EReal) := by
  show Ideal.ofBits .f32 0xFF800000#32 = ⊥
  simp [Ideal.ofBits, Ideal.ieee]

/-- A vector of `N` entries as a column, read at a row. -/
theorem colAt {N : ℕ} (v : (⟨1, ![N]⟩ : Shape).Idx → EReal) (hc : (⟨1, ![N]⟩ : Shape).ShapeCasts ⟨2, ![N, 1]⟩) (n : Fin N) :
    shapeCast ⟨2, ![N, 1]⟩ v hc (ix2 n 0) = v (ix1 n) := by
  refine shapeCast_apply _ _ _ _ ?_
  simp [Shape.rowMajor_val_one, Shape.rowMajor_val_two]

/-- A row's sum. -/
theorem addAt {N M : ℕ} (v : FVec Ideal ⟨2, ![N, M]⟩ .f32)
    (hr : (⟨2, ![N, M]⟩ : Shape).Reduces [1] ⟨1, ![N]⟩) (n : Fin N) :
    multiReduction .add [1] ⟨1, ![N]⟩ v 0x00000000#32 hr (.inl rfl) rfl (ix1 n) = ∑ m : Fin M, v (ix2 n m) := by
  pointwise

/-- A row's maximum. -/
theorem maxAt {N M : ℕ} (v : FVec Ideal ⟨2, ![N, M]⟩ .f32)
    (hr : (⟨2, ![N, M]⟩ : Shape).Reduces [1] ⟨1, ![N]⟩) (n : Fin N) :
    multiReduction .maximumf [1] ⟨1, ![N]⟩ v 0xFF800000#32 hr (.inl rfl) rfl (ix1 n)
      = Finset.univ.fold max (⊥ : EReal) (fun m : Fin M => v (ix2 n m)) := by
  pointwise
  exact congrArg (fun b : EReal => Finset.fold max b (fun m : Fin M => v (ix2 n m)) Finset.univ) ofBits_bot

/-- One row's loss from its logits, its exclusions and its positives, as the reference writes it. -/
def rowLoss {M : ℕ} (ex hot : Fin M → BitVec 1) (L : Fin M → EReal) : EReal :=
  Ideal.div
    (Ideal.liftRound Int.ceil (Finset.univ.fold max ⊥ fun m => Scalar.select (ex m) ⊥ (L m * l2e))
      + Ideal.log (∑ m, Ideal.exp2 (Scalar.select (ex m) ⊥ (L m * l2e)
          - Ideal.liftRound Int.ceil (Finset.univ.fold max ⊥ fun m => Scalar.select (ex m) ⊥ (L m * l2e)))) * l2e) l2e
    - ∑ m, Scalar.select (hot m) (L m) 0

/-- The exponents of a block of rows. -/
def s2V {N M : ℕ} (ex : IVec ⟨2, ![N, M]⟩ 1) (L : FVec Ideal ⟨2, ![N, M]⟩ .f32) : FVec Ideal ⟨2, ![N, M]⟩ .f32 :=
  select ex (broadcast _ (Scalar.ofBits .f32 0xFF800000#32)) (mulf L (broadcast _ l2e))

/-- The rounded row maxima. -/
def mxV {N M : ℕ} (s2 : FVec Ideal ⟨2, ![N, M]⟩ .f32) (hr : (⟨2, ![N, M]⟩ : Shape).Reduces [1] ⟨1, ![N]⟩)
    (hc : (⟨1, ![N]⟩ : Shape).ShapeCasts ⟨2, ![N, 1]⟩) : FVec Ideal ⟨2, ![N, 1]⟩ .f32 :=
  ceil (shapeCast ⟨2, ![N, 1]⟩ (multiReduction .maximumf [1] ⟨1, ![N]⟩ s2 0xFF800000#32 hr (.inl rfl) rfl) hc)

/-- The row losses of a block of rows, operation by operation. -/
def lossV {N M : ℕ} (hot ex : IVec ⟨2, ![N, M]⟩ 1) (L : FVec Ideal ⟨2, ![N, M]⟩ .f32)
    (hr : (⟨2, ![N, M]⟩ : Shape).Reduces [1] ⟨1, ![N]⟩) (hc : (⟨1, ![N]⟩ : Shape).ShapeCasts ⟨2, ![N, 1]⟩)
    (hb : (⟨2, ![N, 1]⟩ : Shape).Broadcasts ⟨2, ![N, M]⟩) : FVec Ideal ⟨2, ![N, 1]⟩ .f32 :=
  subf
    (divf
      (addf (mxV (s2V ex L) hr hc)
        (mulf (log (shapeCast ⟨2, ![N, 1]⟩ (multiReduction .add [1] ⟨1, ![N]⟩
          (exp2 (subf (s2V ex L) (broadcastTo ⟨2, ![N, M]⟩ (mxV (s2V ex L) hr hc) hb))) 0x00000000#32 hr (.inl rfl) rfl) hc))
          (broadcast _ l2e))) (broadcast _ l2e))
    (shapeCast ⟨2, ![N, 1]⟩ (multiReduction .add [1] ⟨1, ![N]⟩
      (select hot L (broadcast _ (Scalar.ofBits .f32 0x00000000#32))) 0x00000000#32 hr (.inl rfl) rfl) hc)

theorem mxV_at {N M : ℕ} (s2 : FVec Ideal ⟨2, ![N, M]⟩ .f32) (hr) (hc) (n : Fin N) :
    mxV s2 hr hc (ix2 n 0) = Ideal.liftRound Int.ceil (Finset.univ.fold max (⊥ : EReal) fun m : Fin M => s2 (ix2 n m)) :=
  congrArg (Ideal.liftRound Int.ceil) ((colAt _ hc n).trans (maxAt s2 hr n))

theorem s2V_at {N M : ℕ} (ex : IVec ⟨2, ![N, M]⟩ 1) (L : FVec Ideal ⟨2, ![N, M]⟩ .f32) (n : Fin N) (m : Fin M) :
    s2V ex L (ix2 n m) = Scalar.select (ex (ix2 n m)) ⊥ (L (ix2 n m) * l2e) :=
  congrArg (fun b => Scalar.select (ex (ix2 n m)) b (L (ix2 n m) * l2e)) ofBits_bot

/-- The block of row losses, read at a row. -/
theorem lossV_at {N M : ℕ} (hot ex : IVec ⟨2, ![N, M]⟩ 1) (L : FVec Ideal ⟨2, ![N, M]⟩ .f32) (hr) (hc)
    (hb : (⟨2, ![N, 1]⟩ : Shape).Broadcasts ⟨2, ![N, M]⟩) (n : Fin N) :
    lossV hot ex L hr hc hb (ix2 n 0)
      = rowLoss (fun m => ex (ix2 n m)) (fun m => hot (ix2 n m)) (fun m => L (ix2 n m)) := by
  have hbc : ∀ (v : FVec Ideal ⟨2, ![N, 1]⟩ .f32) (m : Fin M), broadcastTo ⟨2, ![N, M]⟩ v hb (ix2 n m) = v (ix2 n 0) := by
    intro v m
    refine broadcastTo_apply _ _ _ _ fun a => ?_
    match a with
    | ⟨0, _⟩ =>
      show n.val = if N = 1 then 0 else n.val
      have := n.isLt
      split <;> omega
    | ⟨1, _⟩ => rfl
  have h0 : (Scalar.ofBits .f32 0x00000000#32 : Ideal .f32) = (0 : EReal) := by
    show Ideal.ofBits .f32 0x00000000#32 = 0
    simp [Ideal.ofBits, Ideal.ieee]
  have e1 : mxV (s2V ex L) hr hc (ix2 n 0) = Ideal.liftRound Int.ceil
      (Finset.univ.fold max (⊥ : EReal) fun m : Fin M => Scalar.select (ex (ix2 n m)) ⊥ (L (ix2 n m) * l2e)) := by
    rw [mxV_at]; simp only [s2V_at]
  unfold rowLoss
  show Ideal.div (mxV (s2V ex L) hr hc (ix2 n 0) + Ideal.log (shapeCast _ _ hc (ix2 n 0)) * l2e) l2e - shapeCast _ _ hc (ix2 n 0) = _
  rw [colAt, colAt, addAt, addAt, e1]
  congr 1
  · congr 3
    congr 1
    refine Finset.sum_congr rfl fun m _ => ?_
    show Ideal.exp2 (s2V ex L (ix2 n m) - broadcastTo ⟨2, ![N, M]⟩ (mxV (s2V ex L) hr hc) hb (ix2 n m)) = _
    rw [hbc, e1, s2V_at]
  · refine Finset.sum_congr rfl fun m _ => ?_
    exact congrArg (fun b => Scalar.select (hot (ix2 n m)) (L (ix2 n m)) b) h0

end Cert.ReferenceIdeal.Hand
end
-- ==== Proof.RefCol.lean ====
/-
  The reference's five columns. Each stored column is the row loss of RefRow on the logits of its prefix; here the
  logits, the exclusions and the positives are read at a query and a document.
-/
module

public import proofs.«01_k».proof.Proof.RefRow

@[expose] public section
noncomputable section
namespace Cert.ReferenceIdeal.Hand
open Cert.ReferenceIdeal Cert.ReferenceIdeal.Gen
open Idealize.ShloMosaic Idealize.ShloMosaic.TcCoe Idealize.ShloMosaic.Tactic

/-- The named constant `tau`. -/
abbrev tauC : Ideal .f32 := Named.named (F := Ideal) κ "tau" 0x3D4CCCCD#32

/-- The logits of a prefix from its inner products and the two inverse norms. -/
def logitV (A : FVec Ideal S2048x16384 .f32) (irq : FVec Ideal S2048x1 .f32) (ird : FVec Ideal S1x16384 .f32) : FVec Ideal S2048x16384 .f32 :=
  divf (mulf A (mulf (broadcastTo S2048x16384 irq broadcasts_S2048x1_S2048x16384)
    (broadcastTo S2048x16384 ird broadcasts_S1x16384_S2048x16384))) (broadcast S2048x16384 tauC)

/-- The logit of one query and one document. -/
theorem logitV_at (A) (irq) (ird) (n : Fin 2048) (m : Fin 16384) :
    logitV A irq ird (ix2 n m) = Ideal.div (A (ix2 n m) * (irq (ix2 n 0) * ird (ix2 0 m))) tauC := by
  unfold logitV
  pointwise

/-- The column of row losses at the reference's extents. -/
abbrev colV (hot ex : IVec S2048x16384 1) (L : FVec Ideal S2048x16384 .f32) : FVec Ideal S2048x1 .f32 :=
  lossV hot ex L reduces_S2048x16384_S2048 shapeCasts_S2048_S2048x1 broadcasts_S2048x1_S2048x16384

/-- Column 0 is the row loss on the logits of prefix 0. -/
theorem col0 (x0 x2 x3 x5 x6) (irq ird) :
   k0_pay10 (F := Ideal) (k0_pay3 x6) (k0_pay6 x0 x3 irq ird) (k0_pay8 x0 x3 x6 x2 x5 irq ird) (k0_pay9 x0 x3 x6 x2 x5 irq ird)
     = colV (k0_pay3 (F := Ideal) x6) (k0_pay4 (F := Ideal) x6 x2 x5) (logitV (k0_pay5 x0 x3) irq ird) := rfl

/-- Column 1 is the row loss on the logits of prefix 1. -/
theorem col1 (v1) (v2) (v7) (v16) (v19) (irq ird) :
   k0_pay14 (F := Ideal) v7 (k0_pay12 v1 v2 v19 irq ird) (k0_pay13 v1 v2 v16 v19 irq ird) l2e
     = colV v7 v16 (logitV (k0_pay11 v1 v2 v19) irq ird) := rfl

/-- Column 2 is the row loss on the logits of prefix 2. -/
theorem col2 (v1) (v2) (v7) (v16) (v19) (irq ird) :
   k0_pay19 (F := Ideal) (k0_pay17 v1 v2 v16 v19 irq ird) (k0_pay18 v1 v2 v7 v19 irq ird)
     = colV v7 v16 (logitV (k0_pay15 v1 v2 v19) irq ird) := rfl

/-- Column 3 is the row loss on the logits of prefix 3. -/
theorem col3 (v1) (v2) (v7) (v16) (v19) (irq ird) :
   k0_pay21 (F := Ideal) v1 v2 v7 v16 v19 irq ird
     = colV v7 v16 (logitV (k0_pay20 v1 v2 v19) irq ird) := rfl

/-- The inner products over the whole rows. -/
def pay4A (v1 : FVec Ideal S16384x768 .bf16) (v127 : FVec Ideal S2048x16384 .f32) (v160 : FVec Ideal S2048x256 .bf16) : FVec Ideal S2048x16384 .f32 :=
  addf v127 (matmul dot_S2048x256_S16384x256_S2048x16384_1_1_0_0_n_n none v160
    (extractStridedSlice S16384x256 ![0, 512] v1 slices_S16384x768_o0_512_S16384x256) (constant S2048x16384 .f32 0x00000000#32))

/-- Column 4 is the row loss on the logits of prefix 4. -/
theorem col4 (v1) (v7) (v16) (v127) (v160) (irq ird) :
   k0_pay1 (F := Ideal) v1 v7 v16 v127 v160 irq ird
     = colV v7 v16 (logitV (pay4A v1 v127 v160) irq ird) := rfl

/-- The inner product over prefix 0. -/
theorem A0_at (x0 x3) (n : Fin 2048) (m : Fin 16384) : k0_pay5 (F := Ideal) x0 x3 (ix2 n m) =
   ∑ x : Fin 64, x3 (ix2 n ⟨x.val, by omega⟩) * FloatOps.sitofp (F := Ideal) .bf16 (x0 (ix2 m ⟨x.val, by omega⟩)) := by
  unfold_payloads
  pointwise
/-- The inner product over prefix 1. -/
theorem A1_at (v1 v2 v) (n : Fin 2048) (m : Fin 16384) : k0_pay11 (F := Ideal) v1 v2 v (ix2 n m) =
   v (ix2 n m) + ∑ x : Fin 64, v2 (ix2 n ⟨64 + x.val, by omega⟩) * v1 (ix2 m ⟨64 + x.val, by omega⟩) := by
  unfold_payloads
  pointwise
/-- The inner product over prefix 2. -/
theorem A2_at (v1 v2 v) (n : Fin 2048) (m : Fin 16384) : k0_pay15 (F := Ideal) v1 v2 v (ix2 n m) =
   v (ix2 n m) + ∑ x : Fin 128, v2 (ix2 n ⟨128 + x.val, by omega⟩) * v1 (ix2 m ⟨128 + x.val, by omega⟩) := by
  unfold_payloads
  pointwise
/-- The inner product over prefix 3. -/
theorem A3_at (v1 v2 v) (n : Fin 2048) (m : Fin 16384) : k0_pay20 (F := Ideal) v1 v2 v (ix2 n m) =
   v (ix2 n m) + ∑ x : Fin 256, v2 (ix2 n ⟨256 + x.val, by omega⟩) * v1 (ix2 m ⟨256 + x.val, by omega⟩) := by
  unfold_payloads
  pointwise
/-- The inner product over prefix 4. -/
theorem A4_at (v1 v2 v) (n : Fin 2048) (m : Fin 16384) : pay4A v1 v (k0_pay22 (F := Ideal) v2) (ix2 n m) =
   v (ix2 n m) + ∑ x : Fin 256, v2 (ix2 n ⟨512 + x.val, by omega⟩) * v1 (ix2 m ⟨512 + x.val, by omega⟩) := by
  unfold pay4A
  unfold_payloads
  pointwise
/-- The exclusion bit: the same group, and not the positive. -/
theorem ex_at (x6 x2 x5) (n : Fin 2048) (m : Fin 16384) : k0_pay4 (F := Ideal) x6 x2 x5 (ix2 n m) =
  IntOp.andi (IntOp.cmpi .eq (x2 (ix2 0 m)) (x5 (ix2 n 0))) (IntOp.xori (IntOp.cmpi .eq (BitVec.ofNat 32 m.val) (x6 (ix2 n 0))) 1#1) := by
  unfold_payloads
  pointwise
/-- The positive's bit. -/
theorem hot_at (x6) (n : Fin 2048) (m : Fin 16384) : k0_pay3 (F := Ideal) x6 (ix2 n m) =
  (IntOp.cmpi .eq (BitVec.ofNat 32 m.val) (x6 (ix2 n 0))) := by
  unfold_payloads
  pointwise
/-- The codes as floats. -/
theorem code_at (x0) (m : Fin 16384) (c : Fin 768) : k0_pay2 (F := Ideal) x0 (ix2 m c) = FloatOps.sitofp (F := Ideal) .bf16 (x0 (ix2 m c)) := rfl

end Cert.ReferenceIdeal.Hand
end
-- ==== Proof.RefValue.lean ====
/-
  What the reference's one block holds: at a query and a prefix, the row loss of RefRow on plain sums.
-/
module

public import proofs.«01_k».proof.Proof.RefCol
public import Idealize.ShloMosaic.Lib.Pointwise

@[expose] public section
noncomputable section
namespace Cert.ReferenceIdeal.Hand
open Cert.ReferenceIdeal Cert.ReferenceIdeal.Gen
open Idealize.ShloMosaic Idealize.ShloMosaic.TcCoe Idealize.ShloMosaic.Tactic

/-- A code as a float. -/
abbrev codeF (b : BitVec 8) : EReal := FloatOps.sitofp (F := Ideal) .bf16 b

/-- The inner products of query `n` and document `m` over the five segments of the row. -/
def segs (Q : S2048x768.Idx → EReal) (D : S16384x768.Idx → BitVec 8) (n : Fin 2048) (m : Fin 16384) : Fin 5 → EReal :=
  ![∑ x : Fin 64, Q (ix2 n ⟨x.val, by omega⟩) * codeF (D (ix2 m ⟨x.val, by omega⟩)),
    ∑ x : Fin 64, Q (ix2 n ⟨64 + x.val, by omega⟩) * codeF (D (ix2 m ⟨64 + x.val, by omega⟩)),
    ∑ x : Fin 128, Q (ix2 n ⟨128 + x.val, by omega⟩) * codeF (D (ix2 m ⟨128 + x.val, by omega⟩)),
    ∑ x : Fin 256, Q (ix2 n ⟨256 + x.val, by omega⟩) * codeF (D (ix2 m ⟨256 + x.val, by omega⟩)),
    ∑ x : Fin 256, Q (ix2 n ⟨512 + x.val, by omega⟩) * codeF (D (ix2 m ⟨512 + x.val, by omega⟩))]

/-- The inner product over prefix `k`: the segments up to `k`. -/
def accum (s : Fin 5 → EReal) : Fin 5 → EReal :=
  ![s 0, s 0 + s 1, s 0 + s 1 + s 2, s 0 + s 1 + s 2 + s 3, s 0 + s 1 + s 2 + s 3 + s 4]

theorem accum0 (s : Fin 5 → EReal) : accum s 0 = s 0 := rfl
theorem accum1 (s : Fin 5 → EReal) : accum s 1 = accum s 0 + s 1 := rfl
theorem accum2 (s : Fin 5 → EReal) : accum s 2 = accum s 1 + s 2 := rfl
theorem accum3 (s : Fin 5 → EReal) : accum s 3 = accum s 2 + s 3 := rfl
theorem accum4 (s : Fin 5 → EReal) : accum s 4 = accum s 3 + s 4 := rfl

section
variable (Q : S2048x768.Idx → EReal) (D : S16384x768.Idx → BitVec 8) (n : Fin 2048) (m : Fin 16384)
theorem segs0 : segs Q D n m 0 = ∑ x : Fin 64, Q (ix2 n ⟨x.val, by omega⟩) * codeF (D (ix2 m ⟨x.val, by omega⟩)) := rfl
theorem segs1 : segs Q D n m 1 = ∑ x : Fin 64, Q (ix2 n ⟨64 + x.val, by omega⟩) * codeF (D (ix2 m ⟨64 + x.val, by omega⟩)) := rfl
theorem segs2 : segs Q D n m 2 = ∑ x : Fin 128, Q (ix2 n ⟨128 + x.val, by omega⟩) * codeF (D (ix2 m ⟨128 + x.val, by omega⟩)) := rfl
theorem segs3 : segs Q D n m 3 = ∑ x : Fin 256, Q (ix2 n ⟨256 + x.val, by omega⟩) * codeF (D (ix2 m ⟨256 + x.val, by omega⟩)) := rfl
theorem segs4 : segs Q D n m 4 = ∑ x : Fin 256, Q (ix2 n ⟨512 + x.val, by omega⟩) * codeF (D (ix2 m ⟨512 + x.val, by omega⟩)) := rfl
end

/-- The positive's bit of query `n` and document `m`. -/
def hotR (P : Fin 2048 → BitVec 32) (n : Fin 2048) (m : Fin 16384) : BitVec 1 :=
  IntOp.cmpi .eq (BitVec.ofNat 32 m.val) (P n)

/-- The exclusion bit of query `n` and document `m`: the positive's group, and not the positive. -/
def exR (G : Fin 16384 → BitVec 32) (GP P : Fin 2048 → BitVec 32) (n : Fin 2048) (m : Fin 16384) : BitVec 1 :=
  IntOp.andi (IntOp.cmpi .eq (G m) (GP n)) (IntOp.xori (hotR P n m) 1#1)

/-- The logit of prefix `k`, query `n` and document `m`. -/
def logitR (D : S16384x768.Idx → BitVec 8) (X : S16x16384.Idx → EReal) (Q : S2048x768.Idx → EReal) (C : S2048x128.Idx → EReal)
    (k : Fin 5) (n : Fin 2048) (m : Fin 16384) : EReal :=
  Ideal.div (accum (segs Q D n m) k * (C (ix2 n ⟨1 + k.val, by omega⟩) * X (ix2 ⟨1 + k.val, by omega⟩ m))) tauC

/-- The row loss of prefix `k` and query `n`. -/
def lossR (D : S16384x768.Idx → BitVec 8) (X : S16x16384.Idx → EReal) (G : Fin 16384 → BitVec 32) (Q : S2048x768.Idx → EReal)
    (C : S2048x128.Idx → EReal) (GP P : Fin 2048 → BitVec 32) (k : Fin 5) (n : Fin 2048) : EReal :=
  rowLoss (exR G GP P n) (hotR P n) (logitR D X Q C k n)

theorem colV_at (hot ex : IVec S2048x16384 1) (A : FVec Ideal S2048x16384 .f32) (irq : FVec Ideal S2048x1 .f32)
    (ird : FVec Ideal S1x16384 .f32) (n : Fin 2048) {ex' hot' : Fin 16384 → BitVec 1} {a : Fin 16384 → EReal} {q : EReal} {d : Fin 16384 → EReal}
    (hex : ∀ m, ex (ix2 n m) = ex' m) (hhot : ∀ m, hot (ix2 n m) = hot' m) (hA : ∀ m, A (ix2 n m) = a m)
    (hq : irq (ix2 n 0) = q) (hd : ∀ m, ird (ix2 0 m) = d m) :
    colV hot ex (logitV A irq ird) (ix2 n 0) = rowLoss ex' hot' (fun m => Ideal.div (a m * (q * d m)) tauC) := by
  refine (lossV_at hot ex _ _ _ _ n).trans ?_
  simp only [logitV_at, hex, hhot, hA, hq, hd]

variable (x0 : Vec Ideal S16384x768 .i8) (x1 : Vec Ideal S16x16384 .f32) (x2 : Vec Ideal S1x16384 .i32) (x3 : Vec Ideal S2048x768 .bf16)
  (x4 : Vec Ideal S2048x128 .f32) (x5 : Vec Ideal S2048x1 .i32) (x6 : Vec Ideal S2048x1 .i32)

theorem ld0 : View.ld x0 r0_0 = x0 := funext fun y => by unfold View.ld; pointwise
theorem ld1 : View.ld x3 r0_1 = x3 := funext fun y => by unfold View.ld; pointwise
theorem ld2 (n : Fin 2048) : View.ld x6 r0_2 (ix2 n 0) = x6 (ix2 n 0) := by unfold View.ld; pointwise
theorem ld3 (m : Fin 16384) : View.ld x2 r0_3 (ix2 0 m) = x2 (ix2 0 m) := by unfold View.ld; pointwise

theorem hot_ld (n : Fin 2048) (m : Fin 16384) : k0_pay24 x0 x1 x2 x3 x4 x5 x6 (ix2 n m) = hotR (fun n => x6 (ix2 n 0)) n m := by
  unfold k0_pay24 hotR
  refine (hot_at _ n m).trans ?_
  rw [ld2]

theorem ex_ld (n : Fin 2048) (m : Fin 16384) : k0_pay25 x0 x1 x2 x3 x4 x5 x6 (ix2 n m)
    = exR (fun m => x2 (ix2 0 m)) (fun n => x5 (ix2 n 0)) (fun n => x6 (ix2 n 0)) n m := by
  unfold k0_pay25 exR hotR
  refine (ex_at _ _ _ n m).trans ?_
  rw [ld2, ld2, ld3]

theorem code_ld (m : Fin 16384) (j : Fin 768) : k0_pay23 x0 x1 x2 x3 x4 x5 x6 (ix2 m j) = codeF (x0 (ix2 m j)) := by
  unfold k0_pay23
  rw [ld0]
  exact code_at _ _ _

theorem A0_ld (n : Fin 2048) (m : Fin 16384) : k0_pay26 x0 x1 x2 x3 x4 x5 x6 (ix2 n m) = accum (segs x3 x0 n m) 0 := by
  unfold k0_pay26
  rw [ld0, ld1, accum0, segs0]
  exact A0_at _ _ n m

theorem A1_ld (n : Fin 2048) (m : Fin 16384) :
    k0_pay27 x0 x1 x2 x3 x4 x5 x6 (ix2 n m) = accum (segs x3 x0 n m) 1 := by
  unfold k0_pay27
  rw [ld1, accum1, segs1]
  refine (A1_at _ _ _ n m).trans ?_
  refine congrArg₂ (· + ·) (A0_ld x0 x1 x2 x3 x4 x5 x6 n m) (Finset.sum_congr rfl fun x _ => congrArg₂ (· * ·) rfl (code_ld x0 x1 x2 x3 x4 x5 x6 m _))

theorem A2_ld (n : Fin 2048) (m : Fin 16384) :
    k0_pay28 x0 x1 x2 x3 x4 x5 x6 (ix2 n m) = accum (segs x3 x0 n m) 2 := by
  unfold k0_pay28
  rw [ld1, accum2, segs2]
  refine (A2_at _ _ _ n m).trans ?_
  refine congrArg₂ (· + ·) (A1_ld x0 x1 x2 x3 x4 x5 x6 n m) (Finset.sum_congr rfl fun x _ => congrArg₂ (· * ·) rfl (code_ld x0 x1 x2 x3 x4 x5 x6 m _))

theorem A3_ld (n : Fin 2048) (m : Fin 16384) :
    k0_pay20 (k0_pay23 x0 x1 x2 x3 x4 x5 x6) (View.ld x3 r0_1) (k0_pay28 x0 x1 x2 x3 x4 x5 x6) (ix2 n m) = accum (segs x3 x0 n m) 3 := by
  rw [ld1, accum3, segs3]
  refine (A3_at _ _ _ n m).trans ?_
  refine congrArg₂ (· + ·) (A2_ld x0 x1 x2 x3 x4 x5 x6 n m) (Finset.sum_congr rfl fun x _ => congrArg₂ (· * ·) rfl (code_ld x0 x1 x2 x3 x4 x5 x6 m _))

theorem A4_ld (n : Fin 2048) (m : Fin 16384) :
    pay4A (k0_pay23 x0 x1 x2 x3 x4 x5 x6) (k0_pay20 (k0_pay23 x0 x1 x2 x3 x4 x5 x6) (View.ld x3 r0_1) (k0_pay28 x0 x1 x2 x3 x4 x5 x6))
      (k0_pay22 (View.ld x3 r0_1)) (ix2 n m) = accum (segs x3 x0 n m) 4 := by
  rw [ld1, accum4, segs4]
  refine (A4_at _ _ _ n m).trans ?_
  refine congrArg₂ (· + ·) (by rw [← A3_ld x0 x1 x2 x3 x4 x5 x6, ld1]) (Finset.sum_congr rfl fun x _ => congrArg₂ (· * ·) rfl (code_ld x0 x1 x2 x3 x4 x5 x6 m _))

/-- The reference's block: the row losses, query by query and prefix by prefix. -/
def blockR : S2048x5.Idx → Elt Ideal .f32 := fun y =>
  lossR x0 x1 (fun m => x2 (ix2 0 m)) x3 x4 (fun n => x5 (ix2 n 0)) (fun n => x6 (ix2 n 0)) (y 1) (y 0)

theorem blockR_at (n : Fin 2048) (k : Fin 5) : blockR x0 x1 x2 x3 x4 x5 x6 (ix2 n k)
    = lossR x0 x1 (fun m => x2 (ix2 0 m)) x3 x4 (fun n => x5 (ix2 n 0)) (fun n => x6 (ix2 n 0)) k n := rfl

/-- What the reference's body leaves in its block. -/
theorem out_at : out0_7 x0 x1 x2 x3 x4 x5 x6 = blockR x0 x1 x2 x3 x4 x5 x6 := by
  funext y
  unfold out0_7
  refine View.canon_apply_of_pieces (Val := Elt Ideal) (S := S2048x5) (e := .f32) (blockR x0 x1 x2 x3 x4 x5 x6) _ ?_ y (cover0_7 _ _ _ _ _ y)
  have key : ∀ x : S2048x1.Idx, x = ix2 (x 0) 0 := fun x => funext fun a => match a with
    | ⟨0, _⟩ => rfl
    | ⟨1, _⟩ => Fin.ext (by have := (x 1).isLt; change _ < 1 at this; show (x 1).val = 0; omega)
  have eh := hot_ld x0 x1 x2 x3 x4 x5 x6
  have ee := ex_ld x0 x1 x2 x3 x4 x5 x6
  simp only [List.forall_mem_cons, List.not_mem_nil, false_imp_iff, implies_true, and_true]
  refine ⟨fun x => ?_, fun x => ?_, fun x => ?_, fun x => ?_, fun x => ?_⟩
  · obtain ⟨n, rfl⟩ : ∃ n : Fin 2048, x = ix2 n 0 := ⟨_, key x⟩
    rw [col4, show r0_18.emb (ix2 n 0) = ix2 n 4 from show r0_18.idx (ix2 n 0) = ix2 n 4 by pointwise, blockR_at]
    exact colV_at _ _ _ _ _ n (ee n) (eh n) (A4_ld x0 x1 x2 x3 x4 x5 x6 n) (by unfold View.ld; pointwise) (fun m => by unfold View.ld; pointwise)
  · obtain ⟨n, rfl⟩ : ∃ n : Fin 2048, x = ix2 n 0 := ⟨_, key x⟩
    rw [col3, show r0_15.emb (ix2 n 0) = ix2 n 3 from show r0_15.idx (ix2 n 0) = ix2 n 3 by pointwise, blockR_at]
    exact colV_at _ _ _ _ _ n (ee n) (eh n) (A3_ld x0 x1 x2 x3 x4 x5 x6 n) (by unfold View.ld; pointwise) (fun m => by unfold View.ld; pointwise)
  · obtain ⟨n, rfl⟩ : ∃ n : Fin 2048, x = ix2 n 0 := ⟨_, key x⟩
    rw [col2, show r0_12.emb (ix2 n 0) = ix2 n 2 from show r0_12.idx (ix2 n 0) = ix2 n 2 by pointwise, blockR_at]
    refine colV_at _ _ _ _ _ n (ee n) (eh n) (fun m => ?_) (by unfold View.ld; pointwise) (fun m => by unfold View.ld; pointwise)
    exact A2_ld x0 x1 x2 x3 x4 x5 x6 n m
  · obtain ⟨n, rfl⟩ : ∃ n : Fin 2048, x = ix2 n 0 := ⟨_, key x⟩
    rw [col1, show r0_9.emb (ix2 n 0) = ix2 n 1 from show r0_9.idx (ix2 n 0) = ix2 n 1 by pointwise, blockR_at]
    refine colV_at _ _ _ _ _ n (ee n) (eh n) (fun m => ?_) (by unfold View.ld; pointwise) (fun m => by unfold View.ld; pointwise)
    exact A1_ld x0 x1 x2 x3 x4 x5 x6 n m
  · obtain ⟨n, rfl⟩ : ∃ n : Fin 2048, x = ix2 n 0 := ⟨_, key x⟩
    rw [show k0_pay24 x0 x1 x2 x3 x4 x5 x6 = k0_pay3 (View.ld x6 r0_2) from rfl, col0, show r0_6.emb (ix2 n 0) = ix2 n 0 from show r0_6.idx (ix2 n 0) = ix2 n 0 by pointwise, blockR_at]
    refine colV_at _ _ _ _ _ n (ee n) (eh n) (fun m => ?_) (by unfold View.ld; pointwise) (fun m => by unfold View.ld; pointwise)
    exact A0_ld x0 x1 x2 x3 x4 x5 x6 n m

end Cert.ReferenceIdeal.Hand
end
-- ==== Proof.StatsSum.lean ====
/-
  The kernel's results on the memory it starts from: the blocks read at coordinates, and the sums over points, lanes and
  the two halves of a block as sums over the documents.
-/
module

public import proofs.«01_k».proof.Proof.StatsLaunch
public import proofs.«01_k».proof.Proof.RefValue
public import Idealize.ShloMosaic.Lib.Pipeline.ValueKit.Acc

@[expose] public section
set_option maxRecDepth 16384
noncomputable section
namespace Cert.KernelIdeal.Hand
open Cert.KernelIdeal Cert.KernelIdeal.Gen
open Idealize.ShloMosaic Idealize.ShloMosaic.TcCoe Idealize.ShloMosaic.Tactic
open Cert.ReferenceIdeal.Hand (segs hotR exR)

variable (m : (ℓ : Loc nD τ sig) → Buf (Elt Ideal) ℓ)

/-- The seven arguments as plain arrays. -/
abbrev argD (c : Dev nD) : S16384x768.Idx → BitVec 8 := m ((c.tc : Thread nD τ).loc main_arg0)
abbrev argX (c : Dev nD) : S16x16384.Idx → EReal := m ((c.tc : Thread nD τ).loc main_arg1)
abbrev argG (c : Dev nD) : S16384.Idx → BitVec 32 := m ((c.tc : Thread nD τ).loc main_arg2)
abbrev argQ (c : Dev nD) : S2048x768.Idx → EReal := m ((c.tc : Thread nD τ).loc main_arg3)
abbrev argC (c : Dev nD) : S2048x128.Idx → EReal := m ((c.tc : Thread nD τ).loc main_arg4)
abbrev argGP (c : Dev nD) : S2048.Idx → BitVec 32 := m ((c.tc : Thread nD τ).loc main_arg5)
abbrev argP (c : Dev nD) : S2048.Idx → BitVec 32 := m ((c.tc : Thread nD τ).loc main_arg6)

/-- Where each window's block of a point starts. -/
theorem e0 : ∀ t : Fin cfg0.N, win0_0.index t = ![t.val, 0] := (by decide +kernel : ∀ t : Fin grid0.N, _)
theorem e1 : ∀ t : Fin cfg0.N, win0_1.index t = ![0, t.val] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

theorem N64 (t : Fin cfg0.N) : t.val < 64 := Nat.lt_of_lt_of_le t.isLt (by decide)

/-- The document at place `j` of the block of point `t`. -/
def dOf (t : Fin cfg0.N) (j : Fin 256) : Fin 16384 := ⟨t.val * 256 + j.val, by have := N64 t; omega⟩

theorem V_v2 (c : Dev nD) : (V m c main_v2 : S1x16384.Idx → BitVec 32) = shapeCast S1x16384 (argG m c) shapeCasts_S16384_S1x16384 := by
  unfold V
  after_reads_simp
  rfl

theorem V_v1 (c : Dev nD) : (V m c main_v1 : S2048x128.Idx → BitVec 32)
    = broadcastInDim S2048x128 ![0, 1] bcast_S2048x1_S2048x128_0_1 (shapeCast S2048x1 (argP m c) shapeCasts_S2048_S2048x1) := by
  unfold V
  after_reads_simp
  rfl

theorem V_v4 (c : Dev nD) : (V m c main_v4 : S2048x128.Idx → BitVec 32)
    = broadcastInDim S2048x128 ![0, 1] bcast_S2048x1_S2048x128_0_1 (shapeCast S2048x1 (argGP m c) shapeCasts_S2048_S2048x1) := by
  unfold V
  after_reads_simp
  rfl

/-- A column repeated along the lanes, read at a row and a lane. -/
theorem laneAt (x : S2048.Idx → BitVec 32) (n : Fin 2048) (l : Fin 128) :
    broadcastInDim S2048x128 ![0, 1] bcast_S2048x1_S2048x128_0_1 (shapeCast S2048x1 x shapeCasts_S2048_S2048x1) (ix2 n l) = x (ix1 n) := by
  refine (broadcastInDim_apply _ _ _ _ (ix2 n 0) fun a => match a with
    | ⟨0, _⟩ => rfl
    | ⟨1, _⟩ => rfl).trans ?_
  refine shapeCast_apply _ _ _ _ ?_
  simp [Shape.rowMajor_val_one, Shape.rowMajor_val_two]

/-! The seven input blocks of a point, read at coordinates. -/

theorem B1_at (c : Dev nD) (t : Fin cfg0.N) (j : Fin 256) (x : Fin 768) : B1 m c t (ix2 j x) = argD m c (ix2 (dOf t j) x) := by
  refine Eq.trans ?_ (congrFun (V_main_arg0 m c) _)
  unfold B1
  blk_simp [iblk]
  refine congrArg (V m c main_arg0) ?_
  blk_ext [e0, dOf]

theorem B2_at (c : Dev nD) (t : Fin cfg0.N) (r : Fin 16) (j : Fin 256) : B2 m c t (ix2 r j) = argX m c (ix2 r (dOf t j)) := by
  refine Eq.trans ?_ (congrFun (V_main_arg1 m c) _)
  unfold B2
  blk_simp [iblk]
  refine congrArg (V m c main_arg1) ?_
  blk_ext [e1, dOf]

theorem B3_at (c : Dev nD) (t : Fin cfg0.N) (j : Fin 256) : B3 m c t (ix2 0 j) = argG m c (ix1 (dOf t j)) := by
  have h : B3 m c t (ix2 0 j) = (V m c main_v2 : S1x16384.Idx → BitVec 32) (ix2 0 (dOf t j)) := by
    unfold B3
    blk_simp [iblk]
    refine congrArg (V m c main_v2) ?_
    blk_ext [e2, dOf]
  rw [h, V_v2]
  refine shapeCast_apply _ _ _ _ ?_
  simp [Shape.rowMajor_val_one, Shape.rowMajor_val_two]

theorem B4_eq (c : Dev nD) (t : Fin cfg0.N) : B4 m c t = argQ m c := by
  funext y
  refine Eq.trans ?_ (congrFun (V_main_arg3 m c) y)
  unfold B4
  blk_simp [iblk]
  refine congrArg (V m c main_arg3) ?_
  blk_ext [e3]

theorem B5_eq (c : Dev nD) (t : Fin cfg0.N) : B5 m c t = argC m c := by
  funext y
  refine Eq.trans ?_ (congrFun (V_main_arg4 m c) y)
  unfold B5
  blk_simp [iblk]
  refine congrArg (V m c main_arg4) ?_
  blk_ext [e4]

theorem B6_at (c : Dev nD) (t : Fin cfg0.N) (n : Fin 2048) (l : Fin 128) : B6 m c t (ix2 n l) = argGP m c (ix1 n) := by
  have h : B6 m c t (ix2 n l) = (V m c main_v4 : S2048x128.Idx → BitVec 32) (ix2 n l) := by
    unfold B6
    blk_simp [iblk]
    refine congrArg (V m c main_v4) ?_
    blk_ext [e5]
  rw [h, V_v4, laneAt]

theorem B7_at (c : Dev nD) (t : Fin cfg0.N) (n : Fin 2048) (l : Fin 128) : B7 m c t (ix2 n l) = argP m c (ix1 n) := by
  have h : B7 m c t (ix2 n l) = (V m c main_v1 : S2048x128.Idx → BitVec 32) (ix2 n l) := by
    unfold B7
    blk_simp [iblk]
    refine congrArg (V m c main_v1) ?_
    blk_ext [e6]
  rw [h, V_v1, laneAt]

/-- The positive's bit and the exclusion bit of a query and a document. -/
abbrev hotK (c : Dev nD) (n : Fin 2048) (d : Fin 16384) : BitVec 1 := hotR (fun n => argP m c (ix1 n)) n d
abbrev exK (c : Dev nD) (n : Fin 2048) (d : Fin 16384) : BitVec 1 :=
  exR (fun d => argG m c (ix1 d)) (fun n => argGP m c (ix1 n)) (fun n => argP m c (ix1 n)) n d

/-- The logit, in base two, of prefix `k`, query `n` and document `d`, as the kernel multiplies it. -/
def s2K (c : Dev nD) (k : Fin 5) (n : Fin 2048) (d : Fin 16384) : EReal :=
  accS (exK m c n d) (segs (argQ m c) (argD m c) n d) k * argX m c (ix2 ⟨1 + k.val, by omega⟩ d)
    * (argC m c (ix2 n ⟨1 + k.val, by omega⟩) * Named.named (F := Ideal) (φ := .f32) κ "log2e_over_tau" 0x41E6D4CA#32)

theorem midW_eq (t : Fin cfg0.N) (j : Fin 256) : midW t.val j.val = BitVec.ofNat 32 (dOf t j).val := by
  unfold midW dOf
  apply BitVec.eq_of_toNat_eq
  have := N64 t
  simp [IntOp.addi, Scalar.muli, IntOp.muli]

theorem hot_eq (c : Dev nD) (t : Fin cfg0.N) (n : Fin 2048) (j : Fin 256) :
    hotB t.val j.val (argP m c (ix1 n)) = hotK m c n (dOf t j) := by
  unfold hotB hotK hotR
  rw [midW_eq]

theorem ex_eq (c : Dev nD) (t : Fin cfg0.N) (n : Fin 2048) (j : Fin 256) :
    exB t.val j.val (argG m c (ix1 (dOf t j))) (argGP m c (ix1 n)) (argP m c (ix1 n)) = exK m c n (dOf t j) := by
  unfold exB exK exR
  rw [hot_eq]

theorem dot_eq (c : Dev nD) (t : Fin cfg0.N) (n : Fin 2048) (j : Fin 256) :
    (fun s => dotS (B4 m c t) (B1 m c t) s n j) = segs (argQ m c) (argD m c) n (dOf t j) := by
  funext s
  unfold dotS segs
  rw [B4_eq]
  simp only [B1_at]

/-- The logit of a point's block is the document's, at every lane. -/
theorem s2_eq (c : Dev nD) (t : Fin cfg0.N) (k : Fin 5) (n : Fin 2048) (l : Fin 128) (j : Fin 256) :
    (blkAt t.val (B2 m c t) (B3 m c t) (B6 m c t) (B7 m c t)).s2 (dotS (B4 m c t) (B1 m c t)) (cnA m c) k n l j = s2K m c k n (dOf t j) := by
  unfold Blk.s2 s2K
  rw [dot_eq]
  show accS (exB t.val j.val (B3 m c t (ix2 0 j)) (B6 m c t (ix2 n l)) (B7 m c t (ix2 n l))) _ k * B2 m c t (ix2 _ j) * cnOf (B5 m c t0) (ix3 k n l) = _
  rw [B3_at, B6_at, B7_at, ex_eq, B2_at, B5_eq]
  rfl

/-- The sum over the points, the lanes and the two halves of a block is the sum over the places in order. -/
theorem regroup (T : ℕ) (f : ℕ → EReal) :
    ∑ l : Fin 128, ∑ t ∈ Finset.range T, (f (t * 256 + l.val) + f (t * 256 + (128 + l.val))) = ∑ d ∈ Finset.range (T * 256), f d := by
  rw [Finset.sum_comm, Finset.sum_range_mul_split]
  refine Finset.sum_congr rfl fun t _ => ?_
  rw [Finset.sum_add_distrib, Fin.sum_univ_eq_sum_range (fun l => f (t * 256 + l)) 128,
    Fin.sum_univ_eq_sum_range (fun l => f (t * 256 + (128 + l))) 128, show (256 : ℕ) = 128 + 128 from rfl, Finset.sum_range_add]

/-- The documents' function on all places. -/
def ext {M : ℕ} (g : Fin M → EReal) (d : ℕ) : EReal := if h : d < M then g ⟨d, h⟩ else 0

theorem ext_sum {M : ℕ} (g : Fin M → EReal) : ∑ d ∈ Finset.range M, ext g d = ∑ d : Fin M, g d := by
  rw [← Fin.sum_univ_eq_sum_range]
  exact Finset.sum_congr rfl fun d _ => dif_pos d.isLt

theorem ext_dOf (g : Fin 16384 → EReal) (t : Fin cfg0.N) (j : Fin 256) : ext g (t.val * 256 + j.val) = g (dOf t j) := dif_pos (dOf t j).isLt

/-- The denominators after `T` points. -/
theorem den_sum (c : Dev nD) (k : Fin 5) (n : Fin 2048) (l : Fin 128) : ∀ T : ℕ, T ≤ cfg0.N →
    denA m c T (ix3 k n l) = ∑ t ∈ Finset.range T, (ext (fun d => Ideal.exp2 (s2K m c k n d)) (t * 256 + l.val)
      + ext (fun d => Ideal.exp2 (s2K m c k n d)) (t * 256 + (128 + l.val)))
  | 0, _ => rfl
  | T + 1, h => by
    have e := denA_succ m c ⟨T, h⟩
    rw [show denA m c (T + 1) = _ from e, Finset.sum_range_succ, ← den_sum c k n l T (Nat.le_of_succ_le h)]
    refine congrArg₂ (· + ·) rfl ?_
    show Ideal.exp2 _ + Ideal.exp2 _ = _
    refine congrArg₂ (· + ·) ?_ ?_
    · exact (congrArg Ideal.exp2 (s2_eq m c ⟨T, h⟩ k n l (lo l))).trans (ext_dOf (fun d => Ideal.exp2 (s2K m c k n d)) ⟨T, h⟩ (lo l)).symm
    · exact (congrArg Ideal.exp2 (s2_eq m c ⟨T, h⟩ k n l (hi l))).trans (ext_dOf (fun d => Ideal.exp2 (s2K m c k n d)) ⟨T, h⟩ (hi l)).symm

/-- The positives' logits after `T` points. -/
theorem pls_sum (c : Dev nD) (k : Fin 5) (n : Fin 2048) (l : Fin 128) : ∀ T : ℕ, T ≤ cfg0.N →
    plsA m c T (ix3 k n l) = ∑ t ∈ Finset.range T, (ext (fun d => Scalar.select (hotK m c n d) (s2K m c k n d) 0) (t * 256 + l.val)
      + ext (fun d => Scalar.select (hotK m c n d) (s2K m c k n d) 0) (t * 256 + (128 + l.val)))
  | 0, _ => rfl
  | T + 1, h => by
    have e := plsA_succ m c ⟨T, h⟩
    rw [show plsA m c (T + 1) = _ from e, Finset.sum_range_succ, ← pls_sum c k n l T (Nat.le_of_succ_le h)]
    refine congrArg₂ (· + ·) rfl ?_
    have key : ∀ j : Fin 256, Scalar.select (hotB T j.val (B7 m c ⟨T, h⟩ (ix2 n l)))
        ((blkAt T (B2 m c ⟨T, h⟩) (B3 m c ⟨T, h⟩) (B6 m c ⟨T, h⟩) (B7 m c ⟨T, h⟩)).s2 (dotS (B4 m c ⟨T, h⟩) (B1 m c ⟨T, h⟩)) (cnA m c) k n l j) 0
        = ext (fun d => Scalar.select (hotK m c n d) (s2K m c k n d) 0) (T * 256 + j.val) := fun j => by
      refine Eq.trans ?_ (ext_dOf _ ⟨T, h⟩ j).symm
      rw [B7_at]
      exact congrArg₂ (fun b x => Scalar.select b x (0 : EReal)) (hot_eq m c ⟨T, h⟩ n j) (s2_eq m c ⟨T, h⟩ k n l j)
    exact congrArg₂ (· + ·) (key (lo l)) (key (hi l))

/-- The kernel's row losses: its sums over all the documents. -/
theorem rl_eq (c : Dev nD) (k : Fin 5) (n : Fin 2048) (h : k.val < 8) : rlF m c (ix2 ⟨k.val, h⟩ n)
    = (Ideal.log (∑ d : Fin 16384, Ideal.exp2 (s2K m c k n d)) * Named.named (F := Ideal) (φ := .f32) κ "log2e" 0x3FB8AA3B#32
        - ∑ d : Fin 16384, Scalar.select (hotK m c n d) (s2K m c k n d) 0) * Named.named (F := Ideal) (φ := .f32) κ "ln2" 0x3F317218#32 := by
  show pick5 k.val (fun k => rlCol (denA m c 64) (plsA m c 64) k n) = _
  rw [pick5_val]
  unfold rlCol ldCol
  have h64 : 64 ≤ cfg0.N := by decide
  simp only [den_sum m c k n _ 64 h64, pls_sum m c k n _ 64 h64]
  rw [regroup, regroup, ext_sum, ext_sum]

end Cert.KernelIdeal.Hand
end
-- ==== Proof.FiniteArgs.lean ====
/-
  The precondition, read: the query codes are real numbers, and the inverse norms that are used are positive real numbers.
-/
module

public import proofs.«01_k».proof.Defs
public import proofs.«01_k».proof.Proof.StatsSum
public import Idealize.ShloMosaic.Lib.ReduceAll
public import Idealize.ShloMosaic.Lib.Affine
public import Idealize.ShloMosaic.Lib.Decide

@[expose] public section
noncomputable section
namespace Cert.Pre_finite.Hand
open Idealize.ShloMosaic Idealize.ShloMosaic.Tactic
open Cert.Pre_finite

/-- The side conditions of the precondition's operations. -/
instance facts : Cert.Pre_finite.Facts where
  slices_S16x16384_S5x16384_1_0 := by decide
  slices_S2048x128_S2048x5_0_1 := by decide
  bcast_S_S2048x768 := by decide
  reducesTo_S2048x768_S_d0_1 := by decide
  h_S_ := by decide
  bcast_S_S5x16384 := by decide
  reducesTo_S5x16384_S_d0_1 := by decide
  bcast_S_S2048x5 := by decide
  reducesTo_S2048x5_S_d0_1 := by decide

/-- A value below infinity in absolute value is a real number. -/
theorem real_of_abs {φ : FTy} {x b : Ideal φ} (hb : (b : EReal) = ⊤) (h : FloatOps.cmpf .olt (FloatOps.hostAbsf x) b = 1#1) :
    ∃ r : ℝ, (x : EReal) = r := by
  have h' : Ideal.cmp .olt (max (x : EReal) (-(x : EReal))) b = 1#1 := h
  rw [hb] at h'
  have hlt : max (x : EReal) (-(x : EReal)) < ⊤ := by
    by_contra hn
    simp [Ideal.cmp, hn] at h'
  have h1 := (max_lt_iff.1 hlt).1
  have h2 := (max_lt_iff.1 hlt).2
  refine ⟨(x : EReal).toReal, (EReal.coe_toReal h1.ne fun hbot => ?_).symm⟩
  simp [hbot] at h2

/-- A value above zero and below infinity is a positive real number. -/
theorem pos_of_cmp {φ : FTy} {x z b : Ideal φ} (hz : (z : EReal) = 0) (hb : (b : EReal) = ⊤)
    (h : IntOp.andi (FloatOps.cmpf .ogt x z) (FloatOps.cmpf .olt x b) = 1#1) : ∃ r : ℝ, 0 < r ∧ (x : EReal) = r := by
  obtain ⟨h1, h2⟩ := IntOp.andi_eq_one.1 h
  have h1' : Ideal.cmp .ogt (x : EReal) z = 1#1 := h1
  have h2' : Ideal.cmp .olt (x : EReal) b = 1#1 := h2
  rw [hz] at h1'
  rw [hb] at h2'
  have p1 : (0 : EReal) < x := by
    by_contra hn
    simp [Ideal.cmp, hn] at h1'
  have p2 : (x : EReal) < ⊤ := by
    by_contra hn
    simp [Ideal.cmp, hn] at h2'
  have e := EReal.coe_toReal p2.ne (bot_le.trans_lt p1).ne'
  refine ⟨(x : EReal).toReal, ?_, e.symm⟩
  rw [← e] at p1
  exact_mod_cast p1

/-- The two patterns of infinity denote infinity. -/
theorem top_bf16 : (Ideal.ofBits .bf16 0x7F80#16 : EReal) = ⊤ := by simp [Ideal.ofBits, Ideal.ieee]
theorem top_f32 : (Ideal.ofBits .f32 0x7F800000#32 : EReal) = ⊤ := by simp [Ideal.ofBits, Ideal.ieee]

/-- What the precondition says of the three arrays it reads. -/
theorem fn_says (D : IVec S16384x768 8) (X : FVec Ideal S16x16384 .f32) (G : IVec S16384 32) (Q : FVec Ideal S2048x768 .bf16)
    (C : FVec Ideal S2048x128 .f32) (GP P : IVec S2048 32) (h : fn (F := Ideal) D X G Q C GP P = fun _ => 1#1) :
    (∀ y, ∃ r : ℝ, (Q y : EReal) = r)
    ∧ (∀ (k : Fin 5) (d : Fin 16384), ∃ r : ℝ, 0 < r ∧ (X (ix2 ⟨1 + k.val, by omega⟩ d) : EReal) = r)
    ∧ (∀ (k : Fin 5) (n : Fin 2048), ∃ r : ℝ, 0 < r ∧ (C (ix2 n ⟨1 + k.val, by omega⟩) : EReal) = r) := by
  have h0 := congrFun h fun a => a.elim0
  dsimp only [fn, fn_part1] at h0
  obtain ⟨h12, h3⟩ := IntOp.andi_eq_one.1 h0
  obtain ⟨h1, h2⟩ := IntOp.andi_eq_one.1 h12
  refine ⟨fun y => ?_, fun k d => ?_, fun k n => ?_⟩
  · exact real_of_abs top_bf16 (Host.reduce_andi_all _ _ _ _ _ h1 y)
  · have hx : extractStridedSlice S5x16384 ![1, 0] X Facts.slices_S16x16384_S5x16384_1_0 (ix2 k d) = X (ix2 ⟨1 + k.val, by omega⟩ d) := by pointwise
    rw [← hx]
    exact pos_of_cmp Ideal.ofBits_zero_f32 top_f32 (Host.reduce_andi_all _ _ _ _ _ h2 (ix2 k d))
  · have hx : extractStridedSlice S2048x5 ![0, 1] C Facts.slices_S2048x128_S2048x5_0_1 (ix2 n k) = C (ix2 n ⟨1 + k.val, by omega⟩) := by pointwise
    rw [← hx]
    exact pos_of_cmp Ideal.ofBits_zero_f32 top_f32 (Host.reduce_andi_all _ _ _ _ _ h3 (ix2 n k))

end Cert.Pre_finite.Hand
end
-- ==== Proof.LogSum.lean ====
/-
  The one real identity behind the value claim, on extended reals: a row's log of a sum of powers of two is the same
  with and without the row maximum taken out first, and the positives' share taken out in units of log 2 is the
  positives' share taken out in natural units.
-/
module

public import Idealize.ShloMosaic.PureOps.Ideal
public import Mathlib.Analysis.SpecialFunctions.Pow.Real
public import Mathlib.Analysis.SpecialFunctions.Log.Basic
public import Mathlib.Data.EReal.Inv
public import Mathlib.Algebra.Order.BigOperators.Group.Finset

@[expose] public section
noncomputable section
namespace Cert.RowMath
open Idealize.ShloMosaic

theorem exp2_bot : Ideal.exp2 ⊥ = 0 := rfl
theorem exp2_coe (r : ℝ) : Ideal.exp2 (r : EReal) = ((Real.rpow 2 r : ℝ) : EReal) := rfl
theorem log_coe (r : ℝ) : Ideal.log (r : EReal) = if r ≤ 0 then ⊥ else (Real.log r : EReal) := rfl

/-- An extended real that is `⊥` or a real number. -/
def BotOrReal (x : EReal) : Prop := x = ⊥ ∨ ∃ r : ℝ, x = r

/-- The power of two of a real number or of `⊥`, as a real. -/
def pow2 (x : EReal) : ℝ := if x = ⊥ then 0 else Real.rpow 2 x.toReal

theorem pow2_nonneg (x : EReal) : 0 ≤ pow2 x := by
  unfold pow2; split
  · exact le_rfl
  · exact Real.rpow_nonneg (by norm_num) _

theorem pow2_pos (r : ℝ) : 0 < pow2 (r : EReal) := by
  unfold pow2; rw [if_neg (EReal.coe_ne_bot r)]
  exact Real.rpow_pos_of_pos (by norm_num) _

/-- The power of two is the real one. -/
theorem exp2_eq {x : EReal} (h : BotOrReal x) : Ideal.exp2 x = (pow2 x : EReal) := by
  rcases h with rfl | ⟨r, rfl⟩
  · simp [pow2, exp2_bot]
  · simp [pow2, exp2_coe]

/-- Taking a real `k` out of the exponent scales the power by `2 ^ (-k)`. -/
theorem exp2_sub {x : EReal} (h : BotOrReal x) (k : ℝ) :
    Ideal.exp2 (x - (k : EReal)) = ((pow2 x * Real.rpow 2 (-k) : ℝ) : EReal) := by
  rcases h with rfl | ⟨r, rfl⟩
  · rw [show (⊥ : EReal) - (k : EReal) = ⊥ from EReal.bot_sub _]
    simp [pow2, exp2_bot]
  · rw [← EReal.coe_sub]
    have : Real.rpow 2 (r - k) = Real.rpow 2 r * Real.rpow 2 (-k) := by
      rw [sub_eq_add_neg]; exact Real.rpow_add (by norm_num) _ _
    rw [exp2_coe, this]
    simp [pow2]

/-- A sum of reals in the extended reals is the real sum. -/
theorem sum_coe {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The maximum of `⊥`-or-real entries: `⊥` when they all are, else a real number. -/
theorem fold_max {ι : Type*} (t : Finset ι) (s : ι → EReal) (h : ∀ i, BotOrReal (s i)) :
    (t.fold max ⊥ s = ⊥ ∧ ∀ i ∈ t, s i = ⊥) ∨ ((∃ r : ℝ, t.fold max ⊥ s = r) ∧ ∃ i ∈ t, ∃ r : ℝ, s i = r) := by
  classical
  induction t using Finset.induction_on with
  | empty => exact .inl ⟨by simp, by simp⟩
  | insert a t ha ih =>
    rw [Finset.fold_insert ha]
    rcases h a with hb | ⟨r, hr⟩
    · rcases ih with ⟨h1, h2⟩ | ⟨⟨r, h1⟩, i, hi, h2⟩
      · refine .inl ⟨by rw [hb, h1, max_self], fun i hi => ?_⟩
        rcases Finset.mem_insert.mp hi with rfl | hi
        · exact hb
        · exact h2 i hi
      · exact .inr ⟨⟨r, by rw [hb, h1]; exact max_eq_right bot_le⟩, i, Finset.mem_insert_of_mem hi, h2⟩
    · refine .inr ⟨?_, a, Finset.mem_insert_self _ _, r, hr⟩
      rcases ih with ⟨h1, _⟩ | ⟨⟨q, h1⟩, _⟩
      · exact ⟨r, by rw [hr, h1]; exact max_eq_left bot_le⟩
      · exact ⟨max r q, by rw [hr, h1]; exact (EReal.coe_strictMono.monotone.map_max).symm⟩

theorem div_coe (x : EReal) {c : ℝ} (hc : c ≠ 0) : Ideal.div x (c : EReal) = x * ((c⁻¹ : ℝ) : EReal) := by
  unfold Ideal.div
  rw [if_neg (by exact_mod_cast hc), EReal.coe_inv]

/-- The logarithm of a sum of powers of two is a real number when one exponent is real, `⊥` when all are `⊥`. -/
theorem log_sum_botOrReal {ι : Type*} (t : Finset ι) (s : ι → EReal) (h : ∀ i, BotOrReal (s i)) :
    BotOrReal (Ideal.log (∑ i ∈ t, Ideal.exp2 (s i))) := by
  have e : ∑ i ∈ t, Ideal.exp2 (s i) = ((∑ i ∈ t, pow2 (s i) : ℝ) : EReal) := by
    rw [← sum_coe]; exact Finset.sum_congr rfl fun i _ => exp2_eq (h i)
  rw [e, log_coe]
  split
  · exact .inl rfl
  · exact .inr ⟨_, rfl⟩

/-- The row's logarithm with the rounded maximum taken out of the exponents and put back is the plain one. -/
theorem log_sum_shift {ι : Type*} (t : Finset ι) (s : ι → EReal) (h : ∀ i, BotOrReal (s i)) :
    Ideal.div (Ideal.liftRound Int.ceil (t.fold max ⊥ s)
        + Ideal.log (∑ i ∈ t, Ideal.exp2 (s i - Ideal.liftRound Int.ceil (t.fold max ⊥ s))) * (((Real.log 2)⁻¹ : ℝ) : EReal))
      (((Real.log 2)⁻¹ : ℝ) : EReal)
      = Ideal.log (∑ i ∈ t, Ideal.exp2 (s i)) := by
  have hl : 0 < Real.log 2 := Real.log_pos (by norm_num)
  rw [div_coe _ (inv_ne_zero hl.ne'), inv_inv]
  rcases fold_max t s h with ⟨h1, h2⟩ | ⟨⟨q, h1⟩, i, hi, r, h2⟩
  · rw [h1]
    have e : ∑ i ∈ t, Ideal.exp2 (s i) = 0 := Finset.sum_eq_zero fun i hi => by rw [h2 i hi]; rfl
    rw [e]
    show (⊥ + _) * _ = _
    rw [EReal.bot_add, EReal.bot_mul_coe_of_pos hl, ← EReal.coe_zero]
    rw [log_coe, if_pos le_rfl]
  · rw [h1]
    show (((⌈q⌉ : ℝ) : EReal) + Ideal.log (∑ i ∈ t, Ideal.exp2 (s i - ((⌈q⌉ : ℝ) : EReal))) * _) * _ = _
    generalize ((⌈q⌉ : ℝ)) = k
    have e1 : ∑ i ∈ t, Ideal.exp2 (s i) = ((∑ i ∈ t, pow2 (s i) : ℝ) : EReal) := by
      rw [← sum_coe]; exact Finset.sum_congr rfl fun i _ => exp2_eq (h i)
    have e2 : ∑ i ∈ t, Ideal.exp2 (s i - (k : EReal)) = (((∑ i ∈ t, pow2 (s i)) * Real.rpow 2 (-k) : ℝ) : EReal) := by
      rw [Finset.sum_mul, ← sum_coe]; exact Finset.sum_congr rfl fun i _ => exp2_sub (h i) k
    have hp : 0 < ∑ i ∈ t, pow2 (s i) :=
      Finset.sum_pos' (fun i _ => pow2_nonneg _) ⟨i, hi, by rw [h2]; exact pow2_pos r⟩
    have hk : 0 < Real.rpow 2 (-k) := Real.rpow_pos_of_pos (by norm_num) _
    rw [e1, e2]
    generalize (∑ i ∈ t, pow2 (s i)) = E at hp
    rw [log_coe, log_coe, if_neg (not_le.mpr (mul_pos hp hk)), if_neg (not_le.mpr hp), Real.log_mul hp.ne' hk.ne']
    have : Real.log (Real.rpow 2 (-k)) = -k * Real.log 2 := Real.log_rpow (by norm_num) _
    rw [this, ← EReal.coe_mul, ← EReal.coe_add, ← EReal.coe_mul]
    congr 1
    field_simp
    ring

end Cert.RowMath
end
-- ==== Proof.RowEq.lean ====
/-
  One row's equality: the kernel's row loss, with its sums in base two and no maximum taken out, is the reference's when
  the logits are real numbers.
-/
module

public import proofs.«01_k».proof.Proof.LogSum
public import proofs.«01_k».proof.Proof.RefRow

@[expose] public section
noncomputable section
namespace Cert.RowMath
open Idealize.ShloMosaic
open Cert.ReferenceIdeal.Hand (l2e rowLoss)

/-- The reference's constant `log2 e` is the inverse of the natural logarithm of two. -/
theorem l2e_eq : (l2e : EReal) = (((Real.log 2)⁻¹ : ℝ) : EReal) :=
  IdealRules.named_const.ideal_named_scalar _ _ _ _ rfl

/-- A selection's two values. -/
theorem select_cases {α : Type} (c : BitVec 1) (a b : α) : (c = 1#1 ∧ Scalar.select c a b = a) ∨ (c ≠ 1#1 ∧ Scalar.select c a b = b) := by
  unfold Scalar.select
  by_cases h : c = 1#1
  · exact .inl ⟨h, if_pos h⟩
  · exact .inr ⟨h, if_neg h⟩

/-- The two row losses agree: `s2` is the masked logit in base two, and a positive is not masked. -/
theorem row_eq {M : ℕ} (ex hot : Fin M → BitVec 1) (L : Fin M → ℝ) (s2 : Fin M → EReal)
    (hs : ∀ d, s2 d = Scalar.select (ex d) ⊥ ((L d : EReal) * l2e)) (hh : ∀ d, hot d = 1#1 → ex d ≠ 1#1) :
    (Ideal.log (∑ d, Ideal.exp2 (s2 d)) * (((Real.log 2)⁻¹ : ℝ) : EReal) - ∑ d, Scalar.select (hot d) (s2 d) 0) * ((Real.log 2 : ℝ) : EReal)
      = rowLoss ex hot (fun d => (L d : EReal)) := by
  have hl : Real.log 2 ≠ 0 := (Real.log_pos (by norm_num)).ne'
  have hf : (fun d => Scalar.select (ex d) ⊥ ((L d : EReal) * l2e)) = s2 := funext fun d => (hs d).symm
  have hb : ∀ d, BotOrReal (s2 d) := fun d => by
    rw [hs d, l2e_eq, ← EReal.coe_mul]
    rcases select_cases (ex d) (⊥ : EReal) ((L d * (Real.log 2)⁻¹ : ℝ) : EReal) with ⟨_, h⟩ | ⟨_, h⟩ <;> rw [h]
    · exact .inl rfl
    · exact .inr ⟨_, rfl⟩
  -- the positives' sum, in base two and in base e
  let p : Fin M → ℝ := fun d => if hot d = 1#1 then L d else 0
  have h1 : ∑ d, Scalar.select (hot d) (s2 d) 0 = ((∑ d, p d * (Real.log 2)⁻¹ : ℝ) : EReal) := by
    rw [← sum_coe]
    refine Finset.sum_congr rfl fun d _ => ?_
    rcases select_cases (hot d) (s2 d) 0 with ⟨h, e⟩ | ⟨h, e⟩ <;> rw [e]
    · show s2 d = ((ite _ _ _ * _ : ℝ) : EReal)
      rw [if_pos h, hs d, l2e_eq, ← EReal.coe_mul]
      exact if_neg (hh d h)
    · show (0 : EReal) = ((ite _ _ _ * _ : ℝ) : EReal)
      rw [if_neg h, zero_mul, EReal.coe_zero]
  have h2 : ∑ d, Scalar.select (hot d) (L d : EReal) 0 = ((∑ d, p d : ℝ) : EReal) := by
    rw [← sum_coe]
    refine Finset.sum_congr rfl fun d _ => ?_
    rcases select_cases (hot d) (L d : EReal) 0 with ⟨h, e⟩ | ⟨h, e⟩ <;> rw [e]
    · show _ = ((ite _ _ _ : ℝ) : EReal)
      rw [if_pos h]
    · show (0 : EReal) = ((ite _ _ _ : ℝ) : EReal)
      rw [if_neg h, EReal.coe_zero]
  unfold rowLoss
  simp only [hf, ← hs]
  rw [l2e_eq, log_sum_shift _ _ hb, h1, h2, ← Finset.sum_mul]
  rcases log_sum_botOrReal Finset.univ s2 hb with h | ⟨r, h⟩ <;> rw [h]
  · rw [EReal.bot_mul_coe_of_pos (inv_pos.2 (Real.log_pos (by norm_num))), EReal.bot_sub, EReal.bot_sub,
      EReal.bot_mul_coe_of_pos (Real.log_pos (by norm_num))]
  · rw [← EReal.coe_mul, ← EReal.coe_sub, ← EReal.coe_mul, ← EReal.coe_sub]
    congr 1
    field_simp

end Cert.RowMath
end
-- ==== Proof.RefRun.lean ====
/-
  The reference's results on the memory it starts from: the row losses of RefValue on the seven arguments, and their
  mean over the queries.
-/
module

public import proofs.«01_k».proof.Proof.RefValue
public import Idealize.ShloMosaic.Lib.Pipeline.ValueKit
public import Idealize.ShloMosaic.Lib.Claim
public import Idealize.ShloMosaic.Lib.Pipeline.FrameSuffix
public import Idealize.ShloMosaic.Lib.StableHlo.ReadAt

@[expose] public section
set_option maxRecDepth 16384
noncomputable section
namespace Cert.ReferenceIdeal.Hand
open Cert.ReferenceIdeal Cert.ReferenceIdeal.Gen
open Idealize.ShloMosaic Idealize.ShloMosaic.TcCoe Idealize.ShloMosaic.Tactic Idealize.ShloMosaic.Pipeline

variable (m : (ℓ : Loc nD τ sig) → Buf (Elt Ideal) ℓ) (ρ : Dev nD → PrngReg)

/-- The seven arguments as plain arrays. -/
abbrev argD (c : Dev nD) : S16384x768.Idx → BitVec 8 := m ((c.tc : Thread nD τ).loc main_arg0)
abbrev argX (c : Dev nD) : S16x16384.Idx → EReal := m ((c.tc : Thread nD τ).loc main_arg1)
abbrev argG (c : Dev nD) : S16384.Idx → BitVec 32 := m ((c.tc : Thread nD τ).loc main_arg2)
abbrev argQ (c : Dev nD) : S2048x768.Idx → EReal := m ((c.tc : Thread nD τ).loc main_arg3)
abbrev argC (c : Dev nD) : S2048x128.Idx → EReal := m ((c.tc : Thread nD τ).loc main_arg4)
abbrev argGP (c : Dev nD) : S2048.Idx → BitVec 32 := m ((c.tc : Thread nD τ).loc main_arg5)
abbrev argP (c : Dev nD) : S2048.Idx → BitVec 32 := m ((c.tc : Thread nD τ).loc main_arg6)

/-! Every window's one block starts at the origin. -/
theorem e0 : ∀ t : Fin cfg0.N, win0_0.index t = ![0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)

/-! The host's three reshapes. -/
theorem V_v0 (c : Dev nD) : (V m c main_v0 : S1x16384.Idx → BitVec 32) = shapeCast S1x16384 (argG m c) shapeCasts_S16384_S1x16384 := by
  unfold V
  after_reads_simp
  rfl

theorem V_v1 (c : Dev nD) : (V m c main_v1 : S2048x1.Idx → BitVec 32) = shapeCast S2048x1 (argGP m c) shapeCasts_S2048_S2048x1 := by
  unfold V
  after_reads_simp
  rfl

theorem V_v2 (c : Dev nD) : (V m c main_v2 : S2048x1.Idx → BitVec 32) = shapeCast S2048x1 (argP m c) shapeCasts_S2048_S2048x1 := by
  unfold V
  after_reads_simp
  rfl

/-! The seven input blocks, whole. -/
theorem b0 (c : Dev nD) (t : Fin cfg0.N) : (iblk m c 0 t : S16384x768.Idx → BitVec 8) = argD m c := by
  funext y
  refine Eq.trans ?_ (congrFun (V_main_arg0 m c) y)
  blk_simp [iblk]
  refine congrArg (V m c main_arg0) ?_
  blk_ext [e0]

theorem b1 (c : Dev nD) (t : Fin cfg0.N) : (iblk m c 1 t : S16x16384.Idx → EReal) = argX m c := by
  funext y
  refine Eq.trans ?_ (congrFun (V_main_arg1 m c) y)
  blk_simp [iblk]
  refine congrArg (V m c main_arg1) ?_
  blk_ext [e1]

theorem b3 (c : Dev nD) (t : Fin cfg0.N) : (iblk m c 3 t : S2048x768.Idx → EReal) = argQ m c := by
  funext y
  refine Eq.trans ?_ (congrFun (V_main_arg3 m c) y)
  blk_simp [iblk]
  refine congrArg (V m c main_arg3) ?_
  blk_ext [e3]

theorem b4 (c : Dev nD) (t : Fin cfg0.N) : (iblk m c 4 t : S2048x128.Idx → EReal) = argC m c := by
  funext y
  refine Eq.trans ?_ (congrFun (V_main_arg4 m c) y)
  blk_simp [iblk]
  refine congrArg (V m c main_arg4) ?_
  blk_ext [e4]

theorem b2 (c : Dev nD) (t : Fin cfg0.N) (d : Fin 16384) : (iblk m c 2 t : S1x16384.Idx → BitVec 32) (ix2 0 d) = argG m c (ix1 d) := by
  have h : (iblk m c 2 t : S1x16384.Idx → BitVec 32) (ix2 0 d) = (V m c main_v0 : S1x16384.Idx → BitVec 32) (ix2 0 d) := by
    blk_simp [iblk]
    refine congrArg (V m c main_v0) ?_
    blk_ext [e2]
  rw [h, V_v0]
  refine shapeCast_apply _ _ _ _ ?_
  simp [Shape.rowMajor_val_one, Shape.rowMajor_val_two]

theorem b5 (c : Dev nD) (t : Fin cfg0.N) (d : Fin 2048) : (iblk m c 5 t : S2048x1.Idx → BitVec 32) (ix2 d 0) = argGP m c (ix1 d) := by
  have h : (iblk m c 5 t : S2048x1.Idx → BitVec 32) (ix2 d 0) = (V m c main_v1 : S2048x1.Idx → BitVec 32) (ix2 d 0) := by
    blk_simp [iblk]
    refine congrArg (V m c main_v1) ?_
    blk_ext [e5]
  rw [h, V_v1]
  refine shapeCast_apply _ _ _ _ ?_
  simp [Shape.rowMajor_val_one, Shape.rowMajor_val_two]

theorem b6 (c : Dev nD) (t : Fin cfg0.N) (d : Fin 2048) : (iblk m c 6 t : S2048x1.Idx → BitVec 32) (ix2 d 0) = argP m c (ix1 d) := by
  have h : (iblk m c 6 t : S2048x1.Idx → BitVec 32) (ix2 d 0) = (V m c main_v2 : S2048x1.Idx → BitVec 32) (ix2 d 0) := by
    blk_simp [iblk]
    refine congrArg (V m c main_v2) ?_
    blk_ext [e6]
  rw [h, V_v2]
  refine shapeCast_apply _ _ _ _ ?_
  simp [Shape.rowMajor_val_one, Shape.rowMajor_val_two]

/-- The reference's row losses: query by query, prefix by prefix. -/
def refRL (c : Dev nD) : S5x2048.Idx → EReal := fun y =>
  lossR (argD m c) (argX m c) (fun d => argG m c (ix1 d)) (argQ m c) (argC m c) (fun n => argGP m c (ix1 n)) (fun n => argP m c (ix1 n)) (y 0) (y 1)

/-- The window array after the run, transposed. -/
theorem final7 (c : Dev nD) : (dats m 0 c).arrAt 7 cfg0.N = (fun y : S2048x5.Idx => refRL m c (ix2 (y 1) (y 0))) := by
  refine (dats m 0 c).arrAt_eq_of_after_last 7 ⟨0, by decide⟩ (by decide +kernel) _ fun j => ?_
  blk_simp
  refine (congrFun ((after0_7 m c ⟨0, by decide⟩).trans (out_at _ _ _ _ _ _ _)) _).trans ?_
  unfold blockR
  rw [b0, b1, b3, b4]
  simp only [b2, b5, b6]
  rfl

/-- The row losses after the host lines. -/
theorem W_rl (c : Dev nD) : Pipeline.afterTail₀ cfgs (dats m) 0 (V0 m) [hostOps1] c main_v4 = refRL m c := by
  have hv : Pipeline.withArrays spec0 c (V0 m c) (fun w => (dats m 0 c).arrAt w cfg0.N) (Proc.devRef .tc main_v3)
      = (fun y : S2048x5.Idx => refRL m c (ix2 (y 1) (y 0))) :=
    (Pipeline.withArrays_arr spec0 launch0.win.arr_inj c (V0 m c) _ 7).trans (final7 m c)
  unfold Pipeline.afterTail₀
  funext y
  after_reads_simp
  refine (congrArg (fun X => transpose S5x2048 [1, 0] X transposes_S2048x5_S5x2048_1_0 y) hv).trans ?_
  obtain ⟨k, n, rfl⟩ : ∃ (k : Fin 5) (n : Fin 2048), y = ix2 k n := ⟨y 0, y 1, eq_ix2 y⟩
  exact transpose_apply _ _ _ _ (ix2 n k) fun b => match b with
    | ⟨0, _⟩ => rfl
    | ⟨1, _⟩ => rfl

/-- The mean over the rows, as the host lines write it. -/
def lossOf (R : S5x2048.Idx → EReal) : S5.Idx → EReal :=
  Host.divf (F := Ideal) (φ := .f32) (Host.reduceAdd (F := Ideal) (φ := .f32) R (constant S_ .f32 0x00000000#32) reducesTo_S5x2048_S5_d1 h_S_)
    (broadcastInDim S5 ![] bcast_S_S5 (constant (F := Ideal) S_ .f32 0x45000000#32))

/-- The losses after the host lines. -/
theorem W_loss (c : Dev nD) : Pipeline.afterTail₀ cfgs (dats m) 0 (V0 m) [hostOps1] c main_v7 = lossOf (refRL m c) := by
  refine Eq.trans ?_ (congrArg lossOf (W_rl m c))
  unfold Pipeline.afterTail₀
  after_reads_simp
  rfl

end Cert.ReferenceIdeal.Hand
end
-- ==== Proof.StatsEq.lean ====
/-
  The kernel's row losses and losses are the reference's, when the query codes are real numbers and the inverse norms are
  positive real numbers.
-/
module

public import proofs.«01_k».proof.Proof.FiniteArgs
public import proofs.«01_k».proof.Proof.RowEq
public import proofs.«01_k».proof.Proof.StatsSum
public import proofs.«01_k».proof.Proof.RefRun

@[expose] public section
noncomputable section
namespace Cert.KernelIdeal.Hand
open Cert.KernelIdeal Cert.KernelIdeal.Gen
open Idealize.ShloMosaic
open Cert.ReferenceIdeal.Hand (segs accum codeF hotR exR logitR lossR tauC l2e)
open Cert.RowMath

/-- A sum of products of real query entries and codes is a real number. -/
theorem dot_real {M : ℕ} (q : Fin M → EReal) (b : Fin M → BitVec 8) (h : ∀ x, ∃ r : ℝ, q x = r) :
    ∃ r : ℝ, ∑ x, q x * codeF (b x) = r := by
  choose f hf using h
  refine ⟨∑ x, f x * ((b x).toInt : ℝ), ?_⟩
  rw [← sum_coe]
  exact Finset.sum_congr rfl fun x _ => by rw [hf, EReal.coe_mul]; rfl

/-- The five segments of an inner product are real numbers. -/
theorem segs_real (Q : S2048x768.Idx → EReal) (D : S16384x768.Idx → BitVec 8) (n : Fin 2048) (d : Fin 16384)
    (h : ∀ y, ∃ r : ℝ, Q y = r) : ∀ s : Fin 5, ∃ r : ℝ, segs Q D n d s = r
  | 0 => dot_real _ _ fun _ => h _
  | 1 => dot_real _ _ fun _ => h _
  | 2 => dot_real _ _ fun _ => h _
  | 3 => dot_real _ _ fun _ => h _
  | 4 => dot_real _ _ fun _ => h _

/-- The inner products over the prefixes are real numbers. -/
theorem accum_real {s : Fin 5 → EReal} (h : ∀ i, ∃ r : ℝ, s i = r) : ∀ k : Fin 5, ∃ r : ℝ, accum s k = r := by
  choose f hf using h
  intro k
  fin_cases k
  · exact ⟨f 0, hf 0⟩
  · exact ⟨f 0 + f 1, by show s 0 + s 1 = _; rw [hf, hf, EReal.coe_add]⟩
  · exact ⟨f 0 + f 1 + f 2, by show s 0 + s 1 + s 2 = _; simp only [hf, EReal.coe_add]⟩
  · exact ⟨f 0 + f 1 + f 2 + f 3, by show s 0 + s 1 + s 2 + s 3 = _; simp only [hf, EReal.coe_add]⟩
  · exact ⟨f 0 + f 1 + f 2 + f 3 + f 4, by show s 0 + s 1 + s 2 + s 3 + s 4 = _; simp only [hf, EReal.coe_add]⟩

/-- The kernel's mask is `⊥`. -/
theorem masked_eq : (Named.named (F := Ideal) (φ := .f32) κ "masked" 0xD3800000#32 : EReal) = ⊥ :=
  IdealRules.named_const.ideal_named_scalar _ _ _ _ rfl

/-- A masked document's inner products are all `⊥`: the mask stands in the first summand. -/
theorem accS_masked (s : Fin 5 → EReal) (k : Fin 5) : accS 1#1 s k = ⊥ := by
  have e : (Scalar.select (1#1) (Named.named (F := Ideal) (φ := .f32) κ "masked" 0xD3800000#32) (s 0) : EReal) = ⊥ := masked_eq
  unfold accS
  simp only [e]
  fin_cases k
  · rfl
  · exact EReal.bot_add _
  · show (⊥ : EReal) + s 1 + s 2 = ⊥
    simp only [EReal.bot_add]
  · show (⊥ : EReal) + s 1 + s 2 + s 3 = ⊥
    simp only [EReal.bot_add]
  · show (⊥ : EReal) + s 1 + s 2 + s 3 + s 4 = ⊥
    simp only [EReal.bot_add]

/-- A document that is not masked keeps its inner products. -/
theorem accS_kept {e : BitVec 1} (he : e ≠ 1#1) (s : Fin 5 → EReal) (k : Fin 5) : accS e s k = accum s k := by
  have h : (Scalar.select e (Named.named (F := Ideal) (φ := .f32) κ "masked" 0xD3800000#32) (s 0) : EReal) = s 0 := if_neg he
  unfold accS
  simp only [h]
  rfl

/-- The kernel's scale: twenty over the logarithm of two. -/
theorem scale_eq : (Named.named (F := Ideal) (φ := .f32) κ "log2e_over_tau" 0x41E6D4CA#32 : EReal) = ((20 * (Real.log 2)⁻¹ : ℝ) : EReal) :=
  IdealRules.named_const.ideal_named_scalar _ _ _ _ rfl

/-- The kernel's `log2 e`. -/
theorem log2e_eq : (Named.named (F := Ideal) (φ := .f32) κ "log2e" 0x3FB8AA3B#32 : EReal) = (((Real.log 2)⁻¹ : ℝ) : EReal) :=
  IdealRules.named_const.ideal_named_scalar _ _ _ _ rfl

/-- The kernel's `log 2`. -/
theorem ln2_eq : (Named.named (F := Ideal) (φ := .f32) κ "ln2" 0x3F317218#32 : EReal) = ((Real.log 2 : ℝ) : EReal) :=
  IdealRules.named_const.ideal_named_scalar _ _ _ _ rfl

/-- The reference's temperature: one twentieth. -/
theorem tau_eq : (tauC : EReal) = ((1 / 20 : ℝ) : EReal) :=
  IdealRules.named_const.ideal_named_scalar _ _ _ _ rfl

/-- The positive is not masked. -/
theorem hot_not_ex (G : Fin 16384 → BitVec 32) (GP P : Fin 2048 → BitVec 32) (n : Fin 2048) (d : Fin 16384)
    (h : hotR P n d = 1#1) : exR G GP P n d ≠ 1#1 := by
  unfold exR
  rw [h]
  intro e
  exact absurd (IntOp.andi_eq_one.1 e).2 (by decide)

/-- One logit: the kernel's two products by the scaled inverse norms, masked, against the reference's quotient by the
temperature. -/
theorem logit_eq (e : BitVec 1) (s : Fin 5 → EReal) (k : Fin 5) {a x q : ℝ} (ha : accum s k = a) (hx : 0 < x) (hq : 0 < q) :
    accS e s k * (x : EReal) * ((q : EReal) * Named.named (F := Ideal) (φ := .f32) κ "log2e_over_tau" 0x41E6D4CA#32)
      = Scalar.select e ⊥ (((a * q * x * 20 : ℝ) : EReal) * l2e) := by
  have hl : (0 : ℝ) < (Real.log 2)⁻¹ := inv_pos.2 (Real.log_pos (by norm_num))
  rw [scale_eq, l2e_eq, ← EReal.coe_mul, ← EReal.coe_mul]
  by_cases h : e = 1#1
  · subst h
    rw [accS_masked, EReal.bot_mul_coe_of_pos hx, EReal.bot_mul_coe_of_pos (by positivity)]
    rfl
  · rw [accS_kept h, ha, ← EReal.coe_mul, ← EReal.coe_mul]
    refine Eq.trans ?_ (if_neg h).symm
    congr 1
    ring

/-- The reference's logit, as a real number. -/
theorem logitR_eq {a q x : ℝ} : Ideal.div ((a : EReal) * ((q : EReal) * (x : EReal))) tauC = ((a * q * x * 20 : ℝ) : EReal) := by
  rw [tau_eq, div_coe _ (by norm_num), ← EReal.coe_mul, ← EReal.coe_mul, ← EReal.coe_mul]
  congr 1
  ring

variable (m : (ℓ : Loc nD τ sig) → Buf (Elt Ideal) ℓ)

/-- One row: the kernel's loss is the reference's. -/
theorem row_loss_eq (c : Dev nD) (hQ : ∀ y, ∃ r : ℝ, argQ m c y = r)
    (hX : ∀ (k : Fin 5) (d : Fin 16384), ∃ r : ℝ, 0 < r ∧ argX m c (ix2 ⟨1 + k.val, by omega⟩ d) = r)
    (hC : ∀ (k : Fin 5) (n : Fin 2048), ∃ r : ℝ, 0 < r ∧ argC m c (ix2 n ⟨1 + k.val, by omega⟩) = r)
    (k : Fin 5) (n : Fin 2048) (h : k.val < 8) :
    rlF m c (ix2 ⟨k.val, h⟩ n) = lossR (argD m c) (argX m c) (fun d => argG m c (ix1 d)) (argQ m c) (argC m c)
      (fun n => argGP m c (ix1 n)) (fun n => argP m c (ix1 n)) k n := by
  choose a ha using fun d => accum_real (segs_real (argQ m c) (argD m c) n d hQ) k
  choose x hx0 hx using hX k
  obtain ⟨q, hq0, hq⟩ := hC k n
  have hL : logitR (argD m c) (argX m c) (argQ m c) (argC m c) k n = fun d => ((a d * q * x d * 20 : ℝ) : EReal) := funext fun d => by
    unfold logitR
    rw [ha, hx, hq, logitR_eq]
  unfold lossR
  rw [rl_eq, hL, log2e_eq, ln2_eq]
  refine row_eq _ _ (fun d => a d * q * x d * 20) _ (fun d => ?_) fun d => hot_not_ex _ _ _ n d
  unfold s2K
  rw [hx, hq]
  exact logit_eq _ _ k (ha d) (hx0 d) hq0

end Cert.KernelIdeal.Hand
end
-- ==== Proof.Algebraic.lean ====
/-
  The value claim: on equal arguments that meet the precondition, the kernel and its reference end with the same losses
  and the same row losses, their arguments unchanged.
-/
module

public import proofs.«01_k».proof.Proof.StatsEq

@[expose] public section
noncomputable section
namespace Cert.KernelIdeal.Hand
open Cert.KernelIdeal Cert.KernelIdeal.Gen
open Idealize.ShloMosaic Idealize.ShloMosaic.TcCoe

/-- The row losses of the kernel's arguments, as the reference computes them. -/
def rowLosses (m : (ℓ : Loc nD τ sig) → Buf (Elt Ideal) ℓ) (c : Dev nD) : S5x2048.Idx → EReal := fun y =>
  Cert.ReferenceIdeal.Hand.lossR (argD m c) (argX m c) (fun d => argG m c (ix1 d)) (argQ m c) (argC m c)
    (fun n => argGP m c (ix1 n)) (fun n => argP m c (ix1 n)) (y 0) (y 1)

variable (m : (ℓ : Loc nD τ sig) → Buf (Elt Ideal) ℓ)

/-- Under the precondition the kernel's row losses are the reference's. -/
theorem rows_eq (hpre : Cert.Pre_KernelIdeal_finite m) (c : Dev nD) :
    (fun y : S5x2048.Idx => rlF m c (ix2 ⟨(y 0).val, by have := (y 0).isLt; show _ < 8; change _ < 5 at this; omega⟩ (y 1)))
      = rowLosses m c := by
  obtain ⟨hQ, hX, hC⟩ := Cert.Pre_finite.Hand.fn_says _ _ _ _ _ _ _ (hpre c)
  funext y
  exact row_loss_eq m c hQ hX hC (y 0) (y 1) _

/-- What the kernel ends with. -/
theorem kernel_run (hpre : Cert.Pre_KernelIdeal_finite m) (ρ : Dev nD → PrngReg) :
    θ_run defs (onTc (τ := τ) (main (F := Ideal))) ⟨m, fun _ => 0, ρ⟩ (fun r => ∀ c : Dev nD,
      r.2.mem ((c.tc : Thread nD τ).loc main_v9) = lossOf (rowLosses m c)
      ∧ r.2.mem ((c.tc : Thread nD τ).loc main_v6) = rowLosses m c) :=
  (θ_run defs _ _).mono (fun r (h : _ ∧ _) c =>
    ⟨((h.1 c).2 main_v9 (Pipeline.mem_restRefs_of main_v9 (by decide) (by decide))).trans
        ((W_loss m c).trans (congrArg lossOf (rows_eq m hpre c))),
      ((h.1 c).2 main_v6 (Pipeline.mem_restRefs_of main_v6 (by decide) (by decide))).trans ((W_rl m c).trans (rows_eq m hpre c))⟩)
    (run_main m ρ)

end Cert.KernelIdeal.Hand

namespace Cert.ReferenceIdeal.Hand
open Cert.ReferenceIdeal Cert.ReferenceIdeal.Gen
open Idealize.ShloMosaic Idealize.ShloMosaic.TcCoe

/-- What the reference ends with. -/
theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v7) = lossOf (refRL m c)
      ∧ r.2.mem ((c.tc : Thread nD τ).loc main_v4) = refRL m c) :=
  (θ_run defs _ _).mono (fun r h c =>
    ⟨((h c).2 main_v7 (Pipeline.mem_restRefs_of main_v7 (by decide) (by decide))).trans (W_loss m c),
      ((h c).2 main_v4 (Pipeline.mem_restRefs_of main_v4 (by decide) (by decide))).trans (W_rl m c)⟩)
    (run_main m ρ)

end Cert.ReferenceIdeal.Hand

namespace Cert.Hand
open Idealize.ShloMosaic Idealize.ShloMosaic.TcCoe

/-- Equal arguments have equal row losses. -/
theorem rows_congr {D D' : Cert.ReferenceIdeal.S16384x768.Idx → BitVec 8} {X X' : Cert.ReferenceIdeal.S16x16384.Idx → EReal}
    {G G' : Cert.ReferenceIdeal.S16384.Idx → BitVec 32} {Q Q' : Cert.ReferenceIdeal.S2048x768.Idx → EReal}
    {C C' : Cert.ReferenceIdeal.S2048x128.Idx → EReal} {GP GP' P P' : Cert.ReferenceIdeal.S2048.Idx → BitVec 32}
    (hD : D = D') (hX : X = X') (hG : G = G') (hQ : Q = Q') (hC : C = C') (hGP : GP = GP') (hP : P = P') :
    (fun y : Cert.ReferenceIdeal.S5x2048.Idx => Cert.ReferenceIdeal.Hand.lossR D X (fun d => G (ix1 d)) Q C (fun n => GP (ix1 n))
        (fun n => P (ix1 n)) (y 0) (y 1))
      = fun y => Cert.ReferenceIdeal.Hand.lossR D' X' (fun d => G' (ix1 d)) Q' C' (fun n => GP' (ix1 n)) (fun n => P' (ix1 n)) (y 0) (y 1) := by
  subst hD hX hG hQ hC hGP hP
  rfl

/-- The two means over the rows are one function. -/
theorem loss_eq : Cert.ReferenceIdeal.Hand.lossOf = Cert.KernelIdeal.Hand.lossOf := rfl

/-- The value claim. -/
theorem algebraic : Cert.algebraic_KernelIdeal_ReferenceIdeal_pre_finite := by
  intro m g m' g' hpre hag
  have hR : ∀ c, Cert.ReferenceIdeal.Hand.refRL m' c = Cert.KernelIdeal.Hand.rowLosses m c := fun c =>
    rows_congr (hag c).1 (hag c).2.1 (hag c).2.2.1 (hag c).2.2.2.1 (hag c).2.2.2.2.1 (hag c).2.2.2.2.2.1 (hag c).2.2.2.2.2.2
  refine ⟨fun c => Cert.KernelIdeal.Hand.lossOf (Cert.KernelIdeal.Hand.rowLosses m c), fun c => Cert.KernelIdeal.Hand.rowLosses m c, ?_, ?_⟩
  · refine (θ_run _ _ _).mono ?_ (θ_run_and (Cert.KernelIdeal.Hand.kernel_run m hpre g) (Cert.KernelIdeal.Hand.frame m g))
    exact fun r h c => ⟨(h.1 c).1, (h.1 c).2, h.2.1 c⟩
  · refine (θ_run _ _ _).mono ?_ (θ_run_and (Cert.ReferenceIdeal.Hand.reference_run m' g') (Cert.ReferenceIdeal.Gen.unchanged (F := Ideal) m' g'))
    exact fun r h c => ⟨(h.1 c).1.trans ((congrArg Cert.ReferenceIdeal.Hand.lossOf (hR c)).trans (congrFun loss_eq _)),
      (h.1 c).2.trans (hR c), h.2 c⟩

end Cert.Hand
end
-- ==== Proof.GradFrame.lean ====
/-
  `Grad`'s frame, proved at every value instance: the gradient pass runs to its end, its arguments unchanged and every
  semaphore counter back at zero. The two outputs are forgotten (nothing here reads them) and the nine scratch buffers
  are held at whatever contents the points leave, so the outer loop's invariant says only which buffers a trip owns.
-/
module

public import proofs.«01_k».proof.Proof.Gen.Grad.Frame
public import proofs.«01_k».proof.Proof.Gen.Grad.Points
public import proofs.«01_k».proof.Proof.Gen.Grad.Loops
public import Idealize.ShloMosaic.Lib.Pipeline.Frame
public import Idealize.ShloMosaic.Lib.Tactic

@[expose] public section

set_option maxRecDepth 16384

noncomputable section

namespace Cert.Grad.Hand

open Cert.Grad Cert.Grad.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F]

local notation "𝕄" => MT nD τ sig Unit (Elt F) ℕ (UR sig nD τ) ℕ

/-- A whole buffer behind a memref, at contents `f`. -/
abbrev pt (c : Dev nD) {S : Shape} {e : EltTy} (M : Memref sig .tc .vmem S e) (f : M.view.ty.Contents (Elt F)) : sProp 𝕄 :=
  M.view.loc (c : Thread nD τ) ↦[M.view.set]{fullShare} f

set_option warn.classDefReducibility false in
set_option maxHeartbeats 4000000 in
/-- The outer loop: a trip reads the queries, their transpose, the two index columns and the three spread columns, and
    leaves the other six buffers at some contents. -/
@[sl_loop] def loopInv_k0_t1 (c : Dev nD) (i : grid0.Coords) (arg1 : Memref sig .tc .smem S5 .f32) (harg1 : arg1.IsWhole) (arg2 : Memref sig .tc .vmem S256x768 .i8) (harg2 : arg2.IsWhole) (arg3 : Memref sig .tc .vmem S16x256 .f32) (harg3 : arg3.IsWhole) (arg4 : Memref sig .tc .vmem S1x256 .i32) (harg4 : arg4.IsWhole) (arg5 : Memref sig .tc .vmem S2048x768 .bf16) (harg5 : arg5.IsWhole) (arg6 : Memref sig .tc .vmem S768x2048 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .i32) (harg9 : arg9.IsWhole) (arg10 : Memref sig .tc .vmem S2048x128 .i32) (harg10 : arg10.IsWhole) (arg11 : Memref sig .tc .vmem S256x768 .bf16) (harg11 : arg11.IsWhole) (arg12 : Memref sig .tc .vmem S2048x768 .bf16) (harg12 : arg12.IsWhole) (arg13 : Memref sig .tc .vmem S5x256x256 .f32) (harg13 : arg13.IsWhole) (arg14 : Memref sig .tc .vmem S5x256x256 .bf16) (harg14 : arg14.IsWhole) (arg15 : Memref sig .tc .vmem S5x2048x128 .f32) (harg15 : arg15.IsWhole) (arg16 : Memref sig .tc .vmem S5x2048x128 .f32) (harg16 : arg16.IsWhole) (arg17 : Memref sig .tc .vmem S5x2048x128 .f32) (harg17 : arg17.IsWhole) (arg18 : Memref sig .tc .vmem S5x2048x128 .f32) (harg18 : arg18.IsWhole) (arg19 : Memref sig .tc .vmem S5x8x256 .f32) (harg19 : arg19.IsWhole) (arg20 : Memref sig .tc .vmem S2048x768 .f32) (harg20 : arg20.IsWhole) (arg21 : Memref sig .tc .vmem S768x256 .f32) (harg21 : arg21.IsWhole) (v4 : FVec F S256x768 .bf16) (v6 : IVec S1x256 32) (v10 : IVec S1x256 32) (v11 : Vec F S1x256 .f32) (v12 : Vec F S1x256 .f32) (v13 : Vec F S1x256 .f32) (v14 : Vec F S1x256 .f32) (v15 : Vec F S1x256 .f32) (v19 : FVec F S1x256 .f32) (v23 : FVec F S1x256 .f32) (v27 : FVec F S1x256 .f32) (v31 : FVec F S1x256 .f32) (v32 : Elt F .f32)
    (X5 : arg5.view.ty.Contents (Elt F)) (X6 : arg6.view.ty.Contents (Elt F)) (X9 : arg9.view.ty.Contents (Elt F)) (X10 : arg10.view.ty.Contents (Elt F)) (X15 : arg15.view.ty.Contents (Elt F)) (X16 : arg16.view.ty.Contents (Elt F)) (X17 : arg17.view.ty.Contents (Elt F)) :
    LoopInvTy_k0_t1 (F := F) Unit ℕ (UR sig nD τ) ℕ Variants.none c none Set.univ i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v10 v11 v12 v13 v14 v15 v19 v23 v27 v31 v32 where
  inv := fun k _ => iprop(pt c arg5 X5 ∗ pt c arg6 X6 ∗ pt c arg9 X9 ∗ pt c arg10 X10 ∗ pt c arg15 X15 ∗ pt c arg16 X16 ∗ pt c arg17 X17 ∗ (∃ f, pt c arg13 f) ∗ (∃ f, pt c arg14 f) ∗ (∃ f, pt c arg18 f) ∗ (∃ f, pt c arg19 f) ∗ (∃ f, pt c arg20 f) ∗ (∃ f, pt c arg21 f))
  step k acc := by
    have hk : k.val < 8 := Nat.lt_of_lt_of_le k.isLt k0_t1_abs.2.1
    unfold k0_t1_body
    iintro ⟨H5, H6, H9, H10, H15, H16, H17, ⟨%f13, H13⟩, ⟨%f14, H14⟩, ⟨%f18, H18⟩, ⟨%f19, H19⟩, ⟨%f20, H20⟩, ⟨%f21, H21⟩⟩
    sl_exec
    sl_step
    sl_close

set_option maxHeartbeats 8000000 in
/-- The body's triple: from the inputs at what they hold and everything else at anything, the kernel runs to its return,
    the inputs unchanged. -/
theorem kernelRun (c : Dev nD) (i : grid0.Coords) (arg1 : Memref sig .tc .smem S5 .f32) (harg1 : arg1.IsWhole) (arg2 : Memref sig .tc .vmem S256x768 .i8) (harg2 : arg2.IsWhole) (arg3 : Memref sig .tc .vmem S16x256 .f32) (harg3 : arg3.IsWhole) (arg4 : Memref sig .tc .vmem S1x256 .i32) (harg4 : arg4.IsWhole) (arg5 : Memref sig .tc .vmem S2048x768 .bf16) (harg5 : arg5.IsWhole) (arg6 : Memref sig .tc .vmem S768x2048 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .i32) (harg9 : arg9.IsWhole) (arg10 : Memref sig .tc .vmem S2048x128 .i32) (harg10 : arg10.IsWhole) (arg11 : Memref sig .tc .vmem S256x768 .bf16) (harg11 : arg11.IsWhole) (arg12 : Memref sig .tc .vmem S2048x768 .bf16) (harg12 : arg12.IsWhole) (arg13 : Memref sig .tc .vmem S5x256x256 .f32) (harg13 : arg13.IsWhole) (arg14 : Memref sig .tc .vmem S5x256x256 .bf16) (harg14 : arg14.IsWhole) (arg15 : Memref sig .tc .vmem S5x2048x128 .f32) (harg15 : arg15.IsWhole) (arg16 : Memref sig .tc .vmem S5x2048x128 .f32) (harg16 : arg16.IsWhole) (arg17 : Memref sig .tc .vmem S5x2048x128 .f32) (harg17 : arg17.IsWhole) (arg18 : Memref sig .tc .vmem S5x2048x128 .f32) (harg18 : arg18.IsWhole) (arg19 : Memref sig .tc .vmem S5x8x256 .f32) (harg19 : arg19.IsWhole) (arg20 : Memref sig .tc .vmem S2048x768 .f32) (harg20 : arg20.IsWhole) (arg21 : Memref sig .tc .vmem S768x256 .f32) (harg21 : arg21.IsWhole)
    (X1 : S5.Idx → Elt F .f32) (X2 : S256x768.Idx → Elt F .i8) (X3 : S16x256.Idx → Elt F .f32) (X4 : S1x256.Idx → Elt F .i32) (X5 : S2048x768.Idx → Elt F .bf16) (X6 : S768x2048.Idx → Elt F .bf16) (X7 : S2048x128.Idx → Elt F .f32) (X8 : S2048x128.Idx → Elt F .f32) (X9 : S2048x128.Idx → Elt F .i32) (X10 : S2048x128.Idx → Elt F .i32)
    (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ owns (c : Thread nD τ) arg10 fullShare X10 ∗ (∃ d, owns (c : Thread nD τ) arg11 fullShare d) ∗ (∃ d, owns (c : Thread nD τ) arg12 fullShare d) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f)) -∗ K ⟨⟩))
      ⊢ wp frame (wpE (defs₀ (F := F)) Variants.none c none) Set.univ (cc0_grad_pass i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_grad_pass_eq_skeleton]; unfold cc0_grad_pass_skel
  unfold owns
  iintro ⟨⟨%f1, %e1, H1⟩, ⟨%f2, %e2, H2⟩, ⟨%f3, %e3, H3⟩, ⟨%f4, %e4, H4⟩, ⟨%f5, %e5, H5⟩, ⟨%f6, %e6, H6⟩, ⟨%f7, %e7, H7⟩, ⟨%f8, %e8, H8⟩, ⟨%f9, %e9, H9⟩, ⟨%f10, %e10, H10⟩, ⟨%d11, %f11, -, H11⟩, ⟨%d12, %f12, -, H12⟩, ⟨%f13, H13⟩, ⟨%f14, H14⟩, ⟨%f15, H15⟩, ⟨%f16, H16⟩, ⟨%f17, H17⟩, ⟨%f18, H18⟩, ⟨%f19, H19⟩, ⟨%f20, H20⟩, ⟨%f21, H21⟩, Hk⟩
  by_cases h1 : Scalar.cmpi .ne (Scalar.extui (Scalar.cmpi .eq (BitVec.ofNat 32 (i 0).val) 0#32)) 0#32 = 1#1 <;>
  by_cases h2 : k0_cond2 i = 1#1
  all_goals
    sl_exec
    sl_step
    iapply Hk
    isplitl [H1]
    · iexists f1; isplitr
      · ipureintro; exact e1
      iexact H1
    isplitl [H2]
    · iexists f2; isplitr
      · ipureintro; exact e2
      iexact H2
    isplitl [H3]
    · iexists f3; isplitr
      · ipureintro; exact e3
      iexact H3
    isplitl [H4]
    · iexists f4; isplitr
      · ipureintro; exact e4
      iexact H4
    isplitl [H5]
    · iexists f5; isplitr
      · ipureintro; exact e5
      iexact H5
    isplitl [H6]
    · iexists f6; isplitr
      · ipureintro; exact e6
      iexact H6
    isplitl [H7]
    · iexists f7; isplitr
      · ipureintro; exact e7
      iexact H7
    isplitl [H8]
    · iexists f8; isplitr
      · ipureintro; exact e8
      iexact H8
    isplitl [H9]
    · iexists f9; isplitr
      · ipureintro; exact e9
      iexact H9
    isplitl [H10]
    · iexists f10; isplitr
      · ipureintro; exact e10
      iexact H10
    isplitl [H11]
    · iexists _, _; isplitr; swap; · iexact H11
      ipureintro; rfl
    isplitl [H12]
    · iexists _, _; isplitr; swap; · iexact H12
      ipureintro; rfl
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    iexists _; iexact H21

/-! ## The proof data and the body obligation -/

variable (m : (ℓ : Loc nD τ sig) → Buf (Elt F) ℓ) (ρ : Dev nD → PrngReg)

/-- The two outputs, forgotten: nothing here reads what the kernel leaves in them. -/
def forgets0 : Fin 12 → Bool := fun | 10 => true | 11 => true | _ => false

/-- The proof data on core `c`: the arrays as the region finds them; an input's staging buffer left at its block; the
    outputs unnamed; the class invariant (the scratch at some contents). -/
def dats (_ : Fin 1) (c : Dev nD) : Dat τ (Elt F) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => Pipeline.Dat.unnamed (cfg := cfg0) 10 t
    | 11 => Pipeline.Dat.unnamed (cfg := cfg0) 11 t
  Φ _ := Pipeline.ΦA spec0 c
  q _ := fullShare
  owed _ := 0

theorem A_eq (c : Dev nD) (w : Fin cfg0.W) : (dats m 0 c).A w = V m c (Pipeline.arrRef spec0 w) := by dsimp only [dats]

/-- The invariant between points: the nine scratch buffers at some contents and the generator register. -/
theorem PhiA0_eq (c : Dev nD) :
    (Pipeline.ΦA spec0 c : sProp 𝕄)
      = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) ∗ (∃ r, prngReg c r)) := by
  unfold Pipeline.ΦA; rw [scopedRest0_eq]; simp only [pt, View.set_whole, Memref.view_whole]; try rfl

set_option maxHeartbeats 2000000 in
/-- The body at a point: every input's buffer holds its block (`before0_W_of`), the rest is `kernelRun`. -/
theorem sound_body (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare d)
      ∗ (∃ d, owns (c : Thread nD τ) (st0_11 t) fullShare d))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ (∃ d, owns (c : Thread nD τ) (st0_10 t) fullShare d)
        ∗ (∃ d, owns (c : Thread nD τ) (st0_11 t) fullShare d))) := by
  unfold bodyAt0
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl, PhiA0_eq]
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t, before0_7_of m (dats m 0 c) (A_eq m c 7) (fun _ => rfl) t, before0_8_of m (dats m 0 c) (A_eq m c 8) (fun _ => rfl) t, before0_9_of m (dats m 0 c) (A_eq m c 9) (fun _ => rfl) t]
  iintro ⟨⟨⟨S0, S1, S2, S3, S4, S5, S6, S7, S8⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11⟩
  iapply (kernelRun c (grid0.coords t) _ _ _ _ _ _ _ _ _ _ _ _ _ _ _ _ _ _ _ _ _ _ _ _ _ _ _ _ _ _ _ _ _ _ _ _ _ _ _ _ _ _
    (iblk m c 0 t) (iblk m c 1 t) (iblk m c 2 t) (iblk m c 3 t) (iblk m c 4 t) (iblk m c 5 t) (iblk m c 6 t) (iblk m c 7 t) (iblk m c 8 t) (iblk m c 9 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  iintro ⟨H0, H1, H2, H3, H4, H5, H6, H7, H8, H9, H10, H11, S0, S1, S2, S3, S4, S5, S6, S7, S8⟩
  isplitl [S0 S1 S2 S3 S4 S5 S6 S7 S8 Hg]
  · isplitl [S0 S1 S2 S3 S4 S5 S6 S7 S8]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      iexact S8
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

/-- The library's body obligation with the outputs forgotten. -/
theorem body_obligation (c : Dev nD) :
    BodyObligation (dats (F := F) m 0 c) (defs₀ (F := F)) Variants.none () Set.univ forgets0 := fun t => by
  rw [bigSep_W0, bigSep_W0, defs₀_row]
  exact triple_restated (sound_body m c t) rfl .rfl fun _ => .rfl

/-! ## The launch -/

set_option backward.isDefEq.respectTransparency.types false in
/-- At any value instance, from any memory with zero counters: @main runs to its end, every array the kernel only reads and
    every buffer outside the region at its contents on entry to the region, every counter at zero. -/
theorem run_main :
    θ_run defs (onTc (τ := τ) (main (F := F))) (s₀ m ρ)
      (fun r => Pipeline.RDat.FramePost (cfgs 0) (fun c => (dats m 0 c).toRForget forgets0) (V m) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hΦ := fun _ _ => rfl) (hQ' := fun _ h => h)

/-- The frame claim's post: the nine arguments at their launch contents, every counter at zero. -/
theorem frame :
    θ_run defs (onTc (τ := τ) (main (F := F))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r (h : _ ∧ _) => ⟨fun c =>
    ⟨(h.1.arr_in (w := 0) (c := c) rfl).trans (V_main_arg0 m c),
      (h.1.arr_in (w := 1) (c := c) rfl).trans (V_main_arg1 m c),
      (h.1.arr_in (w := 2) (c := c) rfl).trans (V_main_arg2 m c),
      ((h.1 c).2 main_arg3 (Pipeline.mem_restRefs_of main_arg3 (by decide) (by decide))).trans (V_main_arg3 m c),
      (h.1.arr_in (w := 4) (c := c) rfl).trans (V_main_arg4 m c),
      (h.1.arr_in (w := 6) (c := c) rfl).trans (V_main_arg5 m c),
      (h.1.arr_in (w := 7) (c := c) rfl).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩)
    (run_main m ρ)

end Cert.Grad.Hand

end
-- ==== Proof.GradBlock.lean ====
/-
  WHAT ONE TRIP OF THE GRADIENT PASS COMPUTES, as plain functions of the operands it loads: the prefix logits of a query
  and a document of the block, the probability less the positive's share, the two products made of them, and lemmas that
  read a buffer after the stores of a trip.
-/
module

public import proofs.«01_k».proof.Proof.Gen.GradIdeal.Frame
public import proofs.«01_k».proof.Proof.Gen.GradIdeal.Skeleton
public import Idealize.ShloMosaic.Lib.Pointwise
public import Idealize.ShloMosaic.Lib.WritesUnit

@[expose] public section

set_option maxRecDepth 16384

noncomputable section

namespace Cert.GradIdeal.Hand

open Cert.GradIdeal Cert.GradIdeal.Gen
open Idealize.ShloMosaic

/-- The operands of a grid point apart from the dot products: the documents' numbers and groups, their inverse norms for
the five prefixes alone and times the weights, the queries' groups and own documents, and the three columns of the queries
spread over the lanes. -/
structure Blk where
  mid : S1x256.Idx → BitVec 32
  grp : S1x256.Idx → BitVec 32
  ird : Fin 5 → S1x256.Idx → EReal
  wrd : Fin 5 → S1x256.Idx → EReal
  gq : S2048x128.Idx → BitVec 32
  pos : S2048x128.Idx → BitVec 32
  cn : S5x2048x128.Idx → EReal
  la : S5x2048x128.Idx → EReal
  irq : S5x2048x128.Idx → EReal

/-- Whether the document is the query's own, as the kernel's comparison bit. -/
def Blk.hot (b : Blk) (n : Fin 2048) (l : Fin 128) (m : Fin 256) : BitVec 1 := IntOp.cmpi CmpIPredicate.eq (b.mid (ix2 0 m)) (b.pos (ix2 n l))

/-- Whether the document is excluded for the query. -/
def Blk.ex (b : Blk) (n : Fin 2048) (l : Fin 128) (m : Fin 256) : BitVec 1 :=
  IntOp.andi (IntOp.cmpi CmpIPredicate.eq (b.grp (ix2 0 m)) (b.gq (ix2 n l))) (IntOp.xori (b.hot n l m) 1#1)

/-- The dot product of the first `k + 1` segments out of the five segments' dot products; an excluded pair starts from the
mask instead of its first segment. -/
def accS (e : BitVec 1) (s : Fin 5 → EReal) : Fin 5 → EReal :=
  let a : EReal := Scalar.select e (Named.named (F := Ideal) (φ := .f32) κ "masked" 0xD3800000#32) (s 0)
  ![a, a + s 1, a + s 1 + s 2, a + s 1 + s 2 + s 3, a + s 1 + s 2 + s 3 + s 4]

/-- The dot product of prefix `k` times the document's inverse norm. -/
def Blk.at (b : Blk) (sv : Fin 5 → Fin 2048 → Fin 256 → EReal) (k : Fin 5) (n : Fin 2048) (l : Fin 128) (m : Fin 256) : EReal :=
  accS (b.ex n l m) (fun j => sv j n m) k * b.ird k (ix2 0 m)

/-- The scaled probability, less the scale at the query's own document. -/
def Blk.e (b : Blk) (sv : Fin 5 → Fin 2048 → Fin 256 → EReal) (k : Fin 5) (n : Fin 2048) (l : Fin 128) (m : Fin 256) : EReal :=
  Scalar.select (b.hot n l m) (Ideal.exp2 (b.at sv k n l m * b.cn (ix3 k n l) + b.la (ix3 k n l)) - b.irq (ix3 k n l))
    (Ideal.exp2 (b.at sv k n l m * b.cn (ix3 k n l) + b.la (ix3 k n l)))

/-- It times the document's weighted inverse norm. -/
def Blk.h (b : Blk) (sv : Fin 5 → Fin 2048 → Fin 256 → EReal) (k : Fin 5) (n : Fin 2048) (l : Fin 128) (m : Fin 256) : EReal :=
  b.e sv k n l m * b.wrd k (ix2 0 m)

/-- The sums over the prefixes from the last down to `k`. -/
def down (f : Fin 5 → EReal) : Fin 5 → EReal := ![f 4 + f 3 + f 2 + f 1 + f 0, f 4 + f 3 + f 2 + f 1, f 4 + f 3 + f 2, f 4 + f 3, f 4]

/-- The operand of the second products: the sum over the prefixes that hold segment `k`. -/
def Blk.R (b : Blk) (sv : Fin 5 → Fin 2048 → Fin 256 → EReal) (k : Fin 5) (n : Fin 2048) (l : Fin 128) (m : Fin 256) : EReal :=
  down (fun k => b.h sv k n l m) k

/-- What the pair adds to the column sums. -/
def Blk.y (b : Blk) (sv : Fin 5 → Fin 2048 → Fin 256 → EReal) (k : Fin 5) (n : Fin 2048) (l : Fin 128) (m : Fin 256) : EReal :=
  b.e sv k n l m * b.at sv k n l m

/-- The lane of a document, and the first and the second document of a lane. -/
def ln (m : Fin 256) : Fin 128 := ⟨m.val % 128, by omega⟩
def lo (l : Fin 128) : Fin 256 := ⟨l.val, by omega⟩
def hi (l : Fin 128) : Fin 256 := ⟨128 + l.val, by omega⟩

/-- Either document of a lane lies in that lane. -/
theorem ln_lo (l : Fin 128) (h : l.val < 256) : ln ⟨l.val, h⟩ = l := Fin.ext (Nat.mod_eq_of_lt l.isLt)
theorem ln_hi (l : Fin 128) (h : 128 + l.val < 256) : ln ⟨128 + l.val, h⟩ = l := Fin.ext (by show (128 + l.val) % 128 = l.val; omega)

/-- A function of the rows at any number, zero past the last row. -/
def row {N : ℕ} (f : Fin N → EReal) (n : ℕ) : EReal := if h : n < N then f ⟨n, h⟩ else 0

theorem row_lt {N : ℕ} (f : Fin N → EReal) {n : ℕ} (h : n < N) : row f n = f ⟨n, h⟩ := dif_pos h

/-- `f` with the terms of the trips from `a` to `b` added. -/
def addUp {ι : Type} (a b : ℕ) (f : ι → EReal) (T : ℕ → ι → EReal) : ι → EReal := fun y => f y + ∑ q ∈ Finset.Ico a b, T q y

theorem addUp_self {ι : Type} (a : ℕ) (f : ι → EReal) (T : ℕ → ι → EReal) : addUp a a f T = f := by
  funext y; simp [addUp]

theorem addUp_succ {ι : Type} {a b : ℕ} (h : a ≤ b) (f : ι → EReal) (T : ℕ → ι → EReal) :
    addUp a (b + 1) f T = fun y => addUp a b f T y + T b y := by
  funext y; simp only [addUp, Finset.sum_Ico_succ_top h, add_assoc]

theorem addUp_trans {ι : Type} {a b c : ℕ} (hab : a ≤ b) (hbc : b ≤ c) (f : ι → EReal) (T : ℕ → ι → EReal) :
    addUp b c (addUp a b f T) T = addUp a c f T := by
  funext y; simp only [addUp, add_assoc, Finset.sum_Ico_consecutive _ hab hbc]

theorem addUp_congr {ι : Type} {a b : ℕ} (f : ι → EReal) {T T' : ℕ → ι → EReal} (h : ∀ q, a ≤ q → q < b → T q = T' q) :
    addUp a b f T = addUp a b f T' := by
  funext y
  refine congrArg (f y + ·) (Finset.sum_congr rfl fun q hq => ?_)
  rw [h q (Finset.mem_Ico.1 hq).1 (Finset.mem_Ico.1 hq).2]

/-- `addUp` before trip `k`: before the first trip, the contents at the loop's entry. -/
@[reducible] def addTo {ι : Type} (k a b : ℕ) (f : ι → EReal) (T : ℕ → ι → EReal) : ι → EReal :=
  match k with
  | 0 => f
  | _ + 1 => addUp a b f T

theorem addTo_eq {ι : Type} {k a b : ℕ} (h : k = 0 → a = b) (f : ι → EReal) (T : ℕ → ι → EReal) : addTo k a b f T = addUp a b f T := by
  match k with
  | 0 => rw [h rfl, addUp_self]
  | _ + 1 => rfl

/-- The rows below `b` hold `g`, the others `f`; before the first trip, `f`. -/
def fill (b : ℕ) (f g : S5x256x256.Idx → EReal) : S5x256x256.Idx → EReal := fun y => if (y 1).val < b then g y else f y

@[reducible] def fillTo (k b : ℕ) (f g : S5x256x256.Idx → EReal) : S5x256x256.Idx → EReal :=
  match k with
  | 0 => f
  | _ + 1 => fill b f g

theorem fillTo_eq {k b : ℕ} (h : k = 0 → b = 0) (f g : S5x256x256.Idx → EReal) : fillTo k b f g = fill b f g := by
  match k with
  | 0 => rw [h rfl]; rfl
  | _ + 1 => rfl

/-- What trip `q` (of all the trips of a point) adds to the column sums at a plane, sublane and document. -/
def colT (Y : Fin 5 → Fin 2048 → Fin 256 → EReal) (q : ℕ) : S5x8x256.Idx → EReal :=
  fun y => row (fun n => Y (y 0) n (y 2)) (16 * q + (y 1).val) + row (fun n => Y (y 0) n (y 2)) (16 * q + 8 + (y 1).val)

/-- Two stored half planes, next to each other in plane `kk` at rows from `o`: `G` there, the rest as before. -/
theorem writes_pair {sig : RefSig} {κ : Kind} {sp : Space} {e : EltTy} {N S : ℕ} (v : View sig κ sp ⟨3, ![5, N, 256]⟩ e)
    (f : v.ty.Contents (Elt Ideal)) (L : List (View.Piece (Elt Ideal) ⟨3, ![5, N, 256]⟩ e)) (kk : Fin 5) (o : ℕ) (hb : o + S ≤ N)
    {off0 off1 : Fin 3 → ℕ} (h0 : off0 = ![kk.val, o, 0]) (h1 : off1 = ![kk.val, o, 128])
    (i0 : ∀ a, off0 a + (![1, S, 128] : Fin 3 → ℕ) a ≤ (⟨3, ![5, N, 256]⟩ : Shape).size a)
    (i1 : ∀ a, off1 a + (![1, S, 128] : Fin 3 → ℕ) a ≤ (⟨3, ![5, N, 256]⟩ : Shape).size a)
    (w0 w1 : (⟨3, ![1, S, 128]⟩ : Shape).Idx → Elt Ideal e) (G : Fin N → Fin 256 → Elt Ideal e)
    (hw0 : ∀ (r : Fin S) (l : Fin 128), w0 (ix3 0 r l) = G ⟨o + r.val, by omega⟩ (lo l))
    (hw1 : ∀ (r : Fin S) (l : Fin 128), w1 (ix3 0 r l) = G ⟨o + r.val, by omega⟩ (hi l)) (k : Fin 5) (n : Fin N) (m : Fin 256) :
    v.read (Elt Ideal) (v.writes (Elt Ideal) f
      (⟨Rect.unit (s := ⟨3, ![5, N, 256]⟩) off1 (![1, S, 128] : Fin 3 → ℕ) i1, w1⟩ :: ⟨Rect.unit (s := ⟨3, ![5, N, 256]⟩) off0 (![1, S, 128] : Fin 3 → ℕ) i0, w0⟩ :: L)) (ix3 k n m)
      = if k = kk ∧ o ≤ n.val ∧ n.val < o + S then G n m else v.read (Elt Ideal) (v.writes (Elt Ideal) f L) (ix3 k n m) := by
  subst h0 h1
  by_cases h : k = kk ∧ o ≤ n.val ∧ n.val < o + S
  · rw [if_pos h]
    obtain ⟨rfl, hn, hn'⟩ := h
    obtain ⟨r, hb', rfl⟩ : ∃ (r : Fin S) (hb' : o + r.val < N), n = ⟨o + r.val, hb'⟩ :=
      ⟨⟨n.val - o, by omega⟩, by have := n.isLt; simp only []; omega, Fin.ext (by simp only []; omega)⟩
    by_cases hm : m.val < 128
    · obtain ⟨l, rfl⟩ : ∃ l : Fin 128, m = lo l := ⟨⟨m.val, hm⟩, rfl⟩
      rw [View.read_writes_cons_unit_of_not_mem v f i1 _ _ _ rfl 2 (.inl (show l.val < 128 from l.isLt)), ← hw0]
      refine View.read_writes_cons_unit_of_mem v f i0 w0 _ _ (ix3 0 r l : (⟨3, ![1, S, 128]⟩ : Shape).Idx) rfl fun a => ?_
      match a with
      | 0 => rfl
      | 1 => rfl
      | 2 => exact (Nat.zero_add _).symm
    · obtain ⟨l, rfl⟩ : ∃ l : Fin 128, m = hi l := ⟨⟨m.val - 128, by omega⟩, Fin.ext (by show m.val = 128 + (m.val - 128); omega)⟩
      rw [← hw1]
      refine View.read_writes_cons_unit_of_mem v f i1 w1 _ _ (ix3 0 r l : (⟨3, ![1, S, 128]⟩ : Shape).Idx) rfl fun a => ?_
      match a with
      | 0 => rfl
      | 1 => rfl
      | 2 => rfl
  · rw [if_neg h]
    by_cases hk : k = kk
    · have hn : n.val < o ∨ o + S ≤ n.val := by
        by_contra hc
        exact h ⟨hk, by omega⟩
      rw [View.read_writes_cons_unit_of_not_mem v f i1 _ _ _ rfl 1 hn, View.read_writes_cons_unit_of_not_mem v f i0 _ _ _ rfl 1 hn]
    · have hk' : k.val < kk.val ∨ kk.val + 1 ≤ k.val := by
        have : k.val ≠ kk.val := fun e => hk (Fin.ext e)
        omega
      rw [View.read_writes_cons_unit_of_not_mem v f i1 _ _ _ rfl 0 hk', View.read_writes_cons_unit_of_not_mem v f i0 _ _ _ rfl 0 hk']

/-- Ten stored half planes, from the last plane down: `G` in the rows from `o`, the rest as before. -/
theorem writes_ten {sig : RefSig} {κ : Kind} {sp : Space} {e : EltTy} {N S : ℕ} (v : View sig κ sp ⟨3, ![5, N, 256]⟩ e)
    (f : v.ty.Contents (Elt Ideal)) (o : ℕ) (hb : o + S ≤ N)
    {p0 p1 p2 p3 p4 q0 q1 q2 q3 q4 : Fin 3 → ℕ} (h0 : p0 = ![0, o, 0]) (h1 : p1 = ![1, o, 0]) (h2 : p2 = ![2, o, 0]) (h3 : p3 = ![3, o, 0])
    (h4 : p4 = ![4, o, 0]) (g0 : q0 = ![0, o, 128]) (g1 : q1 = ![1, o, 128]) (g2 : q2 = ![2, o, 128]) (g3 : q3 = ![3, o, 128]) (g4 : q4 = ![4, o, 128])
    (i0 : ∀ a, p0 a + (![1, S, 128] : Fin 3 → ℕ) a ≤ (⟨3, ![5, N, 256]⟩ : Shape).size a) (i1 : ∀ a, p1 a + (![1, S, 128] : Fin 3 → ℕ) a ≤ (⟨3, ![5, N, 256]⟩ : Shape).size a)
    (i2 : ∀ a, p2 a + (![1, S, 128] : Fin 3 → ℕ) a ≤ (⟨3, ![5, N, 256]⟩ : Shape).size a) (i3 : ∀ a, p3 a + (![1, S, 128] : Fin 3 → ℕ) a ≤ (⟨3, ![5, N, 256]⟩ : Shape).size a)
    (i4 : ∀ a, p4 a + (![1, S, 128] : Fin 3 → ℕ) a ≤ (⟨3, ![5, N, 256]⟩ : Shape).size a)
    (j0 : ∀ a, q0 a + (![1, S, 128] : Fin 3 → ℕ) a ≤ (⟨3, ![5, N, 256]⟩ : Shape).size a) (j1 : ∀ a, q1 a + (![1, S, 128] : Fin 3 → ℕ) a ≤ (⟨3, ![5, N, 256]⟩ : Shape).size a)
    (j2 : ∀ a, q2 a + (![1, S, 128] : Fin 3 → ℕ) a ≤ (⟨3, ![5, N, 256]⟩ : Shape).size a) (j3 : ∀ a, q3 a + (![1, S, 128] : Fin 3 → ℕ) a ≤ (⟨3, ![5, N, 256]⟩ : Shape).size a)
    (j4 : ∀ a, q4 a + (![1, S, 128] : Fin 3 → ℕ) a ≤ (⟨3, ![5, N, 256]⟩ : Shape).size a)
    (u0 u1 u2 u3 u4 w0 w1 w2 w3 w4 : (⟨3, ![1, S, 128]⟩ : Shape).Idx → Elt Ideal e) (G : Fin 5 → Fin N → Fin 256 → Elt Ideal e)
    (hu : ∀ (k : Fin 5) (r : Fin S) (l : Fin 128), (![u0, u1, u2, u3, u4] k) (ix3 0 r l) = G k ⟨o + r.val, by omega⟩ (lo l))
    (hw : ∀ (k : Fin 5) (r : Fin S) (l : Fin 128), (![w0, w1, w2, w3, w4] k) (ix3 0 r l) = G k ⟨o + r.val, by omega⟩ (hi l)) :
    v.read (Elt Ideal) (v.writes (Elt Ideal) f
      [⟨Rect.unit (s := ⟨3, ![5, N, 256]⟩) q0 (![1, S, 128] : Fin 3 → ℕ) j0, w0⟩, ⟨Rect.unit (s := ⟨3, ![5, N, 256]⟩) p0 (![1, S, 128] : Fin 3 → ℕ) i0, u0⟩,
       ⟨Rect.unit (s := ⟨3, ![5, N, 256]⟩) q1 (![1, S, 128] : Fin 3 → ℕ) j1, w1⟩, ⟨Rect.unit (s := ⟨3, ![5, N, 256]⟩) p1 (![1, S, 128] : Fin 3 → ℕ) i1, u1⟩,
       ⟨Rect.unit (s := ⟨3, ![5, N, 256]⟩) q2 (![1, S, 128] : Fin 3 → ℕ) j2, w2⟩, ⟨Rect.unit (s := ⟨3, ![5, N, 256]⟩) p2 (![1, S, 128] : Fin 3 → ℕ) i2, u2⟩,
       ⟨Rect.unit (s := ⟨3, ![5, N, 256]⟩) q3 (![1, S, 128] : Fin 3 → ℕ) j3, w3⟩, ⟨Rect.unit (s := ⟨3, ![5, N, 256]⟩) p3 (![1, S, 128] : Fin 3 → ℕ) i3, u3⟩,
       ⟨Rect.unit (s := ⟨3, ![5, N, 256]⟩) q4 (![1, S, 128] : Fin 3 → ℕ) j4, w4⟩, ⟨Rect.unit (s := ⟨3, ![5, N, 256]⟩) p4 (![1, S, 128] : Fin 3 → ℕ) i4, u4⟩])
      = fun y => if o ≤ (y 1).val ∧ (y 1).val < o + S then G (y 0) (y 1) (y 2) else v.read (Elt Ideal) f y := by
  funext y
  obtain ⟨k, n, m, rfl⟩ : ∃ (k : Fin 5) (n : Fin N) (m : Fin 256), y = ix3 k n m := ⟨y 0, y 1, y 2, eq_ix3 y⟩
  rw [writes_pair v f _ 0 o hb h0 g0 i0 j0 u0 w0 (G 0) (hu 0) (hw 0), writes_pair v f _ 1 o hb h1 g1 i1 j1 u1 w1 (G 1) (hu 1) (hw 1),
    writes_pair v f _ 2 o hb h2 g2 i2 j2 u2 w2 (G 2) (hu 2) (hw 2), writes_pair v f _ 3 o hb h3 g3 i3 j3 u3 w3 (G 3) (hu 3) (hw 3),
    writes_pair v f _ 4 o hb h4 g4 i4 j4 u4 w4 (G 4) (hu 4) (hw 4), View.writes_nil]
  show _ = if o ≤ n.val ∧ n.val < o + S then G k n m else _
  by_cases hn : o ≤ n.val ∧ n.val < o + S
  · simp only [hn, and_true, if_true]
    fin_cases k <;> rfl
  · simp only [hn, and_false, if_false]

end Cert.GradIdeal.Hand

end
-- ==== Proof.GradTrip.lean ====
/-
  THE INNER LOOP OF THE GRADIENT PASS: sixteen trips of 16 queries each make 256 rows of the second products' operand and
  add their share to the column sums.
-/
module

public import proofs.«01_k».proof.Proof.GradBlock
public import proofs.«01_k».proof.Proof.StatsOuter

@[expose] public section

set_option maxRecDepth 16384

noncomputable section

namespace Cert.GradIdeal.Hand

open Cert.GradIdeal Cert.GradIdeal.Gen
open Cert.KernelIdeal.Hand (readAt_box2 readAt_box3 read_planes)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A whole buffer behind a memref, at contents `f`. -/
abbrev pt (c : Dev nD) {S : Shape} {e : EltTy} (M : Memref sig .tc .vmem S e) (f : M.view.ty.Contents (Elt Ideal)) : sProp 𝕄 :=
  M.view.loc (c : Thread nD τ) ↦[M.view.set]{fullShare} f

/-- The operands of a grid point, as the loops receive them. -/
abbrev blkOf (v6 v10 : IVec S1x256 32) (v11 v12 v13 v14 v15 v19 v23 v27 v31 v35 : S1x256.Idx → EReal)
    (gq pos : S2048x128.Idx → BitVec 32) (cn la irq : S5x2048x128.Idx → EReal) : Blk :=
  ⟨v10, v6, ![v11, v12, v13, v14, v15], ![v19, v23, v27, v31, v35], gq, pos, cn, la, irq⟩

/-- The product scratch, read for a query of the current 256. -/
abbrev svOf (s : S5x256x256.Idx → EReal) : Fin 5 → Fin 2048 → Fin 256 → EReal :=
  fun j n m => s (ix3 j (⟨n.val % 256, Nat.mod_lt _ (by decide)⟩ : Fin 256) m)

/-- The operand of the second products for the 256 queries of outer trip `c`. -/
def rOf (b : Blk) (sv : Fin 5 → Fin 2048 → Fin 256 → EReal) (c : ℕ) : S5x256x256.Idx → EReal :=
  fun y => row (fun n => b.R sv (y 0) n (ln (y 2)) (y 2)) (256 * c + (y 1).val)

/-- The terms of the column sums, for every query and document. -/
def yOf (b : Blk) (sv : Fin 5 → Fin 2048 → Fin 256 → EReal) : Fin 5 → Fin 2048 → Fin 256 → EReal :=
  fun k n m => b.y sv k n (ln m) m

set_option warn.classDefReducibility false in
set_option maxHeartbeats 4000000 in
/-- THE INNER LOOP BY ITS INVARIANT: before trip `k` of outer trip `c` the first `16 k` rows of the product operand are
made, and the column sums hold the terms of the trips so far. -/
@[sl_loop] def loopInv_k0_t2 (c : Dev nD) (i : grid0.Coords) (arg1 : Memref sig .tc .smem S5 .f32) (harg1 : arg1.IsWhole) (arg2 : Memref sig .tc .vmem S256x768 .i8) (harg2 : arg2.IsWhole) (arg3 : Memref sig .tc .vmem S16x256 .f32) (harg3 : arg3.IsWhole) (arg4 : Memref sig .tc .vmem S1x256 .i32) (harg4 : arg4.IsWhole) (arg5 : Memref sig .tc .vmem S2048x768 .bf16) (harg5 : arg5.IsWhole) (arg6 : Memref sig .tc .vmem S768x2048 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .i32) (harg9 : arg9.IsWhole) (arg10 : Memref sig .tc .vmem S2048x128 .i32) (harg10 : arg10.IsWhole) (arg11 : Memref sig .tc .vmem S256x768 .bf16) (harg11 : arg11.IsWhole) (arg12 : Memref sig .tc .vmem S2048x768 .bf16) (harg12 : arg12.IsWhole) (arg13 : Memref sig .tc .vmem S5x256x256 .f32) (harg13 : arg13.IsWhole) (arg14 : Memref sig .tc .vmem S5x256x256 .bf16) (harg14 : arg14.IsWhole) (arg15 : Memref sig .tc .vmem S5x2048x128 .f32) (harg15 : arg15.IsWhole) (arg16 : Memref sig .tc .vmem S5x2048x128 .f32) (harg16 : arg16.IsWhole) (arg17 : Memref sig .tc .vmem S5x2048x128 .f32) (harg17 : arg17.IsWhole) (arg18 : Memref sig .tc .vmem S5x2048x128 .f32) (harg18 : arg18.IsWhole) (arg19 : Memref sig .tc .vmem S5x8x256 .f32) (harg19 : arg19.IsWhole) (arg20 : Memref sig .tc .vmem S2048x768 .f32) (harg20 : arg20.IsWhole) (arg21 : Memref sig .tc .vmem S768x256 .f32) (harg21 : arg21.IsWhole) (v4 : FVec Ideal S256x768 .bf16) (v6 : IVec S1x256 32) (v10 : IVec S1x256 32) (v11 : Vec Ideal S1x256 .f32) (v12 : Vec Ideal S1x256 .f32) (v13 : Vec Ideal S1x256 .f32) (v14 : Vec Ideal S1x256 .f32) (v15 : Vec Ideal S1x256 .f32) (v19 : FVec Ideal S1x256 .f32) (v23 : FVec Ideal S1x256 .f32) (v27 : FVec Ideal S1x256 .f32) (v31 : FVec Ideal S1x256 .f32) (v35 : FVec Ideal S1x256 .f32) (k0_t1 : Fin k0_t1_loop.trips) (v165 : BitVec 32)
    (X9 : arg9.view.ty.Contents (Elt Ideal)) (X10 : arg10.view.ty.Contents (Elt Ideal)) (X13 : arg13.view.ty.Contents (Elt Ideal)) (X15 : arg15.view.ty.Contents (Elt Ideal)) (X16 : arg16.view.ty.Contents (Elt Ideal)) (X17 : arg17.view.ty.Contents (Elt Ideal))
    (G14 : arg14.view.ty.Contents (Elt Ideal)) (G19 : arg19.view.ty.Contents (Elt Ideal)) :
    LoopInv (M := 𝕄) frame (wpE (defs₀ (F := Ideal)) Variants.none (c : Thread nD τ) none) Set.univ k0_t2_loop.lb k0_t2_loop.ub k0_t2_loop.st k0_t2_ok ()
      (k0_t2_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v10 v11 v12 v13 v14 v15 v19 v23 v27 v31 v35 k0_t1 v165) where
  inv := fun k _ => iprop(pt c arg9 X9 ∗ pt c arg10 X10 ∗ pt c arg13 X13 ∗ pt c arg15 X15 ∗ pt c arg16 X16 ∗ pt c arg17 X17 ∗ (∃ f, pt c arg18 f)
    ∗ (∃ f, pt c arg14 f ∗ ⌜arg14.view.read (Elt Ideal) f = fillTo k (16 * k) (arg14.view.read (Elt Ideal) G14)
        (rOf (blkOf v6 v10 v11 v12 v13 v14 v15 v19 v23 v27 v31 v35 (arg9.view.read (Elt Ideal) X9) (arg10.view.read (Elt Ideal) X10) (arg15.view.read (Elt Ideal) X15) (arg16.view.read (Elt Ideal) X16) (arg17.view.read (Elt Ideal) X17)) (svOf (arg13.view.read (Elt Ideal) X13)) k0_t1.val)⌝)
    ∗ (∃ f, pt c arg19 f ∗ ⌜arg19.view.read (Elt Ideal) f = addTo k (16 * k0_t1.val) (16 * k0_t1.val + k) (arg19.view.read (Elt Ideal) G19)
        (colT (yOf (blkOf v6 v10 v11 v12 v13 v14 v15 v19 v23 v27 v31 v35 (arg9.view.read (Elt Ideal) X9) (arg10.view.read (Elt Ideal) X10) (arg15.view.read (Elt Ideal) X15) (arg16.view.read (Elt Ideal) X16) (arg17.view.read (Elt Ideal) X17)) (svOf (arg13.view.read (Elt Ideal) X13))))⌝))
  step k acc := by
    have hk : k.val < 16 := Nat.lt_of_lt_of_le k.isLt k0_t2_abs.2.1
    have hk1 : k0_t1.val < 8 := Nat.lt_of_lt_of_le k0_t1.isLt k0_t1_abs.2.1
    unfold k0_t2_body
    iintro ⟨H9, H10, H13, H15, H16, H17, ⟨%f18, H18⟩, ⟨%f14, H14, %h14⟩, ⟨%f19, H19, %h19⟩⟩
    have e14 := h14.trans (fillTo_eq (by omega) _ _)
    have e19 := h19.trans (addTo_eq (by omega) _ _)
    sl_exec
    sl_step
    isplitl [H9]
    · iexact H9
    isplitl [H10]
    · iexact H10
    isplitl [H13]
    · iexact H13
    isplitl [H15]
    · iexact H15
    isplitl [H16]
    · iexact H16
    isplitl [H17]
    · iexact H17
    isplitl [H18]
    · iexists _
      iexact H18
    isplitl [H14]
    · iexists _
      isplitl [H14]
      · iexact H14
      ipureintro
      show arg14.view.read (Elt Ideal) _ = fill (16 * (k.val + 1)) _ _
      refine (writes_ten arg14.view _ (16 * k.val) (by omega) (k0_off7_eq _) (k0_off8_eq _) (k0_off9_eq _) (k0_off10_eq _) (k0_off11_eq _) (k0_off12_eq _) (k0_off13_eq _) (k0_off14_eq _) (k0_off15_eq _) (k0_off16_eq _) _ _ _ _ _ _ _ _ _ _ _ _ _ _ _ _ _ _ _ _ (fun k n m => rOf (blkOf v6 v10 v11 v12 v13 v14 v15 v19 v23 v27 v31 v35 (arg9.view.read (Elt Ideal) X9) (arg10.view.read (Elt Ideal) X10) (arg15.view.read (Elt Ideal) X15) (arg16.view.read (Elt Ideal) X16) (arg17.view.read (Elt Ideal) X17)) (svOf (arg13.view.read (Elt Ideal) X13)) k0_t1.val (ix3 k n m)) ?_ ?_).trans ?_
      · intro kk r l
        clear h14 h19 e14 e19
        have hlt : 256 * k0_t1.val + (16 * k.val + r.val) < 2048 := by omega
        have hmod : (256 * k0_t1.val + 16 * k.val + r.val) % 256 = 16 * k.val + r.val := by omega
        show _ = row _ (256 * k0_t1.val + (16 * k.val + r.val))
        rw [row_lt _ hlt]
        obtain rfl | rfl | rfl | rfl | rfl : kk = 0 ∨ kk = 1 ∨ kk = 2 ∨ kk = 3 ∨ kk = 4 := by omega
        all_goals skip
        all_goals
          simp only [Matrix.cons_val]
          delta loopInv_k0_t2.sl.arg23 loopInv_k0_t2.sl.r loopInv_k0_t2.sl.r_1 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.v302 loopInv_k0_t2.sl.v303 loopInv_k0_t2.sl.v304 loopInv_k0_t2.sl.v306 loopInv_k0_t2.sl.v384 loopInv_k0_t2.sl.v385 loopInv_k0_t2.sl.v386 loopInv_k0_t2.sl.v387 loopInv_k0_t2.sl.v388 loopInv_k0_t2.sl.v389 loopInv_k0_t2.sl.v390 loopInv_k0_t2.sl.v391 loopInv_k0_t2.sl.v392 loopInv_k0_t2.sl.v393 loopInv_k0_t2.sl.v394 loopInv_k0_t2.sl.v395 loopInv_k0_t2.sl.v396 loopInv_k0_t2.sl.v398 loopInv_k0_t2.sl.v399 loopInv_k0_t2.sl.v400 loopInv_k0_t2.sl.v401 loopInv_k0_t2.sl.v403 loopInv_k0_t2.sl.v404 loopInv_k0_t2.sl.v405 loopInv_k0_t2.sl.v406 loopInv_k0_t2.sl.v407 loopInv_k0_t2.sl.v410 loopInv_k0_t2.sl.v411 loopInv_k0_t2.sl.v412 loopInv_k0_t2.sl.v413 loopInv_k0_t2.sl.v414 loopInv_k0_t2.sl.v415 loopInv_k0_t2.sl.v416 loopInv_k0_t2.sl.v417 loopInv_k0_t2.sl.v418 loopInv_k0_t2.sl.v419 loopInv_k0_t2.sl.v420 loopInv_k0_t2.sl.v421 loopInv_k0_t2.sl.v422 loopInv_k0_t2.sl.v424 loopInv_k0_t2.sl.v425 loopInv_k0_t2.sl.v426 loopInv_k0_t2.sl.v427 loopInv_k0_t2.sl.v428 loopInv_k0_t2.sl.v429 loopInv_k0_t2.sl.v430 loopInv_k0_t2.sl.v431 loopInv_k0_t2.sl.v432 loopInv_k0_t2.sl.v433 loopInv_k0_t2.sl.v434 loopInv_k0_t2.sl.v437 loopInv_k0_t2.sl.v438 loopInv_k0_t2.sl.v440 loopInv_k0_t2.sl.v441 loopInv_k0_t2.sl.v444 loopInv_k0_t2.sl.v447 loopInv_k0_t2.sl.v450 loopInv_k0_t2.sl.v452 loopInv_k0_t2.sl.v453 loopInv_k0_t2.sl.v454 loopInv_k0_t2.sl.v455 loopInv_k0_t2.sl.v456 loopInv_k0_t2.sl.v457 loopInv_k0_t2.sl.v458 loopInv_k0_t2.sl.v459 loopInv_k0_t2.sl.v460 loopInv_k0_t2.sl.v461 loopInv_k0_t2.sl.v462 loopInv_k0_t2.sl.v463 loopInv_k0_t2.sl.v464 loopInv_k0_t2.sl.v465 loopInv_k0_t2.sl.v466 loopInv_k0_t2.sl.v468 loopInv_k0_t2.sl.v469 loopInv_k0_t2.sl.v470 loopInv_k0_t2.sl.v471 loopInv_k0_t2.sl.v472 loopInv_k0_t2.sl.v473 loopInv_k0_t2.sl.v474 loopInv_k0_t2.sl.v475 loopInv_k0_t2.sl.v476 loopInv_k0_t2.sl.v477 loopInv_k0_t2.sl.v478 loopInv_k0_t2.sl.v481 loopInv_k0_t2.sl.v482 loopInv_k0_t2.sl.v483 loopInv_k0_t2.sl.v484 loopInv_k0_t2.sl.v485 loopInv_k0_t2.sl.v486 loopInv_k0_t2.sl.v487 loopInv_k0_t2.sl.v488 loopInv_k0_t2.sl.v489 loopInv_k0_t2.sl.v490 loopInv_k0_t2.sl.v491 loopInv_k0_t2.sl.v492 loopInv_k0_t2.sl.v493 loopInv_k0_t2.sl.v494 loopInv_k0_t2.sl.v496 loopInv_k0_t2.sl.v497 loopInv_k0_t2.sl.v498 loopInv_k0_t2.sl.v499 loopInv_k0_t2.sl.v500 loopInv_k0_t2.sl.v501 loopInv_k0_t2.sl.v502 loopInv_k0_t2.sl.v503 loopInv_k0_t2.sl.v504 loopInv_k0_t2.sl.v505 loopInv_k0_t2.sl.v506 loopInv_k0_t2.sl.v509 loopInv_k0_t2.sl.v513 loopInv_k0_t2.sl.v516 loopInv_k0_t2.sl.v519 loopInv_k0_t2.sl.v522 loopInv_k0_t2.sl.v524 loopInv_k0_t2.sl.v525 loopInv_k0_t2.sl.v526 loopInv_k0_t2.sl.v527 loopInv_k0_t2.sl.v528 loopInv_k0_t2.sl.v529 loopInv_k0_t2.sl.v530 loopInv_k0_t2.sl.v531 loopInv_k0_t2.sl.v532 loopInv_k0_t2.sl.v533 loopInv_k0_t2.sl.v534 loopInv_k0_t2.sl.v535 loopInv_k0_t2.sl.v536 loopInv_k0_t2.sl.v537 loopInv_k0_t2.sl.v538 loopInv_k0_t2.sl.v540 loopInv_k0_t2.sl.v541 loopInv_k0_t2.sl.v542 loopInv_k0_t2.sl.v543 loopInv_k0_t2.sl.v544 loopInv_k0_t2.sl.v545 loopInv_k0_t2.sl.v546 loopInv_k0_t2.sl.v547 loopInv_k0_t2.sl.v548 loopInv_k0_t2.sl.v549 loopInv_k0_t2.sl.v550 loopInv_k0_t2.sl.v553 loopInv_k0_t2.sl.v554 loopInv_k0_t2.sl.v555 loopInv_k0_t2.sl.v556 loopInv_k0_t2.sl.v557 loopInv_k0_t2.sl.v558 loopInv_k0_t2.sl.v559 loopInv_k0_t2.sl.v560 loopInv_k0_t2.sl.v561 loopInv_k0_t2.sl.v562 loopInv_k0_t2.sl.v563 loopInv_k0_t2.sl.v564 loopInv_k0_t2.sl.v565 loopInv_k0_t2.sl.v566 loopInv_k0_t2.sl.v568 loopInv_k0_t2.sl.v569 loopInv_k0_t2.sl.v570 loopInv_k0_t2.sl.v571 loopInv_k0_t2.sl.v572 loopInv_k0_t2.sl.v573 loopInv_k0_t2.sl.v574 loopInv_k0_t2.sl.v575 loopInv_k0_t2.sl.v576 loopInv_k0_t2.sl.v577 loopInv_k0_t2.sl.v578 loopInv_k0_t2.sl.v581 loopInv_k0_t2.sl.v585 loopInv_k0_t2.sl.v588 loopInv_k0_t2.sl.v591 loopInv_k0_t2.sl.v594 loopInv_k0_t2.sl.v596 loopInv_k0_t2.sl.v597 loopInv_k0_t2.sl.v598 loopInv_k0_t2.sl.v599 loopInv_k0_t2.sl.v600 loopInv_k0_t2.sl.v601 loopInv_k0_t2.sl.v602 loopInv_k0_t2.sl.v603 loopInv_k0_t2.sl.v604 loopInv_k0_t2.sl.v605 loopInv_k0_t2.sl.v606 loopInv_k0_t2.sl.v607 loopInv_k0_t2.sl.v608 loopInv_k0_t2.sl.v609 loopInv_k0_t2.sl.v610 loopInv_k0_t2.sl.v612 loopInv_k0_t2.sl.v613 loopInv_k0_t2.sl.v614 loopInv_k0_t2.sl.v615 loopInv_k0_t2.sl.v616 loopInv_k0_t2.sl.v617 loopInv_k0_t2.sl.v618 loopInv_k0_t2.sl.v619 loopInv_k0_t2.sl.v620 loopInv_k0_t2.sl.v621 loopInv_k0_t2.sl.v622 loopInv_k0_t2.sl.v625 loopInv_k0_t2.sl.v626 loopInv_k0_t2.sl.v627 loopInv_k0_t2.sl.v628 loopInv_k0_t2.sl.v629 loopInv_k0_t2.sl.v630 loopInv_k0_t2.sl.v631 loopInv_k0_t2.sl.v632 loopInv_k0_t2.sl.v633 loopInv_k0_t2.sl.v634 loopInv_k0_t2.sl.v635 loopInv_k0_t2.sl.v636 loopInv_k0_t2.sl.v637 loopInv_k0_t2.sl.v638 loopInv_k0_t2.sl.v640 loopInv_k0_t2.sl.v641 loopInv_k0_t2.sl.v642 loopInv_k0_t2.sl.v643 loopInv_k0_t2.sl.v644 loopInv_k0_t2.sl.v645 loopInv_k0_t2.sl.v646 loopInv_k0_t2.sl.v647 loopInv_k0_t2.sl.v648 loopInv_k0_t2.sl.v649 loopInv_k0_t2.sl.v650 loopInv_k0_t2.sl.v653 loopInv_k0_t2.sl.v657 loopInv_k0_t2.sl.v660 loopInv_k0_t2.sl.v663 loopInv_k0_t2.sl.v666 loopInv_k0_t2.sl.v668 loopInv_k0_t2.sl.v669 loopInv_k0_t2.sl.v670 loopInv_k0_t2.sl.v671 loopInv_k0_t2.sl.v672 loopInv_k0_t2.sl.v673 loopInv_k0_t2.sl.v674 loopInv_k0_t2.sl.v675 loopInv_k0_t2.sl.v676 loopInv_k0_t2.sl.v677 loopInv_k0_t2.sl.v678 loopInv_k0_t2.sl.v679 loopInv_k0_t2.sl.v680 loopInv_k0_t2.sl.v681 loopInv_k0_t2.sl.v682 loopInv_k0_t2.sl.v684 loopInv_k0_t2.sl.v685 loopInv_k0_t2.sl.v686 loopInv_k0_t2.sl.v687 loopInv_k0_t2.sl.v688 loopInv_k0_t2.sl.v689 loopInv_k0_t2.sl.v690 loopInv_k0_t2.sl.v691 loopInv_k0_t2.sl.v692 loopInv_k0_t2.sl.v693 loopInv_k0_t2.sl.v694 loopInv_k0_t2.sl.v697 loopInv_k0_t2.sl.v698 loopInv_k0_t2.sl.v699 loopInv_k0_t2.sl.v700 loopInv_k0_t2.sl.v701 loopInv_k0_t2.sl.v702 loopInv_k0_t2.sl.v703 loopInv_k0_t2.sl.v704 loopInv_k0_t2.sl.v705 loopInv_k0_t2.sl.v706 loopInv_k0_t2.sl.v707 loopInv_k0_t2.sl.v708 loopInv_k0_t2.sl.v709 loopInv_k0_t2.sl.v710 loopInv_k0_t2.sl.v712 loopInv_k0_t2.sl.v713 loopInv_k0_t2.sl.v714 loopInv_k0_t2.sl.v715 loopInv_k0_t2.sl.v716 loopInv_k0_t2.sl.v717 loopInv_k0_t2.sl.v718 loopInv_k0_t2.sl.v719 loopInv_k0_t2.sl.v720 loopInv_k0_t2.sl.v721 loopInv_k0_t2.sl.v722
          unfold_payloads
          pointwise
          simp only [readAt_box2 _ _ _ _ (k0_off6_eq k0_t1 k), readAt_box3 _ _ _ _ _ (k0_off7_eq k), readAt_box3 _ _ _ _ _ (k0_off8_eq k), readAt_box3 _ _ _ _ _ (k0_off9_eq k), readAt_box3 _ _ _ _ _ (k0_off10_eq k), readAt_box3 _ _ _ _ _ (k0_off11_eq k), readAt_box3 _ _ _ _ _ (k0_off12_eq k), readAt_box3 _ _ _ _ _ (k0_off13_eq k), readAt_box3 _ _ _ _ _ (k0_off14_eq k), readAt_box3 _ _ _ _ _ (k0_off15_eq k), readAt_box3 _ _ _ _ _ (k0_off16_eq k), readAt_box3 _ _ _ _ _ (k0_off17_eq k0_t1 k), readAt_box3 _ _ _ _ _ (k0_off18_eq k0_t1 k), readAt_box3 _ _ _ _ _ (k0_off19_eq k0_t1 k), readAt_box3 _ _ _ _ _ (k0_off20_eq k0_t1 k), readAt_box3 _ _ _ _ _ (k0_off21_eq k0_t1 k)]
          simp only [Blk.R, Blk.h, Blk.e, Blk.at, down, accS, Blk.hot, Blk.ex, lo, hi, ln_lo, ln_hi, blkOf, svOf, Matrix.cons_val, Nat.zero_add, hmod, ← add_assoc]
          rfl

      · intro kk r l
        clear h14 h19 e14 e19
        have hlt : 256 * k0_t1.val + (16 * k.val + r.val) < 2048 := by omega
        have hmod : (256 * k0_t1.val + 16 * k.val + r.val) % 256 = 16 * k.val + r.val := by omega
        show _ = row _ (256 * k0_t1.val + (16 * k.val + r.val))
        rw [row_lt _ hlt]
        obtain rfl | rfl | rfl | rfl | rfl : kk = 0 ∨ kk = 1 ∨ kk = 2 ∨ kk = 3 ∨ kk = 4 := by omega
        all_goals skip
        all_goals
          simp only [Matrix.cons_val]
          delta loopInv_k0_t2.sl.arg23 loopInv_k0_t2.sl.r loopInv_k0_t2.sl.r_1 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.v302 loopInv_k0_t2.sl.v303 loopInv_k0_t2.sl.v304 loopInv_k0_t2.sl.v306 loopInv_k0_t2.sl.v384 loopInv_k0_t2.sl.v385 loopInv_k0_t2.sl.v386 loopInv_k0_t2.sl.v387 loopInv_k0_t2.sl.v388 loopInv_k0_t2.sl.v389 loopInv_k0_t2.sl.v390 loopInv_k0_t2.sl.v391 loopInv_k0_t2.sl.v392 loopInv_k0_t2.sl.v393 loopInv_k0_t2.sl.v394 loopInv_k0_t2.sl.v395 loopInv_k0_t2.sl.v396 loopInv_k0_t2.sl.v398 loopInv_k0_t2.sl.v399 loopInv_k0_t2.sl.v400 loopInv_k0_t2.sl.v401 loopInv_k0_t2.sl.v403 loopInv_k0_t2.sl.v404 loopInv_k0_t2.sl.v405 loopInv_k0_t2.sl.v406 loopInv_k0_t2.sl.v407 loopInv_k0_t2.sl.v410 loopInv_k0_t2.sl.v411 loopInv_k0_t2.sl.v412 loopInv_k0_t2.sl.v413 loopInv_k0_t2.sl.v414 loopInv_k0_t2.sl.v415 loopInv_k0_t2.sl.v416 loopInv_k0_t2.sl.v417 loopInv_k0_t2.sl.v418 loopInv_k0_t2.sl.v419 loopInv_k0_t2.sl.v420 loopInv_k0_t2.sl.v421 loopInv_k0_t2.sl.v422 loopInv_k0_t2.sl.v424 loopInv_k0_t2.sl.v425 loopInv_k0_t2.sl.v426 loopInv_k0_t2.sl.v427 loopInv_k0_t2.sl.v428 loopInv_k0_t2.sl.v429 loopInv_k0_t2.sl.v430 loopInv_k0_t2.sl.v431 loopInv_k0_t2.sl.v432 loopInv_k0_t2.sl.v433 loopInv_k0_t2.sl.v434 loopInv_k0_t2.sl.v437 loopInv_k0_t2.sl.v438 loopInv_k0_t2.sl.v440 loopInv_k0_t2.sl.v441 loopInv_k0_t2.sl.v444 loopInv_k0_t2.sl.v447 loopInv_k0_t2.sl.v450 loopInv_k0_t2.sl.v452 loopInv_k0_t2.sl.v453 loopInv_k0_t2.sl.v454 loopInv_k0_t2.sl.v455 loopInv_k0_t2.sl.v456 loopInv_k0_t2.sl.v457 loopInv_k0_t2.sl.v458 loopInv_k0_t2.sl.v459 loopInv_k0_t2.sl.v460 loopInv_k0_t2.sl.v461 loopInv_k0_t2.sl.v462 loopInv_k0_t2.sl.v463 loopInv_k0_t2.sl.v464 loopInv_k0_t2.sl.v465 loopInv_k0_t2.sl.v466 loopInv_k0_t2.sl.v468 loopInv_k0_t2.sl.v469 loopInv_k0_t2.sl.v470 loopInv_k0_t2.sl.v471 loopInv_k0_t2.sl.v472 loopInv_k0_t2.sl.v473 loopInv_k0_t2.sl.v474 loopInv_k0_t2.sl.v475 loopInv_k0_t2.sl.v476 loopInv_k0_t2.sl.v477 loopInv_k0_t2.sl.v478 loopInv_k0_t2.sl.v481 loopInv_k0_t2.sl.v482 loopInv_k0_t2.sl.v483 loopInv_k0_t2.sl.v484 loopInv_k0_t2.sl.v485 loopInv_k0_t2.sl.v486 loopInv_k0_t2.sl.v487 loopInv_k0_t2.sl.v488 loopInv_k0_t2.sl.v489 loopInv_k0_t2.sl.v490 loopInv_k0_t2.sl.v491 loopInv_k0_t2.sl.v492 loopInv_k0_t2.sl.v493 loopInv_k0_t2.sl.v494 loopInv_k0_t2.sl.v496 loopInv_k0_t2.sl.v497 loopInv_k0_t2.sl.v498 loopInv_k0_t2.sl.v499 loopInv_k0_t2.sl.v500 loopInv_k0_t2.sl.v501 loopInv_k0_t2.sl.v502 loopInv_k0_t2.sl.v503 loopInv_k0_t2.sl.v504 loopInv_k0_t2.sl.v505 loopInv_k0_t2.sl.v506 loopInv_k0_t2.sl.v509 loopInv_k0_t2.sl.v513 loopInv_k0_t2.sl.v516 loopInv_k0_t2.sl.v519 loopInv_k0_t2.sl.v522 loopInv_k0_t2.sl.v524 loopInv_k0_t2.sl.v525 loopInv_k0_t2.sl.v526 loopInv_k0_t2.sl.v527 loopInv_k0_t2.sl.v528 loopInv_k0_t2.sl.v529 loopInv_k0_t2.sl.v530 loopInv_k0_t2.sl.v531 loopInv_k0_t2.sl.v532 loopInv_k0_t2.sl.v533 loopInv_k0_t2.sl.v534 loopInv_k0_t2.sl.v535 loopInv_k0_t2.sl.v536 loopInv_k0_t2.sl.v537 loopInv_k0_t2.sl.v538 loopInv_k0_t2.sl.v540 loopInv_k0_t2.sl.v541 loopInv_k0_t2.sl.v542 loopInv_k0_t2.sl.v543 loopInv_k0_t2.sl.v544 loopInv_k0_t2.sl.v545 loopInv_k0_t2.sl.v546 loopInv_k0_t2.sl.v547 loopInv_k0_t2.sl.v548 loopInv_k0_t2.sl.v549 loopInv_k0_t2.sl.v550 loopInv_k0_t2.sl.v553 loopInv_k0_t2.sl.v554 loopInv_k0_t2.sl.v555 loopInv_k0_t2.sl.v556 loopInv_k0_t2.sl.v557 loopInv_k0_t2.sl.v558 loopInv_k0_t2.sl.v559 loopInv_k0_t2.sl.v560 loopInv_k0_t2.sl.v561 loopInv_k0_t2.sl.v562 loopInv_k0_t2.sl.v563 loopInv_k0_t2.sl.v564 loopInv_k0_t2.sl.v565 loopInv_k0_t2.sl.v566 loopInv_k0_t2.sl.v568 loopInv_k0_t2.sl.v569 loopInv_k0_t2.sl.v570 loopInv_k0_t2.sl.v571 loopInv_k0_t2.sl.v572 loopInv_k0_t2.sl.v573 loopInv_k0_t2.sl.v574 loopInv_k0_t2.sl.v575 loopInv_k0_t2.sl.v576 loopInv_k0_t2.sl.v577 loopInv_k0_t2.sl.v578 loopInv_k0_t2.sl.v581 loopInv_k0_t2.sl.v585 loopInv_k0_t2.sl.v588 loopInv_k0_t2.sl.v591 loopInv_k0_t2.sl.v594 loopInv_k0_t2.sl.v596 loopInv_k0_t2.sl.v597 loopInv_k0_t2.sl.v598 loopInv_k0_t2.sl.v599 loopInv_k0_t2.sl.v600 loopInv_k0_t2.sl.v601 loopInv_k0_t2.sl.v602 loopInv_k0_t2.sl.v603 loopInv_k0_t2.sl.v604 loopInv_k0_t2.sl.v605 loopInv_k0_t2.sl.v606 loopInv_k0_t2.sl.v607 loopInv_k0_t2.sl.v608 loopInv_k0_t2.sl.v609 loopInv_k0_t2.sl.v610 loopInv_k0_t2.sl.v612 loopInv_k0_t2.sl.v613 loopInv_k0_t2.sl.v614 loopInv_k0_t2.sl.v615 loopInv_k0_t2.sl.v616 loopInv_k0_t2.sl.v617 loopInv_k0_t2.sl.v618 loopInv_k0_t2.sl.v619 loopInv_k0_t2.sl.v620 loopInv_k0_t2.sl.v621 loopInv_k0_t2.sl.v622 loopInv_k0_t2.sl.v625 loopInv_k0_t2.sl.v626 loopInv_k0_t2.sl.v627 loopInv_k0_t2.sl.v628 loopInv_k0_t2.sl.v629 loopInv_k0_t2.sl.v630 loopInv_k0_t2.sl.v631 loopInv_k0_t2.sl.v632 loopInv_k0_t2.sl.v633 loopInv_k0_t2.sl.v634 loopInv_k0_t2.sl.v635 loopInv_k0_t2.sl.v636 loopInv_k0_t2.sl.v637 loopInv_k0_t2.sl.v638 loopInv_k0_t2.sl.v640 loopInv_k0_t2.sl.v641 loopInv_k0_t2.sl.v642 loopInv_k0_t2.sl.v643 loopInv_k0_t2.sl.v644 loopInv_k0_t2.sl.v645 loopInv_k0_t2.sl.v646 loopInv_k0_t2.sl.v647 loopInv_k0_t2.sl.v648 loopInv_k0_t2.sl.v649 loopInv_k0_t2.sl.v650 loopInv_k0_t2.sl.v653 loopInv_k0_t2.sl.v657 loopInv_k0_t2.sl.v660 loopInv_k0_t2.sl.v663 loopInv_k0_t2.sl.v666 loopInv_k0_t2.sl.v668 loopInv_k0_t2.sl.v669 loopInv_k0_t2.sl.v670 loopInv_k0_t2.sl.v671 loopInv_k0_t2.sl.v672 loopInv_k0_t2.sl.v673 loopInv_k0_t2.sl.v674 loopInv_k0_t2.sl.v675 loopInv_k0_t2.sl.v676 loopInv_k0_t2.sl.v677 loopInv_k0_t2.sl.v678 loopInv_k0_t2.sl.v679 loopInv_k0_t2.sl.v680 loopInv_k0_t2.sl.v681 loopInv_k0_t2.sl.v682 loopInv_k0_t2.sl.v684 loopInv_k0_t2.sl.v685 loopInv_k0_t2.sl.v686 loopInv_k0_t2.sl.v687 loopInv_k0_t2.sl.v688 loopInv_k0_t2.sl.v689 loopInv_k0_t2.sl.v690 loopInv_k0_t2.sl.v691 loopInv_k0_t2.sl.v692 loopInv_k0_t2.sl.v693 loopInv_k0_t2.sl.v694 loopInv_k0_t2.sl.v697 loopInv_k0_t2.sl.v698 loopInv_k0_t2.sl.v699 loopInv_k0_t2.sl.v700 loopInv_k0_t2.sl.v701 loopInv_k0_t2.sl.v702 loopInv_k0_t2.sl.v703 loopInv_k0_t2.sl.v704 loopInv_k0_t2.sl.v705 loopInv_k0_t2.sl.v706 loopInv_k0_t2.sl.v707 loopInv_k0_t2.sl.v708 loopInv_k0_t2.sl.v709 loopInv_k0_t2.sl.v710 loopInv_k0_t2.sl.v712 loopInv_k0_t2.sl.v713 loopInv_k0_t2.sl.v714 loopInv_k0_t2.sl.v715 loopInv_k0_t2.sl.v716 loopInv_k0_t2.sl.v717 loopInv_k0_t2.sl.v718 loopInv_k0_t2.sl.v719 loopInv_k0_t2.sl.v720 loopInv_k0_t2.sl.v721 loopInv_k0_t2.sl.v722
          unfold_payloads
          pointwise
          simp only [readAt_box2 _ _ _ _ (k0_off6_eq k0_t1 k), readAt_box3 _ _ _ _ _ (k0_off7_eq k), readAt_box3 _ _ _ _ _ (k0_off8_eq k), readAt_box3 _ _ _ _ _ (k0_off9_eq k), readAt_box3 _ _ _ _ _ (k0_off10_eq k), readAt_box3 _ _ _ _ _ (k0_off11_eq k), readAt_box3 _ _ _ _ _ (k0_off12_eq k), readAt_box3 _ _ _ _ _ (k0_off13_eq k), readAt_box3 _ _ _ _ _ (k0_off14_eq k), readAt_box3 _ _ _ _ _ (k0_off15_eq k), readAt_box3 _ _ _ _ _ (k0_off16_eq k), readAt_box3 _ _ _ _ _ (k0_off17_eq k0_t1 k), readAt_box3 _ _ _ _ _ (k0_off18_eq k0_t1 k), readAt_box3 _ _ _ _ _ (k0_off19_eq k0_t1 k), readAt_box3 _ _ _ _ _ (k0_off20_eq k0_t1 k), readAt_box3 _ _ _ _ _ (k0_off21_eq k0_t1 k)]
          simp only [Blk.R, Blk.h, Blk.e, Blk.at, down, accS, Blk.hot, Blk.ex, lo, hi, ln_lo, ln_hi, blkOf, svOf, Matrix.cons_val, Nat.zero_add, hmod, ← add_assoc]
          rfl

      · funext y
        obtain ⟨kk, n, m, rfl⟩ : ∃ (kk : Fin 5) (n m : Fin 256), y = ix3 kk n m := ⟨y 0, y 1, y 2, eq_ix3 y⟩
        rw [e14]
        show (if 16 * k.val ≤ n.val ∧ n.val < 16 * k.val + 16 then _ else fill _ _ _ (ix3 kk n m)) = if n.val < 16 * (k.val + 1) then _ else _
        show (if 16 * k.val ≤ n.val ∧ n.val < 16 * k.val + 16 then _ else if n.val < 16 * k.val then _ else _) = _
        split_ifs <;> first | rfl | omega
    · iexists _
      isplitl [H19]
      · iexact H19
      ipureintro
      show arg19.view.read (Elt Ideal) _ = addUp (16 * k0_t1.val) (16 * k0_t1.val + (k.val + 1)) _ _
      rw [← Nat.add_assoc, addUp_succ (by omega), ← e19]
      refine (writes_ten arg19.view _ 0 (by omega) rfl rfl rfl rfl rfl rfl rfl rfl rfl rfl _ _ _ _ _ _ _ _ _ _ _ _ _ _ _ _ _ _ _ _ (fun kk n m => arg19.view.read (Elt Ideal) f19 (ix3 kk n m) + colT (yOf (blkOf v6 v10 v11 v12 v13 v14 v15 v19 v23 v27 v31 v35 (arg9.view.read (Elt Ideal) X9) (arg10.view.read (Elt Ideal) X10) (arg15.view.read (Elt Ideal) X15) (arg16.view.read (Elt Ideal) X16) (arg17.view.read (Elt Ideal) X17)) (svOf (arg13.view.read (Elt Ideal) X13))) (16 * k0_t1.val + k.val) (ix3 kk n m)) ?_ ?_).trans ?_
      · intro kk r l
        clear h14 h19 e14 e19
        have hlt0 : 16 * (16 * k0_t1.val + k.val) + r.val < 2048 := by omega
        have hlt1 : 16 * (16 * k0_t1.val + k.val) + 8 + r.val < 2048 := by omega
        have e0 : (⟨16 * (16 * k0_t1.val + k.val) + r.val, hlt0⟩ : Fin 2048) = ⟨256 * k0_t1.val + 16 * k.val + r.val, by omega⟩ := Fin.ext (by simp only []; omega)
        have e1 : (⟨16 * (16 * k0_t1.val + k.val) + 8 + r.val, hlt1⟩ : Fin 2048) = ⟨256 * k0_t1.val + 16 * k.val + (8 + r.val), by omega⟩ := Fin.ext (by simp only []; omega)
        have hm0 : (256 * k0_t1.val + 16 * k.val + r.val) % 256 = 16 * k.val + r.val := by omega
        have hm1 : (256 * k0_t1.val + 16 * k.val + 8 + r.val) % 256 = 16 * k.val + 8 + r.val := by omega
        simp only [Nat.zero_add]
        show _ = _ + (row _ (16 * (16 * k0_t1.val + k.val) + r.val) + row _ (16 * (16 * k0_t1.val + k.val) + 8 + r.val))
        rw [row_lt _ hlt0, row_lt _ hlt1, e0, e1]
        obtain rfl | rfl | rfl | rfl | rfl : kk = 0 ∨ kk = 1 ∨ kk = 2 ∨ kk = 3 ∨ kk = 4 := by omega
        all_goals
          simp only [Matrix.cons_val]
          delta loopInv_k0_t2.sl.arg23 loopInv_k0_t2.sl.r loopInv_k0_t2.sl.r_1 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.v302 loopInv_k0_t2.sl.v303 loopInv_k0_t2.sl.v304 loopInv_k0_t2.sl.v306 loopInv_k0_t2.sl.v384 loopInv_k0_t2.sl.v385 loopInv_k0_t2.sl.v386 loopInv_k0_t2.sl.v387 loopInv_k0_t2.sl.v388 loopInv_k0_t2.sl.v389 loopInv_k0_t2.sl.v390 loopInv_k0_t2.sl.v391 loopInv_k0_t2.sl.v392 loopInv_k0_t2.sl.v393 loopInv_k0_t2.sl.v394 loopInv_k0_t2.sl.v395 loopInv_k0_t2.sl.v396 loopInv_k0_t2.sl.v398 loopInv_k0_t2.sl.v399 loopInv_k0_t2.sl.v400 loopInv_k0_t2.sl.v401 loopInv_k0_t2.sl.v403 loopInv_k0_t2.sl.v404 loopInv_k0_t2.sl.v405 loopInv_k0_t2.sl.v406 loopInv_k0_t2.sl.v407 loopInv_k0_t2.sl.v410 loopInv_k0_t2.sl.v411 loopInv_k0_t2.sl.v412 loopInv_k0_t2.sl.v413 loopInv_k0_t2.sl.v414 loopInv_k0_t2.sl.v415 loopInv_k0_t2.sl.v416 loopInv_k0_t2.sl.v417 loopInv_k0_t2.sl.v418 loopInv_k0_t2.sl.v419 loopInv_k0_t2.sl.v420 loopInv_k0_t2.sl.v421 loopInv_k0_t2.sl.v422 loopInv_k0_t2.sl.v424 loopInv_k0_t2.sl.v425 loopInv_k0_t2.sl.v426 loopInv_k0_t2.sl.v427 loopInv_k0_t2.sl.v428 loopInv_k0_t2.sl.v429 loopInv_k0_t2.sl.v430 loopInv_k0_t2.sl.v431 loopInv_k0_t2.sl.v432 loopInv_k0_t2.sl.v433 loopInv_k0_t2.sl.v434 loopInv_k0_t2.sl.v437 loopInv_k0_t2.sl.v438 loopInv_k0_t2.sl.v440 loopInv_k0_t2.sl.v441 loopInv_k0_t2.sl.v444 loopInv_k0_t2.sl.v447 loopInv_k0_t2.sl.v450 loopInv_k0_t2.sl.v452 loopInv_k0_t2.sl.v453 loopInv_k0_t2.sl.v454 loopInv_k0_t2.sl.v455 loopInv_k0_t2.sl.v456 loopInv_k0_t2.sl.v457 loopInv_k0_t2.sl.v458 loopInv_k0_t2.sl.v459 loopInv_k0_t2.sl.v460 loopInv_k0_t2.sl.v461 loopInv_k0_t2.sl.v462 loopInv_k0_t2.sl.v463 loopInv_k0_t2.sl.v464 loopInv_k0_t2.sl.v465 loopInv_k0_t2.sl.v466 loopInv_k0_t2.sl.v468 loopInv_k0_t2.sl.v469 loopInv_k0_t2.sl.v470 loopInv_k0_t2.sl.v471 loopInv_k0_t2.sl.v472 loopInv_k0_t2.sl.v473 loopInv_k0_t2.sl.v474 loopInv_k0_t2.sl.v475 loopInv_k0_t2.sl.v476 loopInv_k0_t2.sl.v477 loopInv_k0_t2.sl.v478 loopInv_k0_t2.sl.v481 loopInv_k0_t2.sl.v482 loopInv_k0_t2.sl.v483 loopInv_k0_t2.sl.v484 loopInv_k0_t2.sl.v485 loopInv_k0_t2.sl.v486 loopInv_k0_t2.sl.v487 loopInv_k0_t2.sl.v488 loopInv_k0_t2.sl.v489 loopInv_k0_t2.sl.v490 loopInv_k0_t2.sl.v491 loopInv_k0_t2.sl.v492 loopInv_k0_t2.sl.v493 loopInv_k0_t2.sl.v494 loopInv_k0_t2.sl.v496 loopInv_k0_t2.sl.v497 loopInv_k0_t2.sl.v498 loopInv_k0_t2.sl.v499 loopInv_k0_t2.sl.v500 loopInv_k0_t2.sl.v501 loopInv_k0_t2.sl.v502 loopInv_k0_t2.sl.v503 loopInv_k0_t2.sl.v504 loopInv_k0_t2.sl.v505 loopInv_k0_t2.sl.v506 loopInv_k0_t2.sl.v509 loopInv_k0_t2.sl.v513 loopInv_k0_t2.sl.v516 loopInv_k0_t2.sl.v519 loopInv_k0_t2.sl.v522 loopInv_k0_t2.sl.v524 loopInv_k0_t2.sl.v525 loopInv_k0_t2.sl.v526 loopInv_k0_t2.sl.v527 loopInv_k0_t2.sl.v528 loopInv_k0_t2.sl.v529 loopInv_k0_t2.sl.v530 loopInv_k0_t2.sl.v531 loopInv_k0_t2.sl.v532 loopInv_k0_t2.sl.v533 loopInv_k0_t2.sl.v534 loopInv_k0_t2.sl.v535 loopInv_k0_t2.sl.v536 loopInv_k0_t2.sl.v537 loopInv_k0_t2.sl.v538 loopInv_k0_t2.sl.v540 loopInv_k0_t2.sl.v541 loopInv_k0_t2.sl.v542 loopInv_k0_t2.sl.v543 loopInv_k0_t2.sl.v544 loopInv_k0_t2.sl.v545 loopInv_k0_t2.sl.v546 loopInv_k0_t2.sl.v547 loopInv_k0_t2.sl.v548 loopInv_k0_t2.sl.v549 loopInv_k0_t2.sl.v550 loopInv_k0_t2.sl.v553 loopInv_k0_t2.sl.v554 loopInv_k0_t2.sl.v555 loopInv_k0_t2.sl.v556 loopInv_k0_t2.sl.v557 loopInv_k0_t2.sl.v558 loopInv_k0_t2.sl.v559 loopInv_k0_t2.sl.v560 loopInv_k0_t2.sl.v561 loopInv_k0_t2.sl.v562 loopInv_k0_t2.sl.v563 loopInv_k0_t2.sl.v564 loopInv_k0_t2.sl.v565 loopInv_k0_t2.sl.v566 loopInv_k0_t2.sl.v568 loopInv_k0_t2.sl.v569 loopInv_k0_t2.sl.v570 loopInv_k0_t2.sl.v571 loopInv_k0_t2.sl.v572 loopInv_k0_t2.sl.v573 loopInv_k0_t2.sl.v574 loopInv_k0_t2.sl.v575 loopInv_k0_t2.sl.v576 loopInv_k0_t2.sl.v577 loopInv_k0_t2.sl.v578 loopInv_k0_t2.sl.v581 loopInv_k0_t2.sl.v585 loopInv_k0_t2.sl.v588 loopInv_k0_t2.sl.v591 loopInv_k0_t2.sl.v594 loopInv_k0_t2.sl.v596 loopInv_k0_t2.sl.v597 loopInv_k0_t2.sl.v598 loopInv_k0_t2.sl.v599 loopInv_k0_t2.sl.v600 loopInv_k0_t2.sl.v601 loopInv_k0_t2.sl.v602 loopInv_k0_t2.sl.v603 loopInv_k0_t2.sl.v604 loopInv_k0_t2.sl.v605 loopInv_k0_t2.sl.v606 loopInv_k0_t2.sl.v607 loopInv_k0_t2.sl.v608 loopInv_k0_t2.sl.v609 loopInv_k0_t2.sl.v610 loopInv_k0_t2.sl.v612 loopInv_k0_t2.sl.v613 loopInv_k0_t2.sl.v614 loopInv_k0_t2.sl.v615 loopInv_k0_t2.sl.v616 loopInv_k0_t2.sl.v617 loopInv_k0_t2.sl.v618 loopInv_k0_t2.sl.v619 loopInv_k0_t2.sl.v620 loopInv_k0_t2.sl.v621 loopInv_k0_t2.sl.v622 loopInv_k0_t2.sl.v625 loopInv_k0_t2.sl.v626 loopInv_k0_t2.sl.v627 loopInv_k0_t2.sl.v628 loopInv_k0_t2.sl.v629 loopInv_k0_t2.sl.v630 loopInv_k0_t2.sl.v631 loopInv_k0_t2.sl.v632 loopInv_k0_t2.sl.v633 loopInv_k0_t2.sl.v634 loopInv_k0_t2.sl.v635 loopInv_k0_t2.sl.v636 loopInv_k0_t2.sl.v637 loopInv_k0_t2.sl.v638 loopInv_k0_t2.sl.v640 loopInv_k0_t2.sl.v641 loopInv_k0_t2.sl.v642 loopInv_k0_t2.sl.v643 loopInv_k0_t2.sl.v644 loopInv_k0_t2.sl.v645 loopInv_k0_t2.sl.v646 loopInv_k0_t2.sl.v647 loopInv_k0_t2.sl.v648 loopInv_k0_t2.sl.v649 loopInv_k0_t2.sl.v650 loopInv_k0_t2.sl.v653 loopInv_k0_t2.sl.v657 loopInv_k0_t2.sl.v660 loopInv_k0_t2.sl.v663 loopInv_k0_t2.sl.v666 loopInv_k0_t2.sl.v668 loopInv_k0_t2.sl.v669 loopInv_k0_t2.sl.v670 loopInv_k0_t2.sl.v671 loopInv_k0_t2.sl.v672 loopInv_k0_t2.sl.v673 loopInv_k0_t2.sl.v674 loopInv_k0_t2.sl.v675 loopInv_k0_t2.sl.v676 loopInv_k0_t2.sl.v677 loopInv_k0_t2.sl.v678 loopInv_k0_t2.sl.v679 loopInv_k0_t2.sl.v680 loopInv_k0_t2.sl.v681 loopInv_k0_t2.sl.v682 loopInv_k0_t2.sl.v684 loopInv_k0_t2.sl.v685 loopInv_k0_t2.sl.v686 loopInv_k0_t2.sl.v687 loopInv_k0_t2.sl.v688 loopInv_k0_t2.sl.v689 loopInv_k0_t2.sl.v690 loopInv_k0_t2.sl.v691 loopInv_k0_t2.sl.v692 loopInv_k0_t2.sl.v693 loopInv_k0_t2.sl.v694 loopInv_k0_t2.sl.v697 loopInv_k0_t2.sl.v698 loopInv_k0_t2.sl.v699 loopInv_k0_t2.sl.v700 loopInv_k0_t2.sl.v701 loopInv_k0_t2.sl.v702 loopInv_k0_t2.sl.v703 loopInv_k0_t2.sl.v704 loopInv_k0_t2.sl.v705 loopInv_k0_t2.sl.v706 loopInv_k0_t2.sl.v707 loopInv_k0_t2.sl.v708 loopInv_k0_t2.sl.v709 loopInv_k0_t2.sl.v710 loopInv_k0_t2.sl.v712 loopInv_k0_t2.sl.v713 loopInv_k0_t2.sl.v714 loopInv_k0_t2.sl.v715 loopInv_k0_t2.sl.v716 loopInv_k0_t2.sl.v717 loopInv_k0_t2.sl.v718 loopInv_k0_t2.sl.v719 loopInv_k0_t2.sl.v720 loopInv_k0_t2.sl.v721 loopInv_k0_t2.sl.v722
          unfold_payloads
          pointwise
          simp only [readAt_box2 _ _ _ _ (k0_off6_eq k0_t1 k), readAt_box3 _ _ _ _ _ (k0_off7_eq k), readAt_box3 _ _ _ _ _ (k0_off8_eq k), readAt_box3 _ _ _ _ _ (k0_off9_eq k), readAt_box3 _ _ _ _ _ (k0_off10_eq k), readAt_box3 _ _ _ _ _ (k0_off11_eq k), readAt_box3 _ _ _ _ _ (k0_off12_eq k), readAt_box3 _ _ _ _ _ (k0_off13_eq k), readAt_box3 _ _ _ _ _ (k0_off14_eq k), readAt_box3 _ _ _ _ _ (k0_off15_eq k), readAt_box3 _ _ _ _ _ (k0_off16_eq k), readAt_box3 _ _ _ _ _ (k0_off17_eq k0_t1 k), readAt_box3 _ _ _ _ _ (k0_off18_eq k0_t1 k), readAt_box3 _ _ _ _ _ (k0_off19_eq k0_t1 k), readAt_box3 _ _ _ _ _ (k0_off20_eq k0_t1 k), readAt_box3 _ _ _ _ _ (k0_off21_eq k0_t1 k), readAt_box3 _ _ _ _ _ (rfl : (![0, 0, 0] : Fin 3 → ℕ) = _), readAt_box3 _ _ _ _ _ (rfl : (![0, 0, 128] : Fin 3 → ℕ) = _), readAt_box3 _ _ _ _ _ (rfl : (![1, 0, 0] : Fin 3 → ℕ) = _), readAt_box3 _ _ _ _ _ (rfl : (![1, 0, 128] : Fin 3 → ℕ) = _), readAt_box3 _ _ _ _ _ (rfl : (![2, 0, 0] : Fin 3 → ℕ) = _), readAt_box3 _ _ _ _ _ (rfl : (![2, 0, 128] : Fin 3 → ℕ) = _), readAt_box3 _ _ _ _ _ (rfl : (![3, 0, 0] : Fin 3 → ℕ) = _), readAt_box3 _ _ _ _ _ (rfl : (![3, 0, 128] : Fin 3 → ℕ) = _), readAt_box3 _ _ _ _ _ (rfl : (![4, 0, 0] : Fin 3 → ℕ) = _), readAt_box3 _ _ _ _ _ (rfl : (![4, 0, 128] : Fin 3 → ℕ) = _)]
          simp only [yOf, Blk.y, Blk.e, Blk.at, accS, Blk.hot, Blk.ex, lo, hi, ln_lo, ln_hi, blkOf, svOf, Matrix.cons_val, Nat.zero_add, hm0, hm1, ← add_assoc]
          rfl

      · intro kk r l
        clear h14 h19 e14 e19
        have hlt0 : 16 * (16 * k0_t1.val + k.val) + r.val < 2048 := by omega
        have hlt1 : 16 * (16 * k0_t1.val + k.val) + 8 + r.val < 2048 := by omega
        have e0 : (⟨16 * (16 * k0_t1.val + k.val) + r.val, hlt0⟩ : Fin 2048) = ⟨256 * k0_t1.val + 16 * k.val + r.val, by omega⟩ := Fin.ext (by simp only []; omega)
        have e1 : (⟨16 * (16 * k0_t1.val + k.val) + 8 + r.val, hlt1⟩ : Fin 2048) = ⟨256 * k0_t1.val + 16 * k.val + (8 + r.val), by omega⟩ := Fin.ext (by simp only []; omega)
        have hm0 : (256 * k0_t1.val + 16 * k.val + r.val) % 256 = 16 * k.val + r.val := by omega
        have hm1 : (256 * k0_t1.val + 16 * k.val + 8 + r.val) % 256 = 16 * k.val + 8 + r.val := by omega
        simp only [Nat.zero_add]
        show _ = _ + (row _ (16 * (16 * k0_t1.val + k.val) + r.val) + row _ (16 * (16 * k0_t1.val + k.val) + 8 + r.val))
        rw [row_lt _ hlt0, row_lt _ hlt1, e0, e1]
        obtain rfl | rfl | rfl | rfl | rfl : kk = 0 ∨ kk = 1 ∨ kk = 2 ∨ kk = 3 ∨ kk = 4 := by omega
        all_goals
          simp only [Matrix.cons_val]
          delta loopInv_k0_t2.sl.arg23 loopInv_k0_t2.sl.r loopInv_k0_t2.sl.r_1 loopInv_k0_t2.sl.r_10 loopInv_k0_t2.sl.r_11 loopInv_k0_t2.sl.r_12 loopInv_k0_t2.sl.r_13 loopInv_k0_t2.sl.r_14 loopInv_k0_t2.sl.r_15 loopInv_k0_t2.sl.r_16 loopInv_k0_t2.sl.r_17 loopInv_k0_t2.sl.r_2 loopInv_k0_t2.sl.r_3 loopInv_k0_t2.sl.r_4 loopInv_k0_t2.sl.r_5 loopInv_k0_t2.sl.r_6 loopInv_k0_t2.sl.r_7 loopInv_k0_t2.sl.r_8 loopInv_k0_t2.sl.r_9 loopInv_k0_t2.sl.v302 loopInv_k0_t2.sl.v303 loopInv_k0_t2.sl.v304 loopInv_k0_t2.sl.v306 loopInv_k0_t2.sl.v384 loopInv_k0_t2.sl.v385 loopInv_k0_t2.sl.v386 loopInv_k0_t2.sl.v387 loopInv_k0_t2.sl.v388 loopInv_k0_t2.sl.v389 loopInv_k0_t2.sl.v390 loopInv_k0_t2.sl.v391 loopInv_k0_t2.sl.v392 loopInv_k0_t2.sl.v393 loopInv_k0_t2.sl.v394 loopInv_k0_t2.sl.v395 loopInv_k0_t2.sl.v396 loopInv_k0_t2.sl.v398 loopInv_k0_t2.sl.v399 loopInv_k0_t2.sl.v400 loopInv_k0_t2.sl.v401 loopInv_k0_t2.sl.v403 loopInv_k0_t2.sl.v404 loopInv_k0_t2.sl.v405 loopInv_k0_t2.sl.v406 loopInv_k0_t2.sl.v407 loopInv_k0_t2.sl.v410 loopInv_k0_t2.sl.v411 loopInv_k0_t2.sl.v412 loopInv_k0_t2.sl.v413 loopInv_k0_t2.sl.v414 loopInv_k0_t2.sl.v415 loopInv_k0_t2.sl.v416 loopInv_k0_t2.sl.v417 loopInv_k0_t2.sl.v418 loopInv_k0_t2.sl.v419 loopInv_k0_t2.sl.v420 loopInv_k0_t2.sl.v421 loopInv_k0_t2.sl.v422 loopInv_k0_t2.sl.v424 loopInv_k0_t2.sl.v425 loopInv_k0_t2.sl.v426 loopInv_k0_t2.sl.v427 loopInv_k0_t2.sl.v428 loopInv_k0_t2.sl.v429 loopInv_k0_t2.sl.v430 loopInv_k0_t2.sl.v431 loopInv_k0_t2.sl.v432 loopInv_k0_t2.sl.v433 loopInv_k0_t2.sl.v434 loopInv_k0_t2.sl.v437 loopInv_k0_t2.sl.v438 loopInv_k0_t2.sl.v440 loopInv_k0_t2.sl.v441 loopInv_k0_t2.sl.v444 loopInv_k0_t2.sl.v447 loopInv_k0_t2.sl.v450 loopInv_k0_t2.sl.v452 loopInv_k0_t2.sl.v453 loopInv_k0_t2.sl.v454 loopInv_k0_t2.sl.v455 loopInv_k0_t2.sl.v456 loopInv_k0_t2.sl.v457 loopInv_k0_t2.sl.v458 loopInv_k0_t2.sl.v459 loopInv_k0_t2.sl.v460 loopInv_k0_t2.sl.v461 loopInv_k0_t2.sl.v462 loopInv_k0_t2.sl.v463 loopInv_k0_t2.sl.v464 loopInv_k0_t2.sl.v465 loopInv_k0_t2.sl.v466 loopInv_k0_t2.sl.v468 loopInv_k0_t2.sl.v469 loopInv_k0_t2.sl.v470 loopInv_k0_t2.sl.v471 loopInv_k0_t2.sl.v472 loopInv_k0_t2.sl.v473 loopInv_k0_t2.sl.v474 loopInv_k0_t2.sl.v475 loopInv_k0_t2.sl.v476 loopInv_k0_t2.sl.v477 loopInv_k0_t2.sl.v478 loopInv_k0_t2.sl.v481 loopInv_k0_t2.sl.v482 loopInv_k0_t2.sl.v483 loopInv_k0_t2.sl.v484 loopInv_k0_t2.sl.v485 loopInv_k0_t2.sl.v486 loopInv_k0_t2.sl.v487 loopInv_k0_t2.sl.v488 loopInv_k0_t2.sl.v489 loopInv_k0_t2.sl.v490 loopInv_k0_t2.sl.v491 loopInv_k0_t2.sl.v492 loopInv_k0_t2.sl.v493 loopInv_k0_t2.sl.v494 loopInv_k0_t2.sl.v496 loopInv_k0_t2.sl.v497 loopInv_k0_t2.sl.v498 loopInv_k0_t2.sl.v499 loopInv_k0_t2.sl.v500 loopInv_k0_t2.sl.v501 loopInv_k0_t2.sl.v502 loopInv_k0_t2.sl.v503 loopInv_k0_t2.sl.v504 loopInv_k0_t2.sl.v505 loopInv_k0_t2.sl.v506 loopInv_k0_t2.sl.v509 loopInv_k0_t2.sl.v513 loopInv_k0_t2.sl.v516 loopInv_k0_t2.sl.v519 loopInv_k0_t2.sl.v522 loopInv_k0_t2.sl.v524 loopInv_k0_t2.sl.v525 loopInv_k0_t2.sl.v526 loopInv_k0_t2.sl.v527 loopInv_k0_t2.sl.v528 loopInv_k0_t2.sl.v529 loopInv_k0_t2.sl.v530 loopInv_k0_t2.sl.v531 loopInv_k0_t2.sl.v532 loopInv_k0_t2.sl.v533 loopInv_k0_t2.sl.v534 loopInv_k0_t2.sl.v535 loopInv_k0_t2.sl.v536 loopInv_k0_t2.sl.v537 loopInv_k0_t2.sl.v538 loopInv_k0_t2.sl.v540 loopInv_k0_t2.sl.v541 loopInv_k0_t2.sl.v542 loopInv_k0_t2.sl.v543 loopInv_k0_t2.sl.v544 loopInv_k0_t2.sl.v545 loopInv_k0_t2.sl.v546 loopInv_k0_t2.sl.v547 loopInv_k0_t2.sl.v548 loopInv_k0_t2.sl.v549 loopInv_k0_t2.sl.v550 loopInv_k0_t2.sl.v553 loopInv_k0_t2.sl.v554 loopInv_k0_t2.sl.v555 loopInv_k0_t2.sl.v556 loopInv_k0_t2.sl.v557 loopInv_k0_t2.sl.v558 loopInv_k0_t2.sl.v559 loopInv_k0_t2.sl.v560 loopInv_k0_t2.sl.v561 loopInv_k0_t2.sl.v562 loopInv_k0_t2.sl.v563 loopInv_k0_t2.sl.v564 loopInv_k0_t2.sl.v565 loopInv_k0_t2.sl.v566 loopInv_k0_t2.sl.v568 loopInv_k0_t2.sl.v569 loopInv_k0_t2.sl.v570 loopInv_k0_t2.sl.v571 loopInv_k0_t2.sl.v572 loopInv_k0_t2.sl.v573 loopInv_k0_t2.sl.v574 loopInv_k0_t2.sl.v575 loopInv_k0_t2.sl.v576 loopInv_k0_t2.sl.v577 loopInv_k0_t2.sl.v578 loopInv_k0_t2.sl.v581 loopInv_k0_t2.sl.v585 loopInv_k0_t2.sl.v588 loopInv_k0_t2.sl.v591 loopInv_k0_t2.sl.v594 loopInv_k0_t2.sl.v596 loopInv_k0_t2.sl.v597 loopInv_k0_t2.sl.v598 loopInv_k0_t2.sl.v599 loopInv_k0_t2.sl.v600 loopInv_k0_t2.sl.v601 loopInv_k0_t2.sl.v602 loopInv_k0_t2.sl.v603 loopInv_k0_t2.sl.v604 loopInv_k0_t2.sl.v605 loopInv_k0_t2.sl.v606 loopInv_k0_t2.sl.v607 loopInv_k0_t2.sl.v608 loopInv_k0_t2.sl.v609 loopInv_k0_t2.sl.v610 loopInv_k0_t2.sl.v612 loopInv_k0_t2.sl.v613 loopInv_k0_t2.sl.v614 loopInv_k0_t2.sl.v615 loopInv_k0_t2.sl.v616 loopInv_k0_t2.sl.v617 loopInv_k0_t2.sl.v618 loopInv_k0_t2.sl.v619 loopInv_k0_t2.sl.v620 loopInv_k0_t2.sl.v621 loopInv_k0_t2.sl.v622 loopInv_k0_t2.sl.v625 loopInv_k0_t2.sl.v626 loopInv_k0_t2.sl.v627 loopInv_k0_t2.sl.v628 loopInv_k0_t2.sl.v629 loopInv_k0_t2.sl.v630 loopInv_k0_t2.sl.v631 loopInv_k0_t2.sl.v632 loopInv_k0_t2.sl.v633 loopInv_k0_t2.sl.v634 loopInv_k0_t2.sl.v635 loopInv_k0_t2.sl.v636 loopInv_k0_t2.sl.v637 loopInv_k0_t2.sl.v638 loopInv_k0_t2.sl.v640 loopInv_k0_t2.sl.v641 loopInv_k0_t2.sl.v642 loopInv_k0_t2.sl.v643 loopInv_k0_t2.sl.v644 loopInv_k0_t2.sl.v645 loopInv_k0_t2.sl.v646 loopInv_k0_t2.sl.v647 loopInv_k0_t2.sl.v648 loopInv_k0_t2.sl.v649 loopInv_k0_t2.sl.v650 loopInv_k0_t2.sl.v653 loopInv_k0_t2.sl.v657 loopInv_k0_t2.sl.v660 loopInv_k0_t2.sl.v663 loopInv_k0_t2.sl.v666 loopInv_k0_t2.sl.v668 loopInv_k0_t2.sl.v669 loopInv_k0_t2.sl.v670 loopInv_k0_t2.sl.v671 loopInv_k0_t2.sl.v672 loopInv_k0_t2.sl.v673 loopInv_k0_t2.sl.v674 loopInv_k0_t2.sl.v675 loopInv_k0_t2.sl.v676 loopInv_k0_t2.sl.v677 loopInv_k0_t2.sl.v678 loopInv_k0_t2.sl.v679 loopInv_k0_t2.sl.v680 loopInv_k0_t2.sl.v681 loopInv_k0_t2.sl.v682 loopInv_k0_t2.sl.v684 loopInv_k0_t2.sl.v685 loopInv_k0_t2.sl.v686 loopInv_k0_t2.sl.v687 loopInv_k0_t2.sl.v688 loopInv_k0_t2.sl.v689 loopInv_k0_t2.sl.v690 loopInv_k0_t2.sl.v691 loopInv_k0_t2.sl.v692 loopInv_k0_t2.sl.v693 loopInv_k0_t2.sl.v694 loopInv_k0_t2.sl.v697 loopInv_k0_t2.sl.v698 loopInv_k0_t2.sl.v699 loopInv_k0_t2.sl.v700 loopInv_k0_t2.sl.v701 loopInv_k0_t2.sl.v702 loopInv_k0_t2.sl.v703 loopInv_k0_t2.sl.v704 loopInv_k0_t2.sl.v705 loopInv_k0_t2.sl.v706 loopInv_k0_t2.sl.v707 loopInv_k0_t2.sl.v708 loopInv_k0_t2.sl.v709 loopInv_k0_t2.sl.v710 loopInv_k0_t2.sl.v712 loopInv_k0_t2.sl.v713 loopInv_k0_t2.sl.v714 loopInv_k0_t2.sl.v715 loopInv_k0_t2.sl.v716 loopInv_k0_t2.sl.v717 loopInv_k0_t2.sl.v718 loopInv_k0_t2.sl.v719 loopInv_k0_t2.sl.v720 loopInv_k0_t2.sl.v721 loopInv_k0_t2.sl.v722
          unfold_payloads
          pointwise
          simp only [readAt_box2 _ _ _ _ (k0_off6_eq k0_t1 k), readAt_box3 _ _ _ _ _ (k0_off7_eq k), readAt_box3 _ _ _ _ _ (k0_off8_eq k), readAt_box3 _ _ _ _ _ (k0_off9_eq k), readAt_box3 _ _ _ _ _ (k0_off10_eq k), readAt_box3 _ _ _ _ _ (k0_off11_eq k), readAt_box3 _ _ _ _ _ (k0_off12_eq k), readAt_box3 _ _ _ _ _ (k0_off13_eq k), readAt_box3 _ _ _ _ _ (k0_off14_eq k), readAt_box3 _ _ _ _ _ (k0_off15_eq k), readAt_box3 _ _ _ _ _ (k0_off16_eq k), readAt_box3 _ _ _ _ _ (k0_off17_eq k0_t1 k), readAt_box3 _ _ _ _ _ (k0_off18_eq k0_t1 k), readAt_box3 _ _ _ _ _ (k0_off19_eq k0_t1 k), readAt_box3 _ _ _ _ _ (k0_off20_eq k0_t1 k), readAt_box3 _ _ _ _ _ (k0_off21_eq k0_t1 k), readAt_box3 _ _ _ _ _ (rfl : (![0, 0, 0] : Fin 3 → ℕ) = _), readAt_box3 _ _ _ _ _ (rfl : (![0, 0, 128] : Fin 3 → ℕ) = _), readAt_box3 _ _ _ _ _ (rfl : (![1, 0, 0] : Fin 3 → ℕ) = _), readAt_box3 _ _ _ _ _ (rfl : (![1, 0, 128] : Fin 3 → ℕ) = _), readAt_box3 _ _ _ _ _ (rfl : (![2, 0, 0] : Fin 3 → ℕ) = _), readAt_box3 _ _ _ _ _ (rfl : (![2, 0, 128] : Fin 3 → ℕ) = _), readAt_box3 _ _ _ _ _ (rfl : (![3, 0, 0] : Fin 3 → ℕ) = _), readAt_box3 _ _ _ _ _ (rfl : (![3, 0, 128] : Fin 3 → ℕ) = _), readAt_box3 _ _ _ _ _ (rfl : (![4, 0, 0] : Fin 3 → ℕ) = _), readAt_box3 _ _ _ _ _ (rfl : (![4, 0, 128] : Fin 3 → ℕ) = _)]
          simp only [yOf, Blk.y, Blk.e, Blk.at, accS, Blk.hot, Blk.ex, lo, hi, ln_lo, ln_hi, blkOf, svOf, Matrix.cons_val, Nat.zero_add, hm0, hm1, ← add_assoc]
          rfl

      · funext y
        obtain ⟨kk, n, m, rfl⟩ : ∃ (kk : Fin 5) (n : Fin 8) (m : Fin 256), y = ix3 kk n m := ⟨y 0, y 1, y 2, eq_ix3 y⟩
        exact if_pos ⟨Nat.zero_le _, by show n.val < 0 + 8; have := n.isLt; omega⟩

end Cert.GradIdeal.Hand

end
-- ==== Proof.GradOuter.lean ====
/-
  THE OUTER LOOP OF THE GRADIENT PASS: eight trips of 256 queries each make the five segments' dot products, run the inner
  loop and add its operand's product with the transposed queries to the documents' gradient.
-/
module

public import proofs.«01_k».proof.Proof.GradTrip

@[expose] public section

set_option maxRecDepth 16384

noncomputable section

namespace Cert.GradIdeal.Hand

open Cert.GradIdeal Cert.GradIdeal.Gen
open Cert.KernelIdeal.Hand (readAt_box2 readAt_box3 read_planes)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- The five segments' dot products of query `n` and document `m` of a block: columns 0–63, 64–127, 128–255, 256–511 and
512–767. -/
def dotS (q : S2048x768.Idx → EReal) (d : S256x768.Idx → EReal) : Fin 5 → Fin 2048 → Fin 256 → EReal := fun j n m =>
  ![∑ x : Fin 64, q (ix2 n (⟨x.val, by omega⟩ : Fin 768)) * d (ix2 m (⟨x.val, by omega⟩ : Fin 768)),
    ∑ x : Fin 64, q (ix2 n (⟨64 + x.val, by omega⟩ : Fin 768)) * d (ix2 m (⟨64 + x.val, by omega⟩ : Fin 768)),
    ∑ x : Fin 128, q (ix2 n (⟨128 + x.val, by omega⟩ : Fin 768)) * d (ix2 m (⟨128 + x.val, by omega⟩ : Fin 768)),
    ∑ x : Fin 256, q (ix2 n (⟨256 + x.val, by omega⟩ : Fin 768)) * d (ix2 m (⟨256 + x.val, by omega⟩ : Fin 768)),
    ∑ x : Fin 256, q (ix2 n (⟨512 + x.val, by omega⟩ : Fin 768)) * d (ix2 m (⟨512 + x.val, by omega⟩ : Fin 768))] j

/-- The segment of a column. -/
def sg (d : Fin 768) : Fin 5 := if d.val < 64 then 0 else if d.val < 128 then 1 else if d.val < 256 then 2 else if d.val < 512 then 3 else 4

/-- The columns of each segment lie in it. -/
theorem sg_0 (r : Fin 64) (h : 0 + r.val < 768) : sg ⟨0 + r.val, h⟩ = 0 := if_pos (by simp only []; omega)
theorem sg_0' (r : Fin 64) (h : r.val < 768) : sg ⟨r.val, h⟩ = 0 := if_pos r.isLt
theorem sg_1 (r : Fin 64) (h : 64 + r.val < 768) : sg ⟨64 + r.val, h⟩ = 1 := by
  unfold sg; rw [if_neg (by simp only []; omega), if_pos (by simp only []; omega)]
theorem sg_2 (r : Fin 128) (h : 128 + r.val < 768) : sg ⟨128 + r.val, h⟩ = 2 := by
  unfold sg; rw [if_neg (by simp only []; omega), if_neg (by simp only []; omega), if_pos (by simp only []; omega)]
theorem sg_3 (r : Fin 256) (h : 256 + r.val < 768) : sg ⟨256 + r.val, h⟩ = 3 := by
  unfold sg; rw [if_neg (by simp only []; omega), if_neg (by simp only []; omega), if_neg (by simp only []; omega), if_pos (by simp only []; omega)]
theorem sg_4 (r : Fin 256) (h : 512 + r.val < 768) : sg ⟨512 + r.val, h⟩ = 4 := by
  unfold sg
  rw [if_neg (by simp only []; omega), if_neg (by simp only []; omega), if_neg (by simp only []; omega), if_neg (by simp only []; omega)]

/-- A load of one word of a vector reads it. -/
theorem readAt_word {sig : RefSig} {κ : Kind} {sp : Space} {e : EltTy} {Val : EltTy → Type} {d : ℕ} (v : View sig κ sp ⟨1, ![d]⟩ e) (f : v.ty.Contents Val)
    {off : Fin 1 → ℕ} (o : ℕ) (h : off = ![o]) (inb : ∀ a, off a + (![1] : Fin 1 → ℕ) a ≤ (⟨1, ![d]⟩ : Shape).size a) (hp : 0 < (⟨1, ![1]⟩ : Shape).numel) :
    v.readAt Val (Rect.unit (s := ⟨1, ![d]⟩) off (![1] : Fin 1 → ℕ) inb).toLoadRect f (Shape.Idx.first hp : (⟨1, ![1]⟩ : Shape).Idx)
      = v.read Val f (ix1 (⟨o, by subst h; exact inb 0⟩ : Fin d)) := by
  subst h
  rw [View.readAt_apply]
  refine congrArg _ (funext fun a => ?_)
  match a with
  | 0 =>
    have hz : ∀ x : Fin 1, o + x.val = o := fun x => by omega
    exact Fin.ext ((congrArg (o + ·) (Nat.one_mul _)).trans (hz _))

/-- One stored slab of rows: the stored function there, the rest as before. -/
theorem writes_slab {sig : RefSig} {κ : Kind} {sp : Space} {N S : ℕ} (v : View sig κ sp ⟨2, ![N, 256]⟩ .f32) (f : v.ty.Contents (Elt Ideal))
    (L : List (View.Piece (Elt Ideal) ⟨2, ![N, 256]⟩ .f32)) (o : ℕ) (hb : o + S ≤ N) {off : Fin 2 → ℕ} (h : off = ![o, 0])
    (i : ∀ a, off a + (![S, 256] : Fin 2 → ℕ) a ≤ (⟨2, ![N, 256]⟩ : Shape).size a) (w : (⟨2, ![S, 256]⟩ : Shape).Idx → EReal) (G : Fin N → Fin 256 → EReal)
    (g : ∀ (r : Fin S) (m : Fin 256), w (ix2 r m) = G ⟨o + r.val, by omega⟩ m) (d : Fin N) (m : Fin 256) :
    v.read (Elt Ideal) (v.writes (Elt Ideal) f (⟨Rect.unit (s := ⟨2, ![N, 256]⟩) off (![S, 256] : Fin 2 → ℕ) i, w⟩ :: L)) (ix2 d m)
      = if o ≤ d.val ∧ d.val < o + S then G d m else v.read (Elt Ideal) (v.writes (Elt Ideal) f L) (ix2 d m) := by
  subst h
  by_cases c : o ≤ d.val ∧ d.val < o + S
  · rw [if_pos c]
    obtain ⟨r, hb', rfl⟩ : ∃ (r : Fin S) (hb' : o + r.val < N), d = ⟨o + r.val, hb'⟩ :=
      ⟨⟨d.val - o, by omega⟩, by have := d.isLt; simp only []; omega, Fin.ext (by simp only []; omega)⟩
    rw [← g]
    refine View.read_writes_cons_unit_of_mem v f i w _ _ (ix2 r m : (⟨2, ![S, 256]⟩ : Shape).Idx) rfl fun a => ?_
    match a with
    | 0 => rfl
    | 1 => exact (Nat.zero_add _).symm
  · rw [if_neg c]
    exact View.read_writes_cons_unit_of_not_mem v f i _ _ _ rfl 0 (show d.val < o ∨ o + S ≤ d.val by omega)

/-- Five stored slabs of the 768 rows, one per segment, the first segment stored first: the stored function. -/
theorem writes_segs {sig : RefSig} {κ : Kind} {sp : Space} (v : View sig κ sp ⟨2, ![768, 256]⟩ .f32) (f : v.ty.Contents (Elt Ideal))
    {o0 o1 o2 o3 o4 : Fin 2 → ℕ} (h0 : o0 = ![0, 0]) (h1 : o1 = ![64, 0]) (h2 : o2 = ![128, 0]) (h3 : o3 = ![256, 0]) (h4 : o4 = ![512, 0])
    (i0 : ∀ a, o0 a + (![64, 256] : Fin 2 → ℕ) a ≤ (⟨2, ![768, 256]⟩ : Shape).size a)
    (i1 : ∀ a, o1 a + (![64, 256] : Fin 2 → ℕ) a ≤ (⟨2, ![768, 256]⟩ : Shape).size a)
    (i2 : ∀ a, o2 a + (![128, 256] : Fin 2 → ℕ) a ≤ (⟨2, ![768, 256]⟩ : Shape).size a)
    (i3 : ∀ a, o3 a + (![256, 256] : Fin 2 → ℕ) a ≤ (⟨2, ![768, 256]⟩ : Shape).size a)
    (i4 : ∀ a, o4 a + (![256, 256] : Fin 2 → ℕ) a ≤ (⟨2, ![768, 256]⟩ : Shape).size a)
    (w0 : (⟨2, ![64, 256]⟩ : Shape).Idx → EReal) (w1 : (⟨2, ![64, 256]⟩ : Shape).Idx → EReal) (w2 : (⟨2, ![128, 256]⟩ : Shape).Idx → EReal) (w3 : (⟨2, ![256, 256]⟩ : Shape).Idx → EReal) (w4 : (⟨2, ![256, 256]⟩ : Shape).Idx → EReal) (G : Fin 768 → Fin 256 → EReal)
    (g0 : ∀ (r : Fin 64) (m : Fin 256), w0 (ix2 r m) = G ⟨0 + r.val, by omega⟩ m)
    (g1 : ∀ (r : Fin 64) (m : Fin 256), w1 (ix2 r m) = G ⟨64 + r.val, by omega⟩ m)
    (g2 : ∀ (r : Fin 128) (m : Fin 256), w2 (ix2 r m) = G ⟨128 + r.val, by omega⟩ m)
    (g3 : ∀ (r : Fin 256) (m : Fin 256), w3 (ix2 r m) = G ⟨256 + r.val, by omega⟩ m)
    (g4 : ∀ (r : Fin 256) (m : Fin 256), w4 (ix2 r m) = G ⟨512 + r.val, by omega⟩ m) :
    v.read (Elt Ideal) (v.writes (Elt Ideal) f
      [⟨Rect.unit (s := ⟨2, ![768, 256]⟩) o4 (![256, 256] : Fin 2 → ℕ) i4, w4⟩, ⟨Rect.unit (s := ⟨2, ![768, 256]⟩) o3 (![256, 256] : Fin 2 → ℕ) i3, w3⟩, ⟨Rect.unit (s := ⟨2, ![768, 256]⟩) o2 (![128, 256] : Fin 2 → ℕ) i2, w2⟩, ⟨Rect.unit (s := ⟨2, ![768, 256]⟩) o1 (![64, 256] : Fin 2 → ℕ) i1, w1⟩, ⟨Rect.unit (s := ⟨2, ![768, 256]⟩) o0 (![64, 256] : Fin 2 → ℕ) i0, w0⟩]) = fun y => G (y 0) (y 1) := by
  funext y
  obtain ⟨d, m, rfl⟩ : ∃ (d : Fin 768) (m : Fin 256), y = ix2 d m := ⟨y 0, y 1, eq_ix2 y⟩
  have hd := d.isLt
  show _ = G d m
  rw [writes_slab v f _ 512 (by omega) h4 i4 w4 G g4, writes_slab v f _ 256 (by omega) h3 i3 w3 G g3, writes_slab v f _ 128 (by omega) h2 i2 w2 G g2, writes_slab v f _ 64 (by omega) h1 i1 w1 G g1, writes_slab v f _ 0 (by omega) h0 i0 w0 G g0]
  split_ifs <;> first | rfl | omega

/-- The same, the last segment stored first. -/
theorem writes_segs_down {sig : RefSig} {κ : Kind} {sp : Space} (v : View sig κ sp ⟨2, ![768, 256]⟩ .f32) (f : v.ty.Contents (Elt Ideal))
    {o0 o1 o2 o3 o4 : Fin 2 → ℕ} (h0 : o0 = ![0, 0]) (h1 : o1 = ![64, 0]) (h2 : o2 = ![128, 0]) (h3 : o3 = ![256, 0]) (h4 : o4 = ![512, 0])
    (i0 : ∀ a, o0 a + (![64, 256] : Fin 2 → ℕ) a ≤ (⟨2, ![768, 256]⟩ : Shape).size a)
    (i1 : ∀ a, o1 a + (![64, 256] : Fin 2 → ℕ) a ≤ (⟨2, ![768, 256]⟩ : Shape).size a)
    (i2 : ∀ a, o2 a + (![128, 256] : Fin 2 → ℕ) a ≤ (⟨2, ![768, 256]⟩ : Shape).size a)
    (i3 : ∀ a, o3 a + (![256, 256] : Fin 2 → ℕ) a ≤ (⟨2, ![768, 256]⟩ : Shape).size a)
    (i4 : ∀ a, o4 a + (![256, 256] : Fin 2 → ℕ) a ≤ (⟨2, ![768, 256]⟩ : Shape).size a)
    (w0 : (⟨2, ![64, 256]⟩ : Shape).Idx → EReal) (w1 : (⟨2, ![64, 256]⟩ : Shape).Idx → EReal) (w2 : (⟨2, ![128, 256]⟩ : Shape).Idx → EReal) (w3 : (⟨2, ![256, 256]⟩ : Shape).Idx → EReal) (w4 : (⟨2, ![256, 256]⟩ : Shape).Idx → EReal) (G : Fin 768 → Fin 256 → EReal)
    (g0 : ∀ (r : Fin 64) (m : Fin 256), w0 (ix2 r m) = G ⟨0 + r.val, by omega⟩ m)
    (g1 : ∀ (r : Fin 64) (m : Fin 256), w1 (ix2 r m) = G ⟨64 + r.val, by omega⟩ m)
    (g2 : ∀ (r : Fin 128) (m : Fin 256), w2 (ix2 r m) = G ⟨128 + r.val, by omega⟩ m)
    (g3 : ∀ (r : Fin 256) (m : Fin 256), w3 (ix2 r m) = G ⟨256 + r.val, by omega⟩ m)
    (g4 : ∀ (r : Fin 256) (m : Fin 256), w4 (ix2 r m) = G ⟨512 + r.val, by omega⟩ m) :
    v.read (Elt Ideal) (v.writes (Elt Ideal) f
      [⟨Rect.unit (s := ⟨2, ![768, 256]⟩) o0 (![64, 256] : Fin 2 → ℕ) i0, w0⟩, ⟨Rect.unit (s := ⟨2, ![768, 256]⟩) o1 (![64, 256] : Fin 2 → ℕ) i1, w1⟩, ⟨Rect.unit (s := ⟨2, ![768, 256]⟩) o2 (![128, 256] : Fin 2 → ℕ) i2, w2⟩, ⟨Rect.unit (s := ⟨2, ![768, 256]⟩) o3 (![256, 256] : Fin 2 → ℕ) i3, w3⟩, ⟨Rect.unit (s := ⟨2, ![768, 256]⟩) o4 (![256, 256] : Fin 2 → ℕ) i4, w4⟩]) = fun y => G (y 0) (y 1) := by
  funext y
  obtain ⟨d, m, rfl⟩ : ∃ (d : Fin 768) (m : Fin 256), y = ix2 d m := ⟨y 0, y 1, eq_ix2 y⟩
  have hd := d.isLt
  show _ = G d m
  rw [writes_slab v f _ 0 (by omega) h0 i0 w0 G g0, writes_slab v f _ 64 (by omega) h1 i1 w1 G g1, writes_slab v f _ 128 (by omega) h2 i2 w2 G g2, writes_slab v f _ 256 (by omega) h3 i3 w3 G g3, writes_slab v f _ 512 (by omega) h4 i4 w4 G g4]
  split_ifs <;> first | rfl | omega

/-- A query's terms read the dot products in the query's own row only. -/
theorem Blk.at_congr (b : Blk) {sv sv' : Fin 5 → Fin 2048 → Fin 256 → EReal} {n : Fin 2048} (h : ∀ j m, sv j n m = sv' j n m)
    (k : Fin 5) (l : Fin 128) (m : Fin 256) : b.at sv k n l m = b.at sv' k n l m := by
  unfold Blk.at
  rw [show (fun j => sv j n m) = fun j => sv' j n m from funext fun j => h j m]

theorem Blk.R_congr (b : Blk) {sv sv' : Fin 5 → Fin 2048 → Fin 256 → EReal} {n : Fin 2048} (h : ∀ j m, sv j n m = sv' j n m)
    (k : Fin 5) (l : Fin 128) (m : Fin 256) : b.R sv k n l m = b.R sv' k n l m := by
  unfold Blk.R Blk.h Blk.e
  simp only [b.at_congr h]

theorem Blk.y_congr (b : Blk) {sv sv' : Fin 5 → Fin 2048 → Fin 256 → EReal} {n : Fin 2048} (h : ∀ j m, sv j n m = sv' j n m)
    (k : Fin 5) (l : Fin 128) (m : Fin 256) : b.y sv k n l m = b.y sv' k n l m := by
  unfold Blk.y Blk.e
  simp only [b.at_congr h]

/-- What a trip adds to the column sums reads the dot products of its 16 queries only. -/
theorem colT_congr (b : Blk) {sv sv' : Fin 5 → Fin 2048 → Fin 256 → EReal} (q : ℕ)
    (h : ∀ n : Fin 2048, 16 * q ≤ n.val → n.val < 16 * q + 16 → ∀ j m, sv j n m = sv' j n m) :
    colT (yOf b sv) q = colT (yOf b sv') q := by
  have e : ∀ (k : Fin 5) (m : Fin 256) (i : ℕ), 16 * q ≤ i → i < 16 * q + 16 → row (fun n => yOf b sv k n m) i = row (fun n => yOf b sv' k n m) i := by
    intro k m i h0 h1
    unfold row
    split
    · exact b.y_congr (h _ h0 h1) _ _ _
    · rfl
  funext y
  have hy : (y 1).val < 8 := (y 1).isLt
  exact congrArg₂ (· + ·) (e _ _ _ (by omega) (by omega)) (e _ _ _ (by omega) (by omega))

/-- What outer trip `q` adds to the documents' gradient (transposed): the transposed queries times the product operand. -/
def ddT (b : Blk) (sv : Fin 5 → Fin 2048 → Fin 256 → EReal) (qt : S768x2048.Idx → EReal) (q : ℕ) : S768x256.Idx → EReal :=
  fun y => ∑ x : Fin 256, row (fun n => qt (ix2 (y 0) n) * b.R sv (sg (y 0)) n (ln (y 1)) (y 1)) (256 * q + x.val)

theorem ddT_apply (b : Blk) (sv : Fin 5 → Fin 2048 → Fin 256 → EReal) (qt : S768x2048.Idx → EReal) (q : ℕ) (d : Fin 768) (m : Fin 256) :
    ddT b sv qt q (ix2 d m) = ∑ x : Fin 256, row (fun n => qt (ix2 d n) * b.R sv (sg d) n (ln m) m) (256 * q + x.val) := rfl

set_option warn.classDefReducibility false in
set_option maxHeartbeats 4000000 in
/-- THE OUTER LOOP BY ITS INVARIANT: before trip `k` the column sums hold the terms of the first `256 k` queries, and the
documents' gradient their products. -/
@[sl_loop] def loopInv_k0_t1 (c : Dev nD) (i : grid0.Coords) (arg1 : Memref sig .tc .smem S5 .f32) (harg1 : arg1.IsWhole) (arg2 : Memref sig .tc .vmem S256x768 .i8) (harg2 : arg2.IsWhole) (arg3 : Memref sig .tc .vmem S16x256 .f32) (harg3 : arg3.IsWhole) (arg4 : Memref sig .tc .vmem S1x256 .i32) (harg4 : arg4.IsWhole) (arg5 : Memref sig .tc .vmem S2048x768 .bf16) (harg5 : arg5.IsWhole) (arg6 : Memref sig .tc .vmem S768x2048 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .i32) (harg9 : arg9.IsWhole) (arg10 : Memref sig .tc .vmem S2048x128 .i32) (harg10 : arg10.IsWhole) (arg11 : Memref sig .tc .vmem S256x768 .bf16) (harg11 : arg11.IsWhole) (arg12 : Memref sig .tc .vmem S2048x768 .bf16) (harg12 : arg12.IsWhole) (arg13 : Memref sig .tc .vmem S5x256x256 .f32) (harg13 : arg13.IsWhole) (arg14 : Memref sig .tc .vmem S5x256x256 .bf16) (harg14 : arg14.IsWhole) (arg15 : Memref sig .tc .vmem S5x2048x128 .f32) (harg15 : arg15.IsWhole) (arg16 : Memref sig .tc .vmem S5x2048x128 .f32) (harg16 : arg16.IsWhole) (arg17 : Memref sig .tc .vmem S5x2048x128 .f32) (harg17 : arg17.IsWhole) (arg18 : Memref sig .tc .vmem S5x2048x128 .f32) (harg18 : arg18.IsWhole) (arg19 : Memref sig .tc .vmem S5x8x256 .f32) (harg19 : arg19.IsWhole) (arg20 : Memref sig .tc .vmem S2048x768 .f32) (harg20 : arg20.IsWhole) (arg21 : Memref sig .tc .vmem S768x256 .f32) (harg21 : arg21.IsWhole) (v4 : FVec Ideal S256x768 .bf16) (v6 : IVec S1x256 32) (v10 : IVec S1x256 32) (v11 : Vec Ideal S1x256 .f32) (v12 : Vec Ideal S1x256 .f32) (v13 : Vec Ideal S1x256 .f32) (v14 : Vec Ideal S1x256 .f32) (v15 : Vec Ideal S1x256 .f32) (v19 : FVec Ideal S1x256 .f32) (v23 : FVec Ideal S1x256 .f32) (v27 : FVec Ideal S1x256 .f32) (v31 : FVec Ideal S1x256 .f32) (v32 : Elt Ideal .f32)
    (X5 : arg5.view.ty.Contents (Elt Ideal)) (X6 : arg6.view.ty.Contents (Elt Ideal)) (X9 : arg9.view.ty.Contents (Elt Ideal)) (X10 : arg10.view.ty.Contents (Elt Ideal)) (X15 : arg15.view.ty.Contents (Elt Ideal)) (X16 : arg16.view.ty.Contents (Elt Ideal)) (X17 : arg17.view.ty.Contents (Elt Ideal))
    (G19 : arg19.view.ty.Contents (Elt Ideal)) (G21 : arg21.view.ty.Contents (Elt Ideal)) :
    LoopInv (M := 𝕄) frame (wpE (defs₀ (F := Ideal)) Variants.none (c : Thread nD τ) none) Set.univ k0_t1_loop.lb k0_t1_loop.ub k0_t1_loop.st k0_t1_ok ()
      (k0_t1_body (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 v4 v6 v10 v11 v12 v13 v14 v15 v19 v23 v27 v31 v32) where
  inv := fun k _ => iprop(pt c arg5 X5 ∗ pt c arg6 X6 ∗ pt c arg9 X9 ∗ pt c arg10 X10 ∗ pt c arg15 X15 ∗ pt c arg16 X16 ∗ pt c arg17 X17 ∗ (∃ f, pt c arg13 f) ∗ (∃ f, pt c arg14 f) ∗ (∃ f, pt c arg18 f) ∗ (∃ f, pt c arg20 f)
    ∗ (∃ f, pt c arg19 f ∗ ⌜arg19.view.read (Elt Ideal) f = addTo k 0 (16 * k) (arg19.view.read (Elt Ideal) G19)
        (colT (yOf (blkOf v6 v10 v11 v12 v13 v14 v15 v19 v23 v27 v31 (k0_pay167 v15 v32) (arg9.view.read (Elt Ideal) X9) (arg10.view.read (Elt Ideal) X10) (arg15.view.read (Elt Ideal) X15) (arg16.view.read (Elt Ideal) X16) (arg17.view.read (Elt Ideal) X17)) (dotS (arg5.view.read (Elt Ideal) X5) v4)))⌝)
    ∗ (∃ f, pt c arg21 f ∗ ⌜arg21.view.read (Elt Ideal) f = addTo k 0 k (arg21.view.read (Elt Ideal) G21)
        (ddT (blkOf v6 v10 v11 v12 v13 v14 v15 v19 v23 v27 v31 (k0_pay167 v15 v32) (arg9.view.read (Elt Ideal) X9) (arg10.view.read (Elt Ideal) X10) (arg15.view.read (Elt Ideal) X15) (arg16.view.read (Elt Ideal) X16) (arg17.view.read (Elt Ideal) X17)) (dotS (arg5.view.read (Elt Ideal) X5) v4) (arg6.view.read (Elt Ideal) X6))⌝))
  step k acc := by
    have hk : k.val < 8 := Nat.lt_of_lt_of_le k.isLt k0_t1_abs.2.1
    unfold k0_t1_body
    iintro ⟨H5, H6, H9, H10, H15, H16, H17, ⟨%f13, H13⟩, ⟨%f14, H14⟩, ⟨%f18, H18⟩, ⟨%f20, H20⟩, ⟨%f19, H19, %h19⟩, ⟨%f21, H21, %h21⟩⟩
    have e19 := h19.trans (addTo_eq (by omega) _ _)
    have e21 := h21.trans (addTo_eq (by omega) _ _)
    sl_exec
    sl_step
    have hs : ∀ n : Fin 2048, 256 * k.val ≤ n.val → n.val < 256 * k.val + 256 → ∀ (j : Fin 5) (m : Fin 256),
        svOf (arg13.view.read (Elt Ideal) (arg13.view.writes (Elt Ideal) arg13.view.junk (loopInv_k0_t1.sl.H13_5 arg5 v4 X5 k))) j n m
          = dotS (arg5.view.read (Elt Ideal) X5) v4 j n m := by
      intro n h0 h1 j m
      clear hL8 hL10 h19 h21 e19 e21
      obtain ⟨r, hb, rfl⟩ : ∃ (r : Fin 256) (hb : 256 * k.val + r.val < 2048), n = ⟨256 * k.val + r.val, hb⟩ :=
        ⟨⟨n.val - 256 * k.val, by omega⟩, by have := n.isLt; simp only []; omega, Fin.ext (by simp only []; omega)⟩
      have hr : (⟨(256 * k.val + r.val) % 256, Nat.mod_lt _ (by decide)⟩ : Fin 256) = r := Fin.ext (by simp only []; omega)
      show arg13.view.read (Elt Ideal) _ (ix3 j (⟨(256 * k.val + r.val) % 256, _⟩ : Fin 256) m) = _
      rw [hr]
      delta loopInv_k0_t1.sl.H13_5
      refine (read_planes arg13.view _ rfl rfl rfl rfl rfl _ _ _ _ _ _ _ _ _ _ j r m).trans ?_
      obtain rfl | rfl | rfl | rfl | rfl : j = 0 ∨ j = 1 ∨ j = 2 ∨ j = 3 ∨ j = 4 := by omega
      all_goals
        simp only [Matrix.cons_val]
        try delta loopInv_k0_t1.sl.H13_5 loopInv_k0_t1.sl.arg22 loopInv_k0_t1.sl.cst_135 loopInv_k0_t1.sl.cst_140 loopInv_k0_t1.sl.cst_147 loopInv_k0_t1.sl.cst_152 loopInv_k0_t1.sl.cst_159 loopInv_k0_t1.sl.cst_92 loopInv_k0_t1.sl.r loopInv_k0_t1.sl.v162 loopInv_k0_t1.sl.v163 loopInv_k0_t1.sl.v164 loopInv_k0_t1.sl.v166 loopInv_k0_t1.sl.v168 loopInv_k0_t1.sl.v169 loopInv_k0_t1.sl.v171 loopInv_k0_t1.sl.v172 loopInv_k0_t1.sl.v175 loopInv_k0_t1.sl.v176 loopInv_k0_t1.sl.v177 loopInv_k0_t1.sl.v178 loopInv_k0_t1.sl.v179 loopInv_k0_t1.sl.v182 loopInv_k0_t1.sl.v183 loopInv_k0_t1.sl.v184 loopInv_k0_t1.sl.v185 loopInv_k0_t1.sl.v186 loopInv_k0_t1.sl.v189 loopInv_k0_t1.sl.v190 loopInv_k0_t1.sl.v191 loopInv_k0_t1.sl.v192 loopInv_k0_t1.sl.v193 loopInv_k0_t1.sl.v225 loopInv_k0_t1.sl.v226 loopInv_k0_t1.sl.v227 loopInv_k0_t1.sl.v228 loopInv_k0_t1.sl.v229 loopInv_k0_t1.sl.v231 loopInv_k0_t1.sl.v232 loopInv_k0_t1.sl.v233 loopInv_k0_t1.sl.v236 loopInv_k0_t1.sl.v237 loopInv_k0_t1.sl.v238 loopInv_k0_t1.sl.v240 loopInv_k0_t1.sl.v241 loopInv_k0_t1.sl.v243 loopInv_k0_t1.sl.v245 loopInv_k0_t1.sl.v246 loopInv_k0_t1.sl.v247 loopInv_k0_t1.sl.v248 loopInv_k0_t1.sl.v251 loopInv_k0_t1.sl.v252 loopInv_k0_t1.sl.v253 loopInv_k0_t1.sl.v256 loopInv_k0_t1.sl.v257 loopInv_k0_t1.sl.v258 loopInv_k0_t1.sl.v260 loopInv_k0_t1.sl.v261 loopInv_k0_t1.sl.v263 loopInv_k0_t1.sl.v265 loopInv_k0_t1.sl.v266 loopInv_k0_t1.sl.v267 loopInv_k0_t1.sl.v268 loopInv_k0_t1.sl.v271 loopInv_k0_t1.sl.v272 loopInv_k0_t1.sl.v273 loopInv_k0_t1.sl.v276 loopInv_k0_t1.sl.v277 loopInv_k0_t1.sl.v278 loopInv_k0_t1.sl.v280 loopInv_k0_t1.sl.v281 loopInv_k0_t1.sl.v283 loopInv_k0_t1.sl.v285 loopInv_k0_t1.sl.v286 loopInv_k0_t1.sl.v287 loopInv_k0_t1.sl.v288 loopInv_k0_t1.sl.v291 loopInv_k0_t1.sl.v292 loopInv_k0_t1.sl.v293 loopInv_k0_t1.sl.v296
        unfold_payloads
        pointwise
        simp only [readAt_box2 _ _ _ _ (k0_off1_eq k), readAt_box2 _ _ _ _ (k0_off2_eq k), readAt_box2 _ _ _ _ (k0_off3_eq k), readAt_box2 _ _ _ _ (k0_off4_eq k),
          readAt_box2 _ _ _ _ (k0_off5_eq k)]
        simp only [dotS, Matrix.cons_val, Nat.zero_add]
    have htr : Scf.trips k0_t2_loop.lb k0_t2_loop.ub k0_t2_loop.st = 16 := by decide
    rw [fillTo_eq (by omega), htr] at hL8
    rw [addTo_eq (by omega), htr, addUp_congr _ fun q a b => colT_congr _ (sv' := dotS (arg5.view.read (Elt Ideal) X5) v4) q fun n ha hb => hs n (by omega) (by omega), e19,
      addUp_trans (by omega) (by omega)] at hL10
    have hr : ∀ (kk : Fin 5) (x m : Fin 256), arg14.view.read (Elt Ideal) fL1 (ix3 kk x m)
        = (blkOf v6 v10 v11 v12 v13 v14 v15 v19 v23 v27 v31 (k0_pay167 v15 v32) (arg9.view.read (Elt Ideal) X9) (arg10.view.read (Elt Ideal) X10) (arg15.view.read (Elt Ideal) X15) (arg16.view.read (Elt Ideal) X16) (arg17.view.read (Elt Ideal) X17)).R (dotS (arg5.view.read (Elt Ideal) X5) v4) kk ⟨256 * k.val + x.val, by omega⟩ (ln m) m := by
      intro kk x m
      rw [hL8]
      refine (if_pos x.isLt).trans ?_
      show row _ (256 * k.val + x.val) = _
      rw [row_lt _ (by omega)]
      exact Blk.R_congr _ (hs _ (Nat.le_add_right _ _) (Nat.add_lt_add_left x.isLt _)) _ _ _
    isplitl [H5]
    · iexact H5
    isplitl [H6]
    · iexact H6
    isplitl [H9]
    · iexact H9
    isplitl [H10]
    · iexact H10
    isplitl [H15]
    · iexact H15
    isplitl [H16]
    · iexact H16
    isplitl [H17]
    · iexact H17
    isplitl [H13]
    · iexists _
      iexact H13
    isplitl [H14]
    · iexists _
      iexact H14
    isplitl [H18]
    · iexists _
      iexact H18
    isplitl [H20]
    · iexists _
      iexact H20
    isplitl [H19]
    · iexists _
      isplitl [H19]
      · iexact H19
      ipureintro
      exact hL10
    · iexists _
      isplitl [H21]
      · iexact H21
      ipureintro
      show arg21.view.read (Elt Ideal) _ = addUp 0 (k.val + 1) _ _
      rw [addUp_succ (by omega), ← e21]
      clear hL8 hL10 h19 h21 e19 e21 hs
      have hrow : ∀ (g : Fin 2048 → EReal) (x : Fin 256), row g (256 * k.val + x.val) = g ⟨256 * k.val + x.val, by omega⟩ := fun g x => row_lt g _
      generalize blkOf v6 v10 v11 v12 v13 v14 v15 v19 v23 v27 v31 (k0_pay167 v15 v32) (arg9.view.read (Elt Ideal) X9) (arg10.view.read (Elt Ideal) X10) (arg15.view.read (Elt Ideal) X15) (arg16.view.read (Elt Ideal) X16) (arg17.view.read (Elt Ideal) X17) = b at hr ⊢
      refine writes_segs arg21.view _ rfl rfl rfl rfl rfl _ _ _ _ _ _ _ _ _ _ (fun d m => arg21.view.read (Elt Ideal) f21 (ix2 d m)
        + ddT b (dotS (arg5.view.read (Elt Ideal) X5) v4) (arg6.view.read (Elt Ideal) X6) k.val (ix2 d m)) ?_ ?_ ?_ ?_ ?_ |>.trans ?_
      rotate_right
      · funext y
        obtain ⟨d, m, rfl⟩ : ∃ (d : Fin 768) (m : Fin 256), y = ix2 d m := ⟨y 0, y 1, eq_ix2 y⟩
        rfl
      all_goals
        intro r m
        try delta loopInv_k0_t1.sl.H13_5 loopInv_k0_t1.sl.arg22 loopInv_k0_t1.sl.cst_135 loopInv_k0_t1.sl.cst_140 loopInv_k0_t1.sl.cst_147 loopInv_k0_t1.sl.cst_152 loopInv_k0_t1.sl.cst_159 loopInv_k0_t1.sl.cst_92 loopInv_k0_t1.sl.r loopInv_k0_t1.sl.v162 loopInv_k0_t1.sl.v163 loopInv_k0_t1.sl.v164 loopInv_k0_t1.sl.v166 loopInv_k0_t1.sl.v168 loopInv_k0_t1.sl.v169 loopInv_k0_t1.sl.v171 loopInv_k0_t1.sl.v172 loopInv_k0_t1.sl.v175 loopInv_k0_t1.sl.v176 loopInv_k0_t1.sl.v177 loopInv_k0_t1.sl.v178 loopInv_k0_t1.sl.v179 loopInv_k0_t1.sl.v182 loopInv_k0_t1.sl.v183 loopInv_k0_t1.sl.v184 loopInv_k0_t1.sl.v185 loopInv_k0_t1.sl.v186 loopInv_k0_t1.sl.v189 loopInv_k0_t1.sl.v190 loopInv_k0_t1.sl.v191 loopInv_k0_t1.sl.v192 loopInv_k0_t1.sl.v193 loopInv_k0_t1.sl.v225 loopInv_k0_t1.sl.v226 loopInv_k0_t1.sl.v227 loopInv_k0_t1.sl.v228 loopInv_k0_t1.sl.v229 loopInv_k0_t1.sl.v231 loopInv_k0_t1.sl.v232 loopInv_k0_t1.sl.v233 loopInv_k0_t1.sl.v236 loopInv_k0_t1.sl.v237 loopInv_k0_t1.sl.v238 loopInv_k0_t1.sl.v240 loopInv_k0_t1.sl.v241 loopInv_k0_t1.sl.v243 loopInv_k0_t1.sl.v245 loopInv_k0_t1.sl.v246 loopInv_k0_t1.sl.v247 loopInv_k0_t1.sl.v248 loopInv_k0_t1.sl.v251 loopInv_k0_t1.sl.v252 loopInv_k0_t1.sl.v253 loopInv_k0_t1.sl.v256 loopInv_k0_t1.sl.v257 loopInv_k0_t1.sl.v258 loopInv_k0_t1.sl.v260 loopInv_k0_t1.sl.v261 loopInv_k0_t1.sl.v263 loopInv_k0_t1.sl.v265 loopInv_k0_t1.sl.v266 loopInv_k0_t1.sl.v267 loopInv_k0_t1.sl.v268 loopInv_k0_t1.sl.v271 loopInv_k0_t1.sl.v272 loopInv_k0_t1.sl.v273 loopInv_k0_t1.sl.v276 loopInv_k0_t1.sl.v277 loopInv_k0_t1.sl.v278 loopInv_k0_t1.sl.v280 loopInv_k0_t1.sl.v281 loopInv_k0_t1.sl.v283 loopInv_k0_t1.sl.v285 loopInv_k0_t1.sl.v286 loopInv_k0_t1.sl.v287 loopInv_k0_t1.sl.v288 loopInv_k0_t1.sl.v291 loopInv_k0_t1.sl.v292 loopInv_k0_t1.sl.v293 loopInv_k0_t1.sl.v296
        unfold_payloads
        pointwise
        simp only [readAt_box2 _ _ _ _ (k0_off22_eq k), readAt_box2 _ _ _ _ (k0_off23_eq k), readAt_box2 _ _ _ _ (k0_off24_eq k), readAt_box2 _ _ _ _ (k0_off25_eq k), readAt_box2 _ _ _ _ (k0_off26_eq k),
          readAt_box2 _ _ _ _ (rfl : (![0, 0] : Fin 2 → ℕ) = _), readAt_box2 _ _ _ _ (rfl : (![64, 0] : Fin 2 → ℕ) = _), readAt_box2 _ _ _ _ (rfl : (![128, 0] : Fin 2 → ℕ) = _),
          readAt_box2 _ _ _ _ (rfl : (![256, 0] : Fin 2 → ℕ) = _), readAt_box2 _ _ _ _ (rfl : (![512, 0] : Fin 2 → ℕ) = _),
          readAt_box3 _ _ _ _ _ (rfl : (![0, 0, 0] : Fin 3 → ℕ) = _), readAt_box3 _ _ _ _ _ (rfl : (![1, 0, 0] : Fin 3 → ℕ) = _), readAt_box3 _ _ _ _ _ (rfl : (![2, 0, 0] : Fin 3 → ℕ) = _),
          readAt_box3 _ _ _ _ _ (rfl : (![3, 0, 0] : Fin 3 → ℕ) = _), readAt_box3 _ _ _ _ _ (rfl : (![4, 0, 0] : Fin 3 → ℕ) = _)]
        simp only [Nat.zero_add, hr, ddT_apply, hrow, sg_0, sg_0', sg_1, sg_2, sg_3, sg_4]
        rfl

end Cert.GradIdeal.Hand

end
-- ==== Proof.GradBody.lean ====
/-
  ONE GRID POINT OF THE GRADIENT PASS: what it stores into the documents' gradient, as a function of the blocks of its
  inputs.
-/
module

public import proofs.«01_k».proof.Proof.GradOuter
public import proofs.«01_k».proof.Proof.StatsBody

@[expose] public section

set_option maxRecDepth 16384

noncomputable section

namespace Cert.GradIdeal.Hand

open Cert.GradIdeal Cert.GradIdeal.Gen
open Cert.KernelIdeal.Hand (readAt_box2 readAt_box3 read_planes readAt_full2 midW)
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

local notation "𝕄" => MT nD τ sig Unit (Elt Ideal) ℕ (UR sig nD τ) ℕ

/-- A whole buffer of words, at contents `f`. -/
abbrev ptw (c : Dev nD) {S : Shape} {e : EltTy} (M : Memref sig .tc .smem S e) (f : M.view.ty.Contents (Elt Ideal)) : sProp 𝕄 :=
  M.view.loc (c : Thread nD τ) ↦[M.view.set]{fullShare} f

/-- The column of a plane in the table of query norms. -/
def colQ (k : Fin 5) : Fin 128 := ⟨1 + k.val, by omega⟩

/-- The queries' columns spread over the lanes: the inverse norms times log2(e)/τ, the log scales, the inverse norms. -/
def cnOf (X7 : S2048x128.Idx → EReal) : S5x2048x128.Idx → EReal :=
  fun y => X7 (ix2 (y 1) (colQ (y 0))) * Named.named (F := Ideal) (φ := .f32) κ "log2e_over_tau" 0x41E6D4CA#32
def laOf (X8 : S2048x128.Idx → EReal) : S5x2048x128.Idx → EReal := fun y => X8 (ix2 (y 1) (⟨(y 0).val, lt_trans (show (y 0).val < 5 from (y 0).isLt) (by decide)⟩ : Fin 128))
def irqOf (X7 : S2048x128.Idx → EReal) : S5x2048x128.Idx → EReal := fun y => X7 (ix2 (y 1) (colQ (y 0)))

/-- A prefix's weight divided by the temperature times the number of queries. -/
def wInv (w : S5.Idx → EReal) (k : Fin 5) : EReal := w (ix1 k) * Ideal.ofBits .f32 0x3C200000#32

/-- The operands of grid point `t` from the blocks of its inputs. -/
def blkAt (t : ℕ) (w : S5.Idx → EReal) (X3 : S16x256.Idx → EReal) (X4 : S1x256.Idx → BitVec 32) (X7 X8 : S2048x128.Idx → EReal)
    (X9 X10 : S2048x128.Idx → BitVec 32) : Blk :=
  ⟨fun y => midW t (y 1).val, X4, fun k y => X3 (ix2 (⟨1 + k.val, by omega⟩ : Fin 16) (y 1)),
    fun k y => X3 (ix2 (⟨1 + k.val, by omega⟩ : Fin 16) (y 1)) * wInv w k, X9, X10, cnOf X7, laOf X8, irqOf X7⟩

/-- The block's codes as numbers. -/
def codes (X2 : S256x768.Idx → BitVec 8) : S256x768.Idx → EReal := fun y => FloatOps.sitofp (F := Ideal) .bf16 (X2 y)

/-- The column sums of a point, and the products with the transposed queries. -/
def colS (b : Blk) (sv : Fin 5 → Fin 2048 → Fin 256 → EReal) : S5x8x256.Idx → EReal := addUp 0 128 (fun _ => 0) (colT (yOf b sv))
def prodS (b : Blk) (sv : Fin 5 → Fin 2048 → Fin 256 → EReal) (qt : S768x2048.Idx → EReal) : S768x256.Idx → EReal := addUp 0 8 (fun _ => 0) (ddT b sv qt)

/-- A prefix's column sum, weighted and divided by the document's scaled norm. -/
def csV (w : S5.Idx → EReal) (X3 : S16x256.Idx → EReal) (C : S5x8x256.Idx → EReal) (m : Fin 256) (k : Fin 5) : EReal :=
  Ideal.div ((∑ s : Fin 8, C (ix3 k s m)) * wInv w k) (X3 (ix2 (⟨6 + k.val, by omega⟩ : Fin 16) m))

/-- The documents' gradient of a point (transposed). -/
def ddC (w : S5.Idx → EReal) (D : S256x768.Idx → EReal) (X3 : S16x256.Idx → EReal) (C : S5x8x256.Idx → EReal) (G : S768x256.Idx → EReal)
    (d : Fin 768) (m : Fin 256) : EReal :=
  (G (ix2 d m) - D (ix2 m d) * down (csV w X3 C m) (sg d)) * Ideal.div 1 (X3 (ix2 (0 : Fin 16) m))

/-- The documents' gradient of grid point `t` from the blocks of its inputs. -/
def ddV (t : ℕ) (w : S5.Idx → EReal) (X2 : S256x768.Idx → BitVec 8) (X3 : S16x256.Idx → EReal) (X4 : S1x256.Idx → BitVec 32) (X5 : S2048x768.Idx → EReal)
    (X6 : S768x2048.Idx → EReal) (X7 X8 : S2048x128.Idx → EReal) (X9 X10 : S2048x128.Idx → BitVec 32) : S256x768.Idx → EReal :=
  fun y => ddC w (codes X2) X3 (colS (blkAt t w X3 X4 X7 X8 X9 X10) (dotS X5 (codes X2)))
    (prodS (blkAt t w X3 X4 X7 X8 X9 X10) (dotS X5 (codes X2)) X6) (y 1) (y 0)

/-- The operands the loads give are those of the blocks. -/
theorem blkOf_eq (i : grid0.Coords) (w : S5.Idx → EReal) (X3 : S16x256.Idx → EReal) (X4 : S1x256.Idx → BitVec 32) (X7 X8 : S2048x128.Idx → EReal)
    (X9 X10 : S2048x128.Idx → BitVec 32) {v6 : IVec S1x256 32} {v11 v12 v13 v14 v15 v19 v23 v27 v31 v35 : S1x256.Idx → EReal} (h6 : v6 = X4)
    (h : ∀ (k : Fin 5) (m : Fin 256), (![v11, v12, v13, v14, v15] : Fin 5 → S1x256.Idx → EReal) k (ix2 (0 : Fin 1) m) = X3 (ix2 (⟨1 + k.val, by omega⟩ : Fin 16) m))
    (g : ∀ (k : Fin 5) (m : Fin 256), (![v19, v23, v27, v31, v35] : Fin 5 → S1x256.Idx → EReal) k (ix2 (0 : Fin 1) m) = X3 (ix2 (⟨1 + k.val, by omega⟩ : Fin 16) m) * wInv w k) :
    blkOf v6 (k0_pay162 i) v11 v12 v13 v14 v15 v19 v23 v27 v31 v35 X9 X10 (cnOf X7) (laOf X8) (irqOf X7) = blkAt (i 0).val w X3 X4 X7 X8 X9 X10 := by
  have s1 : ∀ y : S1x256.Idx, y = ix2 (0 : Fin 1) (y 1) := fun y =>
    (eq_ix2 y).trans (congrArg (fun a : Fin 1 => (ix2 a (y 1) : S1x256.Idx)) (Subsingleton.elim _ _))
  have hm : k0_pay162 i = fun y => midW (i 0).val (y 1).val := by
    funext y
    rw [s1 y]
    unfold_payloads
    pointwise
    rfl
  unfold blkOf blkAt
  rw [hm, h6]
  refine (Blk.mk.injEq ..).mpr ⟨rfl, rfl, ?_, ?_, rfl, rfl, rfl, rfl, rfl⟩
  · funext k y
    rw [s1 y]
    exact h k _
  · funext k y
    rw [s1 y]
    exact g k _

/-- A matrix stored whole is read back. -/
theorem read_whole2 {sig : RefSig} {κ : Kind} {sp : Space} {e : EltTy} {d0 d1 : ℕ} (v : View sig κ sp ⟨2, ![d0, d1]⟩ e) (f : v.ty.Contents (Elt Ideal))
    (inb : ∀ a, (![0, 0] : Fin 2 → ℕ) a + (![d0, d1] : Fin 2 → ℕ) a ≤ (⟨2, ![d0, d1]⟩ : Shape).size a) (w : (⟨2, ![d0, d1]⟩ : Shape).Idx → Elt Ideal e)
    (L : List (View.Piece (Elt Ideal) ⟨2, ![d0, d1]⟩ e)) :
    v.read (Elt Ideal) (v.writes (Elt Ideal) f (⟨Rect.unit (s := ⟨2, ![d0, d1]⟩) ![0, 0] (![d0, d1] : Fin 2 → ℕ) inb, w⟩ :: L)) = w := by
  funext y
  refine View.read_writes_cons_unit_of_mem v f inb w _ _ y rfl fun a => ?_
  match a with
  | 0 => exact (Nat.zero_add _).symm
  | 1 => exact (Nat.zero_add _).symm

/-- The same of a rank-3 array. -/
theorem read_whole3 {sig : RefSig} {κ : Kind} {sp : Space} {e : EltTy} {d0 d1 d2 : ℕ} (v : View sig κ sp ⟨3, ![d0, d1, d2]⟩ e) (f : v.ty.Contents (Elt Ideal))
    (inb : ∀ a, (![0, 0, 0] : Fin 3 → ℕ) a + (![d0, d1, d2] : Fin 3 → ℕ) a ≤ (⟨3, ![d0, d1, d2]⟩ : Shape).size a) (w : (⟨3, ![d0, d1, d2]⟩ : Shape).Idx → Elt Ideal e)
    (L : List (View.Piece (Elt Ideal) ⟨3, ![d0, d1, d2]⟩ e)) :
    v.read (Elt Ideal) (v.writes (Elt Ideal) f (⟨Rect.unit (s := ⟨3, ![d0, d1, d2]⟩) ![0, 0, 0] (![d0, d1, d2] : Fin 3 → ℕ) inb, w⟩ :: L)) = w := by
  funext y
  refine View.read_writes_cons_unit_of_mem v f inb w _ _ y rfl fun a => ?_
  match a with
  | 0 => exact (Nat.zero_add _).symm
  | 1 => exact (Nat.zero_add _).symm
  | 2 => exact (Nat.zero_add _).symm

/-- All the rows done: the column sums and the products. -/
theorem sums_done {f z : S5x8x256.Idx → EReal} {g y : S768x256.Idx → EReal} {n : ℕ} {b b' : Blk} {s s' : Fin 5 → Fin 2048 → Fin 256 → EReal} {qt : S768x2048.Idx → EReal}
    (h : f = addTo n 0 (16 * n) z (colT (yOf b s))) (k : g = addTo n 0 n y (ddT b s qt)) (hn : n = 8) (hz : z = fun _ => 0) (hy : y = fun _ => 0) (hb : b = b') (hs : s = s') :
    f = colS b' s' ∧ g = prodS b' s' qt := by
  subst hn hz hy hb hs
  exact ⟨h, k⟩

/-- The transposed store of the gradient. -/
theorem ddV_of {t : ℕ} {w : S5.Idx → EReal} {X2 : S256x768.Idx → BitVec 8} {X3 : S16x256.Idx → EReal} {X4 : S1x256.Idx → BitVec 32} {X5 : S2048x768.Idx → EReal}
    {X6 : S768x2048.Idx → EReal} {X7 X8 : S2048x128.Idx → EReal} {X9 X10 : S2048x128.Idx → BitVec 32} {v : S768x256.Idx → EReal}
    (h : v = fun y => ddC w (codes X2) X3 (colS (blkAt t w X3 X4 X7 X8 X9 X10) (dotS X5 (codes X2)))
      (prodS (blkAt t w X3 X4 X7 X8 X9 X10) (dotS X5 (codes X2)) X6) (y 0) (y 1)) :
    k0_pay2 (F := Ideal) v = ddV t w X2 X3 X4 X5 X6 X7 X8 X9 X10 := by
  subst h
  unfold ddV
  generalize ddC _ _ _ _ _ = W
  funext y
  obtain ⟨m, d, rfl⟩ : ∃ (m : Fin 256) (d : Fin 768), y = ix2 m d := ⟨y 0, y 1, eq_ix2 y⟩
  unfold_payloads
  pointwise

/-- The outer loop's trip count. -/
theorem trips_t1 : Scf.trips k0_t1_loop.lb k0_t1_loop.ub k0_t1_loop.st = 8 := by decide

set_option maxHeartbeats 8000000 in
/-- A point that is not the first: the queries' columns are in place. -/
theorem run_later (c : Dev nD) (i : grid0.Coords) (arg1 : Memref sig .tc .smem S5 .f32) (harg1 : arg1.IsWhole) (arg2 : Memref sig .tc .vmem S256x768 .i8) (harg2 : arg2.IsWhole) (arg3 : Memref sig .tc .vmem S16x256 .f32) (harg3 : arg3.IsWhole) (arg4 : Memref sig .tc .vmem S1x256 .i32) (harg4 : arg4.IsWhole) (arg5 : Memref sig .tc .vmem S2048x768 .bf16) (harg5 : arg5.IsWhole) (arg6 : Memref sig .tc .vmem S768x2048 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .i32) (harg9 : arg9.IsWhole) (arg10 : Memref sig .tc .vmem S2048x128 .i32) (harg10 : arg10.IsWhole) (arg11 : Memref sig .tc .vmem S256x768 .bf16) (harg11 : arg11.IsWhole) (arg12 : Memref sig .tc .vmem S2048x768 .bf16) (harg12 : arg12.IsWhole) (arg13 : Memref sig .tc .vmem S5x256x256 .f32) (harg13 : arg13.IsWhole) (arg14 : Memref sig .tc .vmem S5x256x256 .bf16) (harg14 : arg14.IsWhole) (arg15 : Memref sig .tc .vmem S5x2048x128 .f32) (harg15 : arg15.IsWhole) (arg16 : Memref sig .tc .vmem S5x2048x128 .f32) (harg16 : arg16.IsWhole) (arg17 : Memref sig .tc .vmem S5x2048x128 .f32) (harg17 : arg17.IsWhole) (arg18 : Memref sig .tc .vmem S5x2048x128 .f32) (harg18 : arg18.IsWhole) (arg19 : Memref sig .tc .vmem S5x8x256 .f32) (harg19 : arg19.IsWhole) (arg20 : Memref sig .tc .vmem S2048x768 .f32) (harg20 : arg20.IsWhole) (arg21 : Memref sig .tc .vmem S768x256 .f32) (harg21 : arg21.IsWhole)
    (h1 : ¬ Scalar.cmpi .ne (Scalar.extui (Scalar.cmpi .eq (BitVec.ofNat 32 (i 0).val) 0#32)) 0#32 = 1#1) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f15 : arg15.view.ty.Contents (Elt Ideal)) (f16 : arg16.view.ty.Contents (Elt Ideal)) (f17 : arg17.view.ty.Contents (Elt Ideal))
    (e15 : arg15.view.read (Elt Ideal) f15 = cnOf (arg7.view.read (Elt Ideal) f7)) (e16 : arg16.view.read (Elt Ideal) f16 = laOf (arg8.view.read (Elt Ideal) f8)) (e17 : arg17.view.read (Elt Ideal) f17 = irqOf (arg7.view.read (Elt Ideal) f7))
    (K : PUnit → sProp 𝕄) :
    iprop(ptw c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f) ∗ (∃ f, pt c arg18 f) ∗ (∃ f, pt c arg19 f) ∗ (∃ f, pt c arg20 f) ∗ (∃ f, pt c arg21 f)
        ∗ pt c arg15 f15 ∗ pt c arg16 f16 ∗ pt c arg17 f17
        ∗ (iprop(ptw c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c arg12 f) ∗ (∃ f, pt c arg13 f) ∗ (∃ f, pt c arg14 f) ∗ (∃ f, pt c arg18 f) ∗ (∃ f, pt c arg19 f) ∗ (∃ f, pt c arg20 f) ∗ (∃ f, pt c arg21 f)
            ∗ (∃ f, pt c arg11 f ∗ ⌜arg11.view.read (Elt Ideal) f = ddV (i 0).val (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)⌝)
            ∗ (∃ f, pt c arg15 f ∗ ⌜arg15.view.read (Elt Ideal) f = cnOf (arg7.view.read (Elt Ideal) f7)⌝)
            ∗ (∃ f, pt c arg16 f ∗ ⌜arg16.view.read (Elt Ideal) f = laOf (arg8.view.read (Elt Ideal) f8)⌝)
            ∗ (∃ f, pt c arg17 f ∗ ⌜arg17.view.read (Elt Ideal) f = irqOf (arg7.view.read (Elt Ideal) f7)⌝)) -∗ K ⟨⟩))
      ⊢ wp frame (wpE (defs₀ (F := Ideal)) Variants.none (c : Thread nD τ) none) Set.univ (cc0_grad_pass (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_grad_pass_eq_skeleton]; unfold cc0_grad_pass_skel
  iintro ⟨H1, H2, H3, H4, H5, H6, H7, H8, H9, H10, ⟨%f11, H11⟩, ⟨%f12, H12⟩, ⟨%f13, H13⟩, ⟨%f14, H14⟩, ⟨%f18, H18⟩, ⟨%f19, H19⟩, ⟨%f20, H20⟩, ⟨%f21, H21⟩, H15, H16, H17, Hk⟩
  by_cases h2 : k0_cond2 i = 1#1
  all_goals
    sl_exec
    sl_step
    iapply Hk
    have z19 : arg19.view.read (Elt Ideal) (arg19.view.writes (Elt Ideal) arg19.view.junk run_later.sl.H19_1) = fun _ => 0 := by
      delta run_later.sl.H19_1
      refine (read_whole3 arg19.view _ _ _ _).trans ?_
      try delta run_later.sl.H19_1 run_later.sl.H21_1 run_later.sl.H21_5 run_later.sl.cst_45 run_later.sl.cst_47 run_later.sl.r run_later.sl.r_1 run_later.sl.r_10 run_later.sl.r_11 run_later.sl.r_12 run_later.sl.r_13 run_later.sl.r_14 run_later.sl.r_15 run_later.sl.r_16 run_later.sl.r_17 run_later.sl.r_18 run_later.sl.r_19 run_later.sl.r_2 run_later.sl.r_20 run_later.sl.r_21 run_later.sl.r_22 run_later.sl.r_23 run_later.sl.r_24 run_later.sl.r_3 run_later.sl.r_4 run_later.sl.r_5 run_later.sl.r_6 run_later.sl.r_7 run_later.sl.r_8 run_later.sl.r_9 run_later.sl.v0 run_later.sl.v1 run_later.sl.v101 run_later.sl.v102 run_later.sl.v103 run_later.sl.v104 run_later.sl.v105 run_later.sl.v106 run_later.sl.v107 run_later.sl.v108 run_later.sl.v109 run_later.sl.v111 run_later.sl.v112 run_later.sl.v114 run_later.sl.v115 run_later.sl.v116 run_later.sl.v118 run_later.sl.v119 run_later.sl.v120 run_later.sl.v122 run_later.sl.v123 run_later.sl.v124 run_later.sl.v125 run_later.sl.v126 run_later.sl.v127 run_later.sl.v128 run_later.sl.v129 run_later.sl.v130 run_later.sl.v132 run_later.sl.v133 run_later.sl.v135 run_later.sl.v145 run_later.sl.v155 run_later.sl.v2 run_later.sl.v62 run_later.sl.v63 run_later.sl.v64 run_later.sl.v65 run_later.sl.v66 run_later.sl.v67 run_later.sl.v69 run_later.sl.v70 run_later.sl.v72 run_later.sl.v73 run_later.sl.v74 run_later.sl.v76 run_later.sl.v77 run_later.sl.v78 run_later.sl.v80 run_later.sl.v81 run_later.sl.v82 run_later.sl.v83 run_later.sl.v84 run_later.sl.v85 run_later.sl.v86 run_later.sl.v88 run_later.sl.v90 run_later.sl.v91 run_later.sl.v93 run_later.sl.v94 run_later.sl.v95 run_later.sl.v97 run_later.sl.v98 run_later.sl.v99
      unfold_payloads
      funext y
      pointwise
    have z21 : arg21.view.read (Elt Ideal) (arg21.view.writes (Elt Ideal) arg21.view.junk run_later.sl.H21_1) = fun _ => 0 := by
      delta run_later.sl.H21_1
      refine (read_whole2 arg21.view _ _ _ _).trans ?_
      try delta run_later.sl.H19_1 run_later.sl.H21_1 run_later.sl.H21_5 run_later.sl.cst_45 run_later.sl.cst_47 run_later.sl.r run_later.sl.r_1 run_later.sl.r_10 run_later.sl.r_11 run_later.sl.r_12 run_later.sl.r_13 run_later.sl.r_14 run_later.sl.r_15 run_later.sl.r_16 run_later.sl.r_17 run_later.sl.r_18 run_later.sl.r_19 run_later.sl.r_2 run_later.sl.r_20 run_later.sl.r_21 run_later.sl.r_22 run_later.sl.r_23 run_later.sl.r_24 run_later.sl.r_3 run_later.sl.r_4 run_later.sl.r_5 run_later.sl.r_6 run_later.sl.r_7 run_later.sl.r_8 run_later.sl.r_9 run_later.sl.v0 run_later.sl.v1 run_later.sl.v101 run_later.sl.v102 run_later.sl.v103 run_later.sl.v104 run_later.sl.v105 run_later.sl.v106 run_later.sl.v107 run_later.sl.v108 run_later.sl.v109 run_later.sl.v111 run_later.sl.v112 run_later.sl.v114 run_later.sl.v115 run_later.sl.v116 run_later.sl.v118 run_later.sl.v119 run_later.sl.v120 run_later.sl.v122 run_later.sl.v123 run_later.sl.v124 run_later.sl.v125 run_later.sl.v126 run_later.sl.v127 run_later.sl.v128 run_later.sl.v129 run_later.sl.v130 run_later.sl.v132 run_later.sl.v133 run_later.sl.v135 run_later.sl.v145 run_later.sl.v155 run_later.sl.v2 run_later.sl.v62 run_later.sl.v63 run_later.sl.v64 run_later.sl.v65 run_later.sl.v66 run_later.sl.v67 run_later.sl.v69 run_later.sl.v70 run_later.sl.v72 run_later.sl.v73 run_later.sl.v74 run_later.sl.v76 run_later.sl.v77 run_later.sl.v78 run_later.sl.v80 run_later.sl.v81 run_later.sl.v82 run_later.sl.v83 run_later.sl.v84 run_later.sl.v85 run_later.sl.v86 run_later.sl.v88 run_later.sl.v90 run_later.sl.v91 run_later.sl.v93 run_later.sl.v94 run_later.sl.v95 run_later.sl.v97 run_later.sl.v98 run_later.sl.v99
      unfold_payloads
      funext y
      pointwise
    have hCG := sums_done (b' := (blkAt (i 0).val (arg1.view.read (Elt Ideal) f1) (arg3.view.read (Elt Ideal) f3) (arg4.view.read (Elt Ideal) f4) (arg7.view.read (Elt Ideal) f7) (arg8.view.read (Elt Ideal) f8) (arg9.view.read (Elt Ideal) f9) (arg10.view.read (Elt Ideal) f10))) (s' := (dotS (arg5.view.read (Elt Ideal) f5) (codes (arg2.view.read (Elt Ideal) f2)))) hL12 hL14 trips_t1 z19 z21
      (by
        show blkOf (run_later.sl.r_5 arg4 f4) (k0_pay162 i) (run_later.sl.r_6 arg3 f3) (run_later.sl.r_7 arg3 f3)
          (run_later.sl.r_8 arg3 f3) (run_later.sl.r_9 arg3 f3) (run_later.sl.r_10 arg3 f3)
          (run_later.sl.r_11 arg1 arg3 f1 f3) (run_later.sl.r_12 arg1 arg3 f1 f3) (run_later.sl.r_13 arg1 arg3 f1 f3)
          (run_later.sl.r_14 arg1 arg3 f1 f3) (k0_pay167 (run_later.sl.r_10 arg3 f3) (run_later.sl.r_15 arg1 f1))
          (arg9.view.read (Elt Ideal) f9) (arg10.view.read (Elt Ideal) f10) (arg15.view.read (Elt Ideal) f15)
          (arg16.view.read (Elt Ideal) f16) (arg17.view.read (Elt Ideal) f17) = _
        rw [e15, e16, e17]
        refine blkOf_eq i _ _ _ _ _ _ _ ?_ ?_ ?_
        · delta run_later.sl.H19_1 run_later.sl.H21_1 run_later.sl.H21_5 run_later.sl.cst_45 run_later.sl.cst_47 run_later.sl.r run_later.sl.r_1 run_later.sl.r_10 run_later.sl.r_11 run_later.sl.r_12 run_later.sl.r_13 run_later.sl.r_14 run_later.sl.r_15 run_later.sl.r_16 run_later.sl.r_17 run_later.sl.r_18 run_later.sl.r_19 run_later.sl.r_2 run_later.sl.r_20 run_later.sl.r_21 run_later.sl.r_22 run_later.sl.r_23 run_later.sl.r_24 run_later.sl.r_3 run_later.sl.r_4 run_later.sl.r_5 run_later.sl.r_6 run_later.sl.r_7 run_later.sl.r_8 run_later.sl.r_9 run_later.sl.v0 run_later.sl.v1 run_later.sl.v101 run_later.sl.v102 run_later.sl.v103 run_later.sl.v104 run_later.sl.v105 run_later.sl.v106 run_later.sl.v107 run_later.sl.v108 run_later.sl.v109 run_later.sl.v111 run_later.sl.v112 run_later.sl.v114 run_later.sl.v115 run_later.sl.v116 run_later.sl.v118 run_later.sl.v119 run_later.sl.v120 run_later.sl.v122 run_later.sl.v123 run_later.sl.v124 run_later.sl.v125 run_later.sl.v126 run_later.sl.v127 run_later.sl.v128 run_later.sl.v129 run_later.sl.v130 run_later.sl.v132 run_later.sl.v133 run_later.sl.v135 run_later.sl.v145 run_later.sl.v155 run_later.sl.v2 run_later.sl.v62 run_later.sl.v63 run_later.sl.v64 run_later.sl.v65 run_later.sl.v66 run_later.sl.v67 run_later.sl.v69 run_later.sl.v70 run_later.sl.v72 run_later.sl.v73 run_later.sl.v74 run_later.sl.v76 run_later.sl.v77 run_later.sl.v78 run_later.sl.v80 run_later.sl.v81 run_later.sl.v82 run_later.sl.v83 run_later.sl.v84 run_later.sl.v85 run_later.sl.v86 run_later.sl.v88 run_later.sl.v90 run_later.sl.v91 run_later.sl.v93 run_later.sl.v94 run_later.sl.v95 run_later.sl.v97 run_later.sl.v98 run_later.sl.v99
          unfold_payloads
          funext y
          pointwise
          exact congrFun (readAt_full2 arg4.view f4 _) y
        all_goals
          intro k m
          delta run_later.sl.H19_1 run_later.sl.H21_1 run_later.sl.H21_5 run_later.sl.cst_45 run_later.sl.cst_47 run_later.sl.r run_later.sl.r_1 run_later.sl.r_10 run_later.sl.r_11 run_later.sl.r_12 run_later.sl.r_13 run_later.sl.r_14 run_later.sl.r_15 run_later.sl.r_16 run_later.sl.r_17 run_later.sl.r_18 run_later.sl.r_19 run_later.sl.r_2 run_later.sl.r_20 run_later.sl.r_21 run_later.sl.r_22 run_later.sl.r_23 run_later.sl.r_24 run_later.sl.r_3 run_later.sl.r_4 run_later.sl.r_5 run_later.sl.r_6 run_later.sl.r_7 run_later.sl.r_8 run_later.sl.r_9 run_later.sl.v0 run_later.sl.v1 run_later.sl.v101 run_later.sl.v102 run_later.sl.v103 run_later.sl.v104 run_later.sl.v105 run_later.sl.v106 run_later.sl.v107 run_later.sl.v108 run_later.sl.v109 run_later.sl.v111 run_later.sl.v112 run_later.sl.v114 run_later.sl.v115 run_later.sl.v116 run_later.sl.v118 run_later.sl.v119 run_later.sl.v120 run_later.sl.v122 run_later.sl.v123 run_later.sl.v124 run_later.sl.v125 run_later.sl.v126 run_later.sl.v127 run_later.sl.v128 run_later.sl.v129 run_later.sl.v130 run_later.sl.v132 run_later.sl.v133 run_later.sl.v135 run_later.sl.v145 run_later.sl.v155 run_later.sl.v2 run_later.sl.v62 run_later.sl.v63 run_later.sl.v64 run_later.sl.v65 run_later.sl.v66 run_later.sl.v67 run_later.sl.v69 run_later.sl.v70 run_later.sl.v72 run_later.sl.v73 run_later.sl.v74 run_later.sl.v76 run_later.sl.v77 run_later.sl.v78 run_later.sl.v80 run_later.sl.v81 run_later.sl.v82 run_later.sl.v83 run_later.sl.v84 run_later.sl.v85 run_later.sl.v86 run_later.sl.v88 run_later.sl.v90 run_later.sl.v91 run_later.sl.v93 run_later.sl.v94 run_later.sl.v95 run_later.sl.v97 run_later.sl.v98 run_later.sl.v99
          unfold_payloads
          obtain rfl | rfl | rfl | rfl | rfl : k = 0 ∨ k = 1 ∨ k = 2 ∨ k = 3 ∨ k = 4 := by omega
          all_goals
            simp only [Matrix.cons_val]
            pointwise
            simp only [readAt_box2 _ _ _ _ rfl, readAt_word _ _ _ rfl]
            simp only [Nat.zero_add]
            rfl)
      (by
        refine congrArg _ ?_
        show run_later.sl.r_4 arg2 f2 = _
        delta run_later.sl.H19_1 run_later.sl.H21_1 run_later.sl.H21_5 run_later.sl.cst_45 run_later.sl.cst_47 run_later.sl.r run_later.sl.r_1 run_later.sl.r_10 run_later.sl.r_11 run_later.sl.r_12 run_later.sl.r_13 run_later.sl.r_14 run_later.sl.r_15 run_later.sl.r_16 run_later.sl.r_17 run_later.sl.r_18 run_later.sl.r_19 run_later.sl.r_2 run_later.sl.r_20 run_later.sl.r_21 run_later.sl.r_22 run_later.sl.r_23 run_later.sl.r_24 run_later.sl.r_3 run_later.sl.r_4 run_later.sl.r_5 run_later.sl.r_6 run_later.sl.r_7 run_later.sl.r_8 run_later.sl.r_9 run_later.sl.v0 run_later.sl.v1 run_later.sl.v101 run_later.sl.v102 run_later.sl.v103 run_later.sl.v104 run_later.sl.v105 run_later.sl.v106 run_later.sl.v107 run_later.sl.v108 run_later.sl.v109 run_later.sl.v111 run_later.sl.v112 run_later.sl.v114 run_later.sl.v115 run_later.sl.v116 run_later.sl.v118 run_later.sl.v119 run_later.sl.v120 run_later.sl.v122 run_later.sl.v123 run_later.sl.v124 run_later.sl.v125 run_later.sl.v126 run_later.sl.v127 run_later.sl.v128 run_later.sl.v129 run_later.sl.v130 run_later.sl.v132 run_later.sl.v133 run_later.sl.v135 run_later.sl.v145 run_later.sl.v155 run_later.sl.v2 run_later.sl.v62 run_later.sl.v63 run_later.sl.v64 run_later.sl.v65 run_later.sl.v66 run_later.sl.v67 run_later.sl.v69 run_later.sl.v70 run_later.sl.v72 run_later.sl.v73 run_later.sl.v74 run_later.sl.v76 run_later.sl.v77 run_later.sl.v78 run_later.sl.v80 run_later.sl.v81 run_later.sl.v82 run_later.sl.v83 run_later.sl.v84 run_later.sl.v85 run_later.sl.v86 run_later.sl.v88 run_later.sl.v90 run_later.sl.v91 run_later.sl.v93 run_later.sl.v94 run_later.sl.v95 run_later.sl.v97 run_later.sl.v98 run_later.sl.v99
        unfold_payloads
        funext y
        pointwise
        exact congrArg (FloatOps.sitofp (F := Ideal) .bf16) (congrFun (readAt_full2 arg2.view f2 _) y))
    clear hL12 hL14 z19 z21
    have h21 : arg21.view.read (Elt Ideal) (arg21.view.writes (Elt Ideal) arg21.view.junk (run_later.sl.H21_5 arg1 arg2 arg3 arg19 arg21 f1 f2 f3 fL4 fL5))
        = fun y => ddC (arg1.view.read (Elt Ideal) f1) (codes (arg2.view.read (Elt Ideal) f2)) (arg3.view.read (Elt Ideal) f3)
          (arg19.view.read (Elt Ideal) fL4) (arg21.view.read (Elt Ideal) fL5) (y 0) (y 1) := by
      delta run_later.sl.H21_5
      refine writes_segs_down arg21.view _ rfl rfl rfl rfl rfl _ _ _ _ _ _ _ _ _ _ _ ?_ ?_ ?_ ?_ ?_
      all_goals
        intro r m
        try delta run_later.sl.H19_1 run_later.sl.H21_1 run_later.sl.H21_5 run_later.sl.cst_45 run_later.sl.cst_47 run_later.sl.r run_later.sl.r_1 run_later.sl.r_10 run_later.sl.r_11 run_later.sl.r_12 run_later.sl.r_13 run_later.sl.r_14 run_later.sl.r_15 run_later.sl.r_16 run_later.sl.r_17 run_later.sl.r_18 run_later.sl.r_19 run_later.sl.r_2 run_later.sl.r_20 run_later.sl.r_21 run_later.sl.r_22 run_later.sl.r_23 run_later.sl.r_24 run_later.sl.r_3 run_later.sl.r_4 run_later.sl.r_5 run_later.sl.r_6 run_later.sl.r_7 run_later.sl.r_8 run_later.sl.r_9 run_later.sl.v0 run_later.sl.v1 run_later.sl.v101 run_later.sl.v102 run_later.sl.v103 run_later.sl.v104 run_later.sl.v105 run_later.sl.v106 run_later.sl.v107 run_later.sl.v108 run_later.sl.v109 run_later.sl.v111 run_later.sl.v112 run_later.sl.v114 run_later.sl.v115 run_later.sl.v116 run_later.sl.v118 run_later.sl.v119 run_later.sl.v120 run_later.sl.v122 run_later.sl.v123 run_later.sl.v124 run_later.sl.v125 run_later.sl.v126 run_later.sl.v127 run_later.sl.v128 run_later.sl.v129 run_later.sl.v130 run_later.sl.v132 run_later.sl.v133 run_later.sl.v135 run_later.sl.v145 run_later.sl.v155 run_later.sl.v2 run_later.sl.v62 run_later.sl.v63 run_later.sl.v64 run_later.sl.v65 run_later.sl.v66 run_later.sl.v67 run_later.sl.v69 run_later.sl.v70 run_later.sl.v72 run_later.sl.v73 run_later.sl.v74 run_later.sl.v76 run_later.sl.v77 run_later.sl.v78 run_later.sl.v80 run_later.sl.v81 run_later.sl.v82 run_later.sl.v83 run_later.sl.v84 run_later.sl.v85 run_later.sl.v86 run_later.sl.v88 run_later.sl.v90 run_later.sl.v91 run_later.sl.v93 run_later.sl.v94 run_later.sl.v95 run_later.sl.v97 run_later.sl.v98 run_later.sl.v99
        unfold_payloads
        pointwise
        simp only [readAt_box2 _ _ _ _ rfl, readAt_box3 _ _ _ _ _ rfl, readAt_word _ _ _ rfl]
        simp only [ddC, csV, down, sg_0, sg_0', sg_1, sg_2, sg_3, sg_4, Matrix.cons_val]
        simp only [Nat.zero_add]
        rfl
    rw [hCG.1, hCG.2] at h21
    isplitl [H1]
    · iexact H1
    isplitl [H2]
    · iexact H2
    isplitl [H3]
    · iexact H3
    isplitl [H4]
    · iexact H4
    isplitl [H5]
    · iexact H5
    isplitl [H6]
    · iexact H6
    isplitl [H7]
    · iexact H7
    isplitl [H8]
    · iexact H8
    isplitl [H9]
    · iexact H9
    isplitl [H10]
    · iexact H10
    isplitl [H12]
    · iexists _
      iexact H12
    isplitl [H13]
    · iexists _
      iexact H13
    isplitl [H14]
    · iexists _
      iexact H14
    isplitl [H18]
    · iexists _
      iexact H18
    isplitl [H19]
    · iexists _
      iexact H19
    isplitl [H20]
    · iexists _
      iexact H20
    isplitl [H21]
    · iexists _
      iexact H21

    isplitl [H11]
    · iexists _
      isplitl [H11]
      · iexact H11
      ipureintro
      refine (read_whole2 arg11.view _ _ _ _).trans ?_
      refine ddV_of ?_
      refine Eq.trans ?_ h21
      first | delta run_later.sl.v155 | delta run_later.sl.v155_1
      unfold View.readCov
      exact readAt_full2 arg21.view _ _
    isplitl [H15]
    · iexists _
      isplitl [H15]
      · iexact H15
      ipureintro
      exact e15
    isplitl [H16]
    · iexists _
      isplitl [H16]
      · iexact H16
      ipureintro
      exact e16
    iexists _
    isplitl [H17]
    · iexact H17
    ipureintro
    exact e17

set_option maxHeartbeats 8000000 in
/-- The first point: the queries' columns are spread over the lanes first. -/
theorem run_first (c : Dev nD) (i : grid0.Coords) (arg1 : Memref sig .tc .smem S5 .f32) (harg1 : arg1.IsWhole) (arg2 : Memref sig .tc .vmem S256x768 .i8) (harg2 : arg2.IsWhole) (arg3 : Memref sig .tc .vmem S16x256 .f32) (harg3 : arg3.IsWhole) (arg4 : Memref sig .tc .vmem S1x256 .i32) (harg4 : arg4.IsWhole) (arg5 : Memref sig .tc .vmem S2048x768 .bf16) (harg5 : arg5.IsWhole) (arg6 : Memref sig .tc .vmem S768x2048 .bf16) (harg6 : arg6.IsWhole) (arg7 : Memref sig .tc .vmem S2048x128 .f32) (harg7 : arg7.IsWhole) (arg8 : Memref sig .tc .vmem S2048x128 .f32) (harg8 : arg8.IsWhole) (arg9 : Memref sig .tc .vmem S2048x128 .i32) (harg9 : arg9.IsWhole) (arg10 : Memref sig .tc .vmem S2048x128 .i32) (harg10 : arg10.IsWhole) (arg11 : Memref sig .tc .vmem S256x768 .bf16) (harg11 : arg11.IsWhole) (arg12 : Memref sig .tc .vmem S2048x768 .bf16) (harg12 : arg12.IsWhole) (arg13 : Memref sig .tc .vmem S5x256x256 .f32) (harg13 : arg13.IsWhole) (arg14 : Memref sig .tc .vmem S5x256x256 .bf16) (harg14 : arg14.IsWhole) (arg15 : Memref sig .tc .vmem S5x2048x128 .f32) (harg15 : arg15.IsWhole) (arg16 : Memref sig .tc .vmem S5x2048x128 .f32) (harg16 : arg16.IsWhole) (arg17 : Memref sig .tc .vmem S5x2048x128 .f32) (harg17 : arg17.IsWhole) (arg18 : Memref sig .tc .vmem S5x2048x128 .f32) (harg18 : arg18.IsWhole) (arg19 : Memref sig .tc .vmem S5x8x256 .f32) (harg19 : arg19.IsWhole) (arg20 : Memref sig .tc .vmem S2048x768 .f32) (harg20 : arg20.IsWhole) (arg21 : Memref sig .tc .vmem S768x256 .f32) (harg21 : arg21.IsWhole)
    (h1 : Scalar.cmpi .ne (Scalar.extui (Scalar.cmpi .eq (BitVec.ofNat 32 (i 0).val) 0#32)) 0#32 = 1#1) (h2 : ¬ k0_cond2 i = 1#1) (f1 : arg1.view.ty.Contents (Elt Ideal)) (f2 : arg2.view.ty.Contents (Elt Ideal)) (f3 : arg3.view.ty.Contents (Elt Ideal)) (f4 : arg4.view.ty.Contents (Elt Ideal)) (f5 : arg5.view.ty.Contents (Elt Ideal)) (f6 : arg6.view.ty.Contents (Elt Ideal)) (f7 : arg7.view.ty.Contents (Elt Ideal)) (f8 : arg8.view.ty.Contents (Elt Ideal)) (f9 : arg9.view.ty.Contents (Elt Ideal)) (f10 : arg10.view.ty.Contents (Elt Ideal)) (f15 : arg15.view.ty.Contents (Elt Ideal)) (f16 : arg16.view.ty.Contents (Elt Ideal)) (f17 : arg17.view.ty.Contents (Elt Ideal))
    (K : PUnit → sProp 𝕄) :
    iprop(ptw c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c arg11 f) ∗ (∃ f, pt c arg12 f) ∗ (∃ f, pt c arg13 f) ∗ (∃ f, pt c arg14 f) ∗ (∃ f, pt c arg18 f) ∗ (∃ f, pt c arg19 f) ∗ (∃ f, pt c arg20 f) ∗ (∃ f, pt c arg21 f)
        ∗ pt c arg15 f15 ∗ pt c arg16 f16 ∗ pt c arg17 f17
        ∗ (iprop(ptw c arg1 f1 ∗ pt c arg2 f2 ∗ pt c arg3 f3 ∗ pt c arg4 f4 ∗ pt c arg5 f5 ∗ pt c arg6 f6 ∗ pt c arg7 f7 ∗ pt c arg8 f8 ∗ pt c arg9 f9 ∗ pt c arg10 f10 ∗ (∃ f, pt c arg12 f) ∗ (∃ f, pt c arg13 f) ∗ (∃ f, pt c arg14 f) ∗ (∃ f, pt c arg18 f) ∗ (∃ f, pt c arg19 f) ∗ (∃ f, pt c arg20 f) ∗ (∃ f, pt c arg21 f)
            ∗ (∃ f, pt c arg11 f ∗ ⌜arg11.view.read (Elt Ideal) f = ddV (i 0).val (arg1.view.read (Elt Ideal) f1) (arg2.view.read (Elt Ideal) f2) (arg3.view.read (Elt Ideal) f3) (arg4.view.read (Elt Ideal) f4) (arg5.view.read (Elt Ideal) f5) (arg6.view.read (Elt Ideal) f6) (arg7.view.read (Elt Ideal) f7) (arg8.view.read (Elt Ideal) f8) (arg9.view.read (Elt Ideal) f9) (arg10.view.read (Elt Ideal) f10)⌝)
            ∗ (∃ f, pt c arg15 f ∗ ⌜arg15.view.read (Elt Ideal) f = cnOf (arg7.view.read (Elt Ideal) f7)⌝)
            ∗ (∃ f, pt c arg16 f ∗ ⌜arg16.view.read (Elt Ideal) f = laOf (arg8.view.read (Elt Ideal) f8)⌝)
            ∗ (∃ f, pt c arg17 f ∗ ⌜arg17.view.read (Elt Ideal) f = irqOf (arg7.view.read (Elt Ideal) f7)⌝)) -∗ K ⟨⟩))
      ⊢ wp frame (wpE (defs₀ (F := Ideal)) Variants.none (c : Thread nD τ) none) Set.univ (cc0_grad_pass (F := Ideal) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K := by
  simp only [cc0_grad_pass_eq_skeleton]; unfold cc0_grad_pass_skel
  iintro ⟨H1, H2, H3, H4, H5, H6, H7, H8, H9, H10, ⟨%f11, H11⟩, ⟨%f12, H12⟩, ⟨%f13, H13⟩, ⟨%f14, H14⟩, ⟨%f18, H18⟩, ⟨%f19, H19⟩, ⟨%f20, H20⟩, ⟨%f21, H21⟩, H15, H16, H17, Hk⟩
  sl_exec
  sl_step
  iapply Hk
  have h15 : arg15.view.read (Elt Ideal) (arg15.view.writes (Elt Ideal) arg15.view.junk (run_first.sl.H15_5 arg7 f7)) = cnOf (arg7.view.read (Elt Ideal) f7) := by
    clear hL12 hL14
    funext y
    obtain ⟨k, n, l, rfl⟩ : ∃ (k : Fin 5) (n : Fin 2048) (l : Fin 128), y = ix3 k n l := ⟨y 0, y 1, y 2, eq_ix3 y⟩
    delta run_first.sl.H15_5
    refine (read_planes (d1 := 2048) (d2 := 128) arg15.view _ rfl rfl rfl rfl rfl _ _ _ _ _ _ _ _ _ _ k n l).trans ?_
    obtain rfl | rfl | rfl | rfl | rfl : k = 0 ∨ k = 1 ∨ k = 2 ∨ k = 3 ∨ k = 4 := by omega
    all_goals
      simp only [Matrix.cons_val]
      try delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
      unfold_payloads
      pointwise
      simp only [readAt_box2 _ _ _ _ rfl]
      simp only [Nat.zero_add]
      rfl
  have h16 : arg16.view.read (Elt Ideal) (arg16.view.writes (Elt Ideal) arg16.view.junk (run_first.sl.H16_5 arg8 f8)) = laOf (arg8.view.read (Elt Ideal) f8) := by
    clear hL12 hL14
    funext y
    obtain ⟨k, n, l, rfl⟩ : ∃ (k : Fin 5) (n : Fin 2048) (l : Fin 128), y = ix3 k n l := ⟨y 0, y 1, y 2, eq_ix3 y⟩
    delta run_first.sl.H16_5
    refine (read_planes (d1 := 2048) (d2 := 128) arg16.view _ rfl rfl rfl rfl rfl _ _ _ _ _ _ _ _ _ _ k n l).trans ?_
    obtain rfl | rfl | rfl | rfl | rfl : k = 0 ∨ k = 1 ∨ k = 2 ∨ k = 3 ∨ k = 4 := by omega
    all_goals
      simp only [Matrix.cons_val]
      try delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
      unfold_payloads
      pointwise
      simp only [readAt_box2 _ _ _ _ rfl]
      simp only [Nat.zero_add]
      rfl
  have h17 : arg17.view.read (Elt Ideal) (arg17.view.writes (Elt Ideal) arg17.view.junk (run_first.sl.H17_5 arg7 f7)) = irqOf (arg7.view.read (Elt Ideal) f7) := by
    clear hL12 hL14
    funext y
    obtain ⟨k, n, l, rfl⟩ : ∃ (k : Fin 5) (n : Fin 2048) (l : Fin 128), y = ix3 k n l := ⟨y 0, y 1, y 2, eq_ix3 y⟩
    delta run_first.sl.H17_5
    refine (read_planes (d1 := 2048) (d2 := 128) arg17.view _ rfl rfl rfl rfl rfl _ _ _ _ _ _ _ _ _ _ k n l).trans ?_
    obtain rfl | rfl | rfl | rfl | rfl : k = 0 ∨ k = 1 ∨ k = 2 ∨ k = 3 ∨ k = 4 := by omega
    all_goals
      simp only [Matrix.cons_val]
      try delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
      unfold_payloads
      pointwise
      simp only [readAt_box2 _ _ _ _ rfl]
      simp only [Nat.zero_add]
      rfl
  have z19 : arg19.view.read (Elt Ideal) (arg19.view.writes (Elt Ideal) arg19.view.junk run_first.sl.H19_1) = fun _ => 0 := by
    delta run_first.sl.H19_1
    refine (read_whole3 arg19.view _ _ _ _).trans ?_
    try delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
    unfold_payloads
    funext y
    pointwise
  have z21 : arg21.view.read (Elt Ideal) (arg21.view.writes (Elt Ideal) arg21.view.junk run_first.sl.H21_1) = fun _ => 0 := by
    delta run_first.sl.H21_1
    refine (read_whole2 arg21.view _ _ _ _).trans ?_
    try delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
    unfold_payloads
    funext y
    pointwise
  have hCG := sums_done (b' := (blkAt (i 0).val (arg1.view.read (Elt Ideal) f1) (arg3.view.read (Elt Ideal) f3) (arg4.view.read (Elt Ideal) f4) (arg7.view.read (Elt Ideal) f7) (arg8.view.read (Elt Ideal) f8) (arg9.view.read (Elt Ideal) f9) (arg10.view.read (Elt Ideal) f10))) (s' := (dotS (arg5.view.read (Elt Ideal) f5) (codes (arg2.view.read (Elt Ideal) f2)))) hL12 hL14 trips_t1 z19 z21
    (by
      rw [h15, h16, h17]
      refine blkOf_eq i _ _ _ _ _ _ _ ?_ ?_ ?_
      · delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
        unfold_payloads
        funext y
        pointwise
        exact congrFun (readAt_full2 arg4.view f4 _) y
      all_goals
        intro k m
        delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
        unfold_payloads
        obtain rfl | rfl | rfl | rfl | rfl : k = 0 ∨ k = 1 ∨ k = 2 ∨ k = 3 ∨ k = 4 := by omega
        all_goals
          simp only [Matrix.cons_val]
          pointwise
          simp only [readAt_box2 _ _ _ _ rfl, readAt_word _ _ _ rfl]
          simp only [Nat.zero_add]
          rfl)
    (by
      refine congrArg _ ?_
      delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
      unfold_payloads
      funext y
      pointwise
      exact congrArg (FloatOps.sitofp (F := Ideal) .bf16) (congrFun (readAt_full2 arg2.view f2 _) y))
  clear hL12 hL14 z19 z21
  have h21 : arg21.view.read (Elt Ideal) (arg21.view.writes (Elt Ideal) arg21.view.junk (run_first.sl.H21_5 arg1 arg2 arg3 arg19 arg21 f1 f2 f3 fL4 fL5))
      = fun y => ddC (arg1.view.read (Elt Ideal) f1) (codes (arg2.view.read (Elt Ideal) f2)) (arg3.view.read (Elt Ideal) f3)
        (arg19.view.read (Elt Ideal) fL4) (arg21.view.read (Elt Ideal) fL5) (y 0) (y 1) := by
    delta run_first.sl.H21_5
    refine writes_segs_down arg21.view _ rfl rfl rfl rfl rfl _ _ _ _ _ _ _ _ _ _ _ ?_ ?_ ?_ ?_ ?_
    all_goals
      intro r m
      try delta run_first.sl.H15_5 run_first.sl.H16_5 run_first.sl.H17_5 run_first.sl.H18_1 run_first.sl.H19_1 run_first.sl.H20_1 run_first.sl.H21_1 run_first.sl.H21_5 run_first.sl.cst_45 run_first.sl.cst_47 run_first.sl.r run_first.sl.r_1 run_first.sl.r_10 run_first.sl.r_11 run_first.sl.r_12 run_first.sl.r_13 run_first.sl.r_14 run_first.sl.r_15 run_first.sl.r_16 run_first.sl.r_17 run_first.sl.r_18 run_first.sl.r_19 run_first.sl.r_2 run_first.sl.r_20 run_first.sl.r_21 run_first.sl.r_22 run_first.sl.r_23 run_first.sl.r_24 run_first.sl.r_25 run_first.sl.r_26 run_first.sl.r_27 run_first.sl.r_28 run_first.sl.r_3 run_first.sl.r_4 run_first.sl.r_5 run_first.sl.r_6 run_first.sl.r_7 run_first.sl.r_8 run_first.sl.r_9 run_first.sl.v0 run_first.sl.v1 run_first.sl.v101 run_first.sl.v102 run_first.sl.v103 run_first.sl.v104 run_first.sl.v105 run_first.sl.v106 run_first.sl.v107 run_first.sl.v108 run_first.sl.v109 run_first.sl.v111 run_first.sl.v112 run_first.sl.v114 run_first.sl.v115 run_first.sl.v116 run_first.sl.v118 run_first.sl.v119 run_first.sl.v120 run_first.sl.v122 run_first.sl.v123 run_first.sl.v124 run_first.sl.v125 run_first.sl.v126 run_first.sl.v127 run_first.sl.v128 run_first.sl.v129 run_first.sl.v130 run_first.sl.v132 run_first.sl.v133 run_first.sl.v135 run_first.sl.v145 run_first.sl.v155 run_first.sl.v2 run_first.sl.v62 run_first.sl.v63 run_first.sl.v64 run_first.sl.v65 run_first.sl.v66 run_first.sl.v67 run_first.sl.v69 run_first.sl.v70 run_first.sl.v72 run_first.sl.v73 run_first.sl.v74 run_first.sl.v76 run_first.sl.v77 run_first.sl.v78 run_first.sl.v80 run_first.sl.v81 run_first.sl.v82 run_first.sl.v83 run_first.sl.v84 run_first.sl.v85 run_first.sl.v86 run_first.sl.v88 run_first.sl.v90 run_first.sl.v91 run_first.sl.v93 run_first.sl.v94 run_first.sl.v95 run_first.sl.v97 run_first.sl.v98 run_first.sl.v99
      unfold_payloads
      pointwise
      simp only [readAt_box2 _ _ _ _ rfl, readAt_box3 _ _ _ _ _ rfl, readAt_word _ _ _ rfl]
      simp only [ddC, csV, down, sg_0, sg_0', sg_1, sg_2, sg_3, sg_4, Matrix.cons_val]
      simp only [Nat.zero_add]
      rfl
  rw [hCG.1, hCG.2] at h21
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H12]
  · iexists _
    iexact H12
  isplitl [H13]
  · iexists _
    iexact H13
  isplitl [H14]
  · iexists _
    iexact H14
  isplitl [H18]
  · iexists _
    iexact H18
  isplitl [H19]
  · iexists _
    iexact H19
  isplitl [H20]
  · iexists _
    iexact H20
  isplitl [H21]
  · iexists _
    iexact H21

  isplitl [H11]
  · iexists _
    isplitl [H11]
    · iexact H11
    ipureintro
    refine (read_whole2 arg11.view _ _ _ _).trans ?_
    refine ddV_of ?_
    refine Eq.trans ?_ h21
    delta run_first.sl.v155
    unfold View.readCov
    exact readAt_full2 arg21.view _ _
  isplitl [H15]
  · iexists _
    isplitl [H15]
    · iexact H15
    ipureintro
    exact h15
  isplitl [H16]
  · iexists _
    isplitl [H16]
    · iexact H16
    ipureintro
    exact h16
  iexists _
  isplitl [H17]
  · iexact H17
  ipureintro
  exact h17

end Cert.GradIdeal.Hand

end
-- ==== Proof.GradRun.lean ====
/-
  THE PASS OVER THE GRID: the queries' columns are spread over the scratch buffers at the first point and stay there, and
  every point writes its own block of the documents' gradient.
-/
module

public import proofs.«01_k».proof.Proof.GradBody
public import proofs.«01_k».proof.Proof.StatsObl
public import proofs.«01_k».proof.Proof.Gen.GradIdeal.Points
public import Idealize.ShloMosaic.Lib.Pipeline.Frame
public import Idealize.ShloMosaic.Lib.Pipeline.ValueKit.Geometry

@[expose] public section

set_option maxRecDepth 16384

noncomputable section

namespace Cert.GradIdeal.Hand

open Cert.GradIdeal Cert.GradIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

local notation "𝕄" => MT nD τ sig Unit (Elt Ideal) ℕ (UR sig nD τ) ℕ

variable (m : (ℓ : Loc nD τ sig) → Buf (Elt Ideal) ℓ) (ρ : Dev nD → PrngReg)

/-! The blocks of the ten inputs at a point. -/
abbrev B1 (c : Dev nD) (t : Fin cfg0.N) : S5.Idx → EReal := iblk m c 0 t
abbrev B2 (c : Dev nD) (t : Fin cfg0.N) : S256x768.Idx → BitVec 8 := iblk m c 1 t
abbrev B3 (c : Dev nD) (t : Fin cfg0.N) : S16x256.Idx → EReal := iblk m c 2 t
abbrev B4 (c : Dev nD) (t : Fin cfg0.N) : S1x256.Idx → BitVec 32 := iblk m c 3 t
abbrev B5 (c : Dev nD) (t : Fin cfg0.N) : S2048x768.Idx → EReal := iblk m c 4 t
abbrev B6 (c : Dev nD) (t : Fin cfg0.N) : S768x2048.Idx → EReal := iblk m c 5 t
abbrev B7 (c : Dev nD) (t : Fin cfg0.N) : S2048x128.Idx → EReal := iblk m c 6 t
abbrev B8 (c : Dev nD) (t : Fin cfg0.N) : S2048x128.Idx → EReal := iblk m c 7 t
abbrev B9 (c : Dev nD) (t : Fin cfg0.N) : S2048x128.Idx → BitVec 32 := iblk m c 8 t
abbrev B10 (c : Dev nD) (t : Fin cfg0.N) : S2048x128.Idx → BitVec 32 := iblk m c 9 t

/-- The first point. -/
abbrev t0 : Fin cfg0.N := ⟨0, by decide⟩

/-- Where each window's block of a point starts. -/
theorem e0 : ∀ t : Fin cfg0.N, win0_0.index t = ![0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, t.val] := (by decide +kernel : ∀ t : Fin grid0.N, _)
theorem e3 : ∀ t : Fin cfg0.N, win0_3.index t = ![0, t.val] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![t.val, 0] := (by decide +kernel : ∀ t : Fin grid0.N, _)

/-- The three query tables are the same at every point. -/
theorem B7_eq (c : Dev nD) (t : Fin cfg0.N) : B7 m c t = B7 m c t0 := by
  funext y
  unfold B7
  blk_simp [iblk]
  refine congrArg (V m c main_arg5) ?_
  blk_ext [e6]
theorem B8_eq (c : Dev nD) (t : Fin cfg0.N) : B8 m c t = B8 m c t0 := by
  funext y
  unfold B8
  blk_simp [iblk]
  refine congrArg (V m c main_arg6) ?_
  blk_ext [e7]

/-- The documents' gradient of a point, from its blocks. -/
def ddB (c : Dev nD) (t : Fin cfg0.N) : S256x768.Idx → EReal := ddV t.val (B1 m c t) (B2 m c t) (B3 m c t) (B4 m c t) (B5 m c t) (B6 m c t) (B7 m c t) (B8 m c t) (B9 m c t) (B10 m c t)

/-- The invariant before point `t`: after the first point the three spread columns are in their buffers. -/
def Phi (c : Dev nD) (t : ℕ) : sProp 𝕄 :=
  iprop(iprop((∃ f, pt c (Memref.whole cc0_scratch0) f) ∗ (∃ f, pt c (Memref.whole cc0_scratch1) f) ∗ (∃ f, pt c (Memref.whole cc0_scratch2) f ∗ ⌜t ≠ 0 → (Memref.whole cc0_scratch2).view.read (Elt Ideal) f = cnOf (B7 m c t0)⌝) ∗ (∃ f, pt c (Memref.whole cc0_scratch3) f ∗ ⌜t ≠ 0 → (Memref.whole cc0_scratch3).view.read (Elt Ideal) f = laOf (B8 m c t0)⌝) ∗ (∃ f, pt c (Memref.whole cc0_scratch4) f ∗ ⌜t ≠ 0 → (Memref.whole cc0_scratch4).view.read (Elt Ideal) f = irqOf (B7 m c t0)⌝) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) ∗ (∃ r, prngReg c r))

/-- The queries' gradient, forgotten: nothing here reads it. -/
def forgets0 : Fin 12 → Bool := fun | 11 => true | _ => false

/-- The proof data on core `c`: the arrays as the region finds them, an input's buffer left at its block, the documents'
gradient as computed from the blocks, the queries' gradient unnamed. -/
def dats (_ : Fin 1) (c : Dev nD) : Dat τ (Elt Ideal) Unit ℕ (UR sig nD τ) ℕ cfg0 c where
  A w := V m c (Pipeline.arrRef spec0 w)
  after w t := match w with
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | 10 => ddB m c t
    | 11 => Pipeline.Dat.unnamed (cfg := cfg0) 11 t
  Φ t := Phi m c t.val
  q _ := fullShare
  owed _ := 0

theorem A_eq (c : Dev nD) (w : Fin cfg0.W) : (dats m 0 c).A w = V m c (Pipeline.arrRef spec0 w) := by dsimp only [dats]

theorem coords_val : ∀ t : Fin cfg0.N, (grid0.coords t 0).val = t.val := by decide +kernel

theorem isFirst : ∀ t : Fin cfg0.N, (Scalar.cmpi .ne (Scalar.extui (Scalar.cmpi .eq (BitVec.ofNat 32 (grid0.coords t 0).val) 0#32)) 0#32 = 1#1) ↔ t.val = 0 := by
  decide +kernel

theorem isLast : ∀ t : Fin cfg0.N, (k0_cond2 (grid0.coords t) = 1#1) ↔ t.val = 63 := by decide +kernel

set_option maxHeartbeats 2000000 in
/-- The first point. -/
theorem sound_first (c : Dev nD) (t : Fin cfg0.N) (h : t.val = 0) :
    iprop(Phi m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare d))
    ⊢ wp frame (wpE (defs₀ (F := Ideal)) Variants.none (c : Thread nD τ) none) Set.univ (bodyAt0 t) (fun _ =>
      iprop(Phi m c (t.val + 1) ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare ((dats m 0 c).after 10 t)
        ∗ (∃ d, owns (c : Thread nD τ) (st0_11 t) fullShare d))) := by
  unfold bodyAt0
  rw [show (dats m 0 c).owesAt () t.succ = (dats m 0 c).owesAt () t.castSucc from rfl]
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t, before0_7_of m (dats m 0 c) (A_eq m c 7) (fun _ => rfl) t, before0_8_of m (dats m 0 c) (A_eq m c 8) (fun _ => rfl) t, before0_9_of m (dats m 0 c) (A_eq m c 9) (fun _ => rfl) t]
  unfold Phi
  unfold owns
  iintro ⟨⟨⟨S0, S1, ⟨%g2, S2, %k2⟩, ⟨%g3, S3, %k3⟩, ⟨%g4, S4, %k4⟩, S5, S6, S7, S8⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, -, H10⟩, ⟨%d11, %f11, -, H11⟩⟩
  iapply (run_first c (grid0.coords t) _ _ _ _ _ _ _ _ _ _ _ _ _ _ _ _ _ _ _ _ _ _ _ _ _ _ _ _ _ _ _ _ _ _ _ _ _ _ _ _ _ _ ((isFirst t).2 h) (fun hl => absurd ((isLast t).1 hl) (by omega))
    f0 f1 f2 f3 f4 f5 f6 f7 f8 f9 g2 g3 g4 _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists f10; iexact H10
  isplitl [H11]; · iexists f11; iexact H11
  isplitl [S0]; · iexact S0
  isplitl [S1]; · iexact S1
  isplitl [S5]; · iexact S5
  isplitl [S6]; · iexact S6
  isplitl [S7]; · iexact S7
  isplitl [S8]; · iexact S8
  isplitl [S2]; · iexact S2
  isplitl [S3]; · iexact S3
  isplitl [S4]; · iexact S4
  iintro ⟨H0, H1, H2, H3, H4, H5, H6, H7, H8, H9, ⟨%u11, H11⟩, S0, S1, S5, S6, S7, S8, ⟨%u10, H10, %v10⟩, ⟨%u2, S2, %v2⟩, ⟨%u3, S3, %v3⟩, ⟨%u4, S4, %v4⟩⟩
  rw [coords_val t, e0, e1, e2, e3, e4, e5, e6, e7, e8, e9] at v10
  rw [e6] at v2 v4
  rw [e7] at v3
  have ht : t = t0 := Fin.ext h
  replace v2 := v2.trans (congrArg cnOf (B7_eq m c t))
  replace v3 := v3.trans (congrArg laOf (B8_eq m c t))
  replace v4 := v4.trans (congrArg irqOf (B7_eq m c t))
  isplitl [S0 S1 S2 S3 S4 S5 S6 S7 S8 Hg]
  · isplitl [S0 S1 S2 S3 S4 S5 S6 S7 S8]
    · isplitl [S0]; · iexact S0
      isplitl [S1]; · iexact S1
      isplitl [S2]
      · iexists u2; isplitl [S2]; · iexact S2
        ipureintro; exact fun _ => v2
      isplitl [S3]
      · iexists u3; isplitl [S3]; · iexact S3
        ipureintro; exact fun _ => v3
      isplitl [S4]
      · iexists u4; isplitl [S4]; · iexact S4
        ipureintro; exact fun _ => v4
      isplitl [S5]; · iexact S5
      isplitl [S6]; · iexact S6
      isplitl [S7]; · iexact S7
      iexact S8
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H10]
  · iexists u10; isplitr
    · ipureintro; exact v10
    iexact H10
  iexists _, u11; isplitr; swap
  · iexact H11
  ipureintro; rfl

set_option maxHeartbeats 2000000 in
/-- A later point. -/
theorem sound_later (c : Dev nD) (t : Fin cfg0.N) (h : t.val ≠ 0) :
    iprop(Phi m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare d))
    ⊢ wp frame (wpE (defs₀ (F := Ideal)) Variants.none (c : Thread nD τ) none) Set.univ (bodyAt0 t) (fun _ =>
      iprop(Phi m c (t.val + 1) ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare ((dats m 0 c).after 10 t)
        ∗ (∃ d, owns (c : Thread nD τ) (st0_11 t) fullShare d))) := by
  unfold bodyAt0
  rw [show (dats m 0 c).owesAt () t.succ = (dats m 0 c).owesAt () t.castSucc from rfl]
  simp only [before0_0_of m (dats m 0 c) (A_eq m c 0) (fun _ => rfl) t, before0_1_of m (dats m 0 c) (A_eq m c 1) (fun _ => rfl) t, before0_2_of m (dats m 0 c) (A_eq m c 2) (fun _ => rfl) t, before0_3_of m (dats m 0 c) (A_eq m c 3) (fun _ => rfl) t, before0_4_of m (dats m 0 c) (A_eq m c 4) (fun _ => rfl) t, before0_5_of m (dats m 0 c) (A_eq m c 5) (fun _ => rfl) t, before0_6_of m (dats m 0 c) (A_eq m c 6) (fun _ => rfl) t, before0_7_of m (dats m 0 c) (A_eq m c 7) (fun _ => rfl) t, before0_8_of m (dats m 0 c) (A_eq m c 8) (fun _ => rfl) t, before0_9_of m (dats m 0 c) (A_eq m c 9) (fun _ => rfl) t]
  unfold Phi
  unfold owns
  iintro ⟨⟨⟨S0, S1, ⟨%g2, S2, %k2⟩, ⟨%g3, S3, %k3⟩, ⟨%g4, S4, %k4⟩, S5, S6, S7, S8⟩, Hg⟩, HO, ⟨%d0, %f0, %e0, H0⟩, ⟨%d1, %f1, %e1, H1⟩, ⟨%d2, %f2, %e2, H2⟩, ⟨%d3, %f3, %e3, H3⟩, ⟨%d4, %f4, %e4, H4⟩, ⟨%d5, %f5, %e5, H5⟩, ⟨%d6, %f6, %e6, H6⟩, ⟨%d7, %f7, %e7, H7⟩, ⟨%d8, %f8, %e8, H8⟩, ⟨%d9, %f9, %e9, H9⟩, ⟨%d10, %f10, -, H10⟩, ⟨%d11, %f11, -, H11⟩⟩
  iapply (run_later c (grid0.coords t) _ _ _ _ _ _ _ _ _ _ _ _ _ _ _ _ _ _ _ _ _ _ _ _ _ _ _ _ _ _ _ _ _ _ _ _ _ _ _ _ _ _ (fun hl => h ((isFirst t).1 hl))
    f0 f1 f2 f3 f4 f5 f6 f7 f8 f9 g2 g3 g4 ((k2 h).trans (congrArg cnOf ((B7_eq m c t).symm.trans e6.symm))) ((k3 h).trans (congrArg laOf ((B8_eq m c t).symm.trans e7.symm)))
    ((k4 h).trans (congrArg irqOf ((B7_eq m c t).symm.trans e6.symm))) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists f10; iexact H10
  isplitl [H11]; · iexists f11; iexact H11
  isplitl [S0]; · iexact S0
  isplitl [S1]; · iexact S1
  isplitl [S5]; · iexact S5
  isplitl [S6]; · iexact S6
  isplitl [S7]; · iexact S7
  isplitl [S8]; · iexact S8
  isplitl [S2]; · iexact S2
  isplitl [S3]; · iexact S3
  isplitl [S4]; · iexact S4
  iintro ⟨H0, H1, H2, H3, H4, H5, H6, H7, H8, H9, ⟨%u11, H11⟩, S0, S1, S5, S6, S7, S8, ⟨%u10, H10, %v10⟩, ⟨%u2, S2, %v2⟩, ⟨%u3, S3, %v3⟩, ⟨%u4, S4, %v4⟩⟩
  rw [coords_val t, e0, e1, e2, e3, e4, e5, e6, e7, e8, e9] at v10
  rw [e6] at v2 v4
  rw [e7] at v3
  replace v2 := v2.trans (congrArg cnOf (B7_eq m c t))
  replace v3 := v3.trans (congrArg laOf (B8_eq m c t))
  replace v4 := v4.trans (congrArg irqOf (B7_eq m c t))
  isplitl [S0 S1 S2 S3 S4 S5 S6 S7 S8 Hg]
  · isplitl [S0 S1 S2 S3 S4 S5 S6 S7 S8]
    · isplitl [S0]; · iexact S0
      isplitl [S1]; · iexact S1
      isplitl [S2]
      · iexists u2; isplitl [S2]; · iexact S2
        ipureintro; exact fun _ => v2
      isplitl [S3]
      · iexists u3; isplitl [S3]; · iexact S3
        ipureintro; exact fun _ => v3
      isplitl [S4]
      · iexists u4; isplitl [S4]; · iexact S4
        ipureintro; exact fun _ => v4
      isplitl [S5]; · iexact S5
      isplitl [S6]; · iexact S6
      isplitl [S7]; · iexact S7
      iexact S8
    iexact Hg
  isplitl [HO]; · iexact HO
  isplitl [H0]
  · iexists f0; isplitr
    · ipureintro; exact e0
    iexact H0
  isplitl [H1]
  · iexists f1; isplitr
    · ipureintro; exact e1
    iexact H1
  isplitl [H2]
  · iexists f2; isplitr
    · ipureintro; exact e2
    iexact H2
  isplitl [H3]
  · iexists f3; isplitr
    · ipureintro; exact e3
    iexact H3
  isplitl [H4]
  · iexists f4; isplitr
    · ipureintro; exact e4
    iexact H4
  isplitl [H5]
  · iexists f5; isplitr
    · ipureintro; exact e5
    iexact H5
  isplitl [H6]
  · iexists f6; isplitr
    · ipureintro; exact e6
    iexact H6
  isplitl [H7]
  · iexists f7; isplitr
    · ipureintro; exact e7
    iexact H7
  isplitl [H8]
  · iexists f8; isplitr
    · ipureintro; exact e8
    iexact H8
  isplitl [H9]
  · iexists f9; isplitr
    · ipureintro; exact e9
    iexact H9
  isplitl [H10]
  · iexists u10; isplitr
    · ipureintro; exact v10
    iexact H10
  iexists _, u11; isplitr; swap
  · iexact H11
  ipureintro; rfl

/-- The body table's row at the point is the body as `bodyAt0` spells it. -/
theorem defs₀_row (t : Fin cfg0.N) : defs₀ (F := Ideal) .tc cfg0.body (cfg0.bodyArgs t (cfg0.slots t)) = bodyAt0 t := by
  unfold defs₀; rw [Defs.onTc_tc]

/-- The body at any point. -/
theorem sound (c : Dev nD) (t : Fin cfg0.N) :
    iprop(Phi m c t.val ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d))
      ∗ (∃ d, owns (c : Thread nD τ) (st0_2 t) fullShare ((dats m 0 c).before 2 t d))
      ∗ (∃ d, owns (c : Thread nD τ) (st0_3 t) fullShare ((dats m 0 c).before 3 t d))
      ∗ (∃ d, owns (c : Thread nD τ) (st0_4 t) fullShare ((dats m 0 c).before 4 t d))
      ∗ (∃ d, owns (c : Thread nD τ) (st0_5 t) fullShare ((dats m 0 c).before 5 t d))
      ∗ (∃ d, owns (c : Thread nD τ) (st0_6 t) fullShare ((dats m 0 c).before 6 t d))
      ∗ (∃ d, owns (c : Thread nD τ) (st0_7 t) fullShare ((dats m 0 c).before 7 t d))
      ∗ (∃ d, owns (c : Thread nD τ) (st0_8 t) fullShare ((dats m 0 c).before 8 t d))
      ∗ (∃ d, owns (c : Thread nD τ) (st0_9 t) fullShare ((dats m 0 c).before 9 t d))
      ∗ (∃ d, owns (c : Thread nD τ) (st0_10 t) fullShare ((dats m 0 c).before 10 t d))
      ∗ (∃ d, owns (c : Thread nD τ) (st0_11 t) fullShare d))
    ⊢ wp frame (wpE (defs₀ (F := Ideal)) Variants.none (c : Thread nD τ) none) Set.univ (bodyAt0 t) (fun _ =>
      iprop(Phi m c (t.val + 1) ∗ (dats m 0 c).owesAt () t.succ
        ∗ owns (c : Thread nD τ) (st0_0 t) fullShare (iblk m c 0 t)
        ∗ owns (c : Thread nD τ) (st0_1 t) fullShare (iblk m c 1 t)
        ∗ owns (c : Thread nD τ) (st0_2 t) fullShare (iblk m c 2 t)
        ∗ owns (c : Thread nD τ) (st0_3 t) fullShare (iblk m c 3 t)
        ∗ owns (c : Thread nD τ) (st0_4 t) fullShare (iblk m c 4 t)
        ∗ owns (c : Thread nD τ) (st0_5 t) fullShare (iblk m c 5 t)
        ∗ owns (c : Thread nD τ) (st0_6 t) fullShare (iblk m c 6 t)
        ∗ owns (c : Thread nD τ) (st0_7 t) fullShare (iblk m c 7 t)
        ∗ owns (c : Thread nD τ) (st0_8 t) fullShare (iblk m c 8 t)
        ∗ owns (c : Thread nD τ) (st0_9 t) fullShare (iblk m c 9 t)
        ∗ owns (c : Thread nD τ) (st0_10 t) fullShare ((dats m 0 c).after 10 t)
        ∗ (∃ d, owns (c : Thread nD τ) (st0_11 t) fullShare d))) := by
  by_cases h : t.val = 0
  · exact sound_first m c t h
  · exact sound_later m c t h

theorem busy10 : ∀ t : Fin cfg0.N, cfg0.idle 10 (cfg0.grid.coords t) = false := by decide +kernel

set_option maxHeartbeats 4000000 in
/-- The library's body obligation with the queries' gradient forgotten. -/
theorem body_obligation (c : Dev nD) : BodyObligation (dats m 0 c) (defs₀ (F := Ideal)) Variants.none () Set.univ forgets0 := fun t => by
  rw [bigSep_W0, bigSep_W0, defs₀_row]
  refine triple_restated (sound m c t) rfl .rfl fun _ => ?_
  exact .rfl

/-- The class-wide invariant of the library, as its two parts. -/
theorem PhiA0_eq (c : Dev nD) : (Pipeline.ΦA spec0 c : sProp 𝕄) = iprop(iprop((∃ f, pt c (Memref.whole cc0_scratch0) f) ∗ (∃ f, pt c (Memref.whole cc0_scratch1) f) ∗ (∃ f, pt c (Memref.whole cc0_scratch2) f) ∗ (∃ f, pt c (Memref.whole cc0_scratch3) f) ∗ (∃ f, pt c (Memref.whole cc0_scratch4) f) ∗ (∃ f, pt c (Memref.whole cc0_scratch5) f) ∗ (∃ f, pt c (Memref.whole cc0_scratch6) f) ∗ (∃ f, pt c (Memref.whole cc0_scratch7) f) ∗ (∃ f, pt c (Memref.whole cc0_scratch8) f)) ∗ (∃ r, prngReg c r)) := by
  unfold Pipeline.ΦA; rw [scopedRest0_eq]
  simp only [pt, View.set_whole, Memref.view_whole]
  try rfl

/-- At the region's entry the scratch buffers hold anything. -/
theorem Phi_in (c : Dev nD) : (Pipeline.ΦA spec0 c : sProp 𝕄) ⊢ Phi m c 0 := by
  rw [PhiA0_eq]; unfold Phi
  iintro ⟨⟨S0, S1, ⟨%f2, S2⟩, ⟨%f3, S3⟩, ⟨%f4, S4⟩, S5, S6, S7, S8⟩, Hg⟩
  isplitl [S0 S1 S2 S3 S4 S5 S6 S7 S8]
  · isplitl [S0]; · iexact S0
    isplitl [S1]; · iexact S1
    isplitl [S2]
    · iexists f2; isplitl [S2]; · iexact S2
      ipureintro; exact fun h => absurd rfl h
    isplitl [S3]
    · iexists f3; isplitl [S3]; · iexact S3
      ipureintro; exact fun h => absurd rfl h
    isplitl [S4]
    · iexists f4; isplitl [S4]; · iexact S4
      ipureintro; exact fun h => absurd rfl h
    isplitl [S5]; · iexact S5
    isplitl [S6]; · iexact S6
    isplitl [S7]; · iexact S7
    iexact S8
  iexact Hg

/-- At its end what they hold is forgotten. -/
theorem Phi_out (c : Dev nD) (t : ℕ) : Phi m c t ⊢ (Pipeline.ΦA spec0 c : sProp 𝕄) := by
  rw [PhiA0_eq]; unfold Phi
  iintro ⟨⟨S0, S1, ⟨%f2, S2, -⟩, ⟨%f3, S3, -⟩, ⟨%f4, S4, -⟩, S5, S6, S7, S8⟩, Hg⟩
  isplitl [S0 S1 S2 S3 S4 S5 S6 S7 S8]
  · isplitl [S0]; · iexact S0
    isplitl [S1]; · iexact S1
    isplitl [S2]; · iexists f2; iexact S2
    isplitl [S3]; · iexists f3; iexact S3
    isplitl [S4]; · iexists f4; iexact S4
    isplitl [S5]; · iexact S5
    isplitl [S6]; · iexact S6
    isplitl [S7]; · iexact S7
    iexact S8
  iexact Hg

set_option backward.isDefEq.respectTransparency.types false in
/-- From any memory with zero counters @main runs to its end, the inputs and the documents' gradient at the contents the
tracked proof data names, every counter at zero. -/
theorem run_main : θ_run defs (onTc (τ := τ) (main (F := Ideal))) (s₀ m ρ) (fun r =>
    Pipeline.RDat.FramePost (cfgs 0) (fun c => (dats m 0 c).toRForget forgets0) (V m) r ∧ r.2.sem = fun _ => 0) :=
  Pipeline.θ_run_frame_track_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m)
    (hmain := hmain m Variants.none) (hA := A_eq m) (hin := Phi_in m) (hout := fun c => Phi_out m c _) (hQ' := fun _ h => h)

end Cert.GradIdeal.Hand

end
-- ==== Proof.GradSum.lean ====
/-
  The arguments of the gradient pass as plain arrays, and the blocks of a point read at coordinates.
-/
module

public import proofs.«01_k».proof.Proof.GradRun
public import proofs.«01_k».proof.Proof.RefValue
public import Idealize.ShloMosaic.Lib.Pipeline.ValueKit.Acc
public import Idealize.ShloMosaic.Lib.StableHlo.ReadAt

@[expose] public section
set_option maxRecDepth 16384
noncomputable section
namespace Cert.GradIdeal.Hand
open Cert.GradIdeal Cert.GradIdeal.Gen
open Idealize.ShloMosaic Idealize.ShloMosaic.TcCoe Idealize.ShloMosaic.Tactic

variable (m : (ℓ : Loc nD τ sig) → Buf (Elt Ideal) ℓ)

/-- The nine arguments as plain arrays. -/
abbrev argW (c : Dev nD) : S5.Idx → EReal := m ((c.tc : Thread nD τ).loc main_arg0)
abbrev argD (c : Dev nD) : S16384x768.Idx → BitVec 8 := m ((c.tc : Thread nD τ).loc main_arg1)
abbrev argX (c : Dev nD) : S16x16384.Idx → EReal := m ((c.tc : Thread nD τ).loc main_arg2)
abbrev argG (c : Dev nD) : S16384.Idx → BitVec 32 := m ((c.tc : Thread nD τ).loc main_arg3)
abbrev argQ (c : Dev nD) : S2048x768.Idx → EReal := m ((c.tc : Thread nD τ).loc main_arg4)
abbrev argC (c : Dev nD) : S2048x128.Idx → EReal := m ((c.tc : Thread nD τ).loc main_arg5)
abbrev argL (c : Dev nD) : S2048x128.Idx → EReal := m ((c.tc : Thread nD τ).loc main_arg6)
abbrev argGP (c : Dev nD) : S2048.Idx → BitVec 32 := m ((c.tc : Thread nD τ).loc main_arg7)
abbrev argP (c : Dev nD) : S2048.Idx → BitVec 32 := m ((c.tc : Thread nD τ).loc main_arg8)

theorem N64 (t : Fin cfg0.N) : t.val < 64 := Nat.lt_of_lt_of_le t.isLt (by decide)

/-- The document at place `j` of the block of point `t`. -/
def dOf (t : Fin cfg0.N) (j : Fin 256) : Fin 16384 := ⟨t.val * 256 + j.val, by have := N64 t; omega⟩

theorem V_v2 (c : Dev nD) : (V m c main_v2 : S1x16384.Idx → BitVec 32) = shapeCast S1x16384 (argG m c) shapeCasts_S16384_S1x16384 := by
  unfold V
  after_reads_simp
  rfl

theorem V_v1 (c : Dev nD) : (V m c main_v1 : S2048x128.Idx → BitVec 32)
    = broadcastInDim S2048x128 ![0, 1] bcast_S2048x1_S2048x128_0_1 (shapeCast S2048x1 (argP m c) shapeCasts_S2048_S2048x1) := by
  unfold V
  after_reads_simp
  rfl

theorem V_v4 (c : Dev nD) : (V m c main_v4 : S2048x128.Idx → BitVec 32)
    = broadcastInDim S2048x128 ![0, 1] bcast_S2048x1_S2048x128_0_1 (shapeCast S2048x1 (argGP m c) shapeCasts_S2048_S2048x1) := by
  unfold V
  after_reads_simp
  rfl

theorem V_v5 (c : Dev nD) : (V m c main_v5 : S768x2048.Idx → EReal)
    = transpose S768x2048 [1, 0] (argQ m c) transposes_S2048x768_S768x2048_1_0 := by
  unfold V
  after_reads_simp

/-- A column repeated along the lanes, read at a row and a lane. -/
theorem laneAt (x : S2048.Idx → BitVec 32) (n : Fin 2048) (l : Fin 128) :
    broadcastInDim S2048x128 ![0, 1] bcast_S2048x1_S2048x128_0_1 (shapeCast S2048x1 x shapeCasts_S2048_S2048x1) (ix2 n l) = x (ix1 n) := by
  refine (broadcastInDim_apply _ _ _ _ (ix2 n 0) fun a => match a with
    | ⟨0, _⟩ => rfl
    | ⟨1, _⟩ => rfl).trans ?_
  refine shapeCast_apply _ _ _ _ ?_
  simp [Shape.rowMajor_val_one, Shape.rowMajor_val_two]

/-! The ten input blocks of a point, read at coordinates. -/

theorem B1_at (c : Dev nD) (t : Fin cfg0.N) : B1 m c t = argW m c := by
  funext y
  refine Eq.trans ?_ (congrFun (V_main_arg0 m c) y)
  unfold B1
  blk_simp [iblk]
  refine congrArg (V m c main_arg0) ?_
  blk_ext [e0]

theorem B5_at (c : Dev nD) (t : Fin cfg0.N) : B5 m c t = argQ m c := by
  funext y
  refine Eq.trans ?_ (congrFun (V_main_arg4 m c) y)
  unfold B5
  blk_simp [iblk]
  refine congrArg (V m c main_arg4) ?_
  blk_ext [e4]

theorem B7_at (c : Dev nD) (t : Fin cfg0.N) : B7 m c t = argC m c := by
  funext y
  refine Eq.trans ?_ (congrFun (V_main_arg5 m c) y)
  unfold B7
  blk_simp [iblk]
  refine congrArg (V m c main_arg5) ?_
  blk_ext [e6]

theorem B8_at (c : Dev nD) (t : Fin cfg0.N) : B8 m c t = argL m c := by
  funext y
  refine Eq.trans ?_ (congrFun (V_main_arg6 m c) y)
  unfold B8
  blk_simp [iblk]
  refine congrArg (V m c main_arg6) ?_
  blk_ext [e7]

theorem B2_at (c : Dev nD) (t : Fin cfg0.N) (j : Fin 256) (x : Fin 768) : B2 m c t (ix2 j x) = argD m c (ix2 (dOf t j) x) := by
  refine Eq.trans ?_ (congrFun (V_main_arg1 m c) _)
  unfold B2
  blk_simp [iblk]
  refine congrArg (V m c main_arg1) ?_
  blk_ext [e1, dOf]

theorem B3_at (c : Dev nD) (t : Fin cfg0.N) (r : Fin 16) (j : Fin 256) : B3 m c t (ix2 r j) = argX m c (ix2 r (dOf t j)) := by
  refine Eq.trans ?_ (congrFun (V_main_arg2 m c) _)
  unfold B3
  blk_simp [iblk]
  refine congrArg (V m c main_arg2) ?_
  blk_ext [e2, dOf]

theorem B4_at (c : Dev nD) (t : Fin cfg0.N) (j : Fin 256) : B4 m c t (ix2 0 j) = argG m c (ix1 (dOf t j)) := by
  have h : B4 m c t (ix2 0 j) = (V m c main_v2 : S1x16384.Idx → BitVec 32) (ix2 0 (dOf t j)) := by
    unfold B4
    blk_simp [iblk]
    refine congrArg (V m c main_v2) ?_
    blk_ext [e3, dOf]
  rw [h, V_v2]
  refine shapeCast_apply _ _ _ _ ?_
  simp [Shape.rowMajor_val_one, Shape.rowMajor_val_two]

theorem B6_at (c : Dev nD) (t : Fin cfg0.N) (x : Fin 768) (n : Fin 2048) : B6 m c t (ix2 x n) = argQ m c (ix2 n x) := by
  have h : B6 m c t (ix2 x n) = (V m c main_v5 : S768x2048.Idx → EReal) (ix2 x n) := by
    unfold B6
    blk_simp [iblk]
    refine congrArg (V m c main_v5) ?_
    blk_ext [e5]
  rw [h, V_v5]
  pointwise

theorem B9_at (c : Dev nD) (t : Fin cfg0.N) (n : Fin 2048) (l : Fin 128) : B9 m c t (ix2 n l) = argGP m c (ix1 n) := by
  have h : B9 m c t (ix2 n l) = (V m c main_v4 : S2048x128.Idx → BitVec 32) (ix2 n l) := by
    unfold B9
    blk_simp [iblk]
    refine congrArg (V m c main_v4) ?_
    blk_ext [e8]
  rw [h, V_v4, laneAt]

theorem B10_at (c : Dev nD) (t : Fin cfg0.N) (n : Fin 2048) (l : Fin 128) : B10 m c t (ix2 n l) = argP m c (ix1 n) := by
  have h : B10 m c t (ix2 n l) = (V m c main_v1 : S2048x128.Idx → BitVec 32) (ix2 n l) := by
    unfold B10
    blk_simp [iblk]
    refine congrArg (V m c main_v1) ?_
    blk_ext [e9]
  rw [h, V_v1, laneAt]

end Cert.GradIdeal.Hand
end
-- ==== Proof.GradRefCell.lean ====
/-
  The reference of the gradient pass, operation by operation: each of its vectors read at a query and a document.
-/
module

public import proofs.«01_k».proof.Proof.Gen.GradReferenceIdeal.Frame
public import proofs.«01_k».proof.Proof.GradOuter
public import Idealize.ShloMosaic.Lib.Pointwise

@[expose] public section
set_option maxRecDepth 16384
noncomputable section
namespace Cert.GradReferenceIdeal.Hand
open Cert.GradReferenceIdeal Cert.GradReferenceIdeal.Gen
open Idealize.ShloMosaic Idealize.ShloMosaic.TcCoe Idealize.ShloMosaic.Tactic

/-- The named constants of the reference. -/
abbrev tauC : Ideal .f32 := Named.named (F := Ideal) κ "tau" 0x3D4CCCCD#32
abbrev l2eC : Ideal .f32 := Named.named (F := Ideal) κ "log2e" 0x3FB8AA3B#32

/-- The cosines of a prefix from its inner products and the two inverse norms. -/
def cosV (A : FVec Ideal S2048x16384 .f32) (q : FVec Ideal S2048x1 .f32) (d : FVec Ideal S1x16384 .f32) : FVec Ideal S2048x16384 .f32 :=
  mulf A (mulf (broadcastTo S2048x16384 q broadcasts_S2048x1_S2048x16384) (broadcastTo S2048x16384 d broadcasts_S1x16384_S2048x16384))

theorem cosV_at (A q d) (n : Fin 2048) (m : Fin 16384) : cosV A q d (ix2 n m) = A (ix2 n m) * (q (ix2 n 0) * d (ix2 0 m)) := by
  unfold cosV
  pointwise

/-- The exponentials of a prefix's logits, zero at the excluded pairs. -/
def pV (ex : IVec S2048x16384 1) (c : FVec Ideal S2048x16384 .f32) : FVec Ideal S2048x16384 .f32 :=
  exp2 (select ex (broadcast S2048x16384 (Scalar.ofBits (F := Ideal) .f32 0xFF800000#32))
    (mulf (divf c (broadcast S2048x16384 tauC)) (broadcast S2048x16384 l2eC)))

theorem pV_at (ex c) (n : Fin 2048) (m : Fin 16384) : pV ex c (ix2 n m)
    = Ideal.exp2 (Scalar.select (ex (ix2 n m)) (Ideal.ofBits .f32 0xFF800000#32) (Ideal.div (c (ix2 n m)) tauC * l2eC)) := by
  unfold pV
  pointwise
  rfl

theorem den_at (q la) (n : Fin 2048) (m : Fin 16384) : k0_pay8 (F := Ideal) q la (ix2 n m) = Ideal.div (q (ix2 n 0)) (Ideal.exp2 (la (ix2 n 0))) := by
  unfold_payloads
  pointwise
  rfl

theorem g_at (hot p w den) (n : Fin 2048) (m : Fin 16384) : k0_pay9 (F := Ideal) hot p w den (ix2 n m)
    = w * (Ideal.div (p (ix2 n m)) (den (ix2 n m)) - Scalar.select (hot (ix2 n m)) (Ideal.ofBits .f32 0x3F800000#32) (Ideal.ofBits .f32 0x00000000#32))
      * Ideal.ofBits .f32 0x3C200000#32 := by
  unfold_payloads
  pointwise

theorem h_at (hot q p w den d) (n : Fin 2048) (m : Fin 16384) : k0_pay10 (F := Ideal) hot q p w den d (ix2 n m)
    = k0_pay9 (F := Ideal) hot p w den (ix2 n m) * (q (ix2 n 0) * d (ix2 0 m)) := by
  unfold k0_pay10
  generalize k0_pay9 (F := Ideal) hot p w den = G
  pointwise

theorem cd_at (hot c p w den nd) (m : Fin 16384) : k0_pay11 (F := Ideal) hot c p w den nd (ix2 0 m)
    = Ideal.div (∑ n : Fin 2048, k0_pay9 (F := Ideal) hot p w den (ix2 n m) * c (ix2 n m)) (nd (ix2 0 m)) := by
  unfold k0_pay11
  generalize k0_pay9 (F := Ideal) hot p w den = G
  pointwise

theorem hot_at (P) (n : Fin 2048) (m : Fin 16384) : k0_pay3 (F := Ideal) P (ix2 n m) = IntOp.cmpi .eq (BitVec.ofNat 32 m.val) (P (ix2 n 0)) := by
  unfold_payloads
  pointwise

theorem ex_at (P G GP) (n : Fin 2048) (m : Fin 16384) : k0_pay4 (F := Ideal) P G GP (ix2 n m)
    = IntOp.andi (IntOp.cmpi .eq (G (ix2 0 m)) (GP (ix2 n 0))) (IntOp.xori (k0_pay3 (F := Ideal) P (ix2 n m)) 1#1) := by
  unfold k0_pay4
  generalize k0_pay3 (F := Ideal) P = H
  pointwise

/-! The inner products over the prefixes. -/
theorem A0_at (D Q) (n : Fin 2048) (m : Fin 16384) : k0_pay5 (F := Ideal) D Q (ix2 n m) =
   ∑ x : Fin 64, Q (ix2 n ⟨x.val, by omega⟩) * FloatOps.sitofp (F := Ideal) .bf16 (D (ix2 m ⟨x.val, by omega⟩)) := by
  unfold_payloads
  pointwise
theorem A1_at (D Q v) (n : Fin 2048) (m : Fin 16384) : k0_pay12 (F := Ideal) (k0_pay2 D) Q v (ix2 n m) =
   v (ix2 n m) + ∑ x : Fin 64, Q (ix2 n ⟨64 + x.val, by omega⟩) * FloatOps.sitofp (F := Ideal) .bf16 (D (ix2 m ⟨64 + x.val, by omega⟩)) := by
  unfold_payloads
  pointwise
theorem A2_at (D Q v) (n : Fin 2048) (m : Fin 16384) : k0_pay19 (F := Ideal) (k0_pay2 D) Q v (ix2 n m) =
   v (ix2 n m) + ∑ x : Fin 128, Q (ix2 n ⟨128 + x.val, by omega⟩) * FloatOps.sitofp (F := Ideal) .bf16 (D (ix2 m ⟨128 + x.val, by omega⟩)) := by
  unfold_payloads
  pointwise
theorem A3_at (D Q v) (n : Fin 2048) (m : Fin 16384) : k0_pay26 (F := Ideal) (k0_pay2 D) Q v (ix2 n m) =
   v (ix2 n m) + ∑ x : Fin 256, Q (ix2 n ⟨256 + x.val, by omega⟩) * FloatOps.sitofp (F := Ideal) .bf16 (D (ix2 m ⟨256 + x.val, by omega⟩)) := by
  unfold_payloads
  pointwise
/-- The inner products over the whole rows. -/
def A4V (v1 : FVec Ideal S16384x768 .bf16) (Q : FVec Ideal S2048x768 .bf16) (v : FVec Ideal S2048x16384 .f32) : FVec Ideal S2048x16384 .f32 :=
  addf v (matmul dot_S2048x256_S16384x256_S2048x16384_1_1_0_0_n_n none (extractStridedSlice S2048x256 ![0, 512] Q slices_S2048x768_o0_512_S2048x256)
    (extractStridedSlice S16384x256 ![0, 512] v1 slices_S16384x768_o0_512_S16384x256) (constant S2048x16384 .f32 0x00000000#32))
theorem A4_at (D : IVec S16384x768 8) (Q v) (n : Fin 2048) (m : Fin 16384) : A4V (k0_pay2 (F := Ideal) D) Q v (ix2 n m) =
   v (ix2 n m) + ∑ x : Fin 256, Q (ix2 n ⟨512 + x.val, by omega⟩) * FloatOps.sitofp (F := Ideal) .bf16 (D (ix2 m ⟨512 + x.val, by omega⟩)) := by
  unfold A4V
  unfold_payloads
  pointwise

/-- One entry of the result from the sums over the prefixes. -/
def cell (R : S2048x16384.Idx → EReal) (Cd sd : S1x16384.Idx → EReal) (D : S16384x768.Idx → BitVec 8) (Q : S2048x768.Idx → EReal) (m : Fin 16384) (x : Fin 768) : EReal :=
  Ideal.div ((∑ n : Fin 2048, R (ix2 n m) * Q (ix2 n x)) - FloatOps.sitofp (F := Ideal) .f32 (D (ix2 m x)) * Cd (ix2 0 m)) (sd (ix2 0 m))

theorem out4_at (D Q hot q c p w den d nd sd) (m : Fin 16384) (x : Fin 256) :
    k0_pay39 (F := Ideal) D Q hot q c p w den d nd sd (ix2 m x)
      = cell (k0_pay37 hot q p w den d) (k0_pay38 hot c p w den nd) sd D Q m ⟨512 + x.val, by omega⟩ := by
  unfold k0_pay39 cell
  generalize k0_pay37 (F := Ideal) hot q p w den d = R
  generalize k0_pay38 (F := Ideal) hot c p w den nd = C
  pointwise

theorem out3_at (D Q hot h3 cd3 q c p w den d nd sd) (m : Fin 16384) (x : Fin 256) :
    k0_pay43 (F := Ideal) sd (k0_pay42 D Q hot h3 cd3 q c p w den d nd) (ix2 m x)
      = cell (k0_pay40 hot h3 q p w den d) (k0_pay41 hot cd3 c p w den nd) sd D Q m ⟨256 + x.val, by omega⟩ := by
  unfold k0_pay43 k0_pay42 cell
  generalize k0_pay40 (F := Ideal) hot h3 q p w den d = R
  generalize k0_pay41 (F := Ideal) hot cd3 c p w den nd = C
  pointwise

theorem out2_at (D Q h2 cd2 sd r3 c3) (m : Fin 16384) (x : Fin 128) :
    k0_pay46 (F := Ideal) D Q h2 cd2 sd r3 c3 (ix2 m x)
      = cell (k0_pay44 h2 r3) (k0_pay45 cd2 c3) sd D Q m ⟨128 + x.val, by omega⟩ := by
  unfold k0_pay46 cell
  generalize k0_pay44 (F := Ideal) h2 r3 = R
  generalize k0_pay45 (F := Ideal) cd2 c3 = C
  pointwise

theorem out1_at (D Q h1 cd1 h2 cd2 sd r3 c3) (m : Fin 16384) (x : Fin 64) :
    k0_pay49 (F := Ideal) D Q h1 cd1 h2 cd2 sd r3 c3 (ix2 m x)
      = cell (k0_pay47 h1 h2 r3) (k0_pay48 cd1 cd2 c3) sd D Q m ⟨64 + x.val, by omega⟩ := by
  unfold k0_pay49 cell
  generalize k0_pay47 (F := Ideal) h1 h2 r3 = R
  generalize k0_pay48 (F := Ideal) cd1 cd2 c3 = C
  pointwise

theorem out0_at (D Q h0 cd0 h1 cd1 h2 cd2 sd r3 c3) (m : Fin 16384) (x : Fin 64) :
    k0_pay1 (F := Ideal) sd (k0_pay50 D Q h0 cd0 h1 cd1 h2 cd2 r3 c3) (ix2 m x)
      = cell (addf (k0_pay47 h1 h2 r3) h0) (addf (k0_pay48 cd1 cd2 c3) cd0) sd D Q m ⟨x.val, by omega⟩ := by
  unfold k0_pay1 k0_pay50 cell
  generalize k0_pay47 (F := Ideal) h1 h2 r3 = R
  generalize k0_pay48 (F := Ideal) cd1 cd2 c3 = C
  pointwise

end Cert.GradReferenceIdeal.Hand
end
-- ==== Proof.GradArgs.lean ====
/-
  The documents' gradient in plain formulas of the arguments, as the reference computes it.
-/
module

public import proofs.«01_k».proof.Proof.GradRefCell
public import proofs.«01_k».proof.Proof.RefValue
public import proofs.«01_k».proof.Proof.StatsBlock

@[expose] public section
set_option maxRecDepth 16384
noncomputable section
namespace Cert.GradReferenceIdeal.Hand
open Cert.GradReferenceIdeal Cert.GradReferenceIdeal.Gen
open Idealize.ShloMosaic Idealize.ShloMosaic.TcCoe Idealize.ShloMosaic.Tactic
open Cert.ReferenceIdeal.Hand (segs accum accum0 accum1 accum2 accum3 accum4 segs0 segs1 segs2 segs3 segs4 codeF hotR exR)
open Cert.GradIdeal.Hand (down sg sg_0' sg_1 sg_2 sg_3 sg_4 readAt_word)
open Cert.KernelIdeal.Hand (readAt_box2)

/-- The arguments as plain arrays: weights, codes, the documents' statistics, their groups, the queries, the queries' statistics,
the logarithms of the normalisers, and the queries' groups and own documents. -/
structure Args where
  W : S5.Idx → EReal
  D : S16384x768.Idx → BitVec 8
  X : S16x16384.Idx → EReal
  G : Fin 16384 → BitVec 32
  Q : S2048x768.Idx → EReal
  C : S2048x128.Idx → EReal
  L : S2048x128.Idx → EReal
  GP : Fin 2048 → BitVec 32
  P : Fin 2048 → BitVec 32

variable (a : Args)

/-- The inverse norms and the logarithm of the normaliser of a prefix. -/
abbrev Args.irq (k : Fin 5) (n : Fin 2048) : EReal := a.C (ix2 n (⟨1 + k.val, by omega⟩ : Fin 128))
abbrev Args.la (k : Fin 5) (n : Fin 2048) : EReal := a.L (ix2 n (⟨k.val, by omega⟩ : Fin 128))
abbrev Args.ird (k : Fin 5) (m : Fin 16384) : EReal := a.X (ix2 (⟨1 + k.val, by omega⟩ : Fin 16) m)
abbrev Args.nd (k : Fin 5) (m : Fin 16384) : EReal := a.X (ix2 (⟨6 + k.val, by omega⟩ : Fin 16) m)

/-- The cosine of prefix `k`. -/
def Args.cos (k : Fin 5) (n : Fin 2048) (m : Fin 16384) : EReal := accum (segs a.Q a.D n m) k * (a.irq k n * a.ird k m)

/-- The derivative of the loss of prefix `k` by its cosine. -/
def Args.g (k : Fin 5) (n : Fin 2048) (m : Fin 16384) : EReal :=
  a.W (ix1 k) * (Ideal.div (Ideal.exp2 (Scalar.select (exR a.G a.GP a.P n m) (Ideal.ofBits .f32 0xFF800000#32) (Ideal.div (a.cos k n m) tauC * l2eC)))
      (Ideal.div (a.irq k n) (Ideal.exp2 (a.la k n)))
    - Scalar.select (hotR a.P n m) (Ideal.ofBits .f32 0x3F800000#32) (Ideal.ofBits .f32 0x00000000#32)) * Ideal.ofBits .f32 0x3C200000#32

/-- It times the two inverse norms. -/
def Args.h (n : Fin 2048) (m : Fin 16384) (k : Fin 5) : EReal := a.g k n m * (a.irq k n * a.ird k m)

/-- The part of a document's gradient along its own prefix. -/
def Args.cd (m : Fin 16384) (k : Fin 5) : EReal := Ideal.div (∑ n : Fin 2048, a.g k n m * a.cos k n m) (a.nd k m)

/-- The documents' gradient. -/
def Args.dd (m : Fin 16384) (x : Fin 768) : EReal :=
  Ideal.div ((∑ n : Fin 2048, down (a.h n m) (sg x) * a.Q (ix2 n x)) - codeF (a.D (ix2 m x)) * down (a.cd m) (sg x)) (a.X (ix2 (0 : Fin 16) m))
end Cert.GradReferenceIdeal.Hand
end
-- ==== Proof.GradPair.lean ====
/-
  One pair of a query and a document: the kernel's derivative, scaled by the query's inverse norm, against the reference's.
-/
module

public import proofs.«01_k».proof.Proof.GradArgs
public import proofs.«01_k».proof.Proof.GradBlock
public import proofs.«01_k».proof.Proof.StatsEq

@[expose] public section
noncomputable section
namespace Cert.GradIdeal.Hand
open Cert.GradIdeal Cert.GradIdeal.Gen
open Idealize.ShloMosaic
open Cert.ReferenceIdeal.Hand (segs accum codeF hotR exR)
open Cert.GradReferenceIdeal.Hand (tauC l2eC)
open Cert.RowMath

/-- The kernel's mask is `⊥`. -/
theorem masked_eq : (Named.named (F := Ideal) (φ := .f32) κ "masked" 0xD3800000#32 : EReal) = ⊥ :=
  IdealRules.named_const.ideal_named_scalar _ _ _ _ rfl

/-- The kernel's scale: twenty over the logarithm of two. -/
theorem scale_eq : (Named.named (F := Ideal) (φ := .f32) κ "log2e_over_tau" 0x41E6D4CA#32 : EReal) = ((20 * (Real.log 2)⁻¹ : ℝ) : EReal) :=
  IdealRules.named_const.ideal_named_scalar _ _ _ _ rfl

/-- The reference's temperature and its `log2 e`. -/
theorem tau_eq : (tauC : EReal) = ((1 / 20 : ℝ) : EReal) := IdealRules.named_const.ideal_named_scalar _ _ _ _ rfl
theorem l2e_eq : (l2eC : EReal) = (((Real.log 2)⁻¹ : ℝ) : EReal) := IdealRules.named_const.ideal_named_scalar _ _ _ _ rfl

/-- The words of minus infinity and of one, and the factor of the weights. -/
theorem bot_f32 : (Ideal.ofBits .f32 0xFF800000#32 : EReal) = ⊥ := by simp [Ideal.ofBits, Ideal.ieee]
theorem one_f32 : (Ideal.ofBits .f32 0x3F800000#32 : EReal) = ((1 : ℝ) : EReal) := by
  simp [Ideal.ofBits, Ideal.ieee]
  rw [← EReal.coe_mul]
  norm_num
theorem inv_f32 : ∃ i : ℝ, (Ideal.ofBits .f32 0x3C200000#32 : EReal) = i := ⟨_, by simp only [Ideal.ofBits, Ideal.ieee]; rfl⟩

/-- A masked document's inner products are all `⊥`: the mask stands in the first summand. -/
theorem accS_masked (s : Fin 5 → EReal) (k : Fin 5) : accS 1#1 s k = ⊥ := by
  have e : (Scalar.select (1#1) (Named.named (F := Ideal) (φ := .f32) κ "masked" 0xD3800000#32) (s 0) : EReal) = ⊥ := masked_eq
  unfold accS
  simp only [e]
  fin_cases k
  · rfl
  · exact EReal.bot_add _
  · show (⊥ : EReal) + s 1 + s 2 = ⊥
    simp only [EReal.bot_add]
  · show (⊥ : EReal) + s 1 + s 2 + s 3 = ⊥
    simp only [EReal.bot_add]
  · show (⊥ : EReal) + s 1 + s 2 + s 3 + s 4 = ⊥
    simp only [EReal.bot_add]

/-- A document that is not masked keeps its inner products. -/
theorem accS_kept {e : BitVec 1} (he : e ≠ 1#1) (s : Fin 5 → EReal) (k : Fin 5) : accS e s k = accum s k := by
  have h : (Scalar.select e (Named.named (F := Ideal) (φ := .f32) κ "masked" 0xD3800000#32) (s 0) : EReal) = s 0 := if_neg he
  unfold accS
  simp only [h]
  rfl

/-- The kernel's scaled derivative of one pair. -/
def eK (ex hot : BitVec 1) (at_ q l : EReal) : EReal :=
  Scalar.select hot (Ideal.exp2 (at_ * (q * Named.named (F := Ideal) (φ := .f32) κ "log2e_over_tau" 0x41E6D4CA#32) + l) - q)
    (Ideal.exp2 (at_ * (q * Named.named (F := Ideal) (φ := .f32) κ "log2e_over_tau" 0x41E6D4CA#32) + l))

/-- The reference's derivative of one pair. -/
def gR (ex hot : BitVec 1) (w c q l : EReal) : EReal :=
  w * (Ideal.div (Ideal.exp2 (Scalar.select ex (Ideal.ofBits .f32 0xFF800000#32) (Ideal.div c tauC * l2eC))) (Ideal.div q (Ideal.exp2 l))
    - Scalar.select hot (Ideal.ofBits .f32 0x3F800000#32) (Ideal.ofBits .f32 0x00000000#32)) * Ideal.ofBits .f32 0x3C200000#32

/-- The kernel's derivative of a pair is the reference's times the query's inverse norm; both products the gradient takes of
it agree, and the kernel's are real numbers. -/
theorem pair (ex hot : BitVec 1) (hne : hot = 1#1 → ex ≠ 1#1) (s : Fin 5 → EReal) (k : Fin 5) {a x q w l i : ℝ}
    (ha : accum s k = a) (hx : 0 < x) (hq : 0 < q) (hi : (Ideal.ofBits .f32 0x3C200000#32 : EReal) = i) :
    ∃ er yr : ℝ, eK ex hot (accS ex s k * (x : EReal)) q l = er ∧ eK ex hot (accS ex s k * (x : EReal)) q l * (accS ex s k * (x : EReal)) = yr
      ∧ gR ex hot w (accum s k * ((q : EReal) * (x : EReal))) q l * ((q : EReal) * (x : EReal)) = ((er * (x * (w * i)) : ℝ) : EReal)
      ∧ gR ex hot w (accum s k * ((q : EReal) * (x : EReal))) q l * (accum s k * ((q : EReal) * (x : EReal))) = ((yr * (w * i) : ℝ) : EReal) := by
  have hl : (0 : ℝ) < (Real.log 2)⁻¹ := inv_pos.2 (Real.log_pos (by norm_num))
  have hL : (0 : ℝ) < Real.rpow 2 l := Real.rpow_pos_of_pos (by norm_num) _
  unfold eK gR
  rw [scale_eq, l2e_eq, tau_eq, bot_f32, one_f32, hi, ha, exp2_coe l, div_coe _ hL.ne', ← EReal.coe_mul q (20 * (Real.log 2)⁻¹), ← EReal.coe_mul q x, ← EReal.coe_mul q (Real.rpow 2 l)⁻¹,
    div_coe _ (mul_pos hq (inv_pos.2 hL)).ne', div_coe _ (by norm_num), show (Ideal.ofBits .f32 0x00000000#32 : EReal) = ((0 : ℝ) : EReal) from Ideal.ofBits_zero_f32]
  by_cases h : ex = 1#1
  · have hh : hot ≠ 1#1 := fun e => hne e h
    subst h
    have e1 : accS 1#1 s k * (x : EReal) = ⊥ := by rw [accS_masked, EReal.bot_mul_coe_of_pos hx]
    have sel : ∀ A B : EReal, Scalar.select hot A B = B := fun A B => if_neg hh
    have sel1 : ∀ A B : EReal, Scalar.select (1#1) A B = A := fun A B => if_pos rfl
    have e2 : (⊥ : EReal) * ((q * (20 * (Real.log 2)⁻¹) : ℝ) : EReal) = ⊥ := EReal.bot_mul_coe_of_pos (by positivity)
    refine ⟨0, 0, ?_, ?_, ?_, ?_⟩
    · rw [e1, sel, e2, EReal.bot_add, exp2_bot]; rfl
    · rw [e1, sel, e2, EReal.bot_add, exp2_bot, zero_mul]; rfl
    · rw [sel1, sel, exp2_bot, zero_mul]; simp
    · rw [sel1, sel, exp2_bot, zero_mul]; simp
  · have e1 : accS ex s k * (x : EReal) = ((a * x : ℝ) : EReal) := by rw [accS_kept h, ha, EReal.coe_mul]
    have sel1 : ∀ A B : EReal, Scalar.select ex A B = B := fun A B => if_neg h
    have ek : Ideal.exp2 (((a * x : ℝ) : EReal) * ((q * (20 * (Real.log 2)⁻¹) : ℝ) : EReal) + (l : EReal))
        = ((Real.rpow 2 (a * x * q * 20 * (Real.log 2)⁻¹) * Real.rpow 2 l : ℝ) : EReal) := by
      rw [← EReal.coe_mul, ← EReal.coe_add, exp2_coe]
      congr 1
      refine Eq.trans ?_ (Real.rpow_add (by norm_num : (0 : ℝ) < 2) _ _)
      show Real.rpow 2 _ = Real.rpow 2 _
      congr 1
      ring
    have er : Ideal.exp2 ((a : EReal) * ((q * x : ℝ) : EReal) * (((1 / 20 : ℝ)⁻¹ : ℝ) : EReal) * (((Real.log 2)⁻¹ : ℝ) : EReal))
        = ((Real.rpow 2 (a * x * q * 20 * (Real.log 2)⁻¹) : ℝ) : EReal) := by
      rw [← EReal.coe_mul, ← EReal.coe_mul, ← EReal.coe_mul, exp2_coe]
      congr 2
      norm_num
      ring
    rw [e1, ek, sel1, er]
    generalize Real.rpow 2 (a * x * q * 20 * (Real.log 2)⁻¹) = E
    generalize Real.rpow 2 l = L at hL ⊢
    by_cases hh : hot = 1#1
    · have sel : ∀ A B : EReal, Scalar.select hot A B = A := fun A B => if_pos hh
      simp only [sel, ← EReal.coe_mul, ← EReal.coe_sub]
      refine ⟨_, _, rfl, rfl, congrArg _ ?_, congrArg _ ?_⟩ <;> field_simp
    · have sel : ∀ A B : EReal, Scalar.select hot A B = B := fun A B => if_neg hh
      simp only [sel, ← EReal.coe_mul, ← EReal.coe_sub]
      refine ⟨_, _, rfl, rfl, congrArg _ ?_, congrArg _ ?_⟩ <;> field_simp <;> ring

end Cert.GradIdeal.Hand
end
-- ==== Proof.GradEq.lean ====
/-
  The kernel's documents' gradient is the reference's, when weights, query codes and the logarithms of the normalisers are real
  numbers, the inverse norms are positive real numbers and the documents' scales are not zero.
-/
module

public import proofs.«01_k».proof.Proof.GradSum
public import proofs.«01_k».proof.Proof.GradPair
public import proofs.«01_k».proof.Proof.StatsSum

@[expose] public section
set_option maxRecDepth 16384
noncomputable section
namespace Cert.GradIdeal.Hand
open Cert.GradIdeal Cert.GradIdeal.Gen
open Idealize.ShloMosaic Idealize.ShloMosaic.TcCoe Idealize.ShloMosaic.Tactic
open Cert.ReferenceIdeal.Hand (segs accum codeF hotR exR)
open Cert.KernelIdeal.Hand (midW segs_real accum_real hot_not_ex)
open Cert.GradReferenceIdeal.Hand (Args)
open Cert.RowMath

/-! ## Sums in another order -/

theorem row_sum {M : ℕ} (f : Fin M → EReal) : ∑ d ∈ Finset.range M, row f d = ∑ d : Fin M, f d := by
  rw [← Fin.sum_univ_eq_sum_range]
  exact Finset.sum_congr rfl fun d _ => dif_pos d.isLt

/-- Sixteen rows at a time, in two halves of eight: all the rows. -/
theorem sum_sixteens (f : ℕ → EReal) (T : ℕ) :
    ∑ s : Fin 8, ∑ q ∈ Finset.range T, (f (16 * q + s.val) + f (16 * q + 8 + s.val)) = ∑ d ∈ Finset.range (T * 16), f d := by
  rw [Finset.sum_comm, Finset.sum_range_mul_split]
  refine Finset.sum_congr rfl fun q _ => ?_
  rw [mul_comm 16 q]
  simp only [add_assoc]
  rw [Finset.sum_add_distrib, Fin.sum_univ_eq_sum_range (fun l => f (q * 16 + l)) 8,
    Fin.sum_univ_eq_sum_range (fun l => f (q * 16 + (8 + l))) 8, show (16 : ℕ) = 8 + 8 from rfl, Finset.sum_range_add]

/-- 256 rows at a time: all the rows. -/
theorem sum_blocks (f : ℕ → EReal) (T : ℕ) : ∑ q ∈ Finset.range T, ∑ x : Fin 256, f (256 * q + x.val) = ∑ d ∈ Finset.range (T * 256), f d := by
  rw [Finset.sum_range_mul_split]
  refine Finset.sum_congr rfl fun q _ => ?_
  rw [mul_comm 256 q, Fin.sum_univ_eq_sum_range (fun l => f (q * 256 + l)) 256]

/-- The column sums of a point are sums over the queries. -/
theorem colS_sum (b : Blk) (sv : Fin 5 → Fin 2048 → Fin 256 → EReal) (k : Fin 5) (j : Fin 256) :
    ∑ s : Fin 8, colS b sv (ix3 k s j) = ∑ n : Fin 2048, b.y sv k n (ln j) j := by
  have h : ∀ s : Fin 8, colS b sv (ix3 k s j)
      = ∑ q ∈ Finset.range 128, (row (fun n => b.y sv k n (ln j) j) (16 * q + s.val) + row (fun n => b.y sv k n (ln j) j) (16 * q + 8 + s.val)) := fun s => by
    unfold colS addUp
    rw [zero_add, ← Finset.range_eq_Ico]
    rfl
  simp only [h]
  rw [sum_sixteens, ← row_sum]

/-- The products of a point with the transposed queries are sums over the queries. -/
theorem prodS_sum (b : Blk) (sv : Fin 5 → Fin 2048 → Fin 256 → EReal) (qt : S768x2048.Idx → EReal) (d : Fin 768) (j : Fin 256) :
    prodS b sv qt (ix2 d j) = ∑ n : Fin 2048, qt (ix2 d n) * b.R sv (sg d) n (ln j) j := by
  unfold prodS addUp
  rw [zero_add, ← Finset.range_eq_Ico]
  simp only [ddT_apply]
  rw [sum_blocks, ← row_sum]

/-! ## A pair of the launch's arguments -/

variable (m : (ℓ : Loc nD τ sig) → Buf (Elt Ideal) ℓ)

/-- The kernel's arguments as plain arrays. -/
def argsOf (c : Dev nD) : Args where
  W := argW m c
  D := argD m c
  X := argX m c
  G d := argG m c (ix1 d)
  Q := argQ m c
  C := argC m c
  L := argL m c
  GP n := argGP m c (ix1 n)
  P n := argP m c (ix1 n)

/-- The operands of a point and its segments' products. -/
abbrev blkT (c : Dev nD) (t : Fin cfg0.N) : Blk := blkAt t.val (B1 m c t) (B3 m c t) (B4 m c t) (B7 m c t) (B8 m c t) (B9 m c t) (B10 m c t)
abbrev svT (c : Dev nD) (t : Fin cfg0.N) : Fin 5 → Fin 2048 → Fin 256 → EReal := dotS (B5 m c t) (codes (B2 m c t))

theorem midW_eq (t : Fin cfg0.N) (j : Fin 256) : midW t.val j.val = BitVec.ofNat 32 (dOf t j).val := by
  unfold midW dOf
  apply BitVec.eq_of_toNat_eq
  have := N64 t
  simp [IntOp.addi, Scalar.muli, IntOp.muli]

theorem hot_eq (c : Dev nD) (t : Fin cfg0.N) (n : Fin 2048) (l : Fin 128) (j : Fin 256) :
    (blkT m c t).hot n l j = hotR (argsOf m c).P n (dOf t j) := by
  show IntOp.cmpi CmpIPredicate.eq (midW t.val j.val) (B10 m c t (ix2 n l)) = _
  rw [midW_eq, B10_at]
  rfl

theorem ex_eq (c : Dev nD) (t : Fin cfg0.N) (n : Fin 2048) (l : Fin 128) (j : Fin 256) :
    (blkT m c t).ex n l j = exR (argsOf m c).G (argsOf m c).GP (argsOf m c).P n (dOf t j) := by
  unfold Blk.ex
  rw [hot_eq]
  show IntOp.andi (IntOp.cmpi CmpIPredicate.eq (B4 m c t (ix2 0 j)) (B9 m c t (ix2 n l))) _ = _
  rw [B4_at, B9_at]
  rfl

theorem dot_eq (c : Dev nD) (t : Fin cfg0.N) (n : Fin 2048) (j : Fin 256) :
    (fun s => svT m c t s n j) = segs (argQ m c) (argD m c) n (dOf t j) := by
  funext s
  show dotS (B5 m c t) (codes (B2 m c t)) s n j = _
  unfold dotS segs codes
  rw [B5_at]
  simp only [B2_at]

/-- What the precondition says of the arguments. -/
structure Real (a : Args) : Prop where
  W : ∀ y, ∃ r : ℝ, a.W y = r
  Q : ∀ y, ∃ r : ℝ, a.Q y = r
  L : ∀ (k : Fin 5) (n : Fin 2048), ∃ r : ℝ, a.la k n = r
  X : ∀ (k : Fin 5) (d : Fin 16384), ∃ r : ℝ, 0 < r ∧ a.ird k d = r
  C : ∀ (k : Fin 5) (n : Fin 2048), ∃ r : ℝ, 0 < r ∧ a.irq k n = r
  S : ∀ d : Fin 16384, a.X (ix2 (0 : Fin 16) d) ≠ 0

/-- One pair: the kernel's operand of the second products is the reference's, and so is what it adds to the column sums. -/
theorem pair_eq (c : Dev nD) (hR : Real (argsOf m c)) (t : Fin cfg0.N) (k : Fin 5) (n : Fin 2048) (j : Fin 256) :
    (blkT m c t).h (svT m c t) k n (ln j) j = (argsOf m c).h n (dOf t j) k
      ∧ ∃ r v : ℝ, (blkT m c t).y (svT m c t) k n (ln j) j = r ∧ wInv (B1 m c t) k = v
        ∧ (argsOf m c).g k n (dOf t j) * (argsOf m c).cos k n (dOf t j) = ((r * v : ℝ) : EReal) := by
  obtain ⟨a, ha⟩ := accum_real (segs_real (argQ m c) (argD m c) n (dOf t j) hR.Q) k
  obtain ⟨x, hx0, hx⟩ := hR.X k (dOf t j)
  obtain ⟨q, hq0, hq⟩ := hR.C k n
  obtain ⟨w, hw⟩ := hR.W (ix1 k)
  obtain ⟨l, hl⟩ := hR.L k n
  obtain ⟨i, hi⟩ := inv_f32
  have eX : B3 m c t (ix2 (⟨1 + k.val, by omega⟩ : Fin 16) j) = x := (B3_at m c t _ j).trans hx
  have eC : B7 m c t (ix2 n (colQ k)) = q := (congrFun (B7_at m c t) _).trans hq
  have eL : B8 m c t (ix2 n (⟨k.val, by omega⟩ : Fin 128)) = l := (congrFun (B8_at m c t) _).trans hl
  have eW : wInv (B1 m c t) k = ((w * i : ℝ) : EReal) := by
    unfold wInv
    rw [B1_at, hi, EReal.coe_mul]
    exact congrArg (· * (i : EReal)) hw
  have eA : (blkT m c t).at (svT m c t) k n (ln j) j
      = accS (exR (argsOf m c).G (argsOf m c).GP (argsOf m c).P n (dOf t j)) (segs (argQ m c) (argD m c) n (dOf t j)) k * (x : EReal) := by
    unfold Blk.at
    rw [ex_eq, dot_eq]
    exact congrArg _ eX
  have eE : (blkT m c t).e (svT m c t) k n (ln j) j
      = eK (exR (argsOf m c).G (argsOf m c).GP (argsOf m c).P n (dOf t j)) (hotR (argsOf m c).P n (dOf t j))
        (accS (exR (argsOf m c).G (argsOf m c).GP (argsOf m c).P n (dOf t j)) (segs (argQ m c) (argD m c) n (dOf t j)) k * (x : EReal)) q l := by
    unfold Blk.e eK
    rw [eA, hot_eq, show (blkT m c t).cn (ix3 k n (ln j)) = (q : EReal) * Named.named (F := Ideal) (φ := .f32) κ "log2e_over_tau" 0x41E6D4CA#32 from
      congrArg (· * _) eC, show (blkT m c t).la (ix3 k n (ln j)) = (l : EReal) from eL, show (blkT m c t).irq (ix3 k n (ln j)) = (q : EReal) from eC]
  have eG : (argsOf m c).g k n (dOf t j) = gR (exR (argsOf m c).G (argsOf m c).GP (argsOf m c).P n (dOf t j)) (hotR (argsOf m c).P n (dOf t j)) w
      (accum (segs (argQ m c) (argD m c) n (dOf t j)) k * ((q : EReal) * (x : EReal))) q l := by
    unfold Args.g gR Args.cos
    rw [hq, hw, hl, show (argsOf m c).ird k (dOf t j) = (x : EReal) from hx]
    rfl
  have eCos : (argsOf m c).cos k n (dOf t j) = accum (segs (argQ m c) (argD m c) n (dOf t j)) k * ((q : EReal) * (x : EReal)) := by
    unfold Args.cos
    rw [hq, show (argsOf m c).ird k (dOf t j) = (x : EReal) from hx]
    rfl
  obtain ⟨er, yr, h1, h2, h3, h4⟩ := pair (exR (argsOf m c).G (argsOf m c).GP (argsOf m c).P n (dOf t j)) (hotR (argsOf m c).P n (dOf t j))
    (hot_not_ex _ _ _ n (dOf t j)) (segs (argQ m c) (argD m c) n (dOf t j)) k (w := w) (l := l) ha hx0 hq0 hi
  refine ⟨?_, yr, w * i, ?_, eW, ?_⟩
  · unfold Blk.h Args.h
    rw [eE, h1, eG, hq, show (argsOf m c).ird k (dOf t j) = (x : EReal) from hx, h3]
    show (er : EReal) * (B3 m c t (ix2 (⟨1 + k.val, by omega⟩ : Fin 16) j) * wInv (B1 m c t) k) = _
    rw [eX, eW, ← EReal.coe_mul, ← EReal.coe_mul]
  · unfold Blk.y
    rw [eE, eA, h2]
  · rw [eG, eCos, h4]

/-- A prefix's column sum, weighted and divided by the document's scaled norm. -/
theorem cs_eq (c : Dev nD) (hR : Real (argsOf m c)) (t : Fin cfg0.N) (k : Fin 5) (j : Fin 256) :
    csV (B1 m c t) (B3 m c t) (colS (blkT m c t) (svT m c t)) j k = (argsOf m c).cd (dOf t j) k := by
  unfold csV Args.cd
  rw [colS_sum, B3_at]
  refine congrArg (Ideal.div · _) ?_
  choose r v hr hv hg using fun n => (pair_eq m c hR t k n j).2
  simp only [hr, hg]
  have hv' : ∀ n, v n = v 0 := fun n => EReal.coe_injective ((hv n).symm.trans (hv 0))
  simp only [hv']
  rw [hv 0, sum_coe, sum_coe, ← EReal.coe_mul, Finset.sum_mul]

/-- The documents' gradient of a point is the reference's. -/
theorem ddB_eq (c : Dev nD) (hR : Real (argsOf m c)) (t : Fin cfg0.N) (j : Fin 256) (x : Fin 768) :
    ddB m c t (ix2 j x) = (argsOf m c).dd (dOf t j) x := by
  show ddC (B1 m c t) (codes (B2 m c t)) (B3 m c t) (colS (blkT m c t) (svT m c t)) (prodS (blkT m c t) (svT m c t) (B6 m c t)) x j = _
  unfold ddC Args.dd
  have hs := hR.S (dOf t j)
  have e1 : prodS (blkT m c t) (svT m c t) (B6 m c t) (ix2 x j)
      = ∑ n : Fin 2048, down ((argsOf m c).h n (dOf t j)) (sg x) * (argsOf m c).Q (ix2 n x) := by
    rw [prodS_sum]
    refine Finset.sum_congr rfl fun n _ => ?_
    rw [B6_at, mul_comm]
    refine congrArg₂ (· * ·) ?_ rfl
    unfold Blk.R
    exact congrArg (fun f => down f (sg x)) (funext fun k => (pair_eq m c hR t k n j).1)
  have e2 : csV (B1 m c t) (B3 m c t) (colS (blkT m c t) (svT m c t)) j = (argsOf m c).cd (dOf t j) := funext fun k => cs_eq m c hR t k j
  have e3 : B3 m c t (ix2 (0 : Fin 16) j) = (argsOf m c).X (ix2 (0 : Fin 16) (dOf t j)) := B3_at m c t 0 j
  have e4 : codes (B2 m c t) (ix2 j x) = codeF ((argsOf m c).D (ix2 (dOf t j) x)) := congrArg codeF (B2_at m c t j x)
  rw [e1, e2, e3, e4]
  unfold Ideal.div
  rw [if_neg hs, if_neg hs, one_mul]

end Cert.GradIdeal.Hand
end
-- ==== Proof.GradFinal.lean ====
/-
  The kernel's gradient pass from its launch: the arguments unchanged, and, under the precondition, the documents' gradient
  in its result.
-/
module

public import proofs.«01_k».proof.Proof.GradRun
public import proofs.«01_k».proof.Proof.GradEq
public import Idealize.ShloMosaic.Lib.Pipeline.ValueKit

@[expose] public section
set_option maxRecDepth 16384
noncomputable section
namespace Cert.GradIdeal.Hand
open Cert.GradIdeal Cert.GradIdeal.Gen
open Idealize.ShloMosaic Idealize.ShloMosaic.TcCoe Idealize.ShloMosaic.Tactic Idealize.ShloMosaic.Pipeline

variable (m : (ℓ : Loc nD τ sig) → Buf (Elt Ideal) ℓ) (ρ : Dev nD → PrngReg)

/-- The frame claim's post: the nine arguments at their launch contents, every counter at zero. -/
theorem frame :
    θ_run defs (onTc (τ := τ) (main (F := Ideal))) (s₀ m ρ) (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r (h : _ ∧ _) => ⟨fun c =>
    ⟨(h.1.arr_in (w := 0) (c := c) rfl).trans (V_main_arg0 m c),
      (h.1.arr_in (w := 1) (c := c) rfl).trans (V_main_arg1 m c),
      (h.1.arr_in (w := 2) (c := c) rfl).trans (V_main_arg2 m c),
      ((h.1 c).2 main_arg3 (Pipeline.mem_restRefs_of main_arg3 (by decide) (by decide))).trans (V_main_arg3 m c),
      (h.1.arr_in (w := 4) (c := c) rfl).trans (V_main_arg4 m c),
      (h.1.arr_in (w := 6) (c := c) rfl).trans (V_main_arg5 m c),
      (h.1.arr_in (w := 7) (c := c) rfl).trans (V_main_arg6 m c),
      ((h.1 c).2 main_arg7 (Pipeline.mem_restRefs_of main_arg7 (by decide) (by decide))).trans (V_main_arg7 m c),
      ((h.1 c).2 main_arg8 (Pipeline.mem_restRefs_of main_arg8 (by decide) (by decide))).trans (V_main_arg8 m c)⟩, h.2⟩)
    (run_main m ρ)

/-- The kernel's result: the documents' gradient as the reference computes it. -/
def ddA (c : Dev nD) : S16384x768.Idx → EReal := fun y => (argsOf m c).dd (y 0) (y 1)

/-- The result's array after the run. -/
theorem final10 (c : Dev nD) (hR : Real (argsOf m c)) : (dats m 0 c).arrAt 10 cfg0.N = ddA m c := by
  refine (dats m 0 c).arrAt_eq_of_covers 10 _ (by decide +kernel) fun t hf y => ?_
  blk_simp
  obtain ⟨j, x, rfl⟩ : ∃ (j : Fin 256) (x : Fin 768), y = ix2 j x := ⟨y 0, y 1, eq_ix2 y⟩
  refine (ddB_eq m c hR t j x).trans ?_
  refine congrArg (ddA m c) (a₁ := ix2 (dOf t j) x) ?_
  unfold dOf
  blk_ext [e10]

/-- What the kernel ends with. -/
theorem kernel_run (hR : ∀ c, Real (argsOf m c)) :
    θ_run defs (onTc (τ := τ) (main (F := Ideal))) ⟨m, fun _ => 0, ρ⟩ (fun r => ∀ c : Dev nD,
      r.2.mem ((c.tc : Thread nD τ).loc main_v6_0) = ddA m c) :=
  (θ_run defs _ _).mono (fun r (h : _ ∧ _) c =>
    (((dats m 0 c).toRForget_arrAt_iff (fgt := forgets0) (w := 10) rfl _ _).1 ((h.1 c).1 10)).trans (final10 m c (hR c))) (run_main m ρ)

end Cert.GradIdeal.Hand
end
-- ==== Proof.GradRefValue.lean ====
/-
  What the reference's body loads and stores, in terms of the arguments.
-/
module

public import proofs.«01_k».proof.Proof.GradArgs
public import proofs.«01_k».proof.Proof.RefValue
public import proofs.«01_k».proof.Proof.StatsBlock

@[expose] public section
set_option maxRecDepth 16384
noncomputable section
namespace Cert.GradReferenceIdeal.Hand
open Cert.GradReferenceIdeal Cert.GradReferenceIdeal.Gen
open Idealize.ShloMosaic Idealize.ShloMosaic.TcCoe Idealize.ShloMosaic.Tactic
open Cert.ReferenceIdeal.Hand (segs accum accum0 accum1 accum2 accum3 accum4 segs0 segs1 segs2 segs3 segs4 codeF hotR exR)
open Cert.GradIdeal.Hand (down sg sg_0' sg_1 sg_2 sg_3 sg_4 readAt_word)
open Cert.KernelIdeal.Hand (readAt_box2)

variable (a : Args)

/-- The vectors the body loads. -/
structure Loads where
  D : IVec S16384x768 8
  Q : FVec Ideal S2048x768 .bf16
  P : IVec S2048x1 32
  G : IVec S1x16384 32
  GP : IVec S2048x1 32
  q : Fin 5 → FVec Ideal S2048x1 .f32
  d : Fin 5 → FVec Ideal S1x16384 .f32
  la : Fin 5 → FVec Ideal S2048x1 .f32
  w : Fin 5 → EReal
  nd : Fin 5 → FVec Ideal S1x16384 .f32
  sd : FVec Ideal S1x16384 .f32

variable (l : Loads)

/-- The inner products over the prefixes. -/
def Loads.A0 := k0_pay5 (F := Ideal) l.D l.Q
def Loads.A1 := k0_pay12 (F := Ideal) (k0_pay2 l.D) l.Q l.A0
def Loads.A2 := k0_pay19 (F := Ideal) (k0_pay2 l.D) l.Q l.A1
def Loads.A3 := k0_pay26 (F := Ideal) (k0_pay2 l.D) l.Q l.A2
def Loads.A : Fin 5 → FVec Ideal S2048x16384 .f32 := ![l.A0, l.A1, l.A2, l.A3, A4V (k0_pay2 (F := Ideal) l.D) l.Q l.A3]

/-- The vectors made of them for prefix `k`. -/
def Loads.hot := k0_pay3 (F := Ideal) l.P
def Loads.ex := k0_pay4 (F := Ideal) l.P l.G l.GP
def Loads.c (k : Fin 5) := cosV (l.A k) (l.q k) (l.d k)
def Loads.H (k : Fin 5) := k0_pay10 (F := Ideal) l.hot (l.q k) (pV l.ex (l.c k)) (l.w k) (k0_pay8 (l.q k) (l.la k)) (l.d k)
def Loads.Cd (k : Fin 5) := k0_pay11 (F := Ideal) l.hot (l.c k) (pV l.ex (l.c k)) (l.w k) (k0_pay8 (l.q k) (l.la k)) (l.nd k)

/-- What the loads hold of the arguments. -/
structure Loads.Of (l : Loads) (a : Args) : Prop where
  D : l.D = a.D
  Q : l.Q = a.Q
  P : ∀ n, l.P (ix2 n 0) = a.P n
  G : ∀ m, l.G (ix2 0 m) = a.G m
  GP : ∀ n, l.GP (ix2 n 0) = a.GP n
  q : ∀ k n, l.q k (ix2 n 0) = a.irq k n
  d : ∀ k m, l.d k (ix2 0 m) = a.ird k m
  la : ∀ k n, l.la k (ix2 n 0) = a.la k n
  w : ∀ k, l.w k = a.W (ix1 k)
  nd : ∀ k m, l.nd k (ix2 0 m) = a.nd k m
  sd : ∀ m, l.sd (ix2 0 m) = a.X (ix2 (0 : Fin 16) m)

variable {l a} (o : l.Of a)
include o

theorem A0_of (n m) : l.A0 (ix2 n m) = accum (segs a.Q a.D n m) 0 := by
  unfold Loads.A0
  rw [A0_at, o.D, o.Q, accum0, segs0]
theorem A1_of (n m) : l.A1 (ix2 n m) = accum (segs a.Q a.D n m) 1 := by
  unfold Loads.A1
  rw [A1_at, A0_of o, o.D, o.Q, accum1, segs1]
theorem A2_of (n m) : l.A2 (ix2 n m) = accum (segs a.Q a.D n m) 2 := by
  unfold Loads.A2
  rw [A2_at, A1_of o, o.D, o.Q, accum2, segs2]
theorem A3_of (n m) : l.A3 (ix2 n m) = accum (segs a.Q a.D n m) 3 := by
  unfold Loads.A3
  rw [A3_at, A2_of o, o.D, o.Q, accum3, segs3]
/-- The inner product of prefix `k`. -/
theorem A_of (k : Fin 5) (n m) : l.A k (ix2 n m) = accum (segs a.Q a.D n m) k := by
  match k with
  | 0 => exact A0_of o n m
  | 1 => exact A1_of o n m
  | 2 => exact A2_of o n m
  | 3 => exact A3_of o n m
  | 4 =>
    refine (A4_at l.D l.Q l.A3 n m).trans ?_
    rw [A3_of o, o.D, o.Q, accum4, segs4]

theorem hot_of (n m) : l.hot (ix2 n m) = hotR a.P n m := by
  unfold Loads.hot hotR
  rw [hot_at, o.P]
theorem ex_of (n m) : l.ex (ix2 n m) = exR a.G a.GP a.P n m := by
  unfold Loads.ex exR hotR
  rw [ex_at, hot_at, o.P, o.G, o.GP]
theorem c_of (k n m) : l.c k (ix2 n m) = a.cos k n m := by
  unfold Loads.c Args.cos
  rw [cosV_at, A_of o, o.q, o.d]
theorem g_of (k n m) : k0_pay9 (F := Ideal) l.hot (pV l.ex (l.c k)) (l.w k) (k0_pay8 (l.q k) (l.la k)) (ix2 n m) = a.g k n m := by
  unfold Args.g
  rw [g_at, pV_at, den_at, c_of o, hot_of o, ex_of o, o.q, o.la, o.w]
theorem H_of (k n m) : l.H k (ix2 n m) = a.h n m k := by
  unfold Loads.H Args.h
  rw [h_at, g_of o, o.q, o.d]
theorem Cd_of (k m) : l.Cd k (ix2 0 m) = a.cd m k := by
  unfold Loads.Cd Args.cd
  rw [cd_at, o.nd]
  simp only [g_of o, c_of o]

/-- An entry of the result from the sums of the prefixes that hold its column. -/
theorem cell_of {R : S2048x16384.Idx → EReal} {Cd : S1x16384.Idx → EReal} (m : Fin 16384) (x : Fin 768) (s : Fin 5) (hs : sg x = s)
    (hR : ∀ n, R (ix2 n m) = down (a.h n m) s) (hC : Cd (ix2 0 m) = down (a.cd m) s) :
    cell R Cd l.sd l.D l.Q m x = a.dd m x := by
  unfold cell Args.dd
  rw [hs, o.sd, hC, o.D, o.Q]
  simp only [hR]
  rfl

omit o

/-- The vectors the body loads from its memrefs. -/
def ldsOf (c : Dev nD) (arg0 : Memref sig .tc .smem S5 .f32) (harg0 : arg0.IsWhole) (arg1 : Memref sig .tc .vmem S16384x768 .i8) (harg1 : arg1.IsWhole) (arg2 : Memref sig .tc .vmem S16x16384 .f32) (harg2 : arg2.IsWhole) (arg3 : Memref sig .tc .vmem S1x16384 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .i32) (harg7 : arg7.IsWhole) (arg8 : Memref sig .tc .vmem S2048x1 .i32) (harg8 : arg8.IsWhole) (arg9 : Memref sig .tc .vmem S16384x768 .bf16) (harg9 : arg9.IsWhole)
    (x0 : Vec Ideal S5 .f32) (x1 : Vec Ideal S16384x768 .i8) (x2 : Vec Ideal S16x16384 .f32) (x3 : Vec Ideal S1x16384 .i32) (x4 : Vec Ideal S2048x768 .bf16) (x5 : Vec Ideal S2048x128 .f32) (x6 : Vec Ideal S2048x128 .f32) (x7 : Vec Ideal S2048x1 .i32) (x8 : Vec Ideal S2048x1 .i32) : Loads where
  D := (View.readAt (Elt Ideal) arg1.view (Rect.unit (s := S16384x768) ![0, 0] S16384x768.size inb_S16384x768_S16384x768_0_0).toLoadRect (harg1.unread x1))
  Q := (View.readAt (Elt Ideal) arg4.view (Rect.unit (s := S2048x768) ![0, 0] S2048x768.size inb_S2048x768_S2048x768_0_0).toLoadRect (harg4.unread x4))
  P := (View.readAt (Elt Ideal) arg8.view (Rect.unit (s := S2048x1) ![0, 0] S2048x1.size inb_S2048x1_S2048x1_0_0).toLoadRect (harg8.unread x8))
  G := (View.readAt (Elt Ideal) arg3.view (Rect.unit (s := S1x16384) ![0, 0] S1x16384.size inb_S1x16384_S1x16384_0_0).toLoadRect (harg3.unread x3))
  GP := (View.readAt (Elt Ideal) arg7.view (Rect.unit (s := S2048x1) ![0, 0] S2048x1.size inb_S2048x1_S2048x1_0_0).toLoadRect (harg7.unread x7))
  q := ![(View.readAt (Elt Ideal) arg5.view (Rect.unit (s := S2048x128) ![0, 1] S2048x1.size inb_S2048x128_S2048x1_0_1).toLoadRect (harg5.unread x5)),
    (View.readAt (Elt Ideal) arg5.view (Rect.unit (s := S2048x128) ![0, 2] S2048x1.size inb_S2048x128_S2048x1_0_2).toLoadRect (harg5.unread x5)),
    (View.readAt (Elt Ideal) arg5.view (Rect.unit (s := S2048x128) ![0, 3] S2048x1.size inb_S2048x128_S2048x1_0_3).toLoadRect (harg5.unread x5)),
    (View.readAt (Elt Ideal) arg5.view (Rect.unit (s := S2048x128) ![0, 4] S2048x1.size inb_S2048x128_S2048x1_0_4).toLoadRect (harg5.unread x5)),
    (View.readAt (Elt Ideal) arg5.view (Rect.unit (s := S2048x128) ![0, 5] S2048x1.size inb_S2048x128_S2048x1_0_5).toLoadRect (harg5.unread x5))]
  d := ![(View.readAt (Elt Ideal) arg2.view (Rect.unit (s := S16x16384) ![1, 0] S1x16384.size inb_S16x16384_S1x16384_1_0).toLoadRect (harg2.unread x2)),
    (View.readAt (Elt Ideal) arg2.view (Rect.unit (s := S16x16384) ![2, 0] S1x16384.size inb_S16x16384_S1x16384_2_0).toLoadRect (harg2.unread x2)),
    (View.readAt (Elt Ideal) arg2.view (Rect.unit (s := S16x16384) ![3, 0] S1x16384.size inb_S16x16384_S1x16384_3_0).toLoadRect (harg2.unread x2)),
    (View.readAt (Elt Ideal) arg2.view (Rect.unit (s := S16x16384) ![4, 0] S1x16384.size inb_S16x16384_S1x16384_4_0).toLoadRect (harg2.unread x2)),
    (View.readAt (Elt Ideal) arg2.view (Rect.unit (s := S16x16384) ![5, 0] S1x16384.size inb_S16x16384_S1x16384_5_0).toLoadRect (harg2.unread x2))]
  la := ![(View.readAt (Elt Ideal) arg6.view (Rect.unit (s := S2048x128) ![0, 0] S2048x1.size inb_S2048x128_S2048x1_0_0).toLoadRect (harg6.unread x6)),
    (View.readAt (Elt Ideal) arg6.view (Rect.unit (s := S2048x128) ![0, 1] S2048x1.size inb_S2048x128_S2048x1_0_1).toLoadRect (harg6.unread x6)),
    (View.readAt (Elt Ideal) arg6.view (Rect.unit (s := S2048x128) ![0, 2] S2048x1.size inb_S2048x128_S2048x1_0_2).toLoadRect (harg6.unread x6)),
    (View.readAt (Elt Ideal) arg6.view (Rect.unit (s := S2048x128) ![0, 3] S2048x1.size inb_S2048x128_S2048x1_0_3).toLoadRect (harg6.unread x6)),
    (View.readAt (Elt Ideal) arg6.view (Rect.unit (s := S2048x128) ![0, 4] S2048x1.size inb_S2048x128_S2048x1_0_4).toLoadRect (harg6.unread x6))]
  w := ![(View.readAt (Elt Ideal) arg0.view (Rect.unit (s := S5) ![0] S1.size inb_S5_S1_0).toLoadRect (harg0.unread x0) (Shape.Idx.first (show 0 < S1.numel by decide))),
    (View.readAt (Elt Ideal) arg0.view (Rect.unit (s := S5) ![1] S1.size inb_S5_S1_1).toLoadRect (harg0.unread x0) (Shape.Idx.first (show 0 < S1.numel by decide))),
    (View.readAt (Elt Ideal) arg0.view (Rect.unit (s := S5) ![2] S1.size inb_S5_S1_2).toLoadRect (harg0.unread x0) (Shape.Idx.first (show 0 < S1.numel by decide))),
    (View.readAt (Elt Ideal) arg0.view (Rect.unit (s := S5) ![3] S1.size inb_S5_S1_3).toLoadRect (harg0.unread x0) (Shape.Idx.first (show 0 < S1.numel by decide))),
    (View.readAt (Elt Ideal) arg0.view (Rect.unit (s := S5) ![4] S1.size inb_S5_S1_4).toLoadRect (harg0.unread x0) (Shape.Idx.first (show 0 < S1.numel by decide)))]
  nd := ![(View.readAt (Elt Ideal) arg2.view (Rect.unit (s := S16x16384) ![6, 0] S1x16384.size inb_S16x16384_S1x16384_6_0).toLoadRect (harg2.unread x2)),
    (View.readAt (Elt Ideal) arg2.view (Rect.unit (s := S16x16384) ![7, 0] S1x16384.size inb_S16x16384_S1x16384_7_0).toLoadRect (harg2.unread x2)),
    (View.readAt (Elt Ideal) arg2.view (Rect.unit (s := S16x16384) ![8, 0] S1x16384.size inb_S16x16384_S1x16384_8_0).toLoadRect (harg2.unread x2)),
    (View.readAt (Elt Ideal) arg2.view (Rect.unit (s := S16x16384) ![9, 0] S1x16384.size inb_S16x16384_S1x16384_9_0).toLoadRect (harg2.unread x2)),
    (View.readAt (Elt Ideal) arg2.view (Rect.unit (s := S16x16384) ![10, 0] S1x16384.size inb_S16x16384_S1x16384_10_0).toLoadRect (harg2.unread x2))]
  sd := (View.readAt (Elt Ideal) arg2.view (Rect.unit (s := S16x16384) ![0, 0] S1x16384.size inb_S16x16384_S1x16384_0_0).toLoadRect (harg2.unread x2))

/-- The five stores of the body. -/
def storesOf (l : Loads) : List (View.Piece (Elt Ideal) S16384x768 .bf16) :=
  let r3 := addf (l.H 4) (l.H 3)
  let c3 := addf (l.Cd 4) (l.Cd 3)
  [⟨Rect.unit (s := S16384x768) ![0, 0] S16384x64.size inb_S16384x768_S16384x64_0_0,
      k0_pay1 l.sd (k0_pay50 l.D l.Q (l.H 0) (l.Cd 0) (l.H 1) (l.Cd 1) (l.H 2) (l.Cd 2) r3 c3)⟩,
    ⟨Rect.unit (s := S16384x768) ![0, 64] S16384x64.size inb_S16384x768_S16384x64_0_64,
      k0_pay49 l.D l.Q (l.H 1) (l.Cd 1) (l.H 2) (l.Cd 2) l.sd r3 c3⟩,
    ⟨Rect.unit (s := S16384x768) ![0, 128] S16384x128.size inb_S16384x768_S16384x128_0_128,
      k0_pay46 l.D l.Q (l.H 2) (l.Cd 2) l.sd r3 c3⟩,
    ⟨Rect.unit (s := S16384x768) ![0, 256] S16384x256.size inb_S16384x768_S16384x256_0_256,
      k0_pay43 l.sd (k0_pay42 l.D l.Q l.hot (l.H 3) (l.Cd 3) (l.q 4) (l.c 4) (pV l.ex (l.c 4)) (l.w 4) (k0_pay8 (l.q 4) (l.la 4)) (l.d 4) (l.nd 4))⟩,
    ⟨Rect.unit (s := S16384x768) ![0, 512] S16384x256.size inb_S16384x768_S16384x256_0_512,
      k0_pay39 l.D l.Q l.hot (l.q 4) (l.c 4) (pV l.ex (l.c 4)) (l.w 4) (k0_pay8 (l.q 4) (l.la 4)) (l.d 4) (l.nd 4) l.sd⟩]

set_option maxHeartbeats 4000000 in
/-- The body's stores are these, on what it loads. -/
theorem stores_eq (c : Dev nD) (arg0 : Memref sig .tc .smem S5 .f32) (harg0 : arg0.IsWhole) (arg1 : Memref sig .tc .vmem S16384x768 .i8) (harg1 : arg1.IsWhole) (arg2 : Memref sig .tc .vmem S16x16384 .f32) (harg2 : arg2.IsWhole) (arg3 : Memref sig .tc .vmem S1x16384 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .i32) (harg7 : arg7.IsWhole) (arg8 : Memref sig .tc .vmem S2048x1 .i32) (harg8 : arg8.IsWhole) (arg9 : Memref sig .tc .vmem S16384x768 .bf16) (harg9 : arg9.IsWhole)
    (x0 : Vec Ideal S5 .f32) (x1 : Vec Ideal S16384x768 .i8) (x2 : Vec Ideal S16x16384 .f32) (x3 : Vec Ideal S1x16384 .i32) (x4 : Vec Ideal S2048x768 .bf16) (x5 : Vec Ideal S2048x128 .f32) (x6 : Vec Ideal S2048x128 .f32) (x7 : Vec Ideal S2048x1 .i32) (x8 : Vec Ideal S2048x1 .i32) :
    (kernelRun0_A (F := Ideal) c arg0 harg0 arg1 harg1 arg2 harg2 arg3 harg3 arg4 harg4 arg5 harg5 arg6 harg6 arg7 harg7 arg8 harg8 arg9 harg9 x0 x1 x2 x3 x4 x5 x6 x7 x8).1 = storesOf (ldsOf c arg0 harg0 arg1 harg1 arg2 harg2 arg3 harg3 arg4 harg4 arg5 harg5 arg6 harg6 arg7 harg7 arg8 harg8 arg9 harg9 x0 x1 x2 x3 x4 x5 x6 x7 x8) := by
  unfold kernelRun0_A
  dsimp only
  rfl

/-- Every store holds the documents' gradient at its place. -/
theorem stores_at {l : Loads} {a : Args} (o : l.Of a) : ∀ pc ∈ storesOf l, ∀ x, pc.2 x = (fun y : S16384x768.Idx => a.dd (y 0) (y 1)) (pc.1.emb x) := by
  unfold storesOf
  simp only [List.forall_mem_cons, List.not_mem_nil, false_imp_iff, implies_true, and_true]
  refine ⟨fun x => ?_, fun x => ?_, fun x => ?_, fun x => ?_, fun x => ?_⟩
  · obtain ⟨m, x, rfl⟩ : ∃ (m : Fin 16384) (j : Fin 64), x = ix2 m j := ⟨x 0, x 1, eq_ix2 x⟩
    rw [show (Rect.unit (s := S16384x768) ![0, 0] S16384x64.size inb_S16384x768_S16384x64_0_0).emb (ix2 m x) = ix2 m (⟨x.val, by omega⟩ : Fin 768) from
      show (Rect.unit (s := S16384x768) ![0, 0] S16384x64.size inb_S16384x768_S16384x64_0_0).idx (ix2 m x) = _ by pointwise]
    refine (out0_at _ _ _ _ _ _ _ _ _ _ _ m x).trans (cell_of o m _ 0 (sg_0' _ _) (fun n => ?_) ?_)
    · exact congrArg₂ (· + ·) (congrArg₂ (· + ·) (congrArg₂ (· + ·) (congrArg₂ (· + ·) (H_of o 4 n m) (H_of o 3 n m)) (H_of o 2 n m)) (H_of o 1 n m)) (H_of o 0 n m)
    · exact congrArg₂ (· + ·) (congrArg₂ (· + ·) (congrArg₂ (· + ·) (congrArg₂ (· + ·) (Cd_of o 4 m) (Cd_of o 3 m)) (Cd_of o 2 m)) (Cd_of o 1 m)) (Cd_of o 0 m)
  · obtain ⟨m, x, rfl⟩ : ∃ (m : Fin 16384) (j : Fin 64), x = ix2 m j := ⟨x 0, x 1, eq_ix2 x⟩
    rw [show (Rect.unit (s := S16384x768) ![0, 64] S16384x64.size inb_S16384x768_S16384x64_0_64).emb (ix2 m x) = ix2 m (⟨64 + x.val, by omega⟩ : Fin 768) from
      show (Rect.unit (s := S16384x768) ![0, 64] S16384x64.size inb_S16384x768_S16384x64_0_64).idx (ix2 m x) = _ by pointwise]
    refine (out1_at _ _ _ _ _ _ _ _ _ m x).trans (cell_of o m _ 1 (sg_1 _ _) (fun n => ?_) ?_)
    · exact congrArg₂ (· + ·) (congrArg₂ (· + ·) (congrArg₂ (· + ·) (H_of o 4 n m) (H_of o 3 n m)) (H_of o 2 n m)) (H_of o 1 n m)
    · exact congrArg₂ (· + ·) (congrArg₂ (· + ·) (congrArg₂ (· + ·) (Cd_of o 4 m) (Cd_of o 3 m)) (Cd_of o 2 m)) (Cd_of o 1 m)
  · obtain ⟨m, x, rfl⟩ : ∃ (m : Fin 16384) (j : Fin 128), x = ix2 m j := ⟨x 0, x 1, eq_ix2 x⟩
    rw [show (Rect.unit (s := S16384x768) ![0, 128] S16384x128.size inb_S16384x768_S16384x128_0_128).emb (ix2 m x) = ix2 m (⟨128 + x.val, by omega⟩ : Fin 768) from
      show (Rect.unit (s := S16384x768) ![0, 128] S16384x128.size inb_S16384x768_S16384x128_0_128).idx (ix2 m x) = _ by pointwise]
    refine (out2_at _ _ _ _ _ _ _ m x).trans (cell_of o m _ 2 (sg_2 _ _) (fun n => ?_) ?_)
    · exact congrArg₂ (· + ·) (congrArg₂ (· + ·) (H_of o 4 n m) (H_of o 3 n m)) (H_of o 2 n m)
    · exact congrArg₂ (· + ·) (congrArg₂ (· + ·) (Cd_of o 4 m) (Cd_of o 3 m)) (Cd_of o 2 m)
  · obtain ⟨m, x, rfl⟩ : ∃ (m : Fin 16384) (j : Fin 256), x = ix2 m j := ⟨x 0, x 1, eq_ix2 x⟩
    rw [show (Rect.unit (s := S16384x768) ![0, 256] S16384x256.size inb_S16384x768_S16384x256_0_256).emb (ix2 m x) = ix2 m (⟨256 + x.val, by omega⟩ : Fin 768) from
      show (Rect.unit (s := S16384x768) ![0, 256] S16384x256.size inb_S16384x768_S16384x256_0_256).idx (ix2 m x) = _ by pointwise]
    refine (out3_at _ _ _ _ _ _ _ _ _ _ _ _ _ m x).trans (cell_of o m _ 3 (sg_3 _ _) (fun n => ?_) ?_)
    · exact congrArg₂ (· + ·) (H_of o 4 n m) (H_of o 3 n m)
    · exact congrArg₂ (· + ·) (Cd_of o 4 m) (Cd_of o 3 m)
  · obtain ⟨m, x, rfl⟩ : ∃ (m : Fin 16384) (j : Fin 256), x = ix2 m j := ⟨x 0, x 1, eq_ix2 x⟩
    rw [show (Rect.unit (s := S16384x768) ![0, 512] S16384x256.size inb_S16384x768_S16384x256_0_512).emb (ix2 m x) = ix2 m (⟨512 + x.val, by omega⟩ : Fin 768) from
      show (Rect.unit (s := S16384x768) ![0, 512] S16384x256.size inb_S16384x768_S16384x256_0_512).idx (ix2 m x) = _ by pointwise]
    refine (out4_at _ _ _ _ _ _ _ _ _ _ _ m x).trans (cell_of o m _ 4 (sg_4 _ _) (fun n => ?_) ?_)
    · exact H_of o 4 n m
    · exact Cd_of o 4 m

set_option maxHeartbeats 4000000 in
/-- What the body's loads hold of the blocks. -/
theorem lds_of (c : Dev nD) (arg0 : Memref sig .tc .smem S5 .f32) (harg0 : arg0.IsWhole) (arg1 : Memref sig .tc .vmem S16384x768 .i8) (harg1 : arg1.IsWhole) (arg2 : Memref sig .tc .vmem S16x16384 .f32) (harg2 : arg2.IsWhole) (arg3 : Memref sig .tc .vmem S1x16384 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .i32) (harg7 : arg7.IsWhole) (arg8 : Memref sig .tc .vmem S2048x1 .i32) (harg8 : arg8.IsWhole) (arg9 : Memref sig .tc .vmem S16384x768 .bf16) (harg9 : arg9.IsWhole)
    (x0 : Vec Ideal S5 .f32) (x1 : Vec Ideal S16384x768 .i8) (x2 : Vec Ideal S16x16384 .f32) (x3 : Vec Ideal S1x16384 .i32) (x4 : Vec Ideal S2048x768 .bf16) (x5 : Vec Ideal S2048x128 .f32) (x6 : Vec Ideal S2048x128 .f32) (x7 : Vec Ideal S2048x1 .i32) (x8 : Vec Ideal S2048x1 .i32) :
    (ldsOf c arg0 harg0 arg1 harg1 arg2 harg2 arg3 harg3 arg4 harg4 arg5 harg5 arg6 harg6 arg7 harg7 arg8 harg8 arg9 harg9 x0 x1 x2 x3 x4 x5 x6 x7 x8).Of ⟨x0, x1, x2, fun m => x3 (ix2 0 m), x4, x5, x6, fun n => x7 (ix2 n 0), fun n => x8 (ix2 n 0)⟩ where
  D := funext fun y => by
    obtain ⟨m, x, rfl⟩ : ∃ (m : Fin 16384) (j : Fin 768), y = ix2 m j := ⟨y 0, y 1, eq_ix2 y⟩
    unfold ldsOf
    simp only [readAt_box2 _ _ _ _ rfl, harg1.read_unread, Nat.zero_add]
  Q := funext fun y => by
    obtain ⟨m, x, rfl⟩ : ∃ (m : Fin 2048) (j : Fin 768), y = ix2 m j := ⟨y 0, y 1, eq_ix2 y⟩
    unfold ldsOf
    simp only [readAt_box2 _ _ _ _ rfl, harg4.read_unread, Nat.zero_add]
  P n := by
    unfold ldsOf
    simp only [readAt_box2 _ _ _ _ rfl, harg8.read_unread, Nat.zero_add]
  G m := by
    unfold ldsOf
    simp only [readAt_box2 _ _ _ _ rfl, harg3.read_unread, Nat.zero_add]
  GP n := by
    unfold ldsOf
    simp only [readAt_box2 _ _ _ _ rfl, harg7.read_unread, Nat.zero_add]
  q k n := by
    match k with
    | 0 =>
      show View.readAt (Elt Ideal) arg5.view _ _ _ = _
      exact (readAt_box2 _ _ _ _ rfl _ _ _).trans ((congrFun (harg5.read_unread x5) _).trans (congrArg x5 (by pointwise)))
    | 1 =>
      show View.readAt (Elt Ideal) arg5.view _ _ _ = _
      exact (readAt_box2 _ _ _ _ rfl _ _ _).trans ((congrFun (harg5.read_unread x5) _).trans (congrArg x5 (by pointwise)))
    | 2 =>
      show View.readAt (Elt Ideal) arg5.view _ _ _ = _
      exact (readAt_box2 _ _ _ _ rfl _ _ _).trans ((congrFun (harg5.read_unread x5) _).trans (congrArg x5 (by pointwise)))
    | 3 =>
      show View.readAt (Elt Ideal) arg5.view _ _ _ = _
      exact (readAt_box2 _ _ _ _ rfl _ _ _).trans ((congrFun (harg5.read_unread x5) _).trans (congrArg x5 (by pointwise)))
    | 4 =>
      show View.readAt (Elt Ideal) arg5.view _ _ _ = _
      exact (readAt_box2 _ _ _ _ rfl _ _ _).trans ((congrFun (harg5.read_unread x5) _).trans (congrArg x5 (by pointwise)))
  d k m := by
    match k with
    | 0 =>
      show View.readAt (Elt Ideal) arg2.view _ _ _ = _
      exact (readAt_box2 _ _ _ _ rfl _ _ _).trans ((congrFun (harg2.read_unread x2) _).trans (congrArg x2 (by pointwise)))
    | 1 =>
      show View.readAt (Elt Ideal) arg2.view _ _ _ = _
      exact (readAt_box2 _ _ _ _ rfl _ _ _).trans ((congrFun (harg2.read_unread x2) _).trans (congrArg x2 (by pointwise)))
    | 2 =>
      show View.readAt (Elt Ideal) arg2.view _ _ _ = _
      exact (readAt_box2 _ _ _ _ rfl _ _ _).trans ((congrFun (harg2.read_unread x2) _).trans (congrArg x2 (by pointwise)))
    | 3 =>
      show View.readAt (Elt Ideal) arg2.view _ _ _ = _
      exact (readAt_box2 _ _ _ _ rfl _ _ _).trans ((congrFun (harg2.read_unread x2) _).trans (congrArg x2 (by pointwise)))
    | 4 =>
      show View.readAt (Elt Ideal) arg2.view _ _ _ = _
      exact (readAt_box2 _ _ _ _ rfl _ _ _).trans ((congrFun (harg2.read_unread x2) _).trans (congrArg x2 (by pointwise)))
  la k n := by
    match k with
    | 0 =>
      show View.readAt (Elt Ideal) arg6.view _ _ _ = _
      exact (readAt_box2 _ _ _ _ rfl _ _ _).trans ((congrFun (harg6.read_unread x6) _).trans (congrArg x6 (by pointwise)))
    | 1 =>
      show View.readAt (Elt Ideal) arg6.view _ _ _ = _
      exact (readAt_box2 _ _ _ _ rfl _ _ _).trans ((congrFun (harg6.read_unread x6) _).trans (congrArg x6 (by pointwise)))
    | 2 =>
      show View.readAt (Elt Ideal) arg6.view _ _ _ = _
      exact (readAt_box2 _ _ _ _ rfl _ _ _).trans ((congrFun (harg6.read_unread x6) _).trans (congrArg x6 (by pointwise)))
    | 3 =>
      show View.readAt (Elt Ideal) arg6.view _ _ _ = _
      exact (readAt_box2 _ _ _ _ rfl _ _ _).trans ((congrFun (harg6.read_unread x6) _).trans (congrArg x6 (by pointwise)))
    | 4 =>
      show View.readAt (Elt Ideal) arg6.view _ _ _ = _
      exact (readAt_box2 _ _ _ _ rfl _ _ _).trans ((congrFun (harg6.read_unread x6) _).trans (congrArg x6 (by pointwise)))
  nd k m := by
    match k with
    | 0 =>
      show View.readAt (Elt Ideal) arg2.view _ _ _ = _
      exact (readAt_box2 _ _ _ _ rfl _ _ _).trans ((congrFun (harg2.read_unread x2) _).trans (congrArg x2 (by pointwise)))
    | 1 =>
      show View.readAt (Elt Ideal) arg2.view _ _ _ = _
      exact (readAt_box2 _ _ _ _ rfl _ _ _).trans ((congrFun (harg2.read_unread x2) _).trans (congrArg x2 (by pointwise)))
    | 2 =>
      show View.readAt (Elt Ideal) arg2.view _ _ _ = _
      exact (readAt_box2 _ _ _ _ rfl _ _ _).trans ((congrFun (harg2.read_unread x2) _).trans (congrArg x2 (by pointwise)))
    | 3 =>
      show View.readAt (Elt Ideal) arg2.view _ _ _ = _
      exact (readAt_box2 _ _ _ _ rfl _ _ _).trans ((congrFun (harg2.read_unread x2) _).trans (congrArg x2 (by pointwise)))
    | 4 =>
      show View.readAt (Elt Ideal) arg2.view _ _ _ = _
      exact (readAt_box2 _ _ _ _ rfl _ _ _).trans ((congrFun (harg2.read_unread x2) _).trans (congrArg x2 (by pointwise)))
  w k := by
    match k with
    | 0 => exact (readAt_word _ _ _ rfl _ _).trans (congrFun (harg0.read_unread x0) _)
    | 1 => exact (readAt_word _ _ _ rfl _ _).trans (congrFun (harg0.read_unread x0) _)
    | 2 => exact (readAt_word _ _ _ rfl _ _).trans (congrFun (harg0.read_unread x0) _)
    | 3 => exact (readAt_word _ _ _ rfl _ _).trans (congrFun (harg0.read_unread x0) _)
    | 4 => exact (readAt_word _ _ _ rfl _ _).trans (congrFun (harg0.read_unread x0) _)
  sd m := (readAt_box2 _ _ _ _ rfl _ _ _).trans ((congrFun (harg2.read_unread x2) _).trans (congrArg x2 (by pointwise)))

end Cert.GradReferenceIdeal.Hand
end
-- ==== Proof.GradRefOut.lean ====
/-
  What the reference's body leaves in its block: the documents' gradient.
-/
module

public import proofs.«01_k».proof.Proof.GradRefValue
public import proofs.«01_k».proof.Proof.RefValue
public import proofs.«01_k».proof.Proof.StatsBlock

@[expose] public section
set_option maxRecDepth 16384
noncomputable section
namespace Cert.GradReferenceIdeal.Hand
open Cert.GradReferenceIdeal Cert.GradReferenceIdeal.Gen
open Idealize.ShloMosaic Idealize.ShloMosaic.TcCoe Idealize.ShloMosaic.Tactic
open Cert.ReferenceIdeal.Hand (segs accum accum0 accum1 accum2 accum3 accum4 segs0 segs1 segs2 segs3 segs4 codeF hotR exR)
open Cert.GradIdeal.Hand (down sg sg_0' sg_1 sg_2 sg_3 sg_4 readAt_word)
open Cert.KernelIdeal.Hand (readAt_box2)

/-- What the reference's body leaves in its block. -/
theorem out_at (c : Dev nD) (arg0 : Memref sig .tc .smem S5 .f32) (harg0 : arg0.IsWhole) (arg1 : Memref sig .tc .vmem S16384x768 .i8) (harg1 : arg1.IsWhole) (arg2 : Memref sig .tc .vmem S16x16384 .f32) (harg2 : arg2.IsWhole) (arg3 : Memref sig .tc .vmem S1x16384 .i32) (harg3 : arg3.IsWhole) (arg4 : Memref sig .tc .vmem S2048x768 .bf16) (harg4 : arg4.IsWhole) (arg5 : Memref sig .tc .vmem S2048x128 .f32) (harg5 : arg5.IsWhole) (arg6 : Memref sig .tc .vmem S2048x128 .f32) (harg6 : arg6.IsWhole) (arg7 : Memref sig .tc .vmem S2048x1 .i32) (harg7 : arg7.IsWhole) (arg8 : Memref sig .tc .vmem S2048x1 .i32) (harg8 : arg8.IsWhole) (arg9 : Memref sig .tc .vmem S16384x768 .bf16) (harg9 : arg9.IsWhole)
    (x0 : Vec Ideal S5 .f32) (x1 : Vec Ideal S16384x768 .i8) (x2 : Vec Ideal S16x16384 .f32) (x3 : Vec Ideal S1x16384 .i32) (x4 : Vec Ideal S2048x768 .bf16) (x5 : Vec Ideal S2048x128 .f32) (x6 : Vec Ideal S2048x128 .f32) (x7 : Vec Ideal S2048x1 .i32) (x8 : Vec Ideal S2048x1 .i32) :
    out0_A_9 (F := Ideal) c arg0 harg0 arg1 harg1 arg2 harg2 arg3 harg3 arg4 harg4 arg5 harg5 arg6 harg6 arg7 harg7 arg8 harg8 arg9 harg9 x0 x1 x2 x3 x4 x5 x6 x7 x8
      = fun y => Args.dd ⟨x0, x1, x2, fun m => x3 (ix2 0 m), x4, x5, x6, fun n => x7 (ix2 n 0), fun n => x8 (ix2 n 0)⟩ (y 0) (y 1) := by
  funext y
  unfold out0_A_9
  have cov := cover0_A_9 (F := Ideal) c arg0 harg0 arg1 harg1 arg2 harg2 arg3 harg3 arg4 harg4 arg5 harg5 arg6 harg6 arg7 harg7 arg8 harg8 arg9 harg9 x0 x1 x2 x3 x4 x5 x6 x7 x8 y
  rw [stores_eq] at cov ⊢
  exact View.read_writes_apply_of_pieces _ _ (fun y : S16384x768.Idx => Args.dd ⟨x0, x1, x2, fun m => x3 (ix2 0 m), x4, x5, x6, fun n => x7 (ix2 n 0), fun n => x8 (ix2 n 0)⟩ (y 0) (y 1)) _ (stores_at (lds_of c arg0 harg0 arg1 harg1 arg2 harg2 arg3 harg3 arg4 harg4 arg5 harg5 arg6 harg6 arg7 harg7 arg8 harg8 arg9 harg9 x0 x1 x2 x3 x4 x5 x6 x7 x8)) y cov

end Cert.GradReferenceIdeal.Hand
end
-- ==== Proof.GradRefRun.lean ====
/-
  The reference's result on the memory it starts from: the documents' gradient of GradArgs on the nine arguments.
-/
module

public import proofs.«01_k».proof.Proof.GradRefOut
public import Idealize.ShloMosaic.Lib.Pipeline.ValueKit
public import Idealize.ShloMosaic.Lib.Claim
public import Idealize.ShloMosaic.Lib.StableHlo.ReadAt

@[expose] public section
set_option maxRecDepth 16384
noncomputable section
namespace Cert.GradReferenceIdeal.Hand
open Cert.GradReferenceIdeal Cert.GradReferenceIdeal.Gen
open Idealize.ShloMosaic Idealize.ShloMosaic.TcCoe Idealize.ShloMosaic.Tactic Idealize.ShloMosaic.Pipeline

variable (m : (ℓ : Loc nD τ sig) → Buf (Elt Ideal) ℓ) (ρ : Dev nD → PrngReg)

/-- The three index arguments. -/
abbrev argG (c : Dev nD) : S16384.Idx → BitVec 32 := m ((c.tc : Thread nD τ).loc main_arg3)
abbrev argGP (c : Dev nD) : S2048.Idx → BitVec 32 := m ((c.tc : Thread nD τ).loc main_arg7)
abbrev argP (c : Dev nD) : S2048.Idx → BitVec 32 := m ((c.tc : Thread nD τ).loc main_arg8)

/-- The nine arguments as plain arrays. -/
def argsOf (c : Dev nD) : Args where
  W := m ((c.tc : Thread nD τ).loc main_arg0)
  D := m ((c.tc : Thread nD τ).loc main_arg1)
  X := m ((c.tc : Thread nD τ).loc main_arg2)
  G d := argG m c (ix1 d)
  Q := m ((c.tc : Thread nD τ).loc main_arg4)
  C := m ((c.tc : Thread nD τ).loc main_arg5)
  L := m ((c.tc : Thread nD τ).loc main_arg6)
  GP n := argGP m c (ix1 n)
  P n := argP m c (ix1 n)

/-! Every window's one block starts at the origin. -/
theorem e0 : ∀ t : Fin cfg0.N, win0_0.index t = ![0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0] := (by decide +kernel : ∀ t : Fin grid0.N, _)
theorem e6 : ∀ t : Fin cfg0.N, win0_6.index t = ![0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)

/-! The host's three reshapes. -/
theorem V_v0 (c : Dev nD) : (V m c main_v0 : S1x16384.Idx → BitVec 32) = shapeCast S1x16384 (argG m c) shapeCasts_S16384_S1x16384 := by
  unfold V
  after_reads_simp
  rfl

theorem V_v1 (c : Dev nD) : (V m c main_v1 : S2048x1.Idx → BitVec 32) = shapeCast S2048x1 (argGP m c) shapeCasts_S2048_S2048x1 := by
  unfold V
  after_reads_simp
  rfl

theorem V_v2 (c : Dev nD) : (V m c main_v2 : S2048x1.Idx → BitVec 32) = shapeCast S2048x1 (argP m c) shapeCasts_S2048_S2048x1 := by
  unfold V
  after_reads_simp
  rfl

/-! The input blocks, whole. -/
theorem b0 (c : Dev nD) (t : Fin cfg0.N) : (iblk m c 0 t : S5.Idx → EReal) = m ((c.tc : Thread nD τ).loc main_arg0) := by
  funext y
  refine Eq.trans ?_ (congrFun (V_main_arg0 m c) y)
  blk_simp [iblk]
  refine congrArg (V m c main_arg0) ?_
  blk_ext [e0]

theorem b1 (c : Dev nD) (t : Fin cfg0.N) : (iblk m c 1 t : S16384x768.Idx → BitVec 8) = m ((c.tc : Thread nD τ).loc main_arg1) := by
  funext y
  refine Eq.trans ?_ (congrFun (V_main_arg1 m c) y)
  blk_simp [iblk]
  refine congrArg (V m c main_arg1) ?_
  blk_ext [e1]

theorem b2 (c : Dev nD) (t : Fin cfg0.N) : (iblk m c 2 t : S16x16384.Idx → EReal) = m ((c.tc : Thread nD τ).loc main_arg2) := by
  funext y
  refine Eq.trans ?_ (congrFun (V_main_arg2 m c) y)
  blk_simp [iblk]
  refine congrArg (V m c main_arg2) ?_
  blk_ext [e2]

theorem b4 (c : Dev nD) (t : Fin cfg0.N) : (iblk m c 4 t : S2048x768.Idx → EReal) = m ((c.tc : Thread nD τ).loc main_arg4) := by
  funext y
  refine Eq.trans ?_ (congrFun (V_main_arg4 m c) y)
  blk_simp [iblk]
  refine congrArg (V m c main_arg4) ?_
  blk_ext [e4]

theorem b5 (c : Dev nD) (t : Fin cfg0.N) : (iblk m c 5 t : S2048x128.Idx → EReal) = m ((c.tc : Thread nD τ).loc main_arg5) := by
  funext y
  refine Eq.trans ?_ (congrFun (V_main_arg5 m c) y)
  blk_simp [iblk]
  refine congrArg (V m c main_arg5) ?_
  blk_ext [e5]

theorem b6 (c : Dev nD) (t : Fin cfg0.N) : (iblk m c 6 t : S2048x128.Idx → EReal) = m ((c.tc : Thread nD τ).loc main_arg6) := by
  funext y
  refine Eq.trans ?_ (congrFun (V_main_arg6 m c) y)
  blk_simp [iblk]
  refine congrArg (V m c main_arg6) ?_
  blk_ext [e6]

theorem b3 (c : Dev nD) (t : Fin cfg0.N) (d : Fin 16384) : (iblk m c 3 t : S1x16384.Idx → BitVec 32) (ix2 0 d)
    = (argG m c) (ix1 d) := by
  have h : (iblk m c 3 t : S1x16384.Idx → BitVec 32) (ix2 0 d) = (V m c main_v0 : S1x16384.Idx → BitVec 32) (ix2 0 d) := by
    blk_simp [iblk]
    refine congrArg (V m c main_v0) ?_
    blk_ext [e3]
  rw [h, V_v0]
  refine shapeCast_apply _ _ _ _ ?_
  simp [Shape.rowMajor_val_one, Shape.rowMajor_val_two]

theorem b7 (c : Dev nD) (t : Fin cfg0.N) (d : Fin 2048) : (iblk m c 7 t : S2048x1.Idx → BitVec 32) (ix2 d 0)
    = (argGP m c) (ix1 d) := by
  have h : (iblk m c 7 t : S2048x1.Idx → BitVec 32) (ix2 d 0) = (V m c main_v1 : S2048x1.Idx → BitVec 32) (ix2 d 0) := by
    blk_simp [iblk]
    refine congrArg (V m c main_v1) ?_
    blk_ext [e7]
  rw [h, V_v1]
  refine shapeCast_apply _ _ _ _ ?_
  simp [Shape.rowMajor_val_one, Shape.rowMajor_val_two]

theorem b8 (c : Dev nD) (t : Fin cfg0.N) (d : Fin 2048) : (iblk m c 8 t : S2048x1.Idx → BitVec 32) (ix2 d 0)
    = (argP m c) (ix1 d) := by
  have h : (iblk m c 8 t : S2048x1.Idx → BitVec 32) (ix2 d 0) = (V m c main_v2 : S2048x1.Idx → BitVec 32) (ix2 d 0) := by
    blk_simp [iblk]
    refine congrArg (V m c main_v2) ?_
    blk_ext [e8]
  rw [h, V_v2]
  refine shapeCast_apply _ _ _ _ ?_
  simp [Shape.rowMajor_val_one, Shape.rowMajor_val_two]

/-- The reference's result: the documents' gradient. -/
def refDD (c : Dev nD) : S16384x768.Idx → EReal := fun y => (argsOf m c).dd (y 0) (y 1)

/-- The window array after the run. -/
theorem final9 (c : Dev nD) : (dats m 0 c).arrAt 9 cfg0.N = refDD m c := by
  refine (dats m 0 c).arrAt_eq_of_after_last 9 ⟨0, by decide⟩ (by decide +kernel) _ fun j => ?_
  blk_simp
  refine (congrFun ((after0_9 m c ⟨0, by decide⟩).trans (out_at _ _ _ _ _ _ _ _ _ _ _ _ _ _ _ _ _ _ _ _ _ _ _ _ _ _ _ _ _ _)) _).trans ?_
  rw [b0, b1, b2, b4, b5, b6]
  simp only [b3, b7, b8]
  rfl

/-- What the reference ends with. -/
theorem reference_run : θ_run defs (onTc (τ := τ) (main (F := Ideal))) ⟨m, fun _ => 0, ρ⟩ (fun r => ∀ c : Dev nD,
    r.2.mem ((c.tc : Thread nD τ).loc main_v3) = refDD m c) :=
  (θ_run defs _ _).mono (fun r h c => ((h c).1 9).trans (final9 m c)) (run_main m ρ)

end Cert.GradReferenceIdeal.Hand
end
-- ==== Proof.GradFinite.lean ====
/-
  The precondition of the gradient pass, read: weights, query codes and the logarithms of the normalisers are real numbers;
  the inverse norms are positive real numbers; the documents' scales are not zero.
-/
module

public import proofs.«01_k».proof.Proof.FiniteArgs
public import proofs.«01_k».proof.Proof.Gen.Pre_finite_gradient

@[expose] public section
noncomputable section
namespace Cert.Pre_finite_gradient.Hand
open Idealize.ShloMosaic Idealize.ShloMosaic.Tactic
open Cert.Pre_finite_gradient Cert.Pre_finite_gradient.Gen
open Cert.Pre_finite.Hand (real_of_abs pos_of_cmp top_bf16 top_f32)

/-- A value that compares unequal to zero is not zero. -/
theorem ne_of_cmp {φ : FTy} {x z : Ideal φ} (hz : (z : EReal) = 0) (h : FloatOps.cmpf .une x z = 1#1) : (x : EReal) ≠ 0 := by
  have h' : Ideal.cmp .une (x : EReal) z = 1#1 := h
  rw [hz] at h'
  intro e
  simp [Ideal.cmp, e] at h'

/-- What the precondition says of the five arrays it reads. -/
theorem fn_says (W : FVec Ideal S5 .f32) (D : IVec S16384x768 8) (X : FVec Ideal S16x16384 .f32) (G : IVec S16384 32) (Q : FVec Ideal S2048x768 .bf16)
    (C : FVec Ideal S2048x128 .f32) (L : FVec Ideal S2048x128 .f32) (GP P : IVec S2048 32) (h : fn (F := Ideal) W D X G Q C L GP P = fun _ => 1#1) :
    (∀ y, ∃ r : ℝ, (W y : EReal) = r)
    ∧ (∀ y, ∃ r : ℝ, (Q y : EReal) = r)
    ∧ (∀ (k : Fin 5) (n : Fin 2048), ∃ r : ℝ, (L (ix2 n ⟨k.val, by omega⟩) : EReal) = r)
    ∧ (∀ (k : Fin 5) (d : Fin 16384), ∃ r : ℝ, 0 < r ∧ (X (ix2 ⟨1 + k.val, by omega⟩ d) : EReal) = r)
    ∧ (∀ (k : Fin 5) (n : Fin 2048), ∃ r : ℝ, 0 < r ∧ (C (ix2 n ⟨1 + k.val, by omega⟩) : EReal) = r)
    ∧ (∀ d : Fin 16384, (X (ix2 0 d) : EReal) ≠ 0) := by
  have h0 := congrFun h fun a => a.elim0
  dsimp only [fn, fn_part1, fn_part2] at h0
  obtain ⟨h0, h6⟩ := IntOp.andi_eq_one.1 h0
  obtain ⟨h0, h5⟩ := IntOp.andi_eq_one.1 h0
  obtain ⟨h0, h4⟩ := IntOp.andi_eq_one.1 h0
  obtain ⟨h0, h3⟩ := IntOp.andi_eq_one.1 h0
  obtain ⟨h1, h2⟩ := IntOp.andi_eq_one.1 h0
  refine ⟨fun y => ?_, fun y => ?_, fun k n => ?_, fun k d => ?_, fun k n => ?_, fun d => ?_⟩
  · exact real_of_abs top_f32 (Host.reduce_andi_all _ _ _ _ _ h1 y)
  · exact real_of_abs top_bf16 (Host.reduce_andi_all _ _ _ _ _ h2 y)
  · have hx : extractStridedSlice S2048x5 ![0, 0] L Facts.slices_S2048x128_S2048x5_0_0 (ix2 n k) = L (ix2 n ⟨k.val, by omega⟩) := by pointwise
    rw [← hx]
    exact real_of_abs top_f32 (Host.reduce_andi_all _ _ _ _ _ h3 (ix2 n k))
  · have hx : extractStridedSlice S5x16384 ![1, 0] X Facts.slices_S16x16384_S5x16384_1_0 (ix2 k d) = X (ix2 ⟨1 + k.val, by omega⟩ d) := by pointwise
    rw [← hx]
    exact pos_of_cmp Ideal.ofBits_zero_f32 top_f32 (Host.reduce_andi_all _ _ _ _ _ h4 (ix2 k d))
  · have hx : extractStridedSlice S2048x5 ![0, 1] C Facts.slices_S2048x128_S2048x5_0_1 (ix2 n k) = C (ix2 n ⟨1 + k.val, by omega⟩) := by pointwise
    rw [← hx]
    exact pos_of_cmp Ideal.ofBits_zero_f32 top_f32 (Host.reduce_andi_all _ _ _ _ _ h5 (ix2 n k))
  · have hx : extractStridedSlice S1x16384 ![0, 0] X Facts.slices_S16x16384_S1x16384_0_0 (ix2 0 d) = X (ix2 0 d) := by pointwise
    rw [← hx]
    exact ne_of_cmp Ideal.ofBits_zero_f32 (Host.reduce_andi_all _ _ _ _ _ h6 (ix2 0 d))

end Cert.Pre_finite_gradient.Hand
end
-- ==== Proof.GradAlgebraic.lean ====
/-
  The value claim of the gradient pass: on equal arguments that meet the precondition, the kernel and its reference end with
  the same documents' gradient, their arguments unchanged.
-/
module

public import proofs.«01_k».proof.Proof.GradFinal
public import proofs.«01_k».proof.Proof.GradRefRun
public import proofs.«01_k».proof.Proof.GradFinite

@[expose] public section
noncomputable section
namespace Cert.Hand
open Idealize.ShloMosaic Idealize.ShloMosaic.TcCoe
open Cert.GradReferenceIdeal.Hand (Args)

/-- Under the precondition the arguments are the real numbers the equality asks for. -/
theorem real_args (m : (ℓ : Loc Cert.GradIdeal.nD Cert.GradIdeal.τ Cert.GradIdeal.sig) → Buf (Elt Ideal) ℓ)
    (hpre : Cert.Pre_GradIdeal_finite_gradient m) (c : Dev Cert.GradIdeal.nD) :
    Cert.GradIdeal.Hand.Real (Cert.GradIdeal.Hand.argsOf m c) := by
  obtain ⟨hW, hQ, hL, hX, hC, hS⟩ := Cert.Pre_finite_gradient.Hand.fn_says _ _ _ _ _ _ _ _ _ (hpre c)
  exact ⟨hW, hQ, hL, hX, hC, hS⟩

/-- Equal arguments are one record. -/
theorem args_congr {W W' : Cert.GradReferenceIdeal.S5.Idx → EReal} {D D' : Cert.GradReferenceIdeal.S16384x768.Idx → BitVec 8}
    {X X' : Cert.GradReferenceIdeal.S16x16384.Idx → EReal} {G G' : Cert.GradReferenceIdeal.S16384.Idx → BitVec 32}
    {Q Q' : Cert.GradReferenceIdeal.S2048x768.Idx → EReal} {C C' L L' : Cert.GradReferenceIdeal.S2048x128.Idx → EReal}
    {GP GP' P P' : Cert.GradReferenceIdeal.S2048.Idx → BitVec 32}
    (hW : W = W') (hD : D = D') (hX : X = X') (hG : G = G') (hQ : Q = Q') (hC : C = C') (hL : L = L') (hGP : GP = GP') (hP : P = P') :
    (⟨W, D, X, fun d => G (ix1 d), Q, C, L, fun n => GP (ix1 n), fun n => P (ix1 n)⟩ : Args)
      = ⟨W', D', X', fun d => G' (ix1 d), Q', C', L', fun n => GP' (ix1 n), fun n => P' (ix1 n)⟩ := by
  subst hW hD hX hG hQ hC hL hGP hP
  rfl

/-- The value claim. -/
theorem algebraic_gradient : Cert.algebraic_GradIdeal_GradReferenceIdeal_pre_finite_gradient := by
  intro m g m' g' hpre hag
  have hA : ∀ c, Cert.GradReferenceIdeal.Hand.argsOf m' c = Cert.GradIdeal.Hand.argsOf m c := fun c =>
    args_congr (hag c).1 (hag c).2.1 (hag c).2.2.1 (hag c).2.2.2.1 (hag c).2.2.2.2.1 (hag c).2.2.2.2.2.1 (hag c).2.2.2.2.2.2.1
      (hag c).2.2.2.2.2.2.2.1 (hag c).2.2.2.2.2.2.2.2
  have hR : ∀ c, Cert.GradReferenceIdeal.Hand.refDD m' c = Cert.GradIdeal.Hand.ddA m c := fun c =>
    congrArg (fun (a : Args) (y : Cert.GradReferenceIdeal.S16384x768.Idx) => a.dd (y 0) (y 1)) (hA c)
  refine ⟨fun c => Cert.GradIdeal.Hand.ddA m c, ?_, ?_⟩
  · refine (θ_run _ _ _).mono ?_ (θ_run_and (Cert.GradIdeal.Hand.kernel_run m g (real_args m hpre)) (Cert.GradIdeal.Hand.frame m g))
    exact fun r h c => ⟨h.1 c, h.2.1 c⟩
  · refine (θ_run _ _ _).mono ?_ (θ_run_and (Cert.GradReferenceIdeal.Hand.reference_run m' g') (Cert.GradReferenceIdeal.Gen.unchanged (F := Ideal) m' g'))
    exact fun r h c => ⟨(h.1 c).trans (hR c), h.2 c⟩

end Cert.Hand
end
-- ==== Proof.lean ====
/-
  The proof of `Cert.Claim`: the frames of the six programs, the named constants, and the equalities of the statistics
  pass and of the gradient pass with their references.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.Grad
public import proofs.«01_k».proof.Proof.Gen.Grad.Skeleton
public import proofs.«01_k».proof.Proof.Gen.Grad.Loops
public import proofs.«01_k».proof.Proof.Gen.Grad.Launch
public import proofs.«01_k».proof.Proof.Gen.Grad.Points
public import proofs.«01_k».proof.Proof.Gen.Grad.Frame
public import proofs.«01_k».proof.Proof.Gen.GradIdeal
public import proofs.«01_k».proof.Proof.Gen.GradIdeal.Skeleton
public import proofs.«01_k».proof.Proof.Gen.GradIdeal.Loops
public import proofs.«01_k».proof.Proof.Gen.GradIdeal.Launch
public import proofs.«01_k».proof.Proof.Gen.GradIdeal.Points
public import proofs.«01_k».proof.Proof.Gen.GradIdeal.Frame
public import proofs.«01_k».proof.Proof.Gen.GradReferenceIdeal
public import proofs.«01_k».proof.Proof.Gen.GradReferenceIdeal.Skeleton
public import proofs.«01_k».proof.Proof.Gen.GradReferenceIdeal.Launch
public import proofs.«01_k».proof.Proof.Gen.GradReferenceIdeal.Points
public import proofs.«01_k».proof.Proof.Gen.GradReferenceIdeal.Frame
public import proofs.«01_k».proof.Proof.Gen.Pre_finite_gradient
public import proofs.«01_k».proof.Proof.KernelFrame
public import proofs.«01_k».proof.Proof.StatsLaunch
public import proofs.«01_k».proof.Proof.FiniteArgs
public import proofs.«01_k».proof.Proof.Algebraic
public import proofs.«01_k».proof.Proof.GradFrame
public import proofs.«01_k».proof.Proof.GradAlgebraic

@[expose] public section

noncomputable section

open Idealize.ShloMosaic

namespace Cert.Proof

/-- The four named constants denote what the named-constant rule writes for them. -/
theorem constants : Cert.preserves_Kernel_KernelIdeal :=
  ⟨IdealRules.named_const.statement _ _ _ _ _ rfl, IdealRules.named_const.statement _ _ _ _ _ rfl,
    IdealRules.named_const.statement _ _ _ _ _ rfl, IdealRules.named_const.statement _ _ _ _ _ rfl⟩

/-- The two named constants of the gradient pass denote what the named-constant rule writes for them. -/
theorem gradient_constants : Cert.preserves_Grad_GradIdeal :=
  ⟨IdealRules.named_const.statement _ _ _ _ _ rfl, IdealRules.named_const.statement _ _ _ _ _ rfl⟩

/-- Every claim of the certificate. -/
theorem claim : Cert.Claim := ⟨Cert.Kernel.Gen.facts, Cert.KernelIdeal.Gen.facts, Cert.ReferenceIdeal.Gen.facts, Cert.Grad.Gen.facts,
  Cert.GradIdeal.Gen.facts, Cert.GradReferenceIdeal.Gen.facts, Cert.Pre_finite.Hand.facts, Cert.Pre_finite_gradient.Gen.facts,
  fun m ρ _ => Cert.Kernel.Hand.frame m ρ,
  fun m ρ _ => Cert.KernelIdeal.Hand.frame m ρ,
  fun m ρ _ => Cert.KernelIdeal.Hand.frame m ρ,
  fun m ρ _ => Cert.ReferenceIdeal.Gen.frame m ρ,
  fun m ρ _ => Cert.ReferenceIdeal.Gen.frame m ρ,
  fun m ρ _ => Cert.Grad.Hand.frame m ρ,
  fun m ρ _ => Cert.GradIdeal.Hand.frame m ρ,
  fun m ρ _ => Cert.GradIdeal.Hand.frame m ρ,
  fun m ρ _ => Cert.GradReferenceIdeal.Gen.frame m ρ,
  fun m ρ _ => Cert.GradReferenceIdeal.Gen.frame m ρ,
  constants,
  Cert.Hand.algebraic,
  gradient_constants,
  Cert.Hand.algebraic_gradient⟩

end Cert.Proof

end
